-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.2.2 = (fun _ => 1#1)

def Pre_KernelPle (m : (ℓ : Loc Cert.KernelPle.nD Cert.KernelPle.τ Cert.KernelPle.sig) → Buf (Elt Bits) ℓ) : Prop :=
  True

def Pre_KernelPleIdeal (m : (ℓ : Loc Cert.KernelPleIdeal.nD Cert.KernelPleIdeal.τ Cert.KernelPleIdeal.sig) → Buf (Elt Ideal) ℓ) : Prop :=
  True

def Pre_ReferencePleIdeal (m : (ℓ : Loc Cert.ReferencePleIdeal.nD Cert.ReferencePleIdeal.τ Cert.ReferencePleIdeal.sig) → Buf (Elt Ideal) ℓ) : Prop :=
  True

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_KernelFfnIdeal_finite_ffn [hPre_finite_ffn : Cert.Pre_finite_ffn.Facts] (m : (ℓ : Loc Cert.KernelFfnIdeal.nD Cert.KernelFfnIdeal.τ Cert.KernelFfnIdeal.sig) → Buf (Elt Ideal) ℓ) : Prop :=
  ∀ c : Dev Cert.KernelFfnIdeal.nD,
    (Cert.Pre_finite_ffn.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4)) (m ((c.tc : Thread Cert.KernelFfnIdeal.nD Cert.KernelFfnIdeal.τ).loc Cert.KernelFfnIdeal.main_arg5))).1 = (fun _ => 1#1)
    ∧ (Cert.Pre_finite_ffn.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4)) (m ((c.tc : Thread Cert.KernelFfnIdeal.nD Cert.KernelFfnIdeal.τ).loc Cert.KernelFfnIdeal.main_arg5))).2.1 = (fun _ => 1#1)
    ∧ (Cert.Pre_finite_ffn.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4)) (m ((c.tc : Thread Cert.KernelFfnIdeal.nD Cert.KernelFfnIdeal.τ).loc Cert.KernelFfnIdeal.main_arg5))).2.2.1 = (fun _ => 1#1)
    ∧ (Cert.Pre_finite_ffn.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4)) (m ((c.tc : Thread Cert.KernelFfnIdeal.nD Cert.KernelFfnIdeal.τ).loc Cert.KernelFfnIdeal.main_arg5))).2.2.2.1 = (fun _ => 1#1)
    ∧ (Cert.Pre_finite_ffn.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4)) (m ((c.tc : Thread Cert.KernelFfnIdeal.nD Cert.KernelFfnIdeal.τ).loc Cert.KernelFfnIdeal.main_arg5))).2.2.2.2.1 = (fun _ => 1#1)
    ∧ (Cert.Pre_finite_ffn.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4)) (m ((c.tc : Thread Cert.KernelFfnIdeal.nD Cert.KernelFfnIdeal.τ).loc Cert.KernelFfnIdeal.main_arg5))).2.2.2.2.2 = (fun _ => 1#1)

def Pre_ReferenceFfnIdeal (m : (ℓ : Loc Cert.ReferenceFfnIdeal.nD Cert.ReferenceFfnIdeal.τ Cert.ReferenceFfnIdeal.sig) → Buf (Elt Ideal) ℓ) : Prop :=
  True

def Pre_ReferenceFfnIdeal_finite_ffn [hPre_finite_ffn : Cert.Pre_finite_ffn.Facts] (m : (ℓ : Loc Cert.ReferenceFfnIdeal.nD Cert.ReferenceFfnIdeal.τ Cert.ReferenceFfnIdeal.sig) → Buf (Elt Ideal) ℓ) : Prop :=
  ∀ c : Dev Cert.ReferenceFfnIdeal.nD,
    (Cert.Pre_finite_ffn.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4)) (m ((c.tc : Thread Cert.ReferenceFfnIdeal.nD Cert.ReferenceFfnIdeal.τ).loc Cert.ReferenceFfnIdeal.main_arg5))).1 = (fun _ => 1#1)
    ∧ (Cert.Pre_finite_ffn.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4)) (m ((c.tc : Thread Cert.ReferenceFfnIdeal.nD Cert.ReferenceFfnIdeal.τ).loc Cert.ReferenceFfnIdeal.main_arg5))).2.1 = (fun _ => 1#1)
    ∧ (Cert.Pre_finite_ffn.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4)) (m ((c.tc : Thread Cert.ReferenceFfnIdeal.nD Cert.ReferenceFfnIdeal.τ).loc Cert.ReferenceFfnIdeal.main_arg5))).2.2.1 = (fun _ => 1#1)
    ∧ (Cert.Pre_finite_ffn.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4)) (m ((c.tc : Thread Cert.ReferenceFfnIdeal.nD Cert.ReferenceFfnIdeal.τ).loc Cert.ReferenceFfnIdeal.main_arg5))).2.2.2.1 = (fun _ => 1#1)
    ∧ (Cert.Pre_finite_ffn.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4)) (m ((c.tc : Thread Cert.ReferenceFfnIdeal.nD Cert.ReferenceFfnIdeal.τ).loc Cert.ReferenceFfnIdeal.main_arg5))).2.2.2.2.1 = (fun _ => 1#1)
    ∧ (Cert.Pre_finite_ffn.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4)) (m ((c.tc : Thread Cert.ReferenceFfnIdeal.nD Cert.ReferenceFfnIdeal.τ).loc Cert.ReferenceFfnIdeal.main_arg5))).2.2.2.2.2 = (fun _ => 1#1)

def Pre_KernelMix (m : (ℓ : Loc Cert.KernelMix.nD Cert.KernelMix.τ Cert.KernelMix.sig) → Buf (Elt Bits) ℓ) : Prop :=
  True

def Pre_KernelMixIdeal (m : (ℓ : Loc Cert.KernelMixIdeal.nD Cert.KernelMixIdeal.τ Cert.KernelMixIdeal.sig) → Buf (Elt Ideal) ℓ) : Prop :=
  True

def Pre_KernelMixIdeal_finite_mix [hPre_finite_mix : Cert.Pre_finite_mix.Facts] (m : (ℓ : Loc Cert.KernelMixIdeal.nD Cert.KernelMixIdeal.τ Cert.KernelMixIdeal.sig) → Buf (Elt Ideal) ℓ) : Prop :=
  ∀ c : Dev Cert.KernelMixIdeal.nD,
    (Cert.Pre_finite_mix.fn (F := Ideal) (m ((c.tc : Thread Cert.KernelMixIdeal.nD Cert.KernelMixIdeal.τ).loc Cert.KernelMixIdeal.main_arg0)) (m ((c.tc : Thread Cert.KernelMixIdeal.nD Cert.KernelMixIdeal.τ).loc Cert.KernelMixIdeal.main_arg1)) (m ((c.tc : Thread Cert.KernelMixIdeal.nD Cert.KernelMixIdeal.τ).loc Cert.KernelMixIdeal.main_arg2)) (m ((c.tc : Thread Cert.KernelMixIdeal.nD Cert.KernelMixIdeal.τ).loc Cert.KernelMixIdeal.main_arg3)) (m ((c.tc : Thread Cert.KernelMixIdeal.nD Cert.KernelMixIdeal.τ).loc Cert.KernelMixIdeal.main_arg4)) (m ((c.tc : Thread Cert.KernelMixIdeal.nD Cert.KernelMixIdeal.τ).loc Cert.KernelMixIdeal.main_arg5)) (m ((c.tc : Thread Cert.KernelMixIdeal.nD Cert.KernelMixIdeal.τ).loc Cert.KernelMixIdeal.main_arg6))).1 = (fun _ => 1#1)
    ∧ (Cert.Pre_finite_mix.fn (F := Ideal) (m ((c.tc : Thread Cert.KernelMixIdeal.nD Cert.KernelMixIdeal.τ).loc Cert.KernelMixIdeal.main_arg0)) (m ((c.tc : Thread Cert.KernelMixIdeal.nD Cert.KernelMixIdeal.τ).loc Cert.KernelMixIdeal.main_arg1)) (m ((c.tc : Thread Cert.KernelMixIdeal.nD Cert.KernelMixIdeal.τ).loc Cert.KernelMixIdeal.main_arg2)) (m ((c.tc : Thread Cert.KernelMixIdeal.nD Cert.KernelMixIdeal.τ).loc Cert.KernelMixIdeal.main_arg3)) (m ((c.tc : Thread Cert.KernelMixIdeal.nD Cert.KernelMixIdeal.τ).loc Cert.KernelMixIdeal.main_arg4)) (m ((c.tc : Thread Cert.KernelMixIdeal.nD Cert.KernelMixIdeal.τ).loc Cert.KernelMixIdeal.main_arg5)) (m ((c.tc : Thread Cert.KernelMixIdeal.nD Cert.KernelMixIdeal.τ).loc Cert.KernelMixIdeal.main_arg6))).2.1 = (fun _ => 1#1)
    ∧ (Cert.Pre_finite_mix.fn (F := Ideal) (m ((c.tc : Thread Cert.KernelMixIdeal.nD Cert.KernelMixIdeal.τ).loc Cert.KernelMixIdeal.main_arg0)) (m ((c.tc : Thread Cert.KernelMixIdeal.nD Cert.KernelMixIdeal.τ).loc Cert.KernelMixIdeal.main_arg1)) (m ((c.tc : Thread Cert.KernelMixIdeal.nD Cert.KernelMixIdeal.τ).loc Cert.KernelMixIdeal.main_arg2)) (m ((c.tc : Thread Cert.KernelMixIdeal.nD Cert.KernelMixIdeal.τ).loc Cert.KernelMixIdeal.main_arg3)) (m ((c.tc : Thread Cert.KernelMixIdeal.nD Cert.KernelMixIdeal.τ).loc Cert.KernelMixIdeal.main_arg4)) (m ((c.tc : Thread Cert.KernelMixIdeal.nD Cert.KernelMixIdeal.τ).loc Cert.KernelMixIdeal.main_arg5)) (m ((c.tc : Thread Cert.KernelMixIdeal.nD Cert.KernelMixIdeal.τ).loc Cert.KernelMixIdeal.main_arg6))).2.2.1 = (fun _ => 1#1)
    ∧ (Cert.Pre_finite_mix.fn (F := Ideal) (m ((c.tc : Thread Cert.KernelMixIdeal.nD Cert.KernelMixIdeal.τ).loc Cert.KernelMixIdeal.main_arg0)) (m ((c.tc : Thread Cert.KernelMixIdeal.nD Cert.KernelMixIdeal.τ).loc Cert.KernelMixIdeal.main_arg1)) (m ((c.tc : Thread Cert.KernelMixIdeal.nD Cert.KernelMixIdeal.τ).loc Cert.KernelMixIdeal.main_arg2)) (m ((c.tc : Thread Cert.KernelMixIdeal.nD Cert.KernelMixIdeal.τ).loc Cert.KernelMixIdeal.main_arg3)) (m ((c.tc : Thread Cert.KernelMixIdeal.nD Cert.KernelMixIdeal.τ).loc Cert.KernelMixIdeal.main_arg4)) (m ((c.tc : Thread Cert.KernelMixIdeal.nD Cert.KernelMixIdeal.τ).loc Cert.KernelMixIdeal.main_arg5)) (m ((c.tc : Thread Cert.KernelMixIdeal.nD Cert.KernelMixIdeal.τ).loc Cert.KernelMixIdeal.main_arg6))).2.2.2.1 = (fun _ => 1#1)
    ∧ (Cert.Pre_finite_mix.fn (F := Ideal) (m ((c.tc : Thread Cert.KernelMixIdeal.nD Cert.KernelMixIdeal.τ).loc Cert.KernelMixIdeal.main_arg0)) (m ((c.tc : Thread Cert.KernelMixIdeal.nD Cert.KernelMixIdeal.τ).loc Cert.KernelMixIdeal.main_arg1)) (m ((c.tc : Thread Cert.KernelMixIdeal.nD Cert.KernelMixIdeal.τ).loc Cert.KernelMixIdeal.main_arg2)) (m ((c.tc : Thread Cert.KernelMixIdeal.nD Cert.KernelMixIdeal.τ).loc Cert.KernelMixIdeal.main_arg3)) (m ((c.tc : Thread Cert.KernelMixIdeal.nD Cert.KernelMixIdeal.τ).loc Cert.KernelMixIdeal.main_arg4)) (m ((c.tc : Thread Cert.KernelMixIdeal.nD Cert.KernelMixIdeal.τ).loc Cert.KernelMixIdeal.main_arg5)) (m ((c.tc : Thread Cert.KernelMixIdeal.nD Cert.KernelMixIdeal.τ).loc Cert.KernelMixIdeal.main_arg6))).2.2.2.2.1 = (fun _ => 1#1)
    ∧ (Cert.Pre_finite_mix.fn (F := Ideal) (m ((c.tc : Thread Cert.KernelMixIdeal.nD Cert.KernelMixIdeal.τ).loc Cert.KernelMixIdeal.main_arg0)) (m ((c.tc : Thread Cert.KernelMixIdeal.nD Cert.KernelMixIdeal.τ).loc Cert.KernelMixIdeal.main_arg1)) (m ((c.tc : Thread Cert.KernelMixIdeal.nD Cert.KernelMixIdeal.τ).loc Cert.KernelMixIdeal.main_arg2)) (m ((c.tc : Thread Cert.KernelMixIdeal.nD Cert.KernelMixIdeal.τ).loc Cert.KernelMixIdeal.main_arg3)) (m ((c.tc : Thread Cert.KernelMixIdeal.nD Cert.KernelMixIdeal.τ).loc Cert.KernelMixIdeal.main_arg4)) (m ((c.tc : Thread Cert.KernelMixIdeal.nD Cert.KernelMixIdeal.τ).loc Cert.KernelMixIdeal.main_arg5)) (m ((c.tc : Thread Cert.KernelMixIdeal.nD Cert.KernelMixIdeal.τ).loc Cert.KernelMixIdeal.main_arg6))).2.2.2.2.2.1 = (fun _ => 1#1)
    ∧ (Cert.Pre_finite_mix.fn (F := Ideal) (m ((c.tc : Thread Cert.KernelMixIdeal.nD Cert.KernelMixIdeal.τ).loc Cert.KernelMixIdeal.main_arg0)) (m ((c.tc : Thread Cert.KernelMixIdeal.nD Cert.KernelMixIdeal.τ).loc Cert.KernelMixIdeal.main_arg1)) (m ((c.tc : Thread Cert.KernelMixIdeal.nD Cert.KernelMixIdeal.τ).loc Cert.KernelMixIdeal.main_arg2)) (m ((c.tc : Thread Cert.KernelMixIdeal.nD Cert.KernelMixIdeal.τ).loc Cert.KernelMixIdeal.main_arg3)) (m ((c.tc : Thread Cert.KernelMixIdeal.nD Cert.KernelMixIdeal.τ).loc Cert.KernelMixIdeal.main_arg4)) (m ((c.tc : Thread Cert.KernelMixIdeal.nD Cert.KernelMixIdeal.τ).loc Cert.KernelMixIdeal.main_arg5)) (m ((c.tc : Thread Cert.KernelMixIdeal.nD Cert.KernelMixIdeal.τ).loc Cert.KernelMixIdeal.main_arg6))).2.2.2.2.2.2 = (fun _ => 1#1)

def Pre_ReferenceMixIdeal (m : (ℓ : Loc Cert.ReferenceMixIdeal.nD Cert.ReferenceMixIdeal.τ Cert.ReferenceMixIdeal.sig) → Buf (Elt Ideal) ℓ) : Prop :=
  True

def Pre_ReferenceMixIdeal_finite_mix [hPre_finite_mix : Cert.Pre_finite_mix.Facts] (m : (ℓ : Loc Cert.ReferenceMixIdeal.nD Cert.ReferenceMixIdeal.τ Cert.ReferenceMixIdeal.sig) → Buf (Elt Ideal) ℓ) : Prop :=
  ∀ c : Dev Cert.ReferenceMixIdeal.nD,
    (Cert.Pre_finite_mix.fn (F := Ideal) (m ((c.tc : Thread Cert.ReferenceMixIdeal.nD Cert.ReferenceMixIdeal.τ).loc Cert.ReferenceMixIdeal.main_arg0)) (m ((c.tc : Thread Cert.ReferenceMixIdeal.nD Cert.ReferenceMixIdeal.τ).loc Cert.ReferenceMixIdeal.main_arg1)) (m ((c.tc : Thread Cert.ReferenceMixIdeal.nD Cert.ReferenceMixIdeal.τ).loc Cert.ReferenceMixIdeal.main_arg2)) (m ((c.tc : Thread Cert.ReferenceMixIdeal.nD Cert.ReferenceMixIdeal.τ).loc Cert.ReferenceMixIdeal.main_arg3)) (m ((c.tc : Thread Cert.ReferenceMixIdeal.nD Cert.ReferenceMixIdeal.τ).loc Cert.ReferenceMixIdeal.main_arg4)) (m ((c.tc : Thread Cert.ReferenceMixIdeal.nD Cert.ReferenceMixIdeal.τ).loc Cert.ReferenceMixIdeal.main_arg5)) (m ((c.tc : Thread Cert.ReferenceMixIdeal.nD Cert.ReferenceMixIdeal.τ).loc Cert.ReferenceMixIdeal.main_arg6))).1 = (fun _ => 1#1)
    ∧ (Cert.Pre_finite_mix.fn (F := Ideal) (m ((c.tc : Thread Cert.ReferenceMixIdeal.nD Cert.ReferenceMixIdeal.τ).loc Cert.ReferenceMixIdeal.main_arg0)) (m ((c.tc : Thread Cert.ReferenceMixIdeal.nD Cert.ReferenceMixIdeal.τ).loc Cert.ReferenceMixIdeal.main_arg1)) (m ((c.tc : Thread Cert.ReferenceMixIdeal.nD Cert.ReferenceMixIdeal.τ).loc Cert.ReferenceMixIdeal.main_arg2)) (m ((c.tc : Thread Cert.ReferenceMixIdeal.nD Cert.ReferenceMixIdeal.τ).loc Cert.ReferenceMixIdeal.main_arg3)) (m ((c.tc : Thread Cert.ReferenceMixIdeal.nD Cert.ReferenceMixIdeal.τ).loc Cert.ReferenceMixIdeal.main_arg4)) (m ((c.tc : Thread Cert.ReferenceMixIdeal.nD Cert.ReferenceMixIdeal.τ).loc Cert.ReferenceMixIdeal.main_arg5)) (m ((c.tc : Thread Cert.ReferenceMixIdeal.nD Cert.ReferenceMixIdeal.τ).loc Cert.ReferenceMixIdeal.main_arg6))).2.1 = (fun _ => 1#1)
    ∧ (Cert.Pre_finite_mix.fn (F := Ideal) (m ((c.tc : Thread Cert.ReferenceMixIdeal.nD Cert.ReferenceMixIdeal.τ).loc Cert.ReferenceMixIdeal.main_arg0)) (m ((c.tc : Thread Cert.ReferenceMixIdeal.nD Cert.ReferenceMixIdeal.τ).loc Cert.ReferenceMixIdeal.main_arg1)) (m ((c.tc : Thread Cert.ReferenceMixIdeal.nD Cert.ReferenceMixIdeal.τ).loc Cert.ReferenceMixIdeal.main_arg2)) (m ((c.tc : Thread Cert.ReferenceMixIdeal.nD Cert.ReferenceMixIdeal.τ).loc Cert.ReferenceMixIdeal.main_arg3)) (m ((c.tc : Thread Cert.ReferenceMixIdeal.nD Cert.ReferenceMixIdeal.τ).loc Cert.ReferenceMixIdeal.main_arg4)) (m ((c.tc : Thread Cert.ReferenceMixIdeal.nD Cert.ReferenceMixIdeal.τ).loc Cert.ReferenceMixIdeal.main_arg5)) (m ((c.tc : Thread Cert.ReferenceMixIdeal.nD Cert.ReferenceMixIdeal.τ).loc Cert.ReferenceMixIdeal.main_arg6))).2.2.1 = (fun _ => 1#1)
    ∧ (Cert.Pre_finite_mix.fn (F := Ideal) (m ((c.tc : Thread Cert.ReferenceMixIdeal.nD Cert.ReferenceMixIdeal.τ).loc Cert.ReferenceMixIdeal.main_arg0)) (m ((c.tc : Thread Cert.ReferenceMixIdeal.nD Cert.ReferenceMixIdeal.τ).loc Cert.ReferenceMixIdeal.main_arg1)) (m ((c.tc : Thread Cert.ReferenceMixIdeal.nD Cert.ReferenceMixIdeal.τ).loc Cert.ReferenceMixIdeal.main_arg2)) (m ((c.tc : Thread Cert.ReferenceMixIdeal.nD Cert.ReferenceMixIdeal.τ).loc Cert.ReferenceMixIdeal.main_arg3)) (m ((c.tc : Thread Cert.ReferenceMixIdeal.nD Cert.ReferenceMixIdeal.τ).loc Cert.ReferenceMixIdeal.main_arg4)) (m ((c.tc : Thread Cert.ReferenceMixIdeal.nD Cert.ReferenceMixIdeal.τ).loc Cert.ReferenceMixIdeal.main_arg5)) (m ((c.tc : Thread Cert.ReferenceMixIdeal.nD Cert.ReferenceMixIdeal.τ).loc Cert.ReferenceMixIdeal.main_arg6))).2.2.2.1 = (fun _ => 1#1)
    ∧ (Cert.Pre_finite_mix.fn (F := Ideal) (m ((c.tc : Thread Cert.ReferenceMixIdeal.nD Cert.ReferenceMixIdeal.τ).loc Cert.ReferenceMixIdeal.main_arg0)) (m ((c.tc : Thread Cert.ReferenceMixIdeal.nD Cert.ReferenceMixIdeal.τ).loc Cert.ReferenceMixIdeal.main_arg1)) (m ((c.tc : Thread Cert.ReferenceMixIdeal.nD Cert.ReferenceMixIdeal.τ).loc Cert.ReferenceMixIdeal.main_arg2)) (m ((c.tc : Thread Cert.ReferenceMixIdeal.nD Cert.ReferenceMixIdeal.τ).loc Cert.ReferenceMixIdeal.main_arg3)) (m ((c.tc : Thread Cert.ReferenceMixIdeal.nD Cert.ReferenceMixIdeal.τ).loc Cert.ReferenceMixIdeal.main_arg4)) (m ((c.tc : Thread Cert.ReferenceMixIdeal.nD Cert.ReferenceMixIdeal.τ).loc Cert.ReferenceMixIdeal.main_arg5)) (m ((c.tc : Thread Cert.ReferenceMixIdeal.nD Cert.ReferenceMixIdeal.τ).loc Cert.ReferenceMixIdeal.main_arg6))).2.2.2.2.1 = (fun _ => 1#1)
    ∧ (Cert.Pre_finite_mix.fn (F := Ideal) (m ((c.tc : Thread Cert.ReferenceMixIdeal.nD Cert.ReferenceMixIdeal.τ).loc Cert.ReferenceMixIdeal.main_arg0)) (m ((c.tc : Thread Cert.ReferenceMixIdeal.nD Cert.ReferenceMixIdeal.τ).loc Cert.ReferenceMixIdeal.main_arg1)) (m ((c.tc : Thread Cert.ReferenceMixIdeal.nD Cert.ReferenceMixIdeal.τ).loc Cert.ReferenceMixIdeal.main_arg2)) (m ((c.tc : Thread Cert.ReferenceMixIdeal.nD Cert.ReferenceMixIdeal.τ).loc Cert.ReferenceMixIdeal.main_arg3)) (m ((c.tc : Thread Cert.ReferenceMixIdeal.nD Cert.ReferenceMixIdeal.τ).loc Cert.ReferenceMixIdeal.main_arg4)) (m ((c.tc : Thread Cert.ReferenceMixIdeal.nD Cert.ReferenceMixIdeal.τ).loc Cert.ReferenceMixIdeal.main_arg5)) (m ((c.tc : Thread Cert.ReferenceMixIdeal.nD Cert.ReferenceMixIdeal.τ).loc Cert.ReferenceMixIdeal.main_arg6))).2.2.2.2.2.1 = (fun _ => 1#1)
    ∧ (Cert.Pre_finite_mix.fn (F := Ideal) (m ((c.tc : Thread Cert.ReferenceMixIdeal.nD Cert.ReferenceMixIdeal.τ).loc Cert.ReferenceMixIdeal.main_arg0)) (m ((c.tc : Thread Cert.ReferenceMixIdeal.nD Cert.ReferenceMixIdeal.τ).loc Cert.ReferenceMixIdeal.main_arg1)) (m ((c.tc : Thread Cert.ReferenceMixIdeal.nD Cert.ReferenceMixIdeal.τ).loc Cert.ReferenceMixIdeal.main_arg2)) (m ((c.tc : Thread Cert.ReferenceMixIdeal.nD Cert.ReferenceMixIdeal.τ).loc Cert.ReferenceMixIdeal.main_arg3)) (m ((c.tc : Thread Cert.ReferenceMixIdeal.nD Cert.ReferenceMixIdeal.τ).loc Cert.ReferenceMixIdeal.main_arg4)) (m ((c.tc : Thread Cert.ReferenceMixIdeal.nD Cert.ReferenceMixIdeal.τ).loc Cert.ReferenceMixIdeal.main_arg5)) (m ((c.tc : Thread Cert.ReferenceMixIdeal.nD Cert.ReferenceMixIdeal.τ).loc Cert.ReferenceMixIdeal.main_arg6))).2.2.2.2.2.2 = (fun _ => 1#1)

def Pre_KernelInFwd (m : (ℓ : Loc Cert.KernelInFwd.nD Cert.KernelInFwd.τ Cert.KernelInFwd.sig) → Buf (Elt Bits) ℓ) : Prop :=
  True

def Pre_KernelInFwdIdeal (m : (ℓ : Loc Cert.KernelInFwdIdeal.nD Cert.KernelInFwdIdeal.τ Cert.KernelInFwdIdeal.sig) → Buf (Elt Ideal) ℓ) : Prop :=
  True

def Pre_ReferenceInFwdIdeal (m : (ℓ : Loc Cert.ReferenceInFwdIdeal.nD Cert.ReferenceInFwdIdeal.τ Cert.ReferenceInFwdIdeal.sig) → Buf (Elt Ideal) ℓ) : Prop :=
  True

def Pre_KernelMixFwd (m : (ℓ : Loc Cert.KernelMixFwd.nD Cert.KernelMixFwd.τ Cert.KernelMixFwd.sig) → Buf (Elt Bits) ℓ) : Prop :=
  True

def Pre_KernelMixFwdIdeal (m : (ℓ : Loc Cert.KernelMixFwdIdeal.nD Cert.KernelMixFwdIdeal.τ Cert.KernelMixFwdIdeal.sig) → Buf (Elt Ideal) ℓ) : Prop :=
  True

def Pre_ReferenceMixFwdIdeal (m : (ℓ : Loc Cert.ReferenceMixFwdIdeal.nD Cert.ReferenceMixFwdIdeal.τ Cert.ReferenceMixFwdIdeal.sig) → Buf (Elt Ideal) ℓ) : Prop :=
  True

def Pre_KernelFfnFwd (m : (ℓ : Loc Cert.KernelFfnFwd.nD Cert.KernelFfnFwd.τ Cert.KernelFfnFwd.sig) → Buf (Elt Bits) ℓ) : Prop :=
  True

def Pre_KernelFfnFwdIdeal (m : (ℓ : Loc Cert.KernelFfnFwdIdeal.nD Cert.KernelFfnFwdIdeal.τ Cert.KernelFfnFwdIdeal.sig) → Buf (Elt Ideal) ℓ) : Prop :=
  True

def Pre_ReferenceFfnFwdIdeal (m : (ℓ : Loc Cert.ReferenceFfnFwdIdeal.nD Cert.ReferenceFfnFwdIdeal.τ Cert.ReferenceFfnFwdIdeal.sig) → Buf (Elt Ideal) ℓ) : Prop :=
  True

def Pre_KernelWg (m : (ℓ : Loc Cert.KernelWg.nD Cert.KernelWg.τ Cert.KernelWg.sig) → Buf (Elt Bits) ℓ) : Prop :=
  True

def Pre_KernelWgIdeal (m : (ℓ : Loc Cert.KernelWgIdeal.nD Cert.KernelWgIdeal.τ Cert.KernelWgIdeal.sig) → Buf (Elt Ideal) ℓ) : Prop :=
  True

def Pre_ReferenceWgIdeal (m : (ℓ : Loc Cert.ReferenceWgIdeal.nD Cert.ReferenceWgIdeal.τ Cert.ReferenceWgIdeal.sig) → Buf (Elt Ideal) ℓ) : Prop :=
  True

def Pre_KernelAdam (m : (ℓ : Loc Cert.KernelAdam.nD Cert.KernelAdam.τ Cert.KernelAdam.sig) → Buf (Elt Bits) ℓ) : Prop :=
  True

def Pre_KernelAdamIdeal (m : (ℓ : Loc Cert.KernelAdamIdeal.nD Cert.KernelAdamIdeal.τ Cert.KernelAdamIdeal.sig) → Buf (Elt Ideal) ℓ) : Prop :=
  True

def Pre_ReferenceAdamIdeal (m : (ℓ : Loc Cert.ReferenceAdamIdeal.nD Cert.ReferenceAdamIdeal.τ Cert.ReferenceAdamIdeal.sig) → Buf (Elt Ideal) ℓ) : Prop :=
  True

def Pre_KernelHgFwd (m : (ℓ : Loc Cert.KernelHgFwd.nD Cert.KernelHgFwd.τ Cert.KernelHgFwd.sig) → Buf (Elt Bits) ℓ) : Prop :=
  True

def Pre_KernelHgFwdIdeal (m : (ℓ : Loc Cert.KernelHgFwdIdeal.nD Cert.KernelHgFwdIdeal.τ Cert.KernelHgFwdIdeal.sig) → Buf (Elt Ideal) ℓ) : Prop :=
  True

def Pre_ReferenceHgFwdIdeal (m : (ℓ : Loc Cert.ReferenceHgFwdIdeal.nD Cert.ReferenceHgFwdIdeal.τ Cert.ReferenceHgFwdIdeal.sig) → Buf (Elt Ideal) ℓ) : Prop :=
  True

def Pre_KernelAdd (m : (ℓ : Loc Cert.KernelAdd.nD Cert.KernelAdd.τ Cert.KernelAdd.sig) → Buf (Elt Bits) ℓ) : Prop :=
  True

def Pre_KernelAddIdeal (m : (ℓ : Loc Cert.KernelAddIdeal.nD Cert.KernelAddIdeal.τ Cert.KernelAddIdeal.sig) → Buf (Elt Ideal) ℓ) : Prop :=
  True

def Pre_ReferenceAddIdeal (m : (ℓ : Loc Cert.ReferenceAddIdeal.nD Cert.ReferenceAddIdeal.τ Cert.ReferenceAddIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_KernelPle [hKernelPle : Cert.KernelPle.Facts] : Prop :=
  ∀ (m : (ℓ : Loc Cert.KernelPle.nD Cert.KernelPle.τ Cert.KernelPle.sig) → Buf (Elt Bits) ℓ) (g : Dev Cert.KernelPle.nD → PrngReg), Pre_KernelPle m →
    θ_run (Cert.KernelPle.defs (F := Bits)) (onTc (τ := Cert.KernelPle.τ) (Cert.KernelPle.main (F := Bits))) ⟨m, fun _ => 0, g⟩ (fun r => (∀ c : Dev Cert.KernelPle.nD,
      r.2.mem ((c.tc : Thread Cert.KernelPle.nD Cert.KernelPle.τ).loc Cert.KernelPle.main_arg0) = m ((c.tc : Thread Cert.KernelPle.nD Cert.KernelPle.τ).loc Cert.KernelPle.main_arg0)
      ∧ r.2.mem ((c.tc : Thread Cert.KernelPle.nD Cert.KernelPle.τ).loc Cert.KernelPle.main_arg1) = m ((c.tc : Thread Cert.KernelPle.nD Cert.KernelPle.τ).loc Cert.KernelPle.main_arg1)
      ∧ r.2.mem ((c.tc : Thread Cert.KernelPle.nD Cert.KernelPle.τ).loc Cert.KernelPle.main_arg2) = m ((c.tc : Thread Cert.KernelPle.nD Cert.KernelPle.τ).loc Cert.KernelPle.main_arg2)
      ∧ r.2.mem ((c.tc : Thread Cert.KernelPle.nD Cert.KernelPle.τ).loc Cert.KernelPle.main_arg3) = m ((c.tc : Thread Cert.KernelPle.nD Cert.KernelPle.τ).loc Cert.KernelPle.main_arg3)
      ∧ r.2.mem ((c.tc : Thread Cert.KernelPle.nD Cert.KernelPle.τ).loc Cert.KernelPle.main_arg4) = m ((c.tc : Thread Cert.KernelPle.nD Cert.KernelPle.τ).loc Cert.KernelPle.main_arg4))
      ∧ r.2.sem = fun _ => 0)

def quiescent_KernelPleIdeal [hKernelPleIdeal : Cert.KernelPleIdeal.Facts] : Prop :=
  ∀ (m : (ℓ : Loc Cert.KernelPleIdeal.nD Cert.KernelPleIdeal.τ Cert.KernelPleIdeal.sig) → Buf (Elt Ideal) ℓ) (g : Dev Cert.KernelPleIdeal.nD → PrngReg), Pre_KernelPleIdeal m →
    θ_run (Cert.KernelPleIdeal.defs (F := Ideal)) (onTc (τ := Cert.KernelPleIdeal.τ) (Cert.KernelPleIdeal.main (F := Ideal))) ⟨m, fun _ => 0, g⟩ (fun r => (∀ c : Dev Cert.KernelPleIdeal.nD,
      r.2.mem ((c.tc : Thread Cert.KernelPleIdeal.nD Cert.KernelPleIdeal.τ).loc Cert.KernelPleIdeal.main_arg0) = m ((c.tc : Thread Cert.KernelPleIdeal.nD Cert.KernelPleIdeal.τ).loc Cert.KernelPleIdeal.main_arg0)
      ∧ r.2.mem ((c.tc : Thread Cert.KernelPleIdeal.nD Cert.KernelPleIdeal.τ).loc Cert.KernelPleIdeal.main_arg1) = m ((c.tc : Thread Cert.KernelPleIdeal.nD Cert.KernelPleIdeal.τ).loc Cert.KernelPleIdeal.main_arg1)
      ∧ r.2.mem ((c.tc : Thread Cert.KernelPleIdeal.nD Cert.KernelPleIdeal.τ).loc Cert.KernelPleIdeal.main_arg2) = m ((c.tc : Thread Cert.KernelPleIdeal.nD Cert.KernelPleIdeal.τ).loc Cert.KernelPleIdeal.main_arg2)
      ∧ r.2.mem ((c.tc : Thread Cert.KernelPleIdeal.nD Cert.KernelPleIdeal.τ).loc Cert.KernelPleIdeal.main_arg3) = m ((c.tc : Thread Cert.KernelPleIdeal.nD Cert.KernelPleIdeal.τ).loc Cert.KernelPleIdeal.main_arg3)
      ∧ r.2.mem ((c.tc : Thread Cert.KernelPleIdeal.nD Cert.KernelPleIdeal.τ).loc Cert.KernelPleIdeal.main_arg4) = m ((c.tc : Thread Cert.KernelPleIdeal.nD Cert.KernelPleIdeal.τ).loc Cert.KernelPleIdeal.main_arg4))
      ∧ r.2.sem = fun _ => 0)

def quiescent_ReferencePleIdeal [hReferencePleIdeal : Cert.ReferencePleIdeal.Facts] : Prop :=
  ∀ (m : (ℓ : Loc Cert.ReferencePleIdeal.nD Cert.ReferencePleIdeal.τ Cert.ReferencePleIdeal.sig) → Buf (Elt Ideal) ℓ) (g : Dev Cert.ReferencePleIdeal.nD → PrngReg), Pre_ReferencePleIdeal m →
    θ_run (Cert.ReferencePleIdeal.defs (F := Ideal)) (onTc (τ := Cert.ReferencePleIdeal.τ) (Cert.ReferencePleIdeal.main (F := Ideal))) ⟨m, fun _ => 0, g⟩ (fun r => (∀ c : Dev Cert.ReferencePleIdeal.nD,
      r.2.mem ((c.tc : Thread Cert.ReferencePleIdeal.nD Cert.ReferencePleIdeal.τ).loc Cert.ReferencePleIdeal.main_arg0) = m ((c.tc : Thread Cert.ReferencePleIdeal.nD Cert.ReferencePleIdeal.τ).loc Cert.ReferencePleIdeal.main_arg0)
      ∧ r.2.mem ((c.tc : Thread Cert.ReferencePleIdeal.nD Cert.ReferencePleIdeal.τ).loc Cert.ReferencePleIdeal.main_arg1) = m ((c.tc : Thread Cert.ReferencePleIdeal.nD Cert.ReferencePleIdeal.τ).loc Cert.ReferencePleIdeal.main_arg1)
      ∧ r.2.mem ((c.tc : Thread Cert.ReferencePleIdeal.nD Cert.ReferencePleIdeal.τ).loc Cert.ReferencePleIdeal.main_arg2) = m ((c.tc : Thread Cert.ReferencePleIdeal.nD Cert.ReferencePleIdeal.τ).loc Cert.ReferencePleIdeal.main_arg2)
      ∧ r.2.mem ((c.tc : Thread Cert.ReferencePleIdeal.nD Cert.ReferencePleIdeal.τ).loc Cert.ReferencePleIdeal.main_arg3) = m ((c.tc : Thread Cert.ReferencePleIdeal.nD Cert.ReferencePleIdeal.τ).loc Cert.ReferencePleIdeal.main_arg3)
      ∧ r.2.mem ((c.tc : Thread Cert.ReferencePleIdeal.nD Cert.ReferencePleIdeal.τ).loc Cert.ReferencePleIdeal.main_arg4) = m ((c.tc : Thread Cert.ReferencePleIdeal.nD Cert.ReferencePleIdeal.τ).loc Cert.ReferencePleIdeal.main_arg4))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4)
      ∧ r.2.mem ((c.tc : Thread Cert.KernelFfn.nD Cert.KernelFfn.τ).loc Cert.KernelFfn.main_arg5) = m ((c.tc : Thread Cert.KernelFfn.nD Cert.KernelFfn.τ).loc Cert.KernelFfn.main_arg5))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
      ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5))
      ∧ r.2.sem = fun _ => 0)

def quiescent_KernelFfnIdeal_pre_finite_ffn [hKernelFfnIdeal : Cert.KernelFfnIdeal.Facts] [hPre_finite_ffn : Cert.Pre_finite_ffn.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal_finite_ffn m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
      ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4)
      ∧ r.2.mem ((c.tc : Thread Cert.ReferenceFfnIdeal.nD Cert.ReferenceFfnIdeal.τ).loc Cert.ReferenceFfnIdeal.main_arg5) = m ((c.tc : Thread Cert.ReferenceFfnIdeal.nD Cert.ReferenceFfnIdeal.τ).loc Cert.ReferenceFfnIdeal.main_arg5))
      ∧ r.2.sem = fun _ => 0)

def quiescent_ReferenceFfnIdeal_pre_finite_ffn [hReferenceFfnIdeal : Cert.ReferenceFfnIdeal.Facts] [hPre_finite_ffn : Cert.Pre_finite_ffn.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal_finite_ffn m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4)
      ∧ r.2.mem ((c.tc : Thread Cert.ReferenceFfnIdeal.nD Cert.ReferenceFfnIdeal.τ).loc Cert.ReferenceFfnIdeal.main_arg5) = m ((c.tc : Thread Cert.ReferenceFfnIdeal.nD Cert.ReferenceFfnIdeal.τ).loc Cert.ReferenceFfnIdeal.main_arg5))
      ∧ r.2.sem = fun _ => 0)

def quiescent_KernelMix [hKernelMix : Cert.KernelMix.Facts] : Prop :=
  ∀ (m : (ℓ : Loc Cert.KernelMix.nD Cert.KernelMix.τ Cert.KernelMix.sig) → Buf (Elt Bits) ℓ) (g : Dev Cert.KernelMix.nD → PrngReg), Pre_KernelMix m →
    θ_run (Cert.KernelMix.defs (F := Bits)) (onTc (τ := Cert.KernelMix.τ) (Cert.KernelMix.main (F := Bits))) ⟨m, fun _ => 0, g⟩ (fun r => (∀ c : Dev Cert.KernelMix.nD,
      r.2.mem ((c.tc : Thread Cert.KernelMix.nD Cert.KernelMix.τ).loc Cert.KernelMix.main_arg0) = m ((c.tc : Thread Cert.KernelMix.nD Cert.KernelMix.τ).loc Cert.KernelMix.main_arg0)
      ∧ r.2.mem ((c.tc : Thread Cert.KernelMix.nD Cert.KernelMix.τ).loc Cert.KernelMix.main_arg1) = m ((c.tc : Thread Cert.KernelMix.nD Cert.KernelMix.τ).loc Cert.KernelMix.main_arg1)
      ∧ r.2.mem ((c.tc : Thread Cert.KernelMix.nD Cert.KernelMix.τ).loc Cert.KernelMix.main_arg2) = m ((c.tc : Thread Cert.KernelMix.nD Cert.KernelMix.τ).loc Cert.KernelMix.main_arg2)
      ∧ r.2.mem ((c.tc : Thread Cert.KernelMix.nD Cert.KernelMix.τ).loc Cert.KernelMix.main_arg3) = m ((c.tc : Thread Cert.KernelMix.nD Cert.KernelMix.τ).loc Cert.KernelMix.main_arg3)
      ∧ r.2.mem ((c.tc : Thread Cert.KernelMix.nD Cert.KernelMix.τ).loc Cert.KernelMix.main_arg4) = m ((c.tc : Thread Cert.KernelMix.nD Cert.KernelMix.τ).loc Cert.KernelMix.main_arg4)
      ∧ r.2.mem ((c.tc : Thread Cert.KernelMix.nD Cert.KernelMix.τ).loc Cert.KernelMix.main_arg5) = m ((c.tc : Thread Cert.KernelMix.nD Cert.KernelMix.τ).loc Cert.KernelMix.main_arg5)
      ∧ r.2.mem ((c.tc : Thread Cert.KernelMix.nD Cert.KernelMix.τ).loc Cert.KernelMix.main_arg6) = m ((c.tc : Thread Cert.KernelMix.nD Cert.KernelMix.τ).loc Cert.KernelMix.main_arg6))
      ∧ r.2.sem = fun _ => 0)

def quiescent_KernelMixIdeal [hKernelMixIdeal : Cert.KernelMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
      ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
      ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
      ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5)
      ∧ r.2.mem ((c.tc : Thread Cert.KernelMixIdeal.nD Cert.KernelMixIdeal.τ).loc Cert.KernelMixIdeal.main_arg6) = m ((c.tc : Thread Cert.KernelMixIdeal.nD Cert.KernelMixIdeal.τ).loc Cert.KernelMixIdeal.main_arg6))
      ∧ r.2.sem = fun _ => 0)

def quiescent_KernelMixIdeal_pre_finite_mix [hKernelMixIdeal : Cert.KernelMixIdeal.Facts] [hPre_finite_mix : Cert.Pre_finite_mix.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal_finite_mix m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
      ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
      ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
      ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5)
      ∧ r.2.mem ((c.tc : Thread Cert.KernelMixIdeal.nD Cert.KernelMixIdeal.τ).loc Cert.KernelMixIdeal.main_arg6) = m ((c.tc : Thread Cert.KernelMixIdeal.nD Cert.KernelMixIdeal.τ).loc Cert.KernelMixIdeal.main_arg6))
      ∧ r.2.sem = fun _ => 0)

def quiescent_ReferenceMixIdeal [hReferenceMixIdeal : Cert.ReferenceMixIdeal.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2)
      ∧ r.2.mem ((c.tc : Thread Cert.ReferenceMixIdeal.nD Cert.ReferenceMixIdeal.τ).loc Cert.ReferenceMixIdeal.main_arg3) = m ((c.tc : Thread Cert.ReferenceMixIdeal.nD Cert.ReferenceMixIdeal.τ).loc Cert.ReferenceMixIdeal.main_arg3)
      ∧ r.2.mem ((c.tc : Thread Cert.ReferenceMixIdeal.nD Cert.ReferenceMixIdeal.τ).loc Cert.ReferenceMixIdeal.main_arg4) = m ((c.tc : Thread Cert.ReferenceMixIdeal.nD Cert.ReferenceMixIdeal.τ).loc Cert.ReferenceMixIdeal.main_arg4)
      ∧ r.2.mem ((c.tc : Thread Cert.ReferenceMixIdeal.nD Cert.ReferenceMixIdeal.τ).loc Cert.ReferenceMixIdeal.main_arg5) = m ((c.tc : Thread Cert.ReferenceMixIdeal.nD Cert.ReferenceMixIdeal.τ).loc Cert.ReferenceMixIdeal.main_arg5)
      ∧ r.2.mem ((c.tc : Thread Cert.ReferenceMixIdeal.nD Cert.ReferenceMixIdeal.τ).loc Cert.ReferenceMixIdeal.main_arg6) = m ((c.tc : Thread Cert.ReferenceMixIdeal.nD Cert.ReferenceMixIdeal.τ).loc Cert.ReferenceMixIdeal.main_arg6))
      ∧ r.2.sem = fun _ => 0)

def quiescent_ReferenceMixIdeal_pre_finite_mix [hReferenceMixIdeal : Cert.ReferenceMixIdeal.Facts] [hPre_finite_mix : Cert.Pre_finite_mix.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal_finite_mix m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2)
      ∧ r.2.mem ((c.tc : Thread Cert.ReferenceMixIdeal.nD Cert.ReferenceMixIdeal.τ).loc Cert.ReferenceMixIdeal.main_arg3) = m ((c.tc : Thread Cert.ReferenceMixIdeal.nD Cert.ReferenceMixIdeal.τ).loc Cert.ReferenceMixIdeal.main_arg3)
      ∧ r.2.mem ((c.tc : Thread Cert.ReferenceMixIdeal.nD Cert.ReferenceMixIdeal.τ).loc Cert.ReferenceMixIdeal.main_arg4) = m ((c.tc : Thread Cert.ReferenceMixIdeal.nD Cert.ReferenceMixIdeal.τ).loc Cert.ReferenceMixIdeal.main_arg4)
      ∧ r.2.mem ((c.tc : Thread Cert.ReferenceMixIdeal.nD Cert.ReferenceMixIdeal.τ).loc Cert.ReferenceMixIdeal.main_arg5) = m ((c.tc : Thread Cert.ReferenceMixIdeal.nD Cert.ReferenceMixIdeal.τ).loc Cert.ReferenceMixIdeal.main_arg5)
      ∧ r.2.mem ((c.tc : Thread Cert.ReferenceMixIdeal.nD Cert.ReferenceMixIdeal.τ).loc Cert.ReferenceMixIdeal.main_arg6) = m ((c.tc : Thread Cert.ReferenceMixIdeal.nD Cert.ReferenceMixIdeal.τ).loc Cert.ReferenceMixIdeal.main_arg6))
      ∧ r.2.sem = fun _ => 0)

def quiescent_KernelInFwd [hKernelInFwd : Cert.KernelInFwd.Facts] : Prop :=
  ∀ (m : (ℓ : Loc Cert.KernelInFwd.nD Cert.KernelInFwd.τ Cert.KernelInFwd.sig) → Buf (Elt Bits) ℓ) (g : Dev Cert.KernelInFwd.nD → PrngReg), Pre_KernelInFwd m →
    θ_run (Cert.KernelInFwd.defs (F := Bits)) (onTc (τ := Cert.KernelInFwd.τ) (Cert.KernelInFwd.main (F := Bits))) ⟨m, fun _ => 0, g⟩ (fun r => (∀ c : Dev Cert.KernelInFwd.nD,
      r.2.mem ((c.tc : Thread Cert.KernelInFwd.nD Cert.KernelInFwd.τ).loc Cert.KernelInFwd.main_arg0) = m ((c.tc : Thread Cert.KernelInFwd.nD Cert.KernelInFwd.τ).loc Cert.KernelInFwd.main_arg0)
      ∧ r.2.mem ((c.tc : Thread Cert.KernelInFwd.nD Cert.KernelInFwd.τ).loc Cert.KernelInFwd.main_arg1) = m ((c.tc : Thread Cert.KernelInFwd.nD Cert.KernelInFwd.τ).loc Cert.KernelInFwd.main_arg1)
      ∧ r.2.mem ((c.tc : Thread Cert.KernelInFwd.nD Cert.KernelInFwd.τ).loc Cert.KernelInFwd.main_arg2) = m ((c.tc : Thread Cert.KernelInFwd.nD Cert.KernelInFwd.τ).loc Cert.KernelInFwd.main_arg2))
      ∧ r.2.sem = fun _ => 0)

def quiescent_KernelInFwdIdeal [hKernelInFwdIdeal : Cert.KernelInFwdIdeal.Facts] : Prop :=
  ∀ (m : (ℓ : Loc Cert.KernelInFwdIdeal.nD Cert.KernelInFwdIdeal.τ Cert.KernelInFwdIdeal.sig) → Buf (Elt Ideal) ℓ) (g : Dev Cert.KernelInFwdIdeal.nD → PrngReg), Pre_KernelInFwdIdeal m →
    θ_run (Cert.KernelInFwdIdeal.defs (F := Ideal)) (onTc (τ := Cert.KernelInFwdIdeal.τ) (Cert.KernelInFwdIdeal.main (F := Ideal))) ⟨m, fun _ => 0, g⟩ (fun r => (∀ c : Dev Cert.KernelInFwdIdeal.nD,
      r.2.mem ((c.tc : Thread Cert.KernelInFwdIdeal.nD Cert.KernelInFwdIdeal.τ).loc Cert.KernelInFwdIdeal.main_arg0) = m ((c.tc : Thread Cert.KernelInFwdIdeal.nD Cert.KernelInFwdIdeal.τ).loc Cert.KernelInFwdIdeal.main_arg0)
      ∧ r.2.mem ((c.tc : Thread Cert.KernelInFwdIdeal.nD Cert.KernelInFwdIdeal.τ).loc Cert.KernelInFwdIdeal.main_arg1) = m ((c.tc : Thread Cert.KernelInFwdIdeal.nD Cert.KernelInFwdIdeal.τ).loc Cert.KernelInFwdIdeal.main_arg1)
      ∧ r.2.mem ((c.tc : Thread Cert.KernelInFwdIdeal.nD Cert.KernelInFwdIdeal.τ).loc Cert.KernelInFwdIdeal.main_arg2) = m ((c.tc : Thread Cert.KernelInFwdIdeal.nD Cert.KernelInFwdIdeal.τ).loc Cert.KernelInFwdIdeal.main_arg2))
      ∧ r.2.sem = fun _ => 0)

def quiescent_ReferenceInFwdIdeal [hReferenceInFwdIdeal : Cert.ReferenceInFwdIdeal.Facts] : Prop :=
  ∀ (m : (ℓ : Loc Cert.ReferenceInFwdIdeal.nD Cert.ReferenceInFwdIdeal.τ Cert.ReferenceInFwdIdeal.sig) → Buf (Elt Ideal) ℓ) (g : Dev Cert.ReferenceInFwdIdeal.nD → PrngReg), Pre_ReferenceInFwdIdeal m →
    θ_run (Cert.ReferenceInFwdIdeal.defs (F := Ideal)) (onTc (τ := Cert.ReferenceInFwdIdeal.τ) (Cert.ReferenceInFwdIdeal.main (F := Ideal))) ⟨m, fun _ => 0, g⟩ (fun r => (∀ c : Dev Cert.ReferenceInFwdIdeal.nD,
      r.2.mem ((c.tc : Thread Cert.ReferenceInFwdIdeal.nD Cert.ReferenceInFwdIdeal.τ).loc Cert.ReferenceInFwdIdeal.main_arg0) = m ((c.tc : Thread Cert.ReferenceInFwdIdeal.nD Cert.ReferenceInFwdIdeal.τ).loc Cert.ReferenceInFwdIdeal.main_arg0)
      ∧ r.2.mem ((c.tc : Thread Cert.ReferenceInFwdIdeal.nD Cert.ReferenceInFwdIdeal.τ).loc Cert.ReferenceInFwdIdeal.main_arg1) = m ((c.tc : Thread Cert.ReferenceInFwdIdeal.nD Cert.ReferenceInFwdIdeal.τ).loc Cert.ReferenceInFwdIdeal.main_arg1)
      ∧ r.2.mem ((c.tc : Thread Cert.ReferenceInFwdIdeal.nD Cert.ReferenceInFwdIdeal.τ).loc Cert.ReferenceInFwdIdeal.main_arg2) = m ((c.tc : Thread Cert.ReferenceInFwdIdeal.nD Cert.ReferenceInFwdIdeal.τ).loc Cert.ReferenceInFwdIdeal.main_arg2))
      ∧ r.2.sem = fun _ => 0)

def quiescent_KernelMixFwd [hKernelMixFwd : Cert.KernelMixFwd.Facts] : Prop :=
  ∀ (m : (ℓ : Loc Cert.KernelMixFwd.nD Cert.KernelMixFwd.τ Cert.KernelMixFwd.sig) → Buf (Elt Bits) ℓ) (g : Dev Cert.KernelMixFwd.nD → PrngReg), Pre_KernelMixFwd m →
    θ_run (Cert.KernelMixFwd.defs (F := Bits)) (onTc (τ := Cert.KernelMixFwd.τ) (Cert.KernelMixFwd.main (F := Bits))) ⟨m, fun _ => 0, g⟩ (fun r => (∀ c : Dev Cert.KernelMixFwd.nD,
      r.2.mem ((c.tc : Thread Cert.KernelMixFwd.nD Cert.KernelMixFwd.τ).loc Cert.KernelMixFwd.main_arg0) = m ((c.tc : Thread Cert.KernelMixFwd.nD Cert.KernelMixFwd.τ).loc Cert.KernelMixFwd.main_arg0)
      ∧ r.2.mem ((c.tc : Thread Cert.KernelMixFwd.nD Cert.KernelMixFwd.τ).loc Cert.KernelMixFwd.main_arg1) = m ((c.tc : Thread Cert.KernelMixFwd.nD Cert.KernelMixFwd.τ).loc Cert.KernelMixFwd.main_arg1)
      ∧ r.2.mem ((c.tc : Thread Cert.KernelMixFwd.nD Cert.KernelMixFwd.τ).loc Cert.KernelMixFwd.main_arg2) = m ((c.tc : Thread Cert.KernelMixFwd.nD Cert.KernelMixFwd.τ).loc Cert.KernelMixFwd.main_arg2)
      ∧ r.2.mem ((c.tc : Thread Cert.KernelMixFwd.nD Cert.KernelMixFwd.τ).loc Cert.KernelMixFwd.main_arg3) = m ((c.tc : Thread Cert.KernelMixFwd.nD Cert.KernelMixFwd.τ).loc Cert.KernelMixFwd.main_arg3)
      ∧ r.2.mem ((c.tc : Thread Cert.KernelMixFwd.nD Cert.KernelMixFwd.τ).loc Cert.KernelMixFwd.main_arg4) = m ((c.tc : Thread Cert.KernelMixFwd.nD Cert.KernelMixFwd.τ).loc Cert.KernelMixFwd.main_arg4)
      ∧ r.2.mem ((c.tc : Thread Cert.KernelMixFwd.nD Cert.KernelMixFwd.τ).loc Cert.KernelMixFwd.main_arg5) = m ((c.tc : Thread Cert.KernelMixFwd.nD Cert.KernelMixFwd.τ).loc Cert.KernelMixFwd.main_arg5)
      ∧ r.2.mem ((c.tc : Thread Cert.KernelMixFwd.nD Cert.KernelMixFwd.τ).loc Cert.KernelMixFwd.main_arg6) = m ((c.tc : Thread Cert.KernelMixFwd.nD Cert.KernelMixFwd.τ).loc Cert.KernelMixFwd.main_arg6))
      ∧ r.2.sem = fun _ => 0)

def quiescent_KernelMixFwdIdeal [hKernelMixFwdIdeal : Cert.KernelMixFwdIdeal.Facts] : Prop :=
  ∀ (m : (ℓ : Loc Cert.KernelMixFwdIdeal.nD Cert.KernelMixFwdIdeal.τ Cert.KernelMixFwdIdeal.sig) → Buf (Elt Ideal) ℓ) (g : Dev Cert.KernelMixFwdIdeal.nD → PrngReg), Pre_KernelMixFwdIdeal m →
    θ_run (Cert.KernelMixFwdIdeal.defs (F := Ideal)) (onTc (τ := Cert.KernelMixFwdIdeal.τ) (Cert.KernelMixFwdIdeal.main (F := Ideal))) ⟨m, fun _ => 0, g⟩ (fun r => (∀ c : Dev Cert.KernelMixFwdIdeal.nD,
      r.2.mem ((c.tc : Thread Cert.KernelMixFwdIdeal.nD Cert.KernelMixFwdIdeal.τ).loc Cert.KernelMixFwdIdeal.main_arg0) = m ((c.tc : Thread Cert.KernelMixFwdIdeal.nD Cert.KernelMixFwdIdeal.τ).loc Cert.KernelMixFwdIdeal.main_arg0)
      ∧ r.2.mem ((c.tc : Thread Cert.KernelMixFwdIdeal.nD Cert.KernelMixFwdIdeal.τ).loc Cert.KernelMixFwdIdeal.main_arg1) = m ((c.tc : Thread Cert.KernelMixFwdIdeal.nD Cert.KernelMixFwdIdeal.τ).loc Cert.KernelMixFwdIdeal.main_arg1)
      ∧ r.2.mem ((c.tc : Thread Cert.KernelMixFwdIdeal.nD Cert.KernelMixFwdIdeal.τ).loc Cert.KernelMixFwdIdeal.main_arg2) = m ((c.tc : Thread Cert.KernelMixFwdIdeal.nD Cert.KernelMixFwdIdeal.τ).loc Cert.KernelMixFwdIdeal.main_arg2)
      ∧ r.2.mem ((c.tc : Thread Cert.KernelMixFwdIdeal.nD Cert.KernelMixFwdIdeal.τ).loc Cert.KernelMixFwdIdeal.main_arg3) = m ((c.tc : Thread Cert.KernelMixFwdIdeal.nD Cert.KernelMixFwdIdeal.τ).loc Cert.KernelMixFwdIdeal.main_arg3)
      ∧ r.2.mem ((c.tc : Thread Cert.KernelMixFwdIdeal.nD Cert.KernelMixFwdIdeal.τ).loc Cert.KernelMixFwdIdeal.main_arg4) = m ((c.tc : Thread Cert.KernelMixFwdIdeal.nD Cert.KernelMixFwdIdeal.τ).loc Cert.KernelMixFwdIdeal.main_arg4)
      ∧ r.2.mem ((c.tc : Thread Cert.KernelMixFwdIdeal.nD Cert.KernelMixFwdIdeal.τ).loc Cert.KernelMixFwdIdeal.main_arg5) = m ((c.tc : Thread Cert.KernelMixFwdIdeal.nD Cert.KernelMixFwdIdeal.τ).loc Cert.KernelMixFwdIdeal.main_arg5)
      ∧ r.2.mem ((c.tc : Thread Cert.KernelMixFwdIdeal.nD Cert.KernelMixFwdIdeal.τ).loc Cert.KernelMixFwdIdeal.main_arg6) = m ((c.tc : Thread Cert.KernelMixFwdIdeal.nD Cert.KernelMixFwdIdeal.τ).loc Cert.KernelMixFwdIdeal.main_arg6))
      ∧ r.2.sem = fun _ => 0)

def quiescent_ReferenceMixFwdIdeal [hReferenceMixFwdIdeal : Cert.ReferenceMixFwdIdeal.Facts] : Prop :=
  ∀ (m : (ℓ : Loc Cert.ReferenceMixFwdIdeal.nD Cert.ReferenceMixFwdIdeal.τ Cert.ReferenceMixFwdIdeal.sig) → Buf (Elt Ideal) ℓ) (g : Dev Cert.ReferenceMixFwdIdeal.nD → PrngReg), Pre_ReferenceMixFwdIdeal m →
    θ_run (Cert.ReferenceMixFwdIdeal.defs (F := Ideal)) (onTc (τ := Cert.ReferenceMixFwdIdeal.τ) (Cert.ReferenceMixFwdIdeal.main (F := Ideal))) ⟨m, fun _ => 0, g⟩ (fun r => (∀ c : Dev Cert.ReferenceMixFwdIdeal.nD,
      r.2.mem ((c.tc : Thread Cert.ReferenceMixFwdIdeal.nD Cert.ReferenceMixFwdIdeal.τ).loc Cert.ReferenceMixFwdIdeal.main_arg0) = m ((c.tc : Thread Cert.ReferenceMixFwdIdeal.nD Cert.ReferenceMixFwdIdeal.τ).loc Cert.ReferenceMixFwdIdeal.main_arg0)
      ∧ r.2.mem ((c.tc : Thread Cert.ReferenceMixFwdIdeal.nD Cert.ReferenceMixFwdIdeal.τ).loc Cert.ReferenceMixFwdIdeal.main_arg1) = m ((c.tc : Thread Cert.ReferenceMixFwdIdeal.nD Cert.ReferenceMixFwdIdeal.τ).loc Cert.ReferenceMixFwdIdeal.main_arg1)
      ∧ r.2.mem ((c.tc : Thread Cert.ReferenceMixFwdIdeal.nD Cert.ReferenceMixFwdIdeal.τ).loc Cert.ReferenceMixFwdIdeal.main_arg2) = m ((c.tc : Thread Cert.ReferenceMixFwdIdeal.nD Cert.ReferenceMixFwdIdeal.τ).loc Cert.ReferenceMixFwdIdeal.main_arg2)
      ∧ r.2.mem ((c.tc : Thread Cert.ReferenceMixFwdIdeal.nD Cert.ReferenceMixFwdIdeal.τ).loc Cert.ReferenceMixFwdIdeal.main_arg3) = m ((c.tc : Thread Cert.ReferenceMixFwdIdeal.nD Cert.ReferenceMixFwdIdeal.τ).loc Cert.ReferenceMixFwdIdeal.main_arg3)
      ∧ r.2.mem ((c.tc : Thread Cert.ReferenceMixFwdIdeal.nD Cert.ReferenceMixFwdIdeal.τ).loc Cert.ReferenceMixFwdIdeal.main_arg4) = m ((c.tc : Thread Cert.ReferenceMixFwdIdeal.nD Cert.ReferenceMixFwdIdeal.τ).loc Cert.ReferenceMixFwdIdeal.main_arg4)
      ∧ r.2.mem ((c.tc : Thread Cert.ReferenceMixFwdIdeal.nD Cert.ReferenceMixFwdIdeal.τ).loc Cert.ReferenceMixFwdIdeal.main_arg5) = m ((c.tc : Thread Cert.ReferenceMixFwdIdeal.nD Cert.ReferenceMixFwdIdeal.τ).loc Cert.ReferenceMixFwdIdeal.main_arg5)
      ∧ r.2.mem ((c.tc : Thread Cert.ReferenceMixFwdIdeal.nD Cert.ReferenceMixFwdIdeal.τ).loc Cert.ReferenceMixFwdIdeal.main_arg6) = m ((c.tc : Thread Cert.ReferenceMixFwdIdeal.nD Cert.ReferenceMixFwdIdeal.τ).loc Cert.ReferenceMixFwdIdeal.main_arg6))
      ∧ r.2.sem = fun _ => 0)

def quiescent_KernelFfnFwd [hKernelFfnFwd : Cert.KernelFfnFwd.Facts] : Prop :=
  ∀ (m : (ℓ : Loc Cert.KernelFfnFwd.nD Cert.KernelFfnFwd.τ Cert.KernelFfnFwd.sig) → Buf (Elt Bits) ℓ) (g : Dev Cert.KernelFfnFwd.nD → PrngReg), Pre_KernelFfnFwd m →
    θ_run (Cert.KernelFfnFwd.defs (F := Bits)) (onTc (τ := Cert.KernelFfnFwd.τ) (Cert.KernelFfnFwd.main (F := Bits))) ⟨m, fun _ => 0, g⟩ (fun r => (∀ c : Dev Cert.KernelFfnFwd.nD,
      r.2.mem ((c.tc : Thread Cert.KernelFfnFwd.nD Cert.KernelFfnFwd.τ).loc Cert.KernelFfnFwd.main_arg0) = m ((c.tc : Thread Cert.KernelFfnFwd.nD Cert.KernelFfnFwd.τ).loc Cert.KernelFfnFwd.main_arg0)
      ∧ r.2.mem ((c.tc : Thread Cert.KernelFfnFwd.nD Cert.KernelFfnFwd.τ).loc Cert.KernelFfnFwd.main_arg1) = m ((c.tc : Thread Cert.KernelFfnFwd.nD Cert.KernelFfnFwd.τ).loc Cert.KernelFfnFwd.main_arg1)
      ∧ r.2.mem ((c.tc : Thread Cert.KernelFfnFwd.nD Cert.KernelFfnFwd.τ).loc Cert.KernelFfnFwd.main_arg2) = m ((c.tc : Thread Cert.KernelFfnFwd.nD Cert.KernelFfnFwd.τ).loc Cert.KernelFfnFwd.main_arg2)
      ∧ r.2.mem ((c.tc : Thread Cert.KernelFfnFwd.nD Cert.KernelFfnFwd.τ).loc Cert.KernelFfnFwd.main_arg3) = m ((c.tc : Thread Cert.KernelFfnFwd.nD Cert.KernelFfnFwd.τ).loc Cert.KernelFfnFwd.main_arg3)
      ∧ r.2.mem ((c.tc : Thread Cert.KernelFfnFwd.nD Cert.KernelFfnFwd.τ).loc Cert.KernelFfnFwd.main_arg4) = m ((c.tc : Thread Cert.KernelFfnFwd.nD Cert.KernelFfnFwd.τ).loc Cert.KernelFfnFwd.main_arg4))
      ∧ r.2.sem = fun _ => 0)

def quiescent_KernelFfnFwdIdeal [hKernelFfnFwdIdeal : Cert.KernelFfnFwdIdeal.Facts] : Prop :=
  ∀ (m : (ℓ : Loc Cert.KernelFfnFwdIdeal.nD Cert.KernelFfnFwdIdeal.τ Cert.KernelFfnFwdIdeal.sig) → Buf (Elt Ideal) ℓ) (g : Dev Cert.KernelFfnFwdIdeal.nD → PrngReg), Pre_KernelFfnFwdIdeal m →
    θ_run (Cert.KernelFfnFwdIdeal.defs (F := Ideal)) (onTc (τ := Cert.KernelFfnFwdIdeal.τ) (Cert.KernelFfnFwdIdeal.main (F := Ideal))) ⟨m, fun _ => 0, g⟩ (fun r => (∀ c : Dev Cert.KernelFfnFwdIdeal.nD,
      r.2.mem ((c.tc : Thread Cert.KernelFfnFwdIdeal.nD Cert.KernelFfnFwdIdeal.τ).loc Cert.KernelFfnFwdIdeal.main_arg0) = m ((c.tc : Thread Cert.KernelFfnFwdIdeal.nD Cert.KernelFfnFwdIdeal.τ).loc Cert.KernelFfnFwdIdeal.main_arg0)
      ∧ r.2.mem ((c.tc : Thread Cert.KernelFfnFwdIdeal.nD Cert.KernelFfnFwdIdeal.τ).loc Cert.KernelFfnFwdIdeal.main_arg1) = m ((c.tc : Thread Cert.KernelFfnFwdIdeal.nD Cert.KernelFfnFwdIdeal.τ).loc Cert.KernelFfnFwdIdeal.main_arg1)
      ∧ r.2.mem ((c.tc : Thread Cert.KernelFfnFwdIdeal.nD Cert.KernelFfnFwdIdeal.τ).loc Cert.KernelFfnFwdIdeal.main_arg2) = m ((c.tc : Thread Cert.KernelFfnFwdIdeal.nD Cert.KernelFfnFwdIdeal.τ).loc Cert.KernelFfnFwdIdeal.main_arg2)
      ∧ r.2.mem ((c.tc : Thread Cert.KernelFfnFwdIdeal.nD Cert.KernelFfnFwdIdeal.τ).loc Cert.KernelFfnFwdIdeal.main_arg3) = m ((c.tc : Thread Cert.KernelFfnFwdIdeal.nD Cert.KernelFfnFwdIdeal.τ).loc Cert.KernelFfnFwdIdeal.main_arg3)
      ∧ r.2.mem ((c.tc : Thread Cert.KernelFfnFwdIdeal.nD Cert.KernelFfnFwdIdeal.τ).loc Cert.KernelFfnFwdIdeal.main_arg4) = m ((c.tc : Thread Cert.KernelFfnFwdIdeal.nD Cert.KernelFfnFwdIdeal.τ).loc Cert.KernelFfnFwdIdeal.main_arg4))
      ∧ r.2.sem = fun _ => 0)

def quiescent_ReferenceFfnFwdIdeal [hReferenceFfnFwdIdeal : Cert.ReferenceFfnFwdIdeal.Facts] : Prop :=
  ∀ (m : (ℓ : Loc Cert.ReferenceFfnFwdIdeal.nD Cert.ReferenceFfnFwdIdeal.τ Cert.ReferenceFfnFwdIdeal.sig) → Buf (Elt Ideal) ℓ) (g : Dev Cert.ReferenceFfnFwdIdeal.nD → PrngReg), Pre_ReferenceFfnFwdIdeal m →
    θ_run (Cert.ReferenceFfnFwdIdeal.defs (F := Ideal)) (onTc (τ := Cert.ReferenceFfnFwdIdeal.τ) (Cert.ReferenceFfnFwdIdeal.main (F := Ideal))) ⟨m, fun _ => 0, g⟩ (fun r => (∀ c : Dev Cert.ReferenceFfnFwdIdeal.nD,
      r.2.mem ((c.tc : Thread Cert.ReferenceFfnFwdIdeal.nD Cert.ReferenceFfnFwdIdeal.τ).loc Cert.ReferenceFfnFwdIdeal.main_arg0) = m ((c.tc : Thread Cert.ReferenceFfnFwdIdeal.nD Cert.ReferenceFfnFwdIdeal.τ).loc Cert.ReferenceFfnFwdIdeal.main_arg0)
      ∧ r.2.mem ((c.tc : Thread Cert.ReferenceFfnFwdIdeal.nD Cert.ReferenceFfnFwdIdeal.τ).loc Cert.ReferenceFfnFwdIdeal.main_arg1) = m ((c.tc : Thread Cert.ReferenceFfnFwdIdeal.nD Cert.ReferenceFfnFwdIdeal.τ).loc Cert.ReferenceFfnFwdIdeal.main_arg1)
      ∧ r.2.mem ((c.tc : Thread Cert.ReferenceFfnFwdIdeal.nD Cert.ReferenceFfnFwdIdeal.τ).loc Cert.ReferenceFfnFwdIdeal.main_arg2) = m ((c.tc : Thread Cert.ReferenceFfnFwdIdeal.nD Cert.ReferenceFfnFwdIdeal.τ).loc Cert.ReferenceFfnFwdIdeal.main_arg2)
      ∧ r.2.mem ((c.tc : Thread Cert.ReferenceFfnFwdIdeal.nD Cert.ReferenceFfnFwdIdeal.τ).loc Cert.ReferenceFfnFwdIdeal.main_arg3) = m ((c.tc : Thread Cert.ReferenceFfnFwdIdeal.nD Cert.ReferenceFfnFwdIdeal.τ).loc Cert.ReferenceFfnFwdIdeal.main_arg3)
      ∧ r.2.mem ((c.tc : Thread Cert.ReferenceFfnFwdIdeal.nD Cert.ReferenceFfnFwdIdeal.τ).loc Cert.ReferenceFfnFwdIdeal.main_arg4) = m ((c.tc : Thread Cert.ReferenceFfnFwdIdeal.nD Cert.ReferenceFfnFwdIdeal.τ).loc Cert.ReferenceFfnFwdIdeal.main_arg4))
      ∧ r.2.sem = fun _ => 0)

def quiescent_KernelWg [hKernelWg : Cert.KernelWg.Facts] : Prop :=
  ∀ (m : (ℓ : Loc Cert.KernelWg.nD Cert.KernelWg.τ Cert.KernelWg.sig) → Buf (Elt Bits) ℓ) (g : Dev Cert.KernelWg.nD → PrngReg), Pre_KernelWg m →
    θ_run (Cert.KernelWg.defs (F := Bits)) (onTc (τ := Cert.KernelWg.τ) (Cert.KernelWg.main (F := Bits))) ⟨m, fun _ => 0, g⟩ (fun r => (∀ c : Dev Cert.KernelWg.nD,
      r.2.mem ((c.tc : Thread Cert.KernelWg.nD Cert.KernelWg.τ).loc Cert.KernelWg.main_arg0) = m ((c.tc : Thread Cert.KernelWg.nD Cert.KernelWg.τ).loc Cert.KernelWg.main_arg0)
      ∧ r.2.mem ((c.tc : Thread Cert.KernelWg.nD Cert.KernelWg.τ).loc Cert.KernelWg.main_arg1) = m ((c.tc : Thread Cert.KernelWg.nD Cert.KernelWg.τ).loc Cert.KernelWg.main_arg1))
      ∧ r.2.sem = fun _ => 0)

def quiescent_KernelWgIdeal [hKernelWgIdeal : Cert.KernelWgIdeal.Facts] : Prop :=
  ∀ (m : (ℓ : Loc Cert.KernelWgIdeal.nD Cert.KernelWgIdeal.τ Cert.KernelWgIdeal.sig) → Buf (Elt Ideal) ℓ) (g : Dev Cert.KernelWgIdeal.nD → PrngReg), Pre_KernelWgIdeal m →
    θ_run (Cert.KernelWgIdeal.defs (F := Ideal)) (onTc (τ := Cert.KernelWgIdeal.τ) (Cert.KernelWgIdeal.main (F := Ideal))) ⟨m, fun _ => 0, g⟩ (fun r => (∀ c : Dev Cert.KernelWgIdeal.nD,
      r.2.mem ((c.tc : Thread Cert.KernelWgIdeal.nD Cert.KernelWgIdeal.τ).loc Cert.KernelWgIdeal.main_arg0) = m ((c.tc : Thread Cert.KernelWgIdeal.nD Cert.KernelWgIdeal.τ).loc Cert.KernelWgIdeal.main_arg0)
      ∧ r.2.mem ((c.tc : Thread Cert.KernelWgIdeal.nD Cert.KernelWgIdeal.τ).loc Cert.KernelWgIdeal.main_arg1) = m ((c.tc : Thread Cert.KernelWgIdeal.nD Cert.KernelWgIdeal.τ).loc Cert.KernelWgIdeal.main_arg1))
      ∧ r.2.sem = fun _ => 0)

def quiescent_ReferenceWgIdeal [hReferenceWgIdeal : Cert.ReferenceWgIdeal.Facts] : Prop :=
  ∀ (m : (ℓ : Loc Cert.ReferenceWgIdeal.nD Cert.ReferenceWgIdeal.τ Cert.ReferenceWgIdeal.sig) → Buf (Elt Ideal) ℓ) (g : Dev Cert.ReferenceWgIdeal.nD → PrngReg), Pre_ReferenceWgIdeal m →
    θ_run (Cert.ReferenceWgIdeal.defs (F := Ideal)) (onTc (τ := Cert.ReferenceWgIdeal.τ) (Cert.ReferenceWgIdeal.main (F := Ideal))) ⟨m, fun _ => 0, g⟩ (fun r => (∀ c : Dev Cert.ReferenceWgIdeal.nD,
      r.2.mem ((c.tc : Thread Cert.ReferenceWgIdeal.nD Cert.ReferenceWgIdeal.τ).loc Cert.ReferenceWgIdeal.main_arg0) = m ((c.tc : Thread Cert.ReferenceWgIdeal.nD Cert.ReferenceWgIdeal.τ).loc Cert.ReferenceWgIdeal.main_arg0)
      ∧ r.2.mem ((c.tc : Thread Cert.ReferenceWgIdeal.nD Cert.ReferenceWgIdeal.τ).loc Cert.ReferenceWgIdeal.main_arg1) = m ((c.tc : Thread Cert.ReferenceWgIdeal.nD Cert.ReferenceWgIdeal.τ).loc Cert.ReferenceWgIdeal.main_arg1))
      ∧ r.2.sem = fun _ => 0)

def quiescent_KernelAdam [hKernelAdam : Cert.KernelAdam.Facts] : Prop :=
  ∀ (m : (ℓ : Loc Cert.KernelAdam.nD Cert.KernelAdam.τ Cert.KernelAdam.sig) → Buf (Elt Bits) ℓ) (g : Dev Cert.KernelAdam.nD → PrngReg), Pre_KernelAdam m →
    θ_run (Cert.KernelAdam.defs (F := Bits)) (onTc (τ := Cert.KernelAdam.τ) (Cert.KernelAdam.main (F := Bits))) ⟨m, fun _ => 0, g⟩ (fun r => (∀ c : Dev Cert.KernelAdam.nD,
      r.2.mem ((c.tc : Thread Cert.KernelAdam.nD Cert.KernelAdam.τ).loc Cert.KernelAdam.main_arg0) = m ((c.tc : Thread Cert.KernelAdam.nD Cert.KernelAdam.τ).loc Cert.KernelAdam.main_arg0)
      ∧ r.2.mem ((c.tc : Thread Cert.KernelAdam.nD Cert.KernelAdam.τ).loc Cert.KernelAdam.main_arg1) = m ((c.tc : Thread Cert.KernelAdam.nD Cert.KernelAdam.τ).loc Cert.KernelAdam.main_arg1)
      ∧ r.2.mem ((c.tc : Thread Cert.KernelAdam.nD Cert.KernelAdam.τ).loc Cert.KernelAdam.main_arg2) = m ((c.tc : Thread Cert.KernelAdam.nD Cert.KernelAdam.τ).loc Cert.KernelAdam.main_arg2)
      ∧ r.2.mem ((c.tc : Thread Cert.KernelAdam.nD Cert.KernelAdam.τ).loc Cert.KernelAdam.main_arg3) = m ((c.tc : Thread Cert.KernelAdam.nD Cert.KernelAdam.τ).loc Cert.KernelAdam.main_arg3))
      ∧ r.2.sem = fun _ => 0)

def quiescent_KernelAdamIdeal [hKernelAdamIdeal : Cert.KernelAdamIdeal.Facts] : Prop :=
  ∀ (m : (ℓ : Loc Cert.KernelAdamIdeal.nD Cert.KernelAdamIdeal.τ Cert.KernelAdamIdeal.sig) → Buf (Elt Ideal) ℓ) (g : Dev Cert.KernelAdamIdeal.nD → PrngReg), Pre_KernelAdamIdeal m →
    θ_run (Cert.KernelAdamIdeal.defs (F := Ideal)) (onTc (τ := Cert.KernelAdamIdeal.τ) (Cert.KernelAdamIdeal.main (F := Ideal))) ⟨m, fun _ => 0, g⟩ (fun r => (∀ c : Dev Cert.KernelAdamIdeal.nD,
      r.2.mem ((c.tc : Thread Cert.KernelAdamIdeal.nD Cert.KernelAdamIdeal.τ).loc Cert.KernelAdamIdeal.main_arg0) = m ((c.tc : Thread Cert.KernelAdamIdeal.nD Cert.KernelAdamIdeal.τ).loc Cert.KernelAdamIdeal.main_arg0)
      ∧ r.2.mem ((c.tc : Thread Cert.KernelAdamIdeal.nD Cert.KernelAdamIdeal.τ).loc Cert.KernelAdamIdeal.main_arg1) = m ((c.tc : Thread Cert.KernelAdamIdeal.nD Cert.KernelAdamIdeal.τ).loc Cert.KernelAdamIdeal.main_arg1)
      ∧ r.2.mem ((c.tc : Thread Cert.KernelAdamIdeal.nD Cert.KernelAdamIdeal.τ).loc Cert.KernelAdamIdeal.main_arg2) = m ((c.tc : Thread Cert.KernelAdamIdeal.nD Cert.KernelAdamIdeal.τ).loc Cert.KernelAdamIdeal.main_arg2)
      ∧ r.2.mem ((c.tc : Thread Cert.KernelAdamIdeal.nD Cert.KernelAdamIdeal.τ).loc Cert.KernelAdamIdeal.main_arg3) = m ((c.tc : Thread Cert.KernelAdamIdeal.nD Cert.KernelAdamIdeal.τ).loc Cert.KernelAdamIdeal.main_arg3))
      ∧ r.2.sem = fun _ => 0)

def quiescent_ReferenceAdamIdeal [hReferenceAdamIdeal : Cert.ReferenceAdamIdeal.Facts] : Prop :=
  ∀ (m : (ℓ : Loc Cert.ReferenceAdamIdeal.nD Cert.ReferenceAdamIdeal.τ Cert.ReferenceAdamIdeal.sig) → Buf (Elt Ideal) ℓ) (g : Dev Cert.ReferenceAdamIdeal.nD → PrngReg), Pre_ReferenceAdamIdeal m →
    θ_run (Cert.ReferenceAdamIdeal.defs (F := Ideal)) (onTc (τ := Cert.ReferenceAdamIdeal.τ) (Cert.ReferenceAdamIdeal.main (F := Ideal))) ⟨m, fun _ => 0, g⟩ (fun r => (∀ c : Dev Cert.ReferenceAdamIdeal.nD,
      r.2.mem ((c.tc : Thread Cert.ReferenceAdamIdeal.nD Cert.ReferenceAdamIdeal.τ).loc Cert.ReferenceAdamIdeal.main_arg0) = m ((c.tc : Thread Cert.ReferenceAdamIdeal.nD Cert.ReferenceAdamIdeal.τ).loc Cert.ReferenceAdamIdeal.main_arg0)
      ∧ r.2.mem ((c.tc : Thread Cert.ReferenceAdamIdeal.nD Cert.ReferenceAdamIdeal.τ).loc Cert.ReferenceAdamIdeal.main_arg1) = m ((c.tc : Thread Cert.ReferenceAdamIdeal.nD Cert.ReferenceAdamIdeal.τ).loc Cert.ReferenceAdamIdeal.main_arg1)
      ∧ r.2.mem ((c.tc : Thread Cert.ReferenceAdamIdeal.nD Cert.ReferenceAdamIdeal.τ).loc Cert.ReferenceAdamIdeal.main_arg2) = m ((c.tc : Thread Cert.ReferenceAdamIdeal.nD Cert.ReferenceAdamIdeal.τ).loc Cert.ReferenceAdamIdeal.main_arg2)
      ∧ r.2.mem ((c.tc : Thread Cert.ReferenceAdamIdeal.nD Cert.ReferenceAdamIdeal.τ).loc Cert.ReferenceAdamIdeal.main_arg3) = m ((c.tc : Thread Cert.ReferenceAdamIdeal.nD Cert.ReferenceAdamIdeal.τ).loc Cert.ReferenceAdamIdeal.main_arg3))
      ∧ r.2.sem = fun _ => 0)

def quiescent_KernelHgFwd [hKernelHgFwd : Cert.KernelHgFwd.Facts] : Prop :=
  ∀ (m : (ℓ : Loc Cert.KernelHgFwd.nD Cert.KernelHgFwd.τ Cert.KernelHgFwd.sig) → Buf (Elt Bits) ℓ) (g : Dev Cert.KernelHgFwd.nD → PrngReg), Pre_KernelHgFwd m →
    θ_run (Cert.KernelHgFwd.defs (F := Bits)) (onTc (τ := Cert.KernelHgFwd.τ) (Cert.KernelHgFwd.main (F := Bits))) ⟨m, fun _ => 0, g⟩ (fun r => (∀ c : Dev Cert.KernelHgFwd.nD,
      r.2.mem ((c.tc : Thread Cert.KernelHgFwd.nD Cert.KernelHgFwd.τ).loc Cert.KernelHgFwd.main_arg0) = m ((c.tc : Thread Cert.KernelHgFwd.nD Cert.KernelHgFwd.τ).loc Cert.KernelHgFwd.main_arg0)
      ∧ r.2.mem ((c.tc : Thread Cert.KernelHgFwd.nD Cert.KernelHgFwd.τ).loc Cert.KernelHgFwd.main_arg1) = m ((c.tc : Thread Cert.KernelHgFwd.nD Cert.KernelHgFwd.τ).loc Cert.KernelHgFwd.main_arg1)
      ∧ r.2.mem ((c.tc : Thread Cert.KernelHgFwd.nD Cert.KernelHgFwd.τ).loc Cert.KernelHgFwd.main_arg2) = m ((c.tc : Thread Cert.KernelHgFwd.nD Cert.KernelHgFwd.τ).loc Cert.KernelHgFwd.main_arg2)
      ∧ r.2.mem ((c.tc : Thread Cert.KernelHgFwd.nD Cert.KernelHgFwd.τ).loc Cert.KernelHgFwd.main_arg3) = m ((c.tc : Thread Cert.KernelHgFwd.nD Cert.KernelHgFwd.τ).loc Cert.KernelHgFwd.main_arg3))
      ∧ r.2.sem = fun _ => 0)

def quiescent_KernelHgFwdIdeal [hKernelHgFwdIdeal : Cert.KernelHgFwdIdeal.Facts] : Prop :=
  ∀ (m : (ℓ : Loc Cert.KernelHgFwdIdeal.nD Cert.KernelHgFwdIdeal.τ Cert.KernelHgFwdIdeal.sig) → Buf (Elt Ideal) ℓ) (g : Dev Cert.KernelHgFwdIdeal.nD → PrngReg), Pre_KernelHgFwdIdeal m →
    θ_run (Cert.KernelHgFwdIdeal.defs (F := Ideal)) (onTc (τ := Cert.KernelHgFwdIdeal.τ) (Cert.KernelHgFwdIdeal.main (F := Ideal))) ⟨m, fun _ => 0, g⟩ (fun r => (∀ c : Dev Cert.KernelHgFwdIdeal.nD,
      r.2.mem ((c.tc : Thread Cert.KernelHgFwdIdeal.nD Cert.KernelHgFwdIdeal.τ).loc Cert.KernelHgFwdIdeal.main_arg0) = m ((c.tc : Thread Cert.KernelHgFwdIdeal.nD Cert.KernelHgFwdIdeal.τ).loc Cert.KernelHgFwdIdeal.main_arg0)
      ∧ r.2.mem ((c.tc : Thread Cert.KernelHgFwdIdeal.nD Cert.KernelHgFwdIdeal.τ).loc Cert.KernelHgFwdIdeal.main_arg1) = m ((c.tc : Thread Cert.KernelHgFwdIdeal.nD Cert.KernelHgFwdIdeal.τ).loc Cert.KernelHgFwdIdeal.main_arg1)
      ∧ r.2.mem ((c.tc : Thread Cert.KernelHgFwdIdeal.nD Cert.KernelHgFwdIdeal.τ).loc Cert.KernelHgFwdIdeal.main_arg2) = m ((c.tc : Thread Cert.KernelHgFwdIdeal.nD Cert.KernelHgFwdIdeal.τ).loc Cert.KernelHgFwdIdeal.main_arg2)
      ∧ r.2.mem ((c.tc : Thread Cert.KernelHgFwdIdeal.nD Cert.KernelHgFwdIdeal.τ).loc Cert.KernelHgFwdIdeal.main_arg3) = m ((c.tc : Thread Cert.KernelHgFwdIdeal.nD Cert.KernelHgFwdIdeal.τ).loc Cert.KernelHgFwdIdeal.main_arg3))
      ∧ r.2.sem = fun _ => 0)

def quiescent_ReferenceHgFwdIdeal [hReferenceHgFwdIdeal : Cert.ReferenceHgFwdIdeal.Facts] : Prop :=
  ∀ (m : (ℓ : Loc Cert.ReferenceHgFwdIdeal.nD Cert.ReferenceHgFwdIdeal.τ Cert.ReferenceHgFwdIdeal.sig) → Buf (Elt Ideal) ℓ) (g : Dev Cert.ReferenceHgFwdIdeal.nD → PrngReg), Pre_ReferenceHgFwdIdeal m →
    θ_run (Cert.ReferenceHgFwdIdeal.defs (F := Ideal)) (onTc (τ := Cert.ReferenceHgFwdIdeal.τ) (Cert.ReferenceHgFwdIdeal.main (F := Ideal))) ⟨m, fun _ => 0, g⟩ (fun r => (∀ c : Dev Cert.ReferenceHgFwdIdeal.nD,
      r.2.mem ((c.tc : Thread Cert.ReferenceHgFwdIdeal.nD Cert.ReferenceHgFwdIdeal.τ).loc Cert.ReferenceHgFwdIdeal.main_arg0) = m ((c.tc : Thread Cert.ReferenceHgFwdIdeal.nD Cert.ReferenceHgFwdIdeal.τ).loc Cert.ReferenceHgFwdIdeal.main_arg0)
      ∧ r.2.mem ((c.tc : Thread Cert.ReferenceHgFwdIdeal.nD Cert.ReferenceHgFwdIdeal.τ).loc Cert.ReferenceHgFwdIdeal.main_arg1) = m ((c.tc : Thread Cert.ReferenceHgFwdIdeal.nD Cert.ReferenceHgFwdIdeal.τ).loc Cert.ReferenceHgFwdIdeal.main_arg1)
      ∧ r.2.mem ((c.tc : Thread Cert.ReferenceHgFwdIdeal.nD Cert.ReferenceHgFwdIdeal.τ).loc Cert.ReferenceHgFwdIdeal.main_arg2) = m ((c.tc : Thread Cert.ReferenceHgFwdIdeal.nD Cert.ReferenceHgFwdIdeal.τ).loc Cert.ReferenceHgFwdIdeal.main_arg2)
      ∧ r.2.mem ((c.tc : Thread Cert.ReferenceHgFwdIdeal.nD Cert.ReferenceHgFwdIdeal.τ).loc Cert.ReferenceHgFwdIdeal.main_arg3) = m ((c.tc : Thread Cert.ReferenceHgFwdIdeal.nD Cert.ReferenceHgFwdIdeal.τ).loc Cert.ReferenceHgFwdIdeal.main_arg3))
      ∧ r.2.sem = fun _ => 0)

def quiescent_KernelAdd [hKernelAdd : Cert.KernelAdd.Facts] : Prop :=
  ∀ (m : (ℓ : Loc Cert.KernelAdd.nD Cert.KernelAdd.τ Cert.KernelAdd.sig) → Buf (Elt Bits) ℓ) (g : Dev Cert.KernelAdd.nD → PrngReg), Pre_KernelAdd m →
    θ_run (Cert.KernelAdd.defs (F := Bits)) (onTc (τ := Cert.KernelAdd.τ) (Cert.KernelAdd.main (F := Bits))) ⟨m, fun _ => 0, g⟩ (fun r => (∀ c : Dev Cert.KernelAdd.nD,
      r.2.mem ((c.tc : Thread Cert.KernelAdd.nD Cert.KernelAdd.τ).loc Cert.KernelAdd.main_arg0) = m ((c.tc : Thread Cert.KernelAdd.nD Cert.KernelAdd.τ).loc Cert.KernelAdd.main_arg0)
      ∧ r.2.mem ((c.tc : Thread Cert.KernelAdd.nD Cert.KernelAdd.τ).loc Cert.KernelAdd.main_arg1) = m ((c.tc : Thread Cert.KernelAdd.nD Cert.KernelAdd.τ).loc Cert.KernelAdd.main_arg1))
      ∧ r.2.sem = fun _ => 0)

def quiescent_KernelAddIdeal [hKernelAddIdeal : Cert.KernelAddIdeal.Facts] : Prop :=
  ∀ (m : (ℓ : Loc Cert.KernelAddIdeal.nD Cert.KernelAddIdeal.τ Cert.KernelAddIdeal.sig) → Buf (Elt Ideal) ℓ) (g : Dev Cert.KernelAddIdeal.nD → PrngReg), Pre_KernelAddIdeal m →
    θ_run (Cert.KernelAddIdeal.defs (F := Ideal)) (onTc (τ := Cert.KernelAddIdeal.τ) (Cert.KernelAddIdeal.main (F := Ideal))) ⟨m, fun _ => 0, g⟩ (fun r => (∀ c : Dev Cert.KernelAddIdeal.nD,
      r.2.mem ((c.tc : Thread Cert.KernelAddIdeal.nD Cert.KernelAddIdeal.τ).loc Cert.KernelAddIdeal.main_arg0) = m ((c.tc : Thread Cert.KernelAddIdeal.nD Cert.KernelAddIdeal.τ).loc Cert.KernelAddIdeal.main_arg0)
      ∧ r.2.mem ((c.tc : Thread Cert.KernelAddIdeal.nD Cert.KernelAddIdeal.τ).loc Cert.KernelAddIdeal.main_arg1) = m ((c.tc : Thread Cert.KernelAddIdeal.nD Cert.KernelAddIdeal.τ).loc Cert.KernelAddIdeal.main_arg1))
      ∧ r.2.sem = fun _ => 0)

def quiescent_ReferenceAddIdeal [hReferenceAddIdeal : Cert.ReferenceAddIdeal.Facts] : Prop :=
  ∀ (m : (ℓ : Loc Cert.ReferenceAddIdeal.nD Cert.ReferenceAddIdeal.τ Cert.ReferenceAddIdeal.sig) → Buf (Elt Ideal) ℓ) (g : Dev Cert.ReferenceAddIdeal.nD → PrngReg), Pre_ReferenceAddIdeal m →
    θ_run (Cert.ReferenceAddIdeal.defs (F := Ideal)) (onTc (τ := Cert.ReferenceAddIdeal.τ) (Cert.ReferenceAddIdeal.main (F := Ideal))) ⟨m, fun _ => 0, g⟩ (fun r => (∀ c : Dev Cert.ReferenceAddIdeal.nD,
      r.2.mem ((c.tc : Thread Cert.ReferenceAddIdeal.nD Cert.ReferenceAddIdeal.τ).loc Cert.ReferenceAddIdeal.main_arg0) = m ((c.tc : Thread Cert.ReferenceAddIdeal.nD Cert.ReferenceAddIdeal.τ).loc Cert.ReferenceAddIdeal.main_arg0)
      ∧ r.2.mem ((c.tc : Thread Cert.ReferenceAddIdeal.nD Cert.ReferenceAddIdeal.τ).loc Cert.ReferenceAddIdeal.main_arg1) = m ((c.tc : Thread Cert.ReferenceAddIdeal.nD Cert.ReferenceAddIdeal.τ).loc Cert.ReferenceAddIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_v42) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_KernelPle_KernelPleIdeal : Prop :=
  True

def algebraic_KernelPleIdeal_ReferencePleIdeal [hKernelPleIdeal : Cert.KernelPleIdeal.Facts] [hReferencePleIdeal : Cert.ReferencePleIdeal.Facts] : Prop :=
  ∀ (m : (ℓ : Loc Cert.KernelPleIdeal.nD Cert.KernelPleIdeal.τ Cert.KernelPleIdeal.sig) → Buf (Elt Ideal) ℓ) (g : Dev Cert.KernelPleIdeal.nD → PrngReg)
    (m' : (ℓ : Loc Cert.ReferencePleIdeal.nD Cert.ReferencePleIdeal.τ Cert.ReferencePleIdeal.sig) → Buf (Elt Ideal) ℓ) (g' : Dev Cert.ReferencePleIdeal.nD → PrngReg), Pre_KernelPleIdeal m →
    (∀ c : Dev Cert.KernelPleIdeal.nD,
      m' ((c.tc : Thread Cert.ReferencePleIdeal.nD Cert.ReferencePleIdeal.τ).loc Cert.ReferencePleIdeal.main_arg0) = m ((c.tc : Thread Cert.KernelPleIdeal.nD Cert.KernelPleIdeal.τ).loc Cert.KernelPleIdeal.main_arg0)
      ∧ m' ((c.tc : Thread Cert.ReferencePleIdeal.nD Cert.ReferencePleIdeal.τ).loc Cert.ReferencePleIdeal.main_arg1) = m ((c.tc : Thread Cert.KernelPleIdeal.nD Cert.KernelPleIdeal.τ).loc Cert.KernelPleIdeal.main_arg1)
      ∧ m' ((c.tc : Thread Cert.ReferencePleIdeal.nD Cert.ReferencePleIdeal.τ).loc Cert.ReferencePleIdeal.main_arg2) = m ((c.tc : Thread Cert.KernelPleIdeal.nD Cert.KernelPleIdeal.τ).loc Cert.KernelPleIdeal.main_arg2)
      ∧ m' ((c.tc : Thread Cert.ReferencePleIdeal.nD Cert.ReferencePleIdeal.τ).loc Cert.ReferencePleIdeal.main_arg3) = m ((c.tc : Thread Cert.KernelPleIdeal.nD Cert.KernelPleIdeal.τ).loc Cert.KernelPleIdeal.main_arg3)
      ∧ m' ((c.tc : Thread Cert.ReferencePleIdeal.nD Cert.ReferencePleIdeal.τ).loc Cert.ReferencePleIdeal.main_arg4) = m ((c.tc : Thread Cert.KernelPleIdeal.nD Cert.KernelPleIdeal.τ).loc Cert.KernelPleIdeal.main_arg4)) →
    ∃ (v0 : (c : Dev Cert.KernelPleIdeal.nD) → Buf (Elt Ideal) ((c.tc : Thread Cert.KernelPleIdeal.nD Cert.KernelPleIdeal.τ).loc Cert.KernelPleIdeal.main_v4_0)) (v1 : (c : Dev Cert.KernelPleIdeal.nD) → Buf (Elt Ideal) ((c.tc : Thread Cert.KernelPleIdeal.nD Cert.KernelPleIdeal.τ).loc Cert.KernelPleIdeal.main_v4_1)) (v2 : (c : Dev Cert.KernelPleIdeal.nD) → Buf (Elt Ideal) ((c.tc : Thread Cert.KernelPleIdeal.nD Cert.KernelPleIdeal.τ).loc Cert.KernelPleIdeal.main_v4_2)) (v3 : (c : Dev Cert.KernelPleIdeal.nD) → Buf (Elt Ideal) ((c.tc : Thread Cert.KernelPleIdeal.nD Cert.KernelPleIdeal.τ).loc Cert.KernelPleIdeal.main_v4_3)) (v4 : (c : Dev Cert.KernelPleIdeal.nD) → Buf (Elt Ideal) ((c.tc : Thread Cert.KernelPleIdeal.nD Cert.KernelPleIdeal.τ).loc Cert.KernelPleIdeal.main_v4_4)) (v5 : (c : Dev Cert.KernelPleIdeal.nD) → Buf (Elt Ideal) ((c.tc : Thread Cert.KernelPleIdeal.nD Cert.KernelPleIdeal.τ).loc Cert.KernelPleIdeal.main_v4_5)),
      θ_run (Cert.KernelPleIdeal.defs (F := Ideal)) (onTc (τ := Cert.KernelPleIdeal.τ) (Cert.KernelPleIdeal.main (F := Ideal))) ⟨m, fun _ => 0, g⟩ (fun r => ∀ c : Dev Cert.KernelPleIdeal.nD,
          r.2.mem ((c.tc : Thread Cert.KernelPleIdeal.nD Cert.KernelPleIdeal.τ).loc Cert.KernelPleIdeal.main_v4_0) = v0 c
          ∧ r.2.mem ((c.tc : Thread Cert.KernelPleIdeal.nD Cert.KernelPleIdeal.τ).loc Cert.KernelPleIdeal.main_v4_1) = v1 c
          ∧ r.2.mem ((c.tc : Thread Cert.KernelPleIdeal.nD Cert.KernelPleIdeal.τ).loc Cert.KernelPleIdeal.main_v4_2) = v2 c
          ∧ r.2.mem ((c.tc : Thread Cert.KernelPleIdeal.nD Cert.KernelPleIdeal.τ).loc Cert.KernelPleIdeal.main_v4_3) = v3 c
          ∧ r.2.mem ((c.tc : Thread Cert.KernelPleIdeal.nD Cert.KernelPleIdeal.τ).loc Cert.KernelPleIdeal.main_v4_4) = v4 c
          ∧ r.2.mem ((c.tc : Thread Cert.KernelPleIdeal.nD Cert.KernelPleIdeal.τ).loc Cert.KernelPleIdeal.main_v4_5) = v5 c
          ∧ r.2.mem ((c.tc : Thread Cert.KernelPleIdeal.nD Cert.KernelPleIdeal.τ).loc Cert.KernelPleIdeal.main_arg0) = m ((c.tc : Thread Cert.KernelPleIdeal.nD Cert.KernelPleIdeal.τ).loc Cert.KernelPleIdeal.main_arg0)
          ∧ r.2.mem ((c.tc : Thread Cert.KernelPleIdeal.nD Cert.KernelPleIdeal.τ).loc Cert.KernelPleIdeal.main_arg1) = m ((c.tc : Thread Cert.KernelPleIdeal.nD Cert.KernelPleIdeal.τ).loc Cert.KernelPleIdeal.main_arg1)
          ∧ r.2.mem ((c.tc : Thread Cert.KernelPleIdeal.nD Cert.KernelPleIdeal.τ).loc Cert.KernelPleIdeal.main_arg2) = m ((c.tc : Thread Cert.KernelPleIdeal.nD Cert.KernelPleIdeal.τ).loc Cert.KernelPleIdeal.main_arg2)
          ∧ r.2.mem ((c.tc : Thread Cert.KernelPleIdeal.nD Cert.KernelPleIdeal.τ).loc Cert.KernelPleIdeal.main_arg3) = m ((c.tc : Thread Cert.KernelPleIdeal.nD Cert.KernelPleIdeal.τ).loc Cert.KernelPleIdeal.main_arg3)
          ∧ r.2.mem ((c.tc : Thread Cert.KernelPleIdeal.nD Cert.KernelPleIdeal.τ).loc Cert.KernelPleIdeal.main_arg4) = m ((c.tc : Thread Cert.KernelPleIdeal.nD Cert.KernelPleIdeal.τ).loc Cert.KernelPleIdeal.main_arg4))
      ∧ θ_run (Cert.ReferencePleIdeal.defs (F := Ideal)) (onTc (τ := Cert.ReferencePleIdeal.τ) (Cert.ReferencePleIdeal.main (F := Ideal))) ⟨m', fun _ => 0, g'⟩ (fun r => ∀ c : Dev Cert.ReferencePleIdeal.nD,
          r.2.mem ((c.tc : Thread Cert.ReferencePleIdeal.nD Cert.ReferencePleIdeal.τ).loc Cert.ReferencePleIdeal.main_v39) = v0 c
          ∧ r.2.mem ((c.tc : Thread Cert.ReferencePleIdeal.nD Cert.ReferencePleIdeal.τ).loc Cert.ReferencePleIdeal.main_v40) = v1 c
          ∧ r.2.mem ((c.tc : Thread Cert.ReferencePleIdeal.nD Cert.ReferencePleIdeal.τ).loc Cert.ReferencePleIdeal.main_v32) = v2 c
          ∧ r.2.mem ((c.tc : Thread Cert.ReferencePleIdeal.nD Cert.ReferencePleIdeal.τ).loc Cert.ReferencePleIdeal.main_v41) = v3 c
          ∧ r.2.mem ((c.tc : Thread Cert.ReferencePleIdeal.nD Cert.ReferencePleIdeal.τ).loc Cert.ReferencePleIdeal.main_v42) = v4 c
          ∧ r.2.mem ((c.tc : Thread Cert.ReferencePleIdeal.nD Cert.ReferencePleIdeal.τ).loc Cert.ReferencePleIdeal.main_v38) = v5 c
          ∧ r.2.mem ((c.tc : Thread Cert.ReferencePleIdeal.nD Cert.ReferencePleIdeal.τ).loc Cert.ReferencePleIdeal.main_arg0) = m' ((c.tc : Thread Cert.ReferencePleIdeal.nD Cert.ReferencePleIdeal.τ).loc Cert.ReferencePleIdeal.main_arg0)
          ∧ r.2.mem ((c.tc : Thread Cert.ReferencePleIdeal.nD Cert.ReferencePleIdeal.τ).loc Cert.ReferencePleIdeal.main_arg1) = m' ((c.tc : Thread Cert.ReferencePleIdeal.nD Cert.ReferencePleIdeal.τ).loc Cert.ReferencePleIdeal.main_arg1)
          ∧ r.2.mem ((c.tc : Thread Cert.ReferencePleIdeal.nD Cert.ReferencePleIdeal.τ).loc Cert.ReferencePleIdeal.main_arg2) = m' ((c.tc : Thread Cert.ReferencePleIdeal.nD Cert.ReferencePleIdeal.τ).loc Cert.ReferencePleIdeal.main_arg2)
          ∧ r.2.mem ((c.tc : Thread Cert.ReferencePleIdeal.nD Cert.ReferencePleIdeal.τ).loc Cert.ReferencePleIdeal.main_arg3) = m' ((c.tc : Thread Cert.ReferencePleIdeal.nD Cert.ReferencePleIdeal.τ).loc Cert.ReferencePleIdeal.main_arg3)
          ∧ r.2.mem ((c.tc : Thread Cert.ReferencePleIdeal.nD Cert.ReferencePleIdeal.τ).loc Cert.ReferencePleIdeal.main_arg4) = m' ((c.tc : Thread Cert.ReferencePleIdeal.nD Cert.ReferencePleIdeal.τ).loc Cert.ReferencePleIdeal.main_arg4))

def preserves_KernelFfn_KernelFfnIdeal : Prop :=
  True

def algebraic_KernelFfnIdeal_ReferenceFfnIdeal_pre_finite_ffn [hKernelFfnIdeal : Cert.KernelFfnIdeal.Facts] [hReferenceFfnIdeal : Cert.ReferenceFfnIdeal.Facts] [hPre_finite_ffn : Cert.Pre_finite_ffn.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal_finite_ffn m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)
      ∧ m' ((c.tc : Thread Cert.ReferenceFfnIdeal.nD Cert.ReferenceFfnIdeal.τ).loc Cert.ReferenceFfnIdeal.main_arg4) = m ((c.tc : Thread Cert.KernelFfnIdeal.nD Cert.KernelFfnIdeal.τ).loc Cert.KernelFfnIdeal.main_arg4)
      ∧ m' ((c.tc : Thread Cert.ReferenceFfnIdeal.nD Cert.ReferenceFfnIdeal.τ).loc Cert.ReferenceFfnIdeal.main_arg5) = m ((c.tc : Thread Cert.KernelFfnIdeal.nD Cert.KernelFfnIdeal.τ).loc Cert.KernelFfnIdeal.main_arg5)) →
    ∃ (v0 : (c : Dev Cert.KernelFfnIdeal.nD) → Buf (Elt Ideal) ((c.tc : Thread Cert.KernelFfnIdeal.nD Cert.KernelFfnIdeal.τ).loc Cert.KernelFfnIdeal.main_v23_0)) (v1 : (c : Dev Cert.KernelFfnIdeal.nD) → Buf (Elt Ideal) ((c.tc : Thread Cert.KernelFfnIdeal.nD Cert.KernelFfnIdeal.τ).loc Cert.KernelFfnIdeal.main_v23_1)) (v2 : (c : Dev Cert.KernelFfnIdeal.nD) → Buf (Elt Ideal) ((c.tc : Thread Cert.KernelFfnIdeal.nD Cert.KernelFfnIdeal.τ).loc Cert.KernelFfnIdeal.main_v23_2)) (v3 : (c : Dev Cert.KernelFfnIdeal.nD) → Buf (Elt Ideal) ((c.tc : Thread Cert.KernelFfnIdeal.nD Cert.KernelFfnIdeal.τ).loc Cert.KernelFfnIdeal.main_v23_3)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v23_0) = v0 c
          ∧ r.2.mem ((c.tc : Thread Cert.KernelFfnIdeal.nD Cert.KernelFfnIdeal.τ).loc Cert.KernelFfnIdeal.main_v23_1) = v1 c
          ∧ r.2.mem ((c.tc : Thread Cert.KernelFfnIdeal.nD Cert.KernelFfnIdeal.τ).loc Cert.KernelFfnIdeal.main_v23_2) = v2 c
          ∧ r.2.mem ((c.tc : Thread Cert.KernelFfnIdeal.nD Cert.KernelFfnIdeal.τ).loc Cert.KernelFfnIdeal.main_v23_3) = v3 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
          ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v83) = v0 c
          ∧ r.2.mem ((c.tc : Thread Cert.ReferenceFfnIdeal.nD Cert.ReferenceFfnIdeal.τ).loc Cert.ReferenceFfnIdeal.main_v84) = v1 c
          ∧ r.2.mem ((c.tc : Thread Cert.ReferenceFfnIdeal.nD Cert.ReferenceFfnIdeal.τ).loc Cert.ReferenceFfnIdeal.main_v85) = v2 c
          ∧ r.2.mem ((c.tc : Thread Cert.ReferenceFfnIdeal.nD Cert.ReferenceFfnIdeal.τ).loc Cert.ReferenceFfnIdeal.main_v82) = v3 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4)
          ∧ r.2.mem ((c.tc : Thread Cert.ReferenceFfnIdeal.nD Cert.ReferenceFfnIdeal.τ).loc Cert.ReferenceFfnIdeal.main_arg5) = m' ((c.tc : Thread Cert.ReferenceFfnIdeal.nD Cert.ReferenceFfnIdeal.τ).loc Cert.ReferenceFfnIdeal.main_arg5))

def preserves_KernelMix_KernelMixIdeal : Prop :=
  True

def algebraic_KernelMixIdeal_ReferenceMixIdeal_pre_finite_mix [hKernelMixIdeal : Cert.KernelMixIdeal.Facts] [hReferenceMixIdeal : Cert.ReferenceMixIdeal.Facts] [hPre_finite_mix : Cert.Pre_finite_mix.Facts] : Prop :=
  ∀ (m : (ℓ : Loc Cert.KernelMixIdeal.nD Cert.KernelMixIdeal.τ Cert.KernelMixIdeal.sig) → Buf (Elt Ideal) ℓ) (g : Dev Cert.KernelMixIdeal.nD → PrngReg)
    (m' : (ℓ : Loc Cert.ReferenceMixIdeal.nD Cert.ReferenceMixIdeal.τ Cert.ReferenceMixIdeal.sig) → Buf (Elt Ideal) ℓ) (g' : Dev Cert.ReferenceMixIdeal.nD → PrngReg), Pre_KernelMixIdeal_finite_mix m →
    (∀ c : Dev Cert.KernelMixIdeal.nD,
      m' ((c.tc : Thread Cert.ReferenceMixIdeal.nD Cert.ReferenceMixIdeal.τ).loc Cert.ReferenceMixIdeal.main_arg0) = m ((c.tc : Thread Cert.KernelMixIdeal.nD Cert.KernelMixIdeal.τ).loc Cert.KernelMixIdeal.main_arg0)
      ∧ m' ((c.tc : Thread Cert.ReferenceMixIdeal.nD Cert.ReferenceMixIdeal.τ).loc Cert.ReferenceMixIdeal.main_arg1) = m ((c.tc : Thread Cert.KernelMixIdeal.nD Cert.KernelMixIdeal.τ).loc Cert.KernelMixIdeal.main_arg1)
      ∧ m' ((c.tc : Thread Cert.ReferenceMixIdeal.nD Cert.ReferenceMixIdeal.τ).loc Cert.ReferenceMixIdeal.main_arg2) = m ((c.tc : Thread Cert.KernelMixIdeal.nD Cert.KernelMixIdeal.τ).loc Cert.KernelMixIdeal.main_arg2)
      ∧ m' ((c.tc : Thread Cert.ReferenceMixIdeal.nD Cert.ReferenceMixIdeal.τ).loc Cert.ReferenceMixIdeal.main_arg3) = m ((c.tc : Thread Cert.KernelMixIdeal.nD Cert.KernelMixIdeal.τ).loc Cert.KernelMixIdeal.main_arg3)
      ∧ m' ((c.tc : Thread Cert.ReferenceMixIdeal.nD Cert.ReferenceMixIdeal.τ).loc Cert.ReferenceMixIdeal.main_arg4) = m ((c.tc : Thread Cert.KernelMixIdeal.nD Cert.KernelMixIdeal.τ).loc Cert.KernelMixIdeal.main_arg4)
      ∧ m' ((c.tc : Thread Cert.ReferenceMixIdeal.nD Cert.ReferenceMixIdeal.τ).loc Cert.ReferenceMixIdeal.main_arg5) = m ((c.tc : Thread Cert.KernelMixIdeal.nD Cert.KernelMixIdeal.τ).loc Cert.KernelMixIdeal.main_arg5)
      ∧ m' ((c.tc : Thread Cert.ReferenceMixIdeal.nD Cert.ReferenceMixIdeal.τ).loc Cert.ReferenceMixIdeal.main_arg6) = m ((c.tc : Thread Cert.KernelMixIdeal.nD Cert.KernelMixIdeal.τ).loc Cert.KernelMixIdeal.main_arg6)) →
    ∃ (v0 : (c : Dev Cert.KernelMixIdeal.nD) → Buf (Elt Ideal) ((c.tc : Thread Cert.KernelMixIdeal.nD Cert.KernelMixIdeal.τ).loc Cert.KernelMixIdeal.main_v35_0)) (v1 : (c : Dev Cert.KernelMixIdeal.nD) → Buf (Elt Ideal) ((c.tc : Thread Cert.KernelMixIdeal.nD Cert.KernelMixIdeal.τ).loc Cert.KernelMixIdeal.main_v35_1)) (v2 : (c : Dev Cert.KernelMixIdeal.nD) → Buf (Elt Ideal) ((c.tc : Thread Cert.KernelMixIdeal.nD Cert.KernelMixIdeal.τ).loc Cert.KernelMixIdeal.main_v35_2)) (v3 : (c : Dev Cert.KernelMixIdeal.nD) → Buf (Elt Ideal) ((c.tc : Thread Cert.KernelMixIdeal.nD Cert.KernelMixIdeal.τ).loc Cert.KernelMixIdeal.main_v35_3)) (v4 : (c : Dev Cert.KernelMixIdeal.nD) → Buf (Elt Ideal) ((c.tc : Thread Cert.KernelMixIdeal.nD Cert.KernelMixIdeal.τ).loc Cert.KernelMixIdeal.main_v35_4)),
      θ_run (Cert.KernelMixIdeal.defs (F := Ideal)) (onTc (τ := Cert.KernelMixIdeal.τ) (Cert.KernelMixIdeal.main (F := Ideal))) ⟨m, fun _ => 0, g⟩ (fun r => ∀ c : Dev Cert.KernelMixIdeal.nD,
          r.2.mem ((c.tc : Thread Cert.KernelMixIdeal.nD Cert.KernelMixIdeal.τ).loc Cert.KernelMixIdeal.main_v35_0) = v0 c
          ∧ r.2.mem ((c.tc : Thread Cert.KernelMixIdeal.nD Cert.KernelMixIdeal.τ).loc Cert.KernelMixIdeal.main_v35_1) = v1 c
          ∧ r.2.mem ((c.tc : Thread Cert.KernelMixIdeal.nD Cert.KernelMixIdeal.τ).loc Cert.KernelMixIdeal.main_v35_2) = v2 c
          ∧ r.2.mem ((c.tc : Thread Cert.KernelMixIdeal.nD Cert.KernelMixIdeal.τ).loc Cert.KernelMixIdeal.main_v35_3) = v3 c
          ∧ r.2.mem ((c.tc : Thread Cert.KernelMixIdeal.nD Cert.KernelMixIdeal.τ).loc Cert.KernelMixIdeal.main_v35_4) = v4 c
          ∧ r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
          ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
          ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
          ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
          ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
          ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5)
          ∧ r.2.mem ((c.tc : Thread Cert.KernelMixIdeal.nD Cert.KernelMixIdeal.τ).loc Cert.KernelMixIdeal.main_arg6) = m ((c.tc : Thread Cert.KernelMixIdeal.nD Cert.KernelMixIdeal.τ).loc Cert.KernelMixIdeal.main_arg6))
      ∧ θ_run (Cert.ReferenceMixIdeal.defs (F := Ideal)) (onTc (τ := Cert.ReferenceMixIdeal.τ) (Cert.ReferenceMixIdeal.main (F := Ideal))) ⟨m', fun _ => 0, g'⟩ (fun r => ∀ c : Dev Cert.ReferenceMixIdeal.nD,
          r.2.mem ((c.tc : Thread Cert.ReferenceMixIdeal.nD Cert.ReferenceMixIdeal.τ).loc Cert.ReferenceMixIdeal.main_v122) = v0 c
          ∧ r.2.mem ((c.tc : Thread Cert.ReferenceMixIdeal.nD Cert.ReferenceMixIdeal.τ).loc Cert.ReferenceMixIdeal.main_v117) = v1 c
          ∧ r.2.mem ((c.tc : Thread Cert.ReferenceMixIdeal.nD Cert.ReferenceMixIdeal.τ).loc Cert.ReferenceMixIdeal.main_v98) = v2 c
          ∧ r.2.mem ((c.tc : Thread Cert.ReferenceMixIdeal.nD Cert.ReferenceMixIdeal.τ).loc Cert.ReferenceMixIdeal.main_v95) = v3 c
          ∧ r.2.mem ((c.tc : Thread Cert.ReferenceMixIdeal.nD Cert.ReferenceMixIdeal.τ).loc Cert.ReferenceMixIdeal.main_v121) = v4 c
          ∧ r.2.mem ((c.tc : Thread Cert.ReferenceMixIdeal.nD Cert.ReferenceMixIdeal.τ).loc Cert.ReferenceMixIdeal.main_arg0) = m' ((c.tc : Thread Cert.ReferenceMixIdeal.nD Cert.ReferenceMixIdeal.τ).loc Cert.ReferenceMixIdeal.main_arg0)
          ∧ r.2.mem ((c.tc : Thread Cert.ReferenceMixIdeal.nD Cert.ReferenceMixIdeal.τ).loc Cert.ReferenceMixIdeal.main_arg1) = m' ((c.tc : Thread Cert.ReferenceMixIdeal.nD Cert.ReferenceMixIdeal.τ).loc Cert.ReferenceMixIdeal.main_arg1)
          ∧ r.2.mem ((c.tc : Thread Cert.ReferenceMixIdeal.nD Cert.ReferenceMixIdeal.τ).loc Cert.ReferenceMixIdeal.main_arg2) = m' ((c.tc : Thread Cert.ReferenceMixIdeal.nD Cert.ReferenceMixIdeal.τ).loc Cert.ReferenceMixIdeal.main_arg2)
          ∧ r.2.mem ((c.tc : Thread Cert.ReferenceMixIdeal.nD Cert.ReferenceMixIdeal.τ).loc Cert.ReferenceMixIdeal.main_arg3) = m' ((c.tc : Thread Cert.ReferenceMixIdeal.nD Cert.ReferenceMixIdeal.τ).loc Cert.ReferenceMixIdeal.main_arg3)
          ∧ r.2.mem ((c.tc : Thread Cert.ReferenceMixIdeal.nD Cert.ReferenceMixIdeal.τ).loc Cert.ReferenceMixIdeal.main_arg4) = m' ((c.tc : Thread Cert.ReferenceMixIdeal.nD Cert.ReferenceMixIdeal.τ).loc Cert.ReferenceMixIdeal.main_arg4)
          ∧ r.2.mem ((c.tc : Thread Cert.ReferenceMixIdeal.nD Cert.ReferenceMixIdeal.τ).loc Cert.ReferenceMixIdeal.main_arg5) = m' ((c.tc : Thread Cert.ReferenceMixIdeal.nD Cert.ReferenceMixIdeal.τ).loc Cert.ReferenceMixIdeal.main_arg5)
          ∧ r.2.mem ((c.tc : Thread Cert.ReferenceMixIdeal.nD Cert.ReferenceMixIdeal.τ).loc Cert.ReferenceMixIdeal.main_arg6) = m' ((c.tc : Thread Cert.ReferenceMixIdeal.nD Cert.ReferenceMixIdeal.τ).loc Cert.ReferenceMixIdeal.main_arg6))

def preserves_KernelInFwd_KernelInFwdIdeal : Prop :=
  True

def algebraic_KernelInFwdIdeal_ReferenceInFwdIdeal [hKernelInFwdIdeal : Cert.KernelInFwdIdeal.Facts] [hReferenceInFwdIdeal : Cert.ReferenceInFwdIdeal.Facts] : Prop :=
  ∀ (m : (ℓ : Loc Cert.KernelInFwdIdeal.nD Cert.KernelInFwdIdeal.τ Cert.KernelInFwdIdeal.sig) → Buf (Elt Ideal) ℓ) (g : Dev Cert.KernelInFwdIdeal.nD → PrngReg)
    (m' : (ℓ : Loc Cert.ReferenceInFwdIdeal.nD Cert.ReferenceInFwdIdeal.τ Cert.ReferenceInFwdIdeal.sig) → Buf (Elt Ideal) ℓ) (g' : Dev Cert.ReferenceInFwdIdeal.nD → PrngReg), Pre_KernelInFwdIdeal m →
    (∀ c : Dev Cert.KernelInFwdIdeal.nD,
      m' ((c.tc : Thread Cert.ReferenceInFwdIdeal.nD Cert.ReferenceInFwdIdeal.τ).loc Cert.ReferenceInFwdIdeal.main_arg0) = m ((c.tc : Thread Cert.KernelInFwdIdeal.nD Cert.KernelInFwdIdeal.τ).loc Cert.KernelInFwdIdeal.main_arg0)
      ∧ m' ((c.tc : Thread Cert.ReferenceInFwdIdeal.nD Cert.ReferenceInFwdIdeal.τ).loc Cert.ReferenceInFwdIdeal.main_arg1) = m ((c.tc : Thread Cert.KernelInFwdIdeal.nD Cert.KernelInFwdIdeal.τ).loc Cert.KernelInFwdIdeal.main_arg1)
      ∧ m' ((c.tc : Thread Cert.ReferenceInFwdIdeal.nD Cert.ReferenceInFwdIdeal.τ).loc Cert.ReferenceInFwdIdeal.main_arg2) = m ((c.tc : Thread Cert.KernelInFwdIdeal.nD Cert.KernelInFwdIdeal.τ).loc Cert.KernelInFwdIdeal.main_arg2)) →
    ∃ (v0 : (c : Dev Cert.KernelInFwdIdeal.nD) → Buf (Elt Ideal) ((c.tc : Thread Cert.KernelInFwdIdeal.nD Cert.KernelInFwdIdeal.τ).loc Cert.KernelInFwdIdeal.main_v3_0)) (v1 : (c : Dev Cert.KernelInFwdIdeal.nD) → Buf (Elt Ideal) ((c.tc : Thread Cert.KernelInFwdIdeal.nD Cert.KernelInFwdIdeal.τ).loc Cert.KernelInFwdIdeal.main_v3_1)) (v2 : (c : Dev Cert.KernelInFwdIdeal.nD) → Buf (Elt Ideal) ((c.tc : Thread Cert.KernelInFwdIdeal.nD Cert.KernelInFwdIdeal.τ).loc Cert.KernelInFwdIdeal.main_v3_2)),
      θ_run (Cert.KernelInFwdIdeal.defs (F := Ideal)) (onTc (τ := Cert.KernelInFwdIdeal.τ) (Cert.KernelInFwdIdeal.main (F := Ideal))) ⟨m, fun _ => 0, g⟩ (fun r => ∀ c : Dev Cert.KernelInFwdIdeal.nD,
          r.2.mem ((c.tc : Thread Cert.KernelInFwdIdeal.nD Cert.KernelInFwdIdeal.τ).loc Cert.KernelInFwdIdeal.main_v3_0) = v0 c
          ∧ r.2.mem ((c.tc : Thread Cert.KernelInFwdIdeal.nD Cert.KernelInFwdIdeal.τ).loc Cert.KernelInFwdIdeal.main_v3_1) = v1 c
          ∧ r.2.mem ((c.tc : Thread Cert.KernelInFwdIdeal.nD Cert.KernelInFwdIdeal.τ).loc Cert.KernelInFwdIdeal.main_v3_2) = v2 c
          ∧ r.2.mem ((c.tc : Thread Cert.KernelInFwdIdeal.nD Cert.KernelInFwdIdeal.τ).loc Cert.KernelInFwdIdeal.main_arg0) = m ((c.tc : Thread Cert.KernelInFwdIdeal.nD Cert.KernelInFwdIdeal.τ).loc Cert.KernelInFwdIdeal.main_arg0)
          ∧ r.2.mem ((c.tc : Thread Cert.KernelInFwdIdeal.nD Cert.KernelInFwdIdeal.τ).loc Cert.KernelInFwdIdeal.main_arg1) = m ((c.tc : Thread Cert.KernelInFwdIdeal.nD Cert.KernelInFwdIdeal.τ).loc Cert.KernelInFwdIdeal.main_arg1)
          ∧ r.2.mem ((c.tc : Thread Cert.KernelInFwdIdeal.nD Cert.KernelInFwdIdeal.τ).loc Cert.KernelInFwdIdeal.main_arg2) = m ((c.tc : Thread Cert.KernelInFwdIdeal.nD Cert.KernelInFwdIdeal.τ).loc Cert.KernelInFwdIdeal.main_arg2))
      ∧ θ_run (Cert.ReferenceInFwdIdeal.defs (F := Ideal)) (onTc (τ := Cert.ReferenceInFwdIdeal.τ) (Cert.ReferenceInFwdIdeal.main (F := Ideal))) ⟨m', fun _ => 0, g'⟩ (fun r => ∀ c : Dev Cert.ReferenceInFwdIdeal.nD,
          r.2.mem ((c.tc : Thread Cert.ReferenceInFwdIdeal.nD Cert.ReferenceInFwdIdeal.τ).loc Cert.ReferenceInFwdIdeal.main_v18) = v0 c
          ∧ r.2.mem ((c.tc : Thread Cert.ReferenceInFwdIdeal.nD Cert.ReferenceInFwdIdeal.τ).loc Cert.ReferenceInFwdIdeal.main_v19) = v1 c
          ∧ r.2.mem ((c.tc : Thread Cert.ReferenceInFwdIdeal.nD Cert.ReferenceInFwdIdeal.τ).loc Cert.ReferenceInFwdIdeal.main_v20) = v2 c
          ∧ r.2.mem ((c.tc : Thread Cert.ReferenceInFwdIdeal.nD Cert.ReferenceInFwdIdeal.τ).loc Cert.ReferenceInFwdIdeal.main_arg0) = m' ((c.tc : Thread Cert.ReferenceInFwdIdeal.nD Cert.ReferenceInFwdIdeal.τ).loc Cert.ReferenceInFwdIdeal.main_arg0)
          ∧ r.2.mem ((c.tc : Thread Cert.ReferenceInFwdIdeal.nD Cert.ReferenceInFwdIdeal.τ).loc Cert.ReferenceInFwdIdeal.main_arg1) = m' ((c.tc : Thread Cert.ReferenceInFwdIdeal.nD Cert.ReferenceInFwdIdeal.τ).loc Cert.ReferenceInFwdIdeal.main_arg1)
          ∧ r.2.mem ((c.tc : Thread Cert.ReferenceInFwdIdeal.nD Cert.ReferenceInFwdIdeal.τ).loc Cert.ReferenceInFwdIdeal.main_arg2) = m' ((c.tc : Thread Cert.ReferenceInFwdIdeal.nD Cert.ReferenceInFwdIdeal.τ).loc Cert.ReferenceInFwdIdeal.main_arg2))

def preserves_KernelMixFwd_KernelMixFwdIdeal : Prop :=
  True

def algebraic_KernelMixFwdIdeal_ReferenceMixFwdIdeal [hKernelMixFwdIdeal : Cert.KernelMixFwdIdeal.Facts] [hReferenceMixFwdIdeal : Cert.ReferenceMixFwdIdeal.Facts] : Prop :=
  ∀ (m : (ℓ : Loc Cert.KernelMixFwdIdeal.nD Cert.KernelMixFwdIdeal.τ Cert.KernelMixFwdIdeal.sig) → Buf (Elt Ideal) ℓ) (g : Dev Cert.KernelMixFwdIdeal.nD → PrngReg)
    (m' : (ℓ : Loc Cert.ReferenceMixFwdIdeal.nD Cert.ReferenceMixFwdIdeal.τ Cert.ReferenceMixFwdIdeal.sig) → Buf (Elt Ideal) ℓ) (g' : Dev Cert.ReferenceMixFwdIdeal.nD → PrngReg), Pre_KernelMixFwdIdeal m →
    (∀ c : Dev Cert.KernelMixFwdIdeal.nD,
      m' ((c.tc : Thread Cert.ReferenceMixFwdIdeal.nD Cert.ReferenceMixFwdIdeal.τ).loc Cert.ReferenceMixFwdIdeal.main_arg0) = m ((c.tc : Thread Cert.KernelMixFwdIdeal.nD Cert.KernelMixFwdIdeal.τ).loc Cert.KernelMixFwdIdeal.main_arg0)
      ∧ m' ((c.tc : Thread Cert.ReferenceMixFwdIdeal.nD Cert.ReferenceMixFwdIdeal.τ).loc Cert.ReferenceMixFwdIdeal.main_arg1) = m ((c.tc : Thread Cert.KernelMixFwdIdeal.nD Cert.KernelMixFwdIdeal.τ).loc Cert.KernelMixFwdIdeal.main_arg1)
      ∧ m' ((c.tc : Thread Cert.ReferenceMixFwdIdeal.nD Cert.ReferenceMixFwdIdeal.τ).loc Cert.ReferenceMixFwdIdeal.main_arg2) = m ((c.tc : Thread Cert.KernelMixFwdIdeal.nD Cert.KernelMixFwdIdeal.τ).loc Cert.KernelMixFwdIdeal.main_arg2)
      ∧ m' ((c.tc : Thread Cert.ReferenceMixFwdIdeal.nD Cert.ReferenceMixFwdIdeal.τ).loc Cert.ReferenceMixFwdIdeal.main_arg3) = m ((c.tc : Thread Cert.KernelMixFwdIdeal.nD Cert.KernelMixFwdIdeal.τ).loc Cert.KernelMixFwdIdeal.main_arg3)
      ∧ m' ((c.tc : Thread Cert.ReferenceMixFwdIdeal.nD Cert.ReferenceMixFwdIdeal.τ).loc Cert.ReferenceMixFwdIdeal.main_arg4) = m ((c.tc : Thread Cert.KernelMixFwdIdeal.nD Cert.KernelMixFwdIdeal.τ).loc Cert.KernelMixFwdIdeal.main_arg4)
      ∧ m' ((c.tc : Thread Cert.ReferenceMixFwdIdeal.nD Cert.ReferenceMixFwdIdeal.τ).loc Cert.ReferenceMixFwdIdeal.main_arg5) = m ((c.tc : Thread Cert.KernelMixFwdIdeal.nD Cert.KernelMixFwdIdeal.τ).loc Cert.KernelMixFwdIdeal.main_arg5)
      ∧ m' ((c.tc : Thread Cert.ReferenceMixFwdIdeal.nD Cert.ReferenceMixFwdIdeal.τ).loc Cert.ReferenceMixFwdIdeal.main_arg6) = m ((c.tc : Thread Cert.KernelMixFwdIdeal.nD Cert.KernelMixFwdIdeal.τ).loc Cert.KernelMixFwdIdeal.main_arg6)) →
    ∃ (v0 : (c : Dev Cert.KernelMixFwdIdeal.nD) → Buf (Elt Ideal) ((c.tc : Thread Cert.KernelMixFwdIdeal.nD Cert.KernelMixFwdIdeal.τ).loc Cert.KernelMixFwdIdeal.main_v1_0)) (v1 : (c : Dev Cert.KernelMixFwdIdeal.nD) → Buf (Elt Ideal) ((c.tc : Thread Cert.KernelMixFwdIdeal.nD Cert.KernelMixFwdIdeal.τ).loc Cert.KernelMixFwdIdeal.main_v1_1)) (v2 : (c : Dev Cert.KernelMixFwdIdeal.nD) → Buf (Elt Ideal) ((c.tc : Thread Cert.KernelMixFwdIdeal.nD Cert.KernelMixFwdIdeal.τ).loc Cert.KernelMixFwdIdeal.main_v1_2)),
      θ_run (Cert.KernelMixFwdIdeal.defs (F := Ideal)) (onTc (τ := Cert.KernelMixFwdIdeal.τ) (Cert.KernelMixFwdIdeal.main (F := Ideal))) ⟨m, fun _ => 0, g⟩ (fun r => ∀ c : Dev Cert.KernelMixFwdIdeal.nD,
          r.2.mem ((c.tc : Thread Cert.KernelMixFwdIdeal.nD Cert.KernelMixFwdIdeal.τ).loc Cert.KernelMixFwdIdeal.main_v1_0) = v0 c
          ∧ r.2.mem ((c.tc : Thread Cert.KernelMixFwdIdeal.nD Cert.KernelMixFwdIdeal.τ).loc Cert.KernelMixFwdIdeal.main_v1_1) = v1 c
          ∧ r.2.mem ((c.tc : Thread Cert.KernelMixFwdIdeal.nD Cert.KernelMixFwdIdeal.τ).loc Cert.KernelMixFwdIdeal.main_v1_2) = v2 c
          ∧ r.2.mem ((c.tc : Thread Cert.KernelMixFwdIdeal.nD Cert.KernelMixFwdIdeal.τ).loc Cert.KernelMixFwdIdeal.main_arg0) = m ((c.tc : Thread Cert.KernelMixFwdIdeal.nD Cert.KernelMixFwdIdeal.τ).loc Cert.KernelMixFwdIdeal.main_arg0)
          ∧ r.2.mem ((c.tc : Thread Cert.KernelMixFwdIdeal.nD Cert.KernelMixFwdIdeal.τ).loc Cert.KernelMixFwdIdeal.main_arg1) = m ((c.tc : Thread Cert.KernelMixFwdIdeal.nD Cert.KernelMixFwdIdeal.τ).loc Cert.KernelMixFwdIdeal.main_arg1)
          ∧ r.2.mem ((c.tc : Thread Cert.KernelMixFwdIdeal.nD Cert.KernelMixFwdIdeal.τ).loc Cert.KernelMixFwdIdeal.main_arg2) = m ((c.tc : Thread Cert.KernelMixFwdIdeal.nD Cert.KernelMixFwdIdeal.τ).loc Cert.KernelMixFwdIdeal.main_arg2)
          ∧ r.2.mem ((c.tc : Thread Cert.KernelMixFwdIdeal.nD Cert.KernelMixFwdIdeal.τ).loc Cert.KernelMixFwdIdeal.main_arg3) = m ((c.tc : Thread Cert.KernelMixFwdIdeal.nD Cert.KernelMixFwdIdeal.τ).loc Cert.KernelMixFwdIdeal.main_arg3)
          ∧ r.2.mem ((c.tc : Thread Cert.KernelMixFwdIdeal.nD Cert.KernelMixFwdIdeal.τ).loc Cert.KernelMixFwdIdeal.main_arg4) = m ((c.tc : Thread Cert.KernelMixFwdIdeal.nD Cert.KernelMixFwdIdeal.τ).loc Cert.KernelMixFwdIdeal.main_arg4)
          ∧ r.2.mem ((c.tc : Thread Cert.KernelMixFwdIdeal.nD Cert.KernelMixFwdIdeal.τ).loc Cert.KernelMixFwdIdeal.main_arg5) = m ((c.tc : Thread Cert.KernelMixFwdIdeal.nD Cert.KernelMixFwdIdeal.τ).loc Cert.KernelMixFwdIdeal.main_arg5)
          ∧ r.2.mem ((c.tc : Thread Cert.KernelMixFwdIdeal.nD Cert.KernelMixFwdIdeal.τ).loc Cert.KernelMixFwdIdeal.main_arg6) = m ((c.tc : Thread Cert.KernelMixFwdIdeal.nD Cert.KernelMixFwdIdeal.τ).loc Cert.KernelMixFwdIdeal.main_arg6))
      ∧ θ_run (Cert.ReferenceMixFwdIdeal.defs (F := Ideal)) (onTc (τ := Cert.ReferenceMixFwdIdeal.τ) (Cert.ReferenceMixFwdIdeal.main (F := Ideal))) ⟨m', fun _ => 0, g'⟩ (fun r => ∀ c : Dev Cert.ReferenceMixFwdIdeal.nD,
          r.2.mem ((c.tc : Thread Cert.ReferenceMixFwdIdeal.nD Cert.ReferenceMixFwdIdeal.τ).loc Cert.ReferenceMixFwdIdeal.main_v34) = v0 c
          ∧ r.2.mem ((c.tc : Thread Cert.ReferenceMixFwdIdeal.nD Cert.ReferenceMixFwdIdeal.τ).loc Cert.ReferenceMixFwdIdeal.main_v33) = v1 c
          ∧ r.2.mem ((c.tc : Thread Cert.ReferenceMixFwdIdeal.nD Cert.ReferenceMixFwdIdeal.τ).loc Cert.ReferenceMixFwdIdeal.main_v47) = v2 c
          ∧ r.2.mem ((c.tc : Thread Cert.ReferenceMixFwdIdeal.nD Cert.ReferenceMixFwdIdeal.τ).loc Cert.ReferenceMixFwdIdeal.main_arg0) = m' ((c.tc : Thread Cert.ReferenceMixFwdIdeal.nD Cert.ReferenceMixFwdIdeal.τ).loc Cert.ReferenceMixFwdIdeal.main_arg0)
          ∧ r.2.mem ((c.tc : Thread Cert.ReferenceMixFwdIdeal.nD Cert.ReferenceMixFwdIdeal.τ).loc Cert.ReferenceMixFwdIdeal.main_arg1) = m' ((c.tc : Thread Cert.ReferenceMixFwdIdeal.nD Cert.ReferenceMixFwdIdeal.τ).loc Cert.ReferenceMixFwdIdeal.main_arg1)
          ∧ r.2.mem ((c.tc : Thread Cert.ReferenceMixFwdIdeal.nD Cert.ReferenceMixFwdIdeal.τ).loc Cert.ReferenceMixFwdIdeal.main_arg2) = m' ((c.tc : Thread Cert.ReferenceMixFwdIdeal.nD Cert.ReferenceMixFwdIdeal.τ).loc Cert.ReferenceMixFwdIdeal.main_arg2)
          ∧ r.2.mem ((c.tc : Thread Cert.ReferenceMixFwdIdeal.nD Cert.ReferenceMixFwdIdeal.τ).loc Cert.ReferenceMixFwdIdeal.main_arg3) = m' ((c.tc : Thread Cert.ReferenceMixFwdIdeal.nD Cert.ReferenceMixFwdIdeal.τ).loc Cert.ReferenceMixFwdIdeal.main_arg3)
          ∧ r.2.mem ((c.tc : Thread Cert.ReferenceMixFwdIdeal.nD Cert.ReferenceMixFwdIdeal.τ).loc Cert.ReferenceMixFwdIdeal.main_arg4) = m' ((c.tc : Thread Cert.ReferenceMixFwdIdeal.nD Cert.ReferenceMixFwdIdeal.τ).loc Cert.ReferenceMixFwdIdeal.main_arg4)
          ∧ r.2.mem ((c.tc : Thread Cert.ReferenceMixFwdIdeal.nD Cert.ReferenceMixFwdIdeal.τ).loc Cert.ReferenceMixFwdIdeal.main_arg5) = m' ((c.tc : Thread Cert.ReferenceMixFwdIdeal.nD Cert.ReferenceMixFwdIdeal.τ).loc Cert.ReferenceMixFwdIdeal.main_arg5)
          ∧ r.2.mem ((c.tc : Thread Cert.ReferenceMixFwdIdeal.nD Cert.ReferenceMixFwdIdeal.τ).loc Cert.ReferenceMixFwdIdeal.main_arg6) = m' ((c.tc : Thread Cert.ReferenceMixFwdIdeal.nD Cert.ReferenceMixFwdIdeal.τ).loc Cert.ReferenceMixFwdIdeal.main_arg6))

def preserves_KernelFfnFwd_KernelFfnFwdIdeal : Prop :=
  True

def algebraic_KernelFfnFwdIdeal_ReferenceFfnFwdIdeal [hKernelFfnFwdIdeal : Cert.KernelFfnFwdIdeal.Facts] [hReferenceFfnFwdIdeal : Cert.ReferenceFfnFwdIdeal.Facts] : Prop :=
  ∀ (m : (ℓ : Loc Cert.KernelFfnFwdIdeal.nD Cert.KernelFfnFwdIdeal.τ Cert.KernelFfnFwdIdeal.sig) → Buf (Elt Ideal) ℓ) (g : Dev Cert.KernelFfnFwdIdeal.nD → PrngReg)
    (m' : (ℓ : Loc Cert.ReferenceFfnFwdIdeal.nD Cert.ReferenceFfnFwdIdeal.τ Cert.ReferenceFfnFwdIdeal.sig) → Buf (Elt Ideal) ℓ) (g' : Dev Cert.ReferenceFfnFwdIdeal.nD → PrngReg), Pre_KernelFfnFwdIdeal m →
    (∀ c : Dev Cert.KernelFfnFwdIdeal.nD,
      m' ((c.tc : Thread Cert.ReferenceFfnFwdIdeal.nD Cert.ReferenceFfnFwdIdeal.τ).loc Cert.ReferenceFfnFwdIdeal.main_arg0) = m ((c.tc : Thread Cert.KernelFfnFwdIdeal.nD Cert.KernelFfnFwdIdeal.τ).loc Cert.KernelFfnFwdIdeal.main_arg0)
      ∧ m' ((c.tc : Thread Cert.ReferenceFfnFwdIdeal.nD Cert.ReferenceFfnFwdIdeal.τ).loc Cert.ReferenceFfnFwdIdeal.main_arg1) = m ((c.tc : Thread Cert.KernelFfnFwdIdeal.nD Cert.KernelFfnFwdIdeal.τ).loc Cert.KernelFfnFwdIdeal.main_arg1)
      ∧ m' ((c.tc : Thread Cert.ReferenceFfnFwdIdeal.nD Cert.ReferenceFfnFwdIdeal.τ).loc Cert.ReferenceFfnFwdIdeal.main_arg2) = m ((c.tc : Thread Cert.KernelFfnFwdIdeal.nD Cert.KernelFfnFwdIdeal.τ).loc Cert.KernelFfnFwdIdeal.main_arg2)
      ∧ m' ((c.tc : Thread Cert.ReferenceFfnFwdIdeal.nD Cert.ReferenceFfnFwdIdeal.τ).loc Cert.ReferenceFfnFwdIdeal.main_arg3) = m ((c.tc : Thread Cert.KernelFfnFwdIdeal.nD Cert.KernelFfnFwdIdeal.τ).loc Cert.KernelFfnFwdIdeal.main_arg3)
      ∧ m' ((c.tc : Thread Cert.ReferenceFfnFwdIdeal.nD Cert.ReferenceFfnFwdIdeal.τ).loc Cert.ReferenceFfnFwdIdeal.main_arg4) = m ((c.tc : Thread Cert.KernelFfnFwdIdeal.nD Cert.KernelFfnFwdIdeal.τ).loc Cert.KernelFfnFwdIdeal.main_arg4)) →
    ∃ (v0 : (c : Dev Cert.KernelFfnFwdIdeal.nD) → Buf (Elt Ideal) ((c.tc : Thread Cert.KernelFfnFwdIdeal.nD Cert.KernelFfnFwdIdeal.τ).loc Cert.KernelFfnFwdIdeal.main_v4_0)) (v1 : (c : Dev Cert.KernelFfnFwdIdeal.nD) → Buf (Elt Ideal) ((c.tc : Thread Cert.KernelFfnFwdIdeal.nD Cert.KernelFfnFwdIdeal.τ).loc Cert.KernelFfnFwdIdeal.main_v4_1)) (v2 : (c : Dev Cert.KernelFfnFwdIdeal.nD) → Buf (Elt Ideal) ((c.tc : Thread Cert.KernelFfnFwdIdeal.nD Cert.KernelFfnFwdIdeal.τ).loc Cert.KernelFfnFwdIdeal.main_v4_2)) (v3 : (c : Dev Cert.KernelFfnFwdIdeal.nD) → Buf (Elt Ideal) ((c.tc : Thread Cert.KernelFfnFwdIdeal.nD Cert.KernelFfnFwdIdeal.τ).loc Cert.KernelFfnFwdIdeal.main_v4_3)) (v4 : (c : Dev Cert.KernelFfnFwdIdeal.nD) → Buf (Elt Ideal) ((c.tc : Thread Cert.KernelFfnFwdIdeal.nD Cert.KernelFfnFwdIdeal.τ).loc Cert.KernelFfnFwdIdeal.main_v4_4)),
      θ_run (Cert.KernelFfnFwdIdeal.defs (F := Ideal)) (onTc (τ := Cert.KernelFfnFwdIdeal.τ) (Cert.KernelFfnFwdIdeal.main (F := Ideal))) ⟨m, fun _ => 0, g⟩ (fun r => ∀ c : Dev Cert.KernelFfnFwdIdeal.nD,
          r.2.mem ((c.tc : Thread Cert.KernelFfnFwdIdeal.nD Cert.KernelFfnFwdIdeal.τ).loc Cert.KernelFfnFwdIdeal.main_v4_0) = v0 c
          ∧ r.2.mem ((c.tc : Thread Cert.KernelFfnFwdIdeal.nD Cert.KernelFfnFwdIdeal.τ).loc Cert.KernelFfnFwdIdeal.main_v4_1) = v1 c
          ∧ r.2.mem ((c.tc : Thread Cert.KernelFfnFwdIdeal.nD Cert.KernelFfnFwdIdeal.τ).loc Cert.KernelFfnFwdIdeal.main_v4_2) = v2 c
          ∧ r.2.mem ((c.tc : Thread Cert.KernelFfnFwdIdeal.nD Cert.KernelFfnFwdIdeal.τ).loc Cert.KernelFfnFwdIdeal.main_v4_3) = v3 c
          ∧ r.2.mem ((c.tc : Thread Cert.KernelFfnFwdIdeal.nD Cert.KernelFfnFwdIdeal.τ).loc Cert.KernelFfnFwdIdeal.main_v4_4) = v4 c
          ∧ r.2.mem ((c.tc : Thread Cert.KernelFfnFwdIdeal.nD Cert.KernelFfnFwdIdeal.τ).loc Cert.KernelFfnFwdIdeal.main_arg0) = m ((c.tc : Thread Cert.KernelFfnFwdIdeal.nD Cert.KernelFfnFwdIdeal.τ).loc Cert.KernelFfnFwdIdeal.main_arg0)
          ∧ r.2.mem ((c.tc : Thread Cert.KernelFfnFwdIdeal.nD Cert.KernelFfnFwdIdeal.τ).loc Cert.KernelFfnFwdIdeal.main_arg1) = m ((c.tc : Thread Cert.KernelFfnFwdIdeal.nD Cert.KernelFfnFwdIdeal.τ).loc Cert.KernelFfnFwdIdeal.main_arg1)
          ∧ r.2.mem ((c.tc : Thread Cert.KernelFfnFwdIdeal.nD Cert.KernelFfnFwdIdeal.τ).loc Cert.KernelFfnFwdIdeal.main_arg2) = m ((c.tc : Thread Cert.KernelFfnFwdIdeal.nD Cert.KernelFfnFwdIdeal.τ).loc Cert.KernelFfnFwdIdeal.main_arg2)
          ∧ r.2.mem ((c.tc : Thread Cert.KernelFfnFwdIdeal.nD Cert.KernelFfnFwdIdeal.τ).loc Cert.KernelFfnFwdIdeal.main_arg3) = m ((c.tc : Thread Cert.KernelFfnFwdIdeal.nD Cert.KernelFfnFwdIdeal.τ).loc Cert.KernelFfnFwdIdeal.main_arg3)
          ∧ r.2.mem ((c.tc : Thread Cert.KernelFfnFwdIdeal.nD Cert.KernelFfnFwdIdeal.τ).loc Cert.KernelFfnFwdIdeal.main_arg4) = m ((c.tc : Thread Cert.KernelFfnFwdIdeal.nD Cert.KernelFfnFwdIdeal.τ).loc Cert.KernelFfnFwdIdeal.main_arg4))
      ∧ θ_run (Cert.ReferenceFfnFwdIdeal.defs (F := Ideal)) (onTc (τ := Cert.ReferenceFfnFwdIdeal.τ) (Cert.ReferenceFfnFwdIdeal.main (F := Ideal))) ⟨m', fun _ => 0, g'⟩ (fun r => ∀ c : Dev Cert.ReferenceFfnFwdIdeal.nD,
          r.2.mem ((c.tc : Thread Cert.ReferenceFfnFwdIdeal.nD Cert.ReferenceFfnFwdIdeal.τ).loc Cert.ReferenceFfnFwdIdeal.main_v18) = v0 c
          ∧ r.2.mem ((c.tc : Thread Cert.ReferenceFfnFwdIdeal.nD Cert.ReferenceFfnFwdIdeal.τ).loc Cert.ReferenceFfnFwdIdeal.main_v19) = v1 c
          ∧ r.2.mem ((c.tc : Thread Cert.ReferenceFfnFwdIdeal.nD Cert.ReferenceFfnFwdIdeal.τ).loc Cert.ReferenceFfnFwdIdeal.main_v20) = v2 c
          ∧ r.2.mem ((c.tc : Thread Cert.ReferenceFfnFwdIdeal.nD Cert.ReferenceFfnFwdIdeal.τ).loc Cert.ReferenceFfnFwdIdeal.main_v17) = v3 c
          ∧ r.2.mem ((c.tc : Thread Cert.ReferenceFfnFwdIdeal.nD Cert.ReferenceFfnFwdIdeal.τ).loc Cert.ReferenceFfnFwdIdeal.main_v33) = v4 c
          ∧ r.2.mem ((c.tc : Thread Cert.ReferenceFfnFwdIdeal.nD Cert.ReferenceFfnFwdIdeal.τ).loc Cert.ReferenceFfnFwdIdeal.main_arg0) = m' ((c.tc : Thread Cert.ReferenceFfnFwdIdeal.nD Cert.ReferenceFfnFwdIdeal.τ).loc Cert.ReferenceFfnFwdIdeal.main_arg0)
          ∧ r.2.mem ((c.tc : Thread Cert.ReferenceFfnFwdIdeal.nD Cert.ReferenceFfnFwdIdeal.τ).loc Cert.ReferenceFfnFwdIdeal.main_arg1) = m' ((c.tc : Thread Cert.ReferenceFfnFwdIdeal.nD Cert.ReferenceFfnFwdIdeal.τ).loc Cert.ReferenceFfnFwdIdeal.main_arg1)
          ∧ r.2.mem ((c.tc : Thread Cert.ReferenceFfnFwdIdeal.nD Cert.ReferenceFfnFwdIdeal.τ).loc Cert.ReferenceFfnFwdIdeal.main_arg2) = m' ((c.tc : Thread Cert.ReferenceFfnFwdIdeal.nD Cert.ReferenceFfnFwdIdeal.τ).loc Cert.ReferenceFfnFwdIdeal.main_arg2)
          ∧ r.2.mem ((c.tc : Thread Cert.ReferenceFfnFwdIdeal.nD Cert.ReferenceFfnFwdIdeal.τ).loc Cert.ReferenceFfnFwdIdeal.main_arg3) = m' ((c.tc : Thread Cert.ReferenceFfnFwdIdeal.nD Cert.ReferenceFfnFwdIdeal.τ).loc Cert.ReferenceFfnFwdIdeal.main_arg3)
          ∧ r.2.mem ((c.tc : Thread Cert.ReferenceFfnFwdIdeal.nD Cert.ReferenceFfnFwdIdeal.τ).loc Cert.ReferenceFfnFwdIdeal.main_arg4) = m' ((c.tc : Thread Cert.ReferenceFfnFwdIdeal.nD Cert.ReferenceFfnFwdIdeal.τ).loc Cert.ReferenceFfnFwdIdeal.main_arg4))

def preserves_KernelWg_KernelWgIdeal : Prop :=
  True

def algebraic_KernelWgIdeal_ReferenceWgIdeal [hKernelWgIdeal : Cert.KernelWgIdeal.Facts] [hReferenceWgIdeal : Cert.ReferenceWgIdeal.Facts] : Prop :=
  ∀ (m : (ℓ : Loc Cert.KernelWgIdeal.nD Cert.KernelWgIdeal.τ Cert.KernelWgIdeal.sig) → Buf (Elt Ideal) ℓ) (g : Dev Cert.KernelWgIdeal.nD → PrngReg)
    (m' : (ℓ : Loc Cert.ReferenceWgIdeal.nD Cert.ReferenceWgIdeal.τ Cert.ReferenceWgIdeal.sig) → Buf (Elt Ideal) ℓ) (g' : Dev Cert.ReferenceWgIdeal.nD → PrngReg), Pre_KernelWgIdeal m →
    (∀ c : Dev Cert.KernelWgIdeal.nD,
      m' ((c.tc : Thread Cert.ReferenceWgIdeal.nD Cert.ReferenceWgIdeal.τ).loc Cert.ReferenceWgIdeal.main_arg0) = m ((c.tc : Thread Cert.KernelWgIdeal.nD Cert.KernelWgIdeal.τ).loc Cert.KernelWgIdeal.main_arg0)
      ∧ m' ((c.tc : Thread Cert.ReferenceWgIdeal.nD Cert.ReferenceWgIdeal.τ).loc Cert.ReferenceWgIdeal.main_arg1) = m ((c.tc : Thread Cert.KernelWgIdeal.nD Cert.KernelWgIdeal.τ).loc Cert.KernelWgIdeal.main_arg1)) →
    ∃ (v0 : (c : Dev Cert.KernelWgIdeal.nD) → Buf (Elt Ideal) ((c.tc : Thread Cert.KernelWgIdeal.nD Cert.KernelWgIdeal.τ).loc Cert.KernelWgIdeal.main_v2)),
      θ_run (Cert.KernelWgIdeal.defs (F := Ideal)) (onTc (τ := Cert.KernelWgIdeal.τ) (Cert.KernelWgIdeal.main (F := Ideal))) ⟨m, fun _ => 0, g⟩ (fun r => ∀ c : Dev Cert.KernelWgIdeal.nD,
          r.2.mem ((c.tc : Thread Cert.KernelWgIdeal.nD Cert.KernelWgIdeal.τ).loc Cert.KernelWgIdeal.main_v2) = v0 c
          ∧ r.2.mem ((c.tc : Thread Cert.KernelWgIdeal.nD Cert.KernelWgIdeal.τ).loc Cert.KernelWgIdeal.main_arg0) = m ((c.tc : Thread Cert.KernelWgIdeal.nD Cert.KernelWgIdeal.τ).loc Cert.KernelWgIdeal.main_arg0)
          ∧ r.2.mem ((c.tc : Thread Cert.KernelWgIdeal.nD Cert.KernelWgIdeal.τ).loc Cert.KernelWgIdeal.main_arg1) = m ((c.tc : Thread Cert.KernelWgIdeal.nD Cert.KernelWgIdeal.τ).loc Cert.KernelWgIdeal.main_arg1))
      ∧ θ_run (Cert.ReferenceWgIdeal.defs (F := Ideal)) (onTc (τ := Cert.ReferenceWgIdeal.τ) (Cert.ReferenceWgIdeal.main (F := Ideal))) ⟨m', fun _ => 0, g'⟩ (fun r => ∀ c : Dev Cert.ReferenceWgIdeal.nD,
          r.2.mem ((c.tc : Thread Cert.ReferenceWgIdeal.nD Cert.ReferenceWgIdeal.τ).loc Cert.ReferenceWgIdeal.main_v12) = v0 c
          ∧ r.2.mem ((c.tc : Thread Cert.ReferenceWgIdeal.nD Cert.ReferenceWgIdeal.τ).loc Cert.ReferenceWgIdeal.main_arg0) = m' ((c.tc : Thread Cert.ReferenceWgIdeal.nD Cert.ReferenceWgIdeal.τ).loc Cert.ReferenceWgIdeal.main_arg0)
          ∧ r.2.mem ((c.tc : Thread Cert.ReferenceWgIdeal.nD Cert.ReferenceWgIdeal.τ).loc Cert.ReferenceWgIdeal.main_arg1) = m' ((c.tc : Thread Cert.ReferenceWgIdeal.nD Cert.ReferenceWgIdeal.τ).loc Cert.ReferenceWgIdeal.main_arg1))

def preserves_KernelAdam_KernelAdamIdeal : Prop :=
  True

def algebraic_KernelAdamIdeal_ReferenceAdamIdeal [hKernelAdamIdeal : Cert.KernelAdamIdeal.Facts] [hReferenceAdamIdeal : Cert.ReferenceAdamIdeal.Facts] : Prop :=
  ∀ (m : (ℓ : Loc Cert.KernelAdamIdeal.nD Cert.KernelAdamIdeal.τ Cert.KernelAdamIdeal.sig) → Buf (Elt Ideal) ℓ) (g : Dev Cert.KernelAdamIdeal.nD → PrngReg)
    (m' : (ℓ : Loc Cert.ReferenceAdamIdeal.nD Cert.ReferenceAdamIdeal.τ Cert.ReferenceAdamIdeal.sig) → Buf (Elt Ideal) ℓ) (g' : Dev Cert.ReferenceAdamIdeal.nD → PrngReg), Pre_KernelAdamIdeal m →
    (∀ c : Dev Cert.KernelAdamIdeal.nD,
      m' ((c.tc : Thread Cert.ReferenceAdamIdeal.nD Cert.ReferenceAdamIdeal.τ).loc Cert.ReferenceAdamIdeal.main_arg0) = m ((c.tc : Thread Cert.KernelAdamIdeal.nD Cert.KernelAdamIdeal.τ).loc Cert.KernelAdamIdeal.main_arg0)
      ∧ m' ((c.tc : Thread Cert.ReferenceAdamIdeal.nD Cert.ReferenceAdamIdeal.τ).loc Cert.ReferenceAdamIdeal.main_arg1) = m ((c.tc : Thread Cert.KernelAdamIdeal.nD Cert.KernelAdamIdeal.τ).loc Cert.KernelAdamIdeal.main_arg1)
      ∧ m' ((c.tc : Thread Cert.ReferenceAdamIdeal.nD Cert.ReferenceAdamIdeal.τ).loc Cert.ReferenceAdamIdeal.main_arg2) = m ((c.tc : Thread Cert.KernelAdamIdeal.nD Cert.KernelAdamIdeal.τ).loc Cert.KernelAdamIdeal.main_arg2)
      ∧ m' ((c.tc : Thread Cert.ReferenceAdamIdeal.nD Cert.ReferenceAdamIdeal.τ).loc Cert.ReferenceAdamIdeal.main_arg3) = m ((c.tc : Thread Cert.KernelAdamIdeal.nD Cert.KernelAdamIdeal.τ).loc Cert.KernelAdamIdeal.main_arg3)) →
    ∃ (v0 : (c : Dev Cert.KernelAdamIdeal.nD) → Buf (Elt Ideal) ((c.tc : Thread Cert.KernelAdamIdeal.nD Cert.KernelAdamIdeal.τ).loc Cert.KernelAdamIdeal.main_v0_0)) (v1 : (c : Dev Cert.KernelAdamIdeal.nD) → Buf (Elt Ideal) ((c.tc : Thread Cert.KernelAdamIdeal.nD Cert.KernelAdamIdeal.τ).loc Cert.KernelAdamIdeal.main_v0_1)) (v2 : (c : Dev Cert.KernelAdamIdeal.nD) → Buf (Elt Ideal) ((c.tc : Thread Cert.KernelAdamIdeal.nD Cert.KernelAdamIdeal.τ).loc Cert.KernelAdamIdeal.main_v0_2)) (v3 : (c : Dev Cert.KernelAdamIdeal.nD) → Buf (Elt Ideal) ((c.tc : Thread Cert.KernelAdamIdeal.nD Cert.KernelAdamIdeal.τ).loc Cert.KernelAdamIdeal.main_v0_3)),
      θ_run (Cert.KernelAdamIdeal.defs (F := Ideal)) (onTc (τ := Cert.KernelAdamIdeal.τ) (Cert.KernelAdamIdeal.main (F := Ideal))) ⟨m, fun _ => 0, g⟩ (fun r => ∀ c : Dev Cert.KernelAdamIdeal.nD,
          r.2.mem ((c.tc : Thread Cert.KernelAdamIdeal.nD Cert.KernelAdamIdeal.τ).loc Cert.KernelAdamIdeal.main_v0_0) = v0 c
          ∧ r.2.mem ((c.tc : Thread Cert.KernelAdamIdeal.nD Cert.KernelAdamIdeal.τ).loc Cert.KernelAdamIdeal.main_v0_1) = v1 c
          ∧ r.2.mem ((c.tc : Thread Cert.KernelAdamIdeal.nD Cert.KernelAdamIdeal.τ).loc Cert.KernelAdamIdeal.main_v0_2) = v2 c
          ∧ r.2.mem ((c.tc : Thread Cert.KernelAdamIdeal.nD Cert.KernelAdamIdeal.τ).loc Cert.KernelAdamIdeal.main_v0_3) = v3 c
          ∧ r.2.mem ((c.tc : Thread Cert.KernelAdamIdeal.nD Cert.KernelAdamIdeal.τ).loc Cert.KernelAdamIdeal.main_arg0) = m ((c.tc : Thread Cert.KernelAdamIdeal.nD Cert.KernelAdamIdeal.τ).loc Cert.KernelAdamIdeal.main_arg0)
          ∧ r.2.mem ((c.tc : Thread Cert.KernelAdamIdeal.nD Cert.KernelAdamIdeal.τ).loc Cert.KernelAdamIdeal.main_arg1) = m ((c.tc : Thread Cert.KernelAdamIdeal.nD Cert.KernelAdamIdeal.τ).loc Cert.KernelAdamIdeal.main_arg1)
          ∧ r.2.mem ((c.tc : Thread Cert.KernelAdamIdeal.nD Cert.KernelAdamIdeal.τ).loc Cert.KernelAdamIdeal.main_arg2) = m ((c.tc : Thread Cert.KernelAdamIdeal.nD Cert.KernelAdamIdeal.τ).loc Cert.KernelAdamIdeal.main_arg2)
          ∧ r.2.mem ((c.tc : Thread Cert.KernelAdamIdeal.nD Cert.KernelAdamIdeal.τ).loc Cert.KernelAdamIdeal.main_arg3) = m ((c.tc : Thread Cert.KernelAdamIdeal.nD Cert.KernelAdamIdeal.τ).loc Cert.KernelAdamIdeal.main_arg3))
      ∧ θ_run (Cert.ReferenceAdamIdeal.defs (F := Ideal)) (onTc (τ := Cert.ReferenceAdamIdeal.τ) (Cert.ReferenceAdamIdeal.main (F := Ideal))) ⟨m', fun _ => 0, g'⟩ (fun r => ∀ c : Dev Cert.ReferenceAdamIdeal.nD,
          r.2.mem ((c.tc : Thread Cert.ReferenceAdamIdeal.nD Cert.ReferenceAdamIdeal.τ).loc Cert.ReferenceAdamIdeal.main_arg1) = v0 c
          ∧ r.2.mem ((c.tc : Thread Cert.ReferenceAdamIdeal.nD Cert.ReferenceAdamIdeal.τ).loc Cert.ReferenceAdamIdeal.main_v23) = v1 c
          ∧ r.2.mem ((c.tc : Thread Cert.ReferenceAdamIdeal.nD Cert.ReferenceAdamIdeal.τ).loc Cert.ReferenceAdamIdeal.main_v4) = v2 c
          ∧ r.2.mem ((c.tc : Thread Cert.ReferenceAdamIdeal.nD Cert.ReferenceAdamIdeal.τ).loc Cert.ReferenceAdamIdeal.main_v10) = v3 c
          ∧ r.2.mem ((c.tc : Thread Cert.ReferenceAdamIdeal.nD Cert.ReferenceAdamIdeal.τ).loc Cert.ReferenceAdamIdeal.main_arg0) = m' ((c.tc : Thread Cert.ReferenceAdamIdeal.nD Cert.ReferenceAdamIdeal.τ).loc Cert.ReferenceAdamIdeal.main_arg0)
          ∧ r.2.mem ((c.tc : Thread Cert.ReferenceAdamIdeal.nD Cert.ReferenceAdamIdeal.τ).loc Cert.ReferenceAdamIdeal.main_arg1) = m' ((c.tc : Thread Cert.ReferenceAdamIdeal.nD Cert.ReferenceAdamIdeal.τ).loc Cert.ReferenceAdamIdeal.main_arg1)
          ∧ r.2.mem ((c.tc : Thread Cert.ReferenceAdamIdeal.nD Cert.ReferenceAdamIdeal.τ).loc Cert.ReferenceAdamIdeal.main_arg2) = m' ((c.tc : Thread Cert.ReferenceAdamIdeal.nD Cert.ReferenceAdamIdeal.τ).loc Cert.ReferenceAdamIdeal.main_arg2)
          ∧ r.2.mem ((c.tc : Thread Cert.ReferenceAdamIdeal.nD Cert.ReferenceAdamIdeal.τ).loc Cert.ReferenceAdamIdeal.main_arg3) = m' ((c.tc : Thread Cert.ReferenceAdamIdeal.nD Cert.ReferenceAdamIdeal.τ).loc Cert.ReferenceAdamIdeal.main_arg3))

def preserves_KernelHgFwd_KernelHgFwdIdeal : Prop :=
  True

def preserves_KernelAdd_KernelAddIdeal : Prop :=
  True

def algebraic_KernelAddIdeal_ReferenceAddIdeal [hKernelAddIdeal : Cert.KernelAddIdeal.Facts] [hReferenceAddIdeal : Cert.ReferenceAddIdeal.Facts] : Prop :=
  ∀ (m : (ℓ : Loc Cert.KernelAddIdeal.nD Cert.KernelAddIdeal.τ Cert.KernelAddIdeal.sig) → Buf (Elt Ideal) ℓ) (g : Dev Cert.KernelAddIdeal.nD → PrngReg)
    (m' : (ℓ : Loc Cert.ReferenceAddIdeal.nD Cert.ReferenceAddIdeal.τ Cert.ReferenceAddIdeal.sig) → Buf (Elt Ideal) ℓ) (g' : Dev Cert.ReferenceAddIdeal.nD → PrngReg), Pre_KernelAddIdeal m →
    (∀ c : Dev Cert.KernelAddIdeal.nD,
      m' ((c.tc : Thread Cert.ReferenceAddIdeal.nD Cert.ReferenceAddIdeal.τ).loc Cert.ReferenceAddIdeal.main_arg0) = m ((c.tc : Thread Cert.KernelAddIdeal.nD Cert.KernelAddIdeal.τ).loc Cert.KernelAddIdeal.main_arg0)
      ∧ m' ((c.tc : Thread Cert.ReferenceAddIdeal.nD Cert.ReferenceAddIdeal.τ).loc Cert.ReferenceAddIdeal.main_arg1) = m ((c.tc : Thread Cert.KernelAddIdeal.nD Cert.KernelAddIdeal.τ).loc Cert.KernelAddIdeal.main_arg1)) →
    ∃ (v0 : (c : Dev Cert.KernelAddIdeal.nD) → Buf (Elt Ideal) ((c.tc : Thread Cert.KernelAddIdeal.nD Cert.KernelAddIdeal.τ).loc Cert.KernelAddIdeal.main_v1_0)) (v1 : (c : Dev Cert.KernelAddIdeal.nD) → Buf (Elt Ideal) ((c.tc : Thread Cert.KernelAddIdeal.nD Cert.KernelAddIdeal.τ).loc Cert.KernelAddIdeal.main_v1_1)),
      θ_run (Cert.KernelAddIdeal.defs (F := Ideal)) (onTc (τ := Cert.KernelAddIdeal.τ) (Cert.KernelAddIdeal.main (F := Ideal))) ⟨m, fun _ => 0, g⟩ (fun r => ∀ c : Dev Cert.KernelAddIdeal.nD,
          r.2.mem ((c.tc : Thread Cert.KernelAddIdeal.nD Cert.KernelAddIdeal.τ).loc Cert.KernelAddIdeal.main_v1_0) = v0 c
          ∧ r.2.mem ((c.tc : Thread Cert.KernelAddIdeal.nD Cert.KernelAddIdeal.τ).loc Cert.KernelAddIdeal.main_v1_1) = v1 c
          ∧ r.2.mem ((c.tc : Thread Cert.KernelAddIdeal.nD Cert.KernelAddIdeal.τ).loc Cert.KernelAddIdeal.main_arg0) = m ((c.tc : Thread Cert.KernelAddIdeal.nD Cert.KernelAddIdeal.τ).loc Cert.KernelAddIdeal.main_arg0)
          ∧ r.2.mem ((c.tc : Thread Cert.KernelAddIdeal.nD Cert.KernelAddIdeal.τ).loc Cert.KernelAddIdeal.main_arg1) = m ((c.tc : Thread Cert.KernelAddIdeal.nD Cert.KernelAddIdeal.τ).loc Cert.KernelAddIdeal.main_arg1))
      ∧ θ_run (Cert.ReferenceAddIdeal.defs (F := Ideal)) (onTc (τ := Cert.ReferenceAddIdeal.τ) (Cert.ReferenceAddIdeal.main (F := Ideal))) ⟨m', fun _ => 0, g'⟩ (fun r => ∀ c : Dev Cert.ReferenceAddIdeal.nD,
          r.2.mem ((c.tc : Thread Cert.ReferenceAddIdeal.nD Cert.ReferenceAddIdeal.τ).loc Cert.ReferenceAddIdeal.main_v2) = v0 c
          ∧ r.2.mem ((c.tc : Thread Cert.ReferenceAddIdeal.nD Cert.ReferenceAddIdeal.τ).loc Cert.ReferenceAddIdeal.main_v2) = v1 c
          ∧ r.2.mem ((c.tc : Thread Cert.ReferenceAddIdeal.nD Cert.ReferenceAddIdeal.τ).loc Cert.ReferenceAddIdeal.main_arg0) = m' ((c.tc : Thread Cert.ReferenceAddIdeal.nD Cert.ReferenceAddIdeal.τ).loc Cert.ReferenceAddIdeal.main_arg0)
          ∧ r.2.mem ((c.tc : Thread Cert.ReferenceAddIdeal.nD Cert.ReferenceAddIdeal.τ).loc Cert.ReferenceAddIdeal.main_arg1) = m' ((c.tc : Thread Cert.ReferenceAddIdeal.nD Cert.ReferenceAddIdeal.τ).loc Cert.ReferenceAddIdeal.main_arg1))

def Claim : Prop :=
  ∃ (hKernel : Cert.Kernel.Facts) (hKernelIdeal : Cert.KernelIdeal.Facts) (hReferenceIdeal : Cert.ReferenceIdeal.Facts) (hKernelPle : Cert.KernelPle.Facts) (hKernelPleIdeal : Cert.KernelPleIdeal.Facts) (hReferencePleIdeal : Cert.ReferencePleIdeal.Facts) (hKernelFfn : Cert.KernelFfn.Facts) (hKernelFfnIdeal : Cert.KernelFfnIdeal.Facts) (hReferenceFfnIdeal : Cert.ReferenceFfnIdeal.Facts) (hKernelMix : Cert.KernelMix.Facts) (hKernelMixIdeal : Cert.KernelMixIdeal.Facts) (hReferenceMixIdeal : Cert.ReferenceMixIdeal.Facts) (hKernelInFwd : Cert.KernelInFwd.Facts) (hKernelInFwdIdeal : Cert.KernelInFwdIdeal.Facts) (hReferenceInFwdIdeal : Cert.ReferenceInFwdIdeal.Facts) (hKernelMixFwd : Cert.KernelMixFwd.Facts) (hKernelMixFwdIdeal : Cert.KernelMixFwdIdeal.Facts) (hReferenceMixFwdIdeal : Cert.ReferenceMixFwdIdeal.Facts) (hKernelFfnFwd : Cert.KernelFfnFwd.Facts) (hKernelFfnFwdIdeal : Cert.KernelFfnFwdIdeal.Facts) (hReferenceFfnFwdIdeal : Cert.ReferenceFfnFwdIdeal.Facts) (hKernelWg : Cert.KernelWg.Facts) (hKernelWgIdeal : Cert.KernelWgIdeal.Facts) (hReferenceWgIdeal : Cert.ReferenceWgIdeal.Facts) (hKernelAdam : Cert.KernelAdam.Facts) (hKernelAdamIdeal : Cert.KernelAdamIdeal.Facts) (hReferenceAdamIdeal : Cert.ReferenceAdamIdeal.Facts) (hKernelHgFwd : Cert.KernelHgFwd.Facts) (hKernelHgFwdIdeal : Cert.KernelHgFwdIdeal.Facts) (hReferenceHgFwdIdeal : Cert.ReferenceHgFwdIdeal.Facts) (hKernelAdd : Cert.KernelAdd.Facts) (hKernelAddIdeal : Cert.KernelAddIdeal.Facts) (hReferenceAddIdeal : Cert.ReferenceAddIdeal.Facts) (hPre_finite : Cert.Pre_finite.Facts) (hPre_finite_ffn : Cert.Pre_finite_ffn.Facts) (hPre_finite_mix : Cert.Pre_finite_mix.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelPle (hKernelPle := hKernelPle)
    ∧ quiescent_KernelPleIdeal (hKernelPleIdeal := hKernelPleIdeal)
    ∧ quiescent_ReferencePleIdeal (hReferencePleIdeal := hReferencePleIdeal)
    ∧ quiescent_KernelFfn (hKernelFfn := hKernelFfn)
    ∧ quiescent_KernelFfnIdeal (hKernelFfnIdeal := hKernelFfnIdeal)
    ∧ quiescent_KernelFfnIdeal_pre_finite_ffn (hKernelFfnIdeal := hKernelFfnIdeal) (hPre_finite_ffn := hPre_finite_ffn)
    ∧ quiescent_ReferenceFfnIdeal (hReferenceFfnIdeal := hReferenceFfnIdeal)
    ∧ quiescent_ReferenceFfnIdeal_pre_finite_ffn (hReferenceFfnIdeal := hReferenceFfnIdeal) (hPre_finite_ffn := hPre_finite_ffn)
    ∧ quiescent_KernelMix (hKernelMix := hKernelMix)
    ∧ quiescent_KernelMixIdeal (hKernelMixIdeal := hKernelMixIdeal)
    ∧ quiescent_KernelMixIdeal_pre_finite_mix (hKernelMixIdeal := hKernelMixIdeal) (hPre_finite_mix := hPre_finite_mix)
    ∧ quiescent_ReferenceMixIdeal (hReferenceMixIdeal := hReferenceMixIdeal)
    ∧ quiescent_ReferenceMixIdeal_pre_finite_mix (hReferenceMixIdeal := hReferenceMixIdeal) (hPre_finite_mix := hPre_finite_mix)
    ∧ quiescent_KernelInFwd (hKernelInFwd := hKernelInFwd)
    ∧ quiescent_KernelInFwdIdeal (hKernelInFwdIdeal := hKernelInFwdIdeal)
    ∧ quiescent_ReferenceInFwdIdeal (hReferenceInFwdIdeal := hReferenceInFwdIdeal)
    ∧ quiescent_KernelMixFwd (hKernelMixFwd := hKernelMixFwd)
    ∧ quiescent_KernelMixFwdIdeal (hKernelMixFwdIdeal := hKernelMixFwdIdeal)
    ∧ quiescent_ReferenceMixFwdIdeal (hReferenceMixFwdIdeal := hReferenceMixFwdIdeal)
    ∧ quiescent_KernelFfnFwd (hKernelFfnFwd := hKernelFfnFwd)
    ∧ quiescent_KernelFfnFwdIdeal (hKernelFfnFwdIdeal := hKernelFfnFwdIdeal)
    ∧ quiescent_ReferenceFfnFwdIdeal (hReferenceFfnFwdIdeal := hReferenceFfnFwdIdeal)
    ∧ quiescent_KernelWg (hKernelWg := hKernelWg)
    ∧ quiescent_KernelWgIdeal (hKernelWgIdeal := hKernelWgIdeal)
    ∧ quiescent_ReferenceWgIdeal (hReferenceWgIdeal := hReferenceWgIdeal)
    ∧ quiescent_KernelAdam (hKernelAdam := hKernelAdam)
    ∧ quiescent_KernelAdamIdeal (hKernelAdamIdeal := hKernelAdamIdeal)
    ∧ quiescent_ReferenceAdamIdeal (hReferenceAdamIdeal := hReferenceAdamIdeal)
    ∧ quiescent_KernelHgFwd (hKernelHgFwd := hKernelHgFwd)
    ∧ quiescent_KernelHgFwdIdeal (hKernelHgFwdIdeal := hKernelHgFwdIdeal)
    ∧ quiescent_ReferenceHgFwdIdeal (hReferenceHgFwdIdeal := hReferenceHgFwdIdeal)
    ∧ quiescent_KernelAdd (hKernelAdd := hKernelAdd)
    ∧ quiescent_KernelAddIdeal (hKernelAddIdeal := hKernelAddIdeal)
    ∧ quiescent_ReferenceAddIdeal (hReferenceAddIdeal := hReferenceAddIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelPle_KernelPleIdeal
    ∧ algebraic_KernelPleIdeal_ReferencePleIdeal (hKernelPleIdeal := hKernelPleIdeal) (hReferencePleIdeal := hReferencePleIdeal)
    ∧ preserves_KernelFfn_KernelFfnIdeal
    ∧ algebraic_KernelFfnIdeal_ReferenceFfnIdeal_pre_finite_ffn (hKernelFfnIdeal := hKernelFfnIdeal) (hReferenceFfnIdeal := hReferenceFfnIdeal) (hPre_finite_ffn := hPre_finite_ffn)
    ∧ preserves_KernelMix_KernelMixIdeal
    ∧ algebraic_KernelMixIdeal_ReferenceMixIdeal_pre_finite_mix (hKernelMixIdeal := hKernelMixIdeal) (hReferenceMixIdeal := hReferenceMixIdeal) (hPre_finite_mix := hPre_finite_mix)
    ∧ preserves_KernelInFwd_KernelInFwdIdeal
    ∧ algebraic_KernelInFwdIdeal_ReferenceInFwdIdeal (hKernelInFwdIdeal := hKernelInFwdIdeal) (hReferenceInFwdIdeal := hReferenceInFwdIdeal)
    ∧ preserves_KernelMixFwd_KernelMixFwdIdeal
    ∧ algebraic_KernelMixFwdIdeal_ReferenceMixFwdIdeal (hKernelMixFwdIdeal := hKernelMixFwdIdeal) (hReferenceMixFwdIdeal := hReferenceMixFwdIdeal)
    ∧ preserves_KernelFfnFwd_KernelFfnFwdIdeal
    ∧ algebraic_KernelFfnFwdIdeal_ReferenceFfnFwdIdeal (hKernelFfnFwdIdeal := hKernelFfnFwdIdeal) (hReferenceFfnFwdIdeal := hReferenceFfnFwdIdeal)
    ∧ preserves_KernelWg_KernelWgIdeal
    ∧ algebraic_KernelWgIdeal_ReferenceWgIdeal (hKernelWgIdeal := hKernelWgIdeal) (hReferenceWgIdeal := hReferenceWgIdeal)
    ∧ preserves_KernelAdam_KernelAdamIdeal
    ∧ algebraic_KernelAdamIdeal_ReferenceAdamIdeal (hKernelAdamIdeal := hKernelAdamIdeal) (hReferenceAdamIdeal := hReferenceAdamIdeal)
    ∧ preserves_KernelHgFwd_KernelHgFwdIdeal
    ∧ preserves_KernelAdd_KernelAddIdeal
    ∧ algebraic_KernelAddIdeal_ReferenceAddIdeal (hKernelAddIdeal := hKernelAddIdeal) (hReferenceAddIdeal := hReferenceAddIdeal)
-- ==== Pre_finite.lean ====
abbrev S4096x1024 : Shape := ⟨2, ![4096, 1024]⟩
abbrev S1x1024 : Shape := ⟨2, ![1, 1024]⟩
abbrev S1024x3584 : Shape := ⟨2, ![1024, 3584]⟩
abbrev S4096x512 : Shape := ⟨2, ![4096, 512]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1024x3584 : S_.BroadcastsInDim S1024x3584 (![] : Fin 0 → Fin S1024x3584.rank)
  bcast_S_S4096x512 : S_.BroadcastsInDim S4096x512 (![] : Fin 0 → Fin S4096x512.rank)

variable [Facts]

def fn_part1 {F : FTy → Type} [FloatOps F] (main_arg7 : FVec F S4096x512 .f32) (main_arg8 : FVec F S4096x512 .f32) (main_arg9 : FVec F S4096x512 .f32) (main_arg10 : FVec F S4096x512 .f32) (main_v2 : IVec S4096x1024 1) (main_v5 : IVec S1x1024 1) (main_v8 : IVec S1024x3584 1) (main_v11 : IVec S4096x512 1) (main_v14 : IVec S4096x512 1) (main_v17 : IVec S4096x512 1) : IVec S4096x1024 1 × IVec S1x1024 1 × IVec S1024x3584 1 × IVec S4096x512 1 × IVec S4096x512 1 × IVec S4096x512 1 × IVec S4096x512 1 × IVec S4096x512 1 × IVec S4096x512 1 × IVec S4096x512 1 :=
  let main_v18 : FVec F S4096x512 .f32 := Host.absf main_arg7
  let main_cst_5 : FVec F S_ .f32 := constant S_ .f32 0x7F800000#32
  let main_v19 : FVec F S4096x512 .f32 := broadcastInDim S4096x512 ![] bcast_S_S4096x512 main_cst_5
  let main_v20 : IVec S4096x512 1 := cmpf .olt main_v18 main_v19
  let main_v21 : FVec F S4096x512 .f32 := Host.absf main_arg8
  let main_cst_6 : FVec F S_ .f32 := constant S_ .f32 0x7F800000#32
  let main_v22 : FVec F S4096x512 .f32 := broadcastInDim S4096x512 ![] bcast_S_S4096x512 main_cst_6
  let main_v23 : IVec S4096x512 1 := cmpf .olt main_v21 main_v22
  let main_v24 : FVec F S4096x512 .f32 := Host.absf main_arg9
  let main_cst_7 : FVec F S_ .f32 := constant S_ .f32 0x7F800000#32
  let main_v25 : FVec F S4096x512 .f32 := broadcastInDim S4096x512 ![] bcast_S_S4096x512 main_cst_7
  let main_v26 : IVec S4096x512 1 := cmpf .olt main_v24 main_v25
  let main_v27 : FVec F S4096x512 .f32 := Host.absf main_arg10
  let main_cst_8 : FVec F S_ .f32 := constant S_ .f32 0x7F800000#32
  let main_v28 : FVec F S4096x512 .f32 := broadcastInDim S4096x512 ![] bcast_S_S4096x512 main_cst_8
  let main_v29 : IVec S4096x512 1 := cmpf .olt main_v27 main_v28
  (main_v2, main_v5, main_v8, main_v11, main_v14, main_v17, main_v20, main_v23, main_v26, main_v29)

def fn {F : FTy → Type} [FloatOps F] (main_arg0 : FVec F S4096x1024 .f32) (main_arg1 : FVec F S4096x1024 .f32) (main_arg2 : FVec F S1x1024 .f32) (main_arg3 : FVec F S1024x3584 .f32) (main_arg4 : FVec F S4096x512 .f32) (main_arg5 : FVec F S4096x512 .f32) (main_arg6 : FVec F S4096x512 .f32) (main_arg7 : FVec F S4096x512 .f32) (main_arg8 : FVec F S4096x512 .f32) (main_arg9 : FVec F S4096x512 .f32) (main_arg10 : FVec F S4096x512 .f32) : IVec S4096x1024 1 × IVec S1x1024 1 × IVec S1024x3584 1 × IVec S4096x512 1 × IVec S4096x512 1 × IVec S4096x512 1 × IVec S4096x512 1 × IVec S4096x512 1 × IVec S4096x512 1 × IVec S4096x512 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg2
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x3584 .f32 := Host.absf main_arg3
  let main_cst_1 : FVec F S_ .f32 := constant S_ .f32 0x7F800000#32
  let main_v7 : FVec F S1024x3584 .f32 := broadcastInDim S1024x3584 ![] bcast_S_S1024x3584 main_cst_1
  let main_v8 : IVec S1024x3584 1 := cmpf .olt main_v6 main_v7
  let main_v9 : FVec F S4096x512 .f32 := Host.absf main_arg4
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_v12 : FVec F S4096x512 .f32 := Host.absf main_arg5
  let main_cst_3 : FVec F S_ .f32 := constant S_ .f32 0x7F800000#32
  let main_v13 : FVec F S4096x512 .f32 := broadcastInDim S4096x512 ![] bcast_S_S4096x512 main_cst_3
  let main_v14 : IVec S4096x512 1 := cmpf .olt main_v12 main_v13
  let main_v15 : FVec F S4096x512 .f32 := Host.absf main_arg6
  let main_cst_4 : FVec F S_ .f32 := constant S_ .f32 0x7F800000#32
  let main_v16 : FVec F S4096x512 .f32 := broadcastInDim S4096x512 ![] bcast_S_S4096x512 main_cst_4
  let main_v17 : IVec S4096x512 1 := cmpf .olt main_v15 main_v16
  fn_part1 (F := F) main_arg7 main_arg8 main_arg9 main_arg10 main_v2 main_v5 main_v8 main_v11 main_v14 main_v17
-- ==== Pre_finite_ffn.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn {F : FTy → Type} [FloatOps F] (main_arg0 : FVec F S4096x1024 .f32) (main_arg1 : FVec F S1x1024 .f32) (main_arg2 : FVec F S1x1024 .f32) (main_arg3 : FVec F S1024x5632 .f32) (main_arg4 : FVec F S2816x1024 .f32) (main_arg5 : FVec F S4096x1024 .f32) : IVec S4096x1024 1 × IVec S1x1024 1 × IVec S1x1024 1 × IVec S1024x5632 1 × IVec S2816x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1024x5632 .f32 := Host.absf main_arg3
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  let main_v15 : FVec F S4096x1024 .f32 := Host.absf main_arg5
  let main_cst_4 : FVec F S_ .f32 := constant S_ .f32 0x7F800000#32
  let main_v16 : FVec F S4096x1024 .f32 := broadcastInDim S4096x1024 ![] bcast_S_S4096x1024 main_cst_4
  let main_v17 : IVec S4096x1024 1 := cmpf .olt main_v15 main_v16
  (main_v2, main_v5, main_v8, main_v11, main_v14, main_v17)
-- ==== Pre_finite_mix.lean ====
abbrev S4096x1024 : Shape := ⟨2, ![4096, 1024]⟩
abbrev S4096x512 : Shape := ⟨2, ![4096, 512]⟩
abbrev S4096x2048 : Shape := ⟨2, ![4096, 2048]⟩
abbrev S1x1024 : Shape := ⟨2, ![1, 1024]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  bcast_S_S4096x512 : S_.BroadcastsInDim S4096x512 (![] : Fin 0 → Fin S4096x512.rank)
  bcast_S_S4096x2048 : S_.BroadcastsInDim S4096x2048 (![] : Fin 0 → Fin S4096x2048.rank)
  bcast_S_S1x1024 : S_.BroadcastsInDim S1x1024 (![] : Fin 0 → Fin S1x1024.rank)
  bcast_S_S1024x1024 : S_.BroadcastsInDim S1024x1024 (![] : Fin 0 → Fin S1024x1024.rank)

variable [Facts]

def fn_part1 {F : FTy → Type} [FloatOps F] (main_arg6 : FVec F S1024x1024 .f32) (main_v2 : IVec S4096x1024 1) (main_v5 : IVec S4096x512 1) (main_v8 : IVec S4096x2048 1) (main_v11 : IVec S4096x512 1) (main_v14 : IVec S1x1024 1) (main_v17 : IVec S1x1024 1) : IVec S4096x1024 1 × IVec S4096x512 1 × IVec S4096x2048 1 × IVec S4096x512 1 × IVec S1x1024 1 × IVec S1x1024 1 × IVec S1024x1024 1 :=
  let main_v18 : FVec F S1024x1024 .f32 := Host.absf main_arg6
  let main_cst_5 : FVec F S_ .f32 := constant S_ .f32 0x7F800000#32
  let main_v19 : FVec F S1024x1024 .f32 := broadcastInDim S1024x1024 ![] bcast_S_S1024x1024 main_cst_5
  let main_v20 : IVec S1024x1024 1 := cmpf .olt main_v18 main_v19
  (main_v2, main_v5, main_v8, main_v11, main_v14, main_v17, main_v20)

def fn {F : FTy → Type} [FloatOps F] (main_arg0 : FVec F S4096x1024 .f32) (main_arg1 : FVec F S4096x512 .f32) (main_arg2 : FVec F S4096x2048 .f32) (main_arg3 : FVec F S4096x512 .f32) (main_arg4 : FVec F S1x1024 .f32) (main_arg5 : FVec F S1x1024 .f32) (main_arg6 : FVec F S1024x1024 .f32) : IVec S4096x1024 1 × IVec S4096x512 1 × IVec S4096x2048 1 × IVec S4096x512 1 × IVec S1x1024 1 × IVec S1x1024 1 × IVec S1024x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x512 .f32 := Host.absf main_arg1
  let main_cst_0 : FVec F S_ .f32 := constant S_ .f32 0x7F800000#32
  let main_v4 : FVec F S4096x512 .f32 := broadcastInDim S4096x512 ![] bcast_S_S4096x512 main_cst_0
  let main_v5 : IVec S4096x512 1 := cmpf .olt main_v3 main_v4
  let main_v6 : FVec F S4096x2048 .f32 := Host.absf main_arg2
  let main_cst_1 : FVec F S_ .f32 := constant S_ .f32 0x7F800000#32
  let main_v7 : FVec F S4096x2048 .f32 := broadcastInDim S4096x2048 ![] bcast_S_S4096x2048 main_cst_1
  let main_v8 : IVec S4096x2048 1 := cmpf .olt main_v6 main_v7
  let main_v9 : FVec F S4096x512 .f32 := Host.absf main_arg3
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S1x1024 .f32 := Host.absf main_arg5
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  fn_part1 (F := F) main_arg6 main_v2 main_v5 main_v8 main_v11 main_v14 main_v17
-- ==== Kernel.lean ====
abbrev S4096x1024 : Shape := ⟨2, ![4096, 1024]⟩
abbrev S1x1024 : Shape := ⟨2, ![1, 1024]⟩
abbrev S1024x3584 : Shape := ⟨2, ![1024, 3584]⟩
abbrev S4096x512 : Shape := ⟨2, ![4096, 512]⟩
abbrev S1024x4x896 : Shape := ⟨3, ![1024, 4, 896]⟩
abbrev S4x1024x896 : Shape := ⟨3, ![4, 1024, 896]⟩
abbrev S4096x3584 : Shape := ⟨2, ![4096, 3584]⟩
abbrev S8x1024 : Shape := ⟨2, ![8, 1024]⟩
abbrev S512x512 : Shape := ⟨2, ![512, 512]⟩
abbrev S512x1024 : Shape := ⟨2, ![512, 1024]⟩
abbrev S512x3584 : Shape := ⟨2, ![512, 3584]⟩
abbrev S_ : Shape := ⟨0, ![]⟩
abbrev S512x896 : Shape := ⟨2, ![512, 896]⟩
abbrev S1x1024x896 : Shape := ⟨3, ![1, 1024, 896]⟩
abbrev S1024x896 : Shape := ⟨2, ![1024, 896]⟩
abbrev S512 : Shape := ⟨1, ![512]⟩
abbrev S512x1 : Shape := ⟨2, ![512, 1]⟩
abbrev S1024 : Shape := ⟨1, ![1024]⟩

abbrev nBuf : Space → Nat
  | .hbm => 17
  | .vmem => 25
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x3584, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S1024x4x896, .f32⟩
  | .hbm, ⟨12, _⟩ => ⟨S4x1024x896, .f32⟩
  | .hbm, ⟨13, _⟩ => ⟨S4x1024x896, .bf16⟩
  | .hbm, ⟨14, _⟩ => ⟨S4096x3584, .bf16⟩
  | .hbm, ⟨15, _⟩ => ⟨S4096x1024, .f32⟩
  | .hbm, ⟨16, _⟩ => ⟨S8x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | .local _ .vmem, ⟨19, _⟩ => ⟨S512x3584, .bf16⟩
  | .local _ .vmem, ⟨20, _⟩ => ⟨S512x3584, .bf16⟩
  | .local _ .vmem, ⟨21, _⟩ => ⟨S512x1024, .f32⟩
  | .local _ .vmem, ⟨22, _⟩ => ⟨S512x1024, .f32⟩
  | .local _ .vmem, ⟨23, _⟩ => ⟨S8x1024, .f32⟩
  | .local _ .vmem, ⟨24, _⟩ => ⟨S4x1024x896, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3_0 : Ref sig .tc := ⟨.hbm, 14, rfl⟩
abbrev main_v3_1 : Ref sig .tc := ⟨.hbm, 15, rfl⟩
abbrev main_v3_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x3584 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S4096x1024 : Shape := ⟨2, ![4096, 1024]⟩
abbrev S1x1024 : Shape := ⟨2, ![1, 1024]⟩
abbrev S1024x3584 : Shape := ⟨2, ![1024, 3584]⟩
abbrev S4096x512 : Shape := ⟨2, ![4096, 512]⟩
abbrev S4096x3584 : Shape := ⟨2, ![4096, 3584]⟩
abbrev S_ : Shape := ⟨0, ![]⟩
abbrev S4096 : Shape := ⟨1, ![4096]⟩
abbrev S4096x1 : Shape := ⟨2, ![4096, 1]⟩
abbrev S3584x1024 : Shape := ⟨2, ![3584, 1024]⟩
abbrev S1024 : Shape := ⟨1, ![1024]⟩
abbrev S7x1024 : Shape := ⟨2, ![7, 1024]⟩
abbrev S8x1024 : Shape := ⟨2, ![8, 1024]⟩

abbrev nBuf : Space → Nat
  | .hbm => 63
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x3584, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S4096x3584, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x3584, .f32⟩
  | .hbm, ⟨32, _⟩ => ⟨S3584x1024, .f32⟩
  | .hbm, ⟨33, _⟩ => ⟨S1024x3584, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096, .f32⟩
  | .hbm, ⟨44, _⟩ => ⟨S4096x1, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S_, .f32⟩
  | .hbm, ⟨53, _⟩ => ⟨S4096, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x3584, .bf16⟩
  | .hbm, ⟨60, _⟩ => ⟨S_, .f32⟩
  | .hbm, ⟨61, _⟩ => ⟨S7x1024, .f32⟩
  | .hbm, ⟨62, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_v42 : Ref sig .tc := ⟨.hbm, 62, rfl⟩

abbrev nD : Nat := 1
abbrev τ : Topo := Topo.v7x

variable {F : FTy → Type} [FloatOps F]
-- ==== KernelPle.lean ====
abbrev S4096x1024 : Shape := ⟨2, ![4096, 1024]⟩
abbrev S4096x256 : Shape := ⟨2, ![4096, 256]⟩
abbrev S256x1024 : Shape := ⟨2, ![256, 1024]⟩
abbrev S1024x1024 : Shape := ⟨2, ![1024, 1024]⟩
abbrev S256x4x256 : Shape := ⟨3, ![256, 4, 256]⟩
abbrev S4x256x256 : Shape := ⟨3, ![4, 256, 256]⟩
abbrev S8x1024 : Shape := ⟨2, ![8, 1024]⟩
abbrev S512x1024 : Shape := ⟨2, ![512, 1024]⟩
abbrev S512x256 : Shape := ⟨2, ![512, 256]⟩
abbrev S_ : Shape := ⟨0, ![]⟩
abbrev S1x256x256 : Shape := ⟨3, ![1, 256, 256]⟩
abbrev S256x256 : Shape := ⟨2, ![256, 256]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1x1024 : Shape := ⟨2, ![1, 1024]⟩

abbrev nBuf : Space → Nat
  | .hbm => 15
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S4096x1024, .f32⟩
  | .hbm, ⟨3, _⟩ => ⟨S256x1024, .f32⟩
  | .hbm, ⟨4, _⟩ => ⟨S1024x1024, .f32⟩
  | .hbm, ⟨5, _⟩ => ⟨S256x4x256, .f32⟩
  | .hbm, ⟨6, _⟩ => ⟨S4x256x256, .f32⟩
  | .hbm, ⟨7, _⟩ => ⟨S4x256x256, .bf16⟩
  | .hbm, ⟨8, _⟩ => ⟨S1024x1024, .bf16⟩
  | .hbm, ⟨9, _⟩ => ⟨S4096x1024, .bf16⟩
  | .hbm, ⟨10, _⟩ => ⟨S4096x1024, .bf16⟩
  | .hbm, ⟨11, _⟩ => ⟨S4096x1024, .f32⟩
  | .hbm, ⟨12, _⟩ => ⟨S4096x1024, .bf16⟩
  | .hbm, ⟨13, _⟩ => ⟨S4096x256, .bf16⟩
  | .hbm, ⟨14, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x256, .bf16⟩
  | .local _ .vmem, ⟨15, _⟩ => ⟨S512x256, .bf16⟩
  | .local _ .vmem, ⟨16, _⟩ => ⟨S8x1024, .f32⟩
  | .local _ .vmem, ⟨17, _⟩ => ⟨S4x256x256, .bf16⟩
  | .local _ .vmem, ⟨18, _⟩ => ⟨S1024x1024, .bf16⟩
  | .local _ .vmem, ⟨19, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v4_4 : Ref sig .tc := ⟨.hbm, 13, rfl⟩
abbrev main_v4_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferencePleIdeal.lean ====
abbrev S4096x1024 : Shape := ⟨2, ![4096, 1024]⟩
abbrev S4096x256 : Shape := ⟨2, ![4096, 256]⟩
abbrev S256x1024 : Shape := ⟨2, ![256, 1024]⟩
abbrev S1024x1024 : Shape := ⟨2, ![1024, 1024]⟩
abbrev S_ : Shape := ⟨0, ![]⟩
abbrev S4096 : Shape := ⟨1, ![4096]⟩
abbrev S6x1024 : Shape := ⟨2, ![6, 1024]⟩
abbrev S1x1 : Shape := ⟨2, ![1, 1]⟩
abbrev S1x1023 : Shape := ⟨2, ![1, 1023]⟩
abbrev S1x1024 : Shape := ⟨2, ![1, 1024]⟩
abbrev S8x1024 : Shape := ⟨2, ![8, 1024]⟩

abbrev nBuf : Space → Nat
  | .hbm => 62
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S4096x1024, .f32⟩
  | .hbm, ⟨3, _⟩ => ⟨S256x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096, .f32⟩
  | .hbm, ⟨28, _⟩ => ⟨S_, .f32⟩
  | .hbm, ⟨29, _⟩ => ⟨S4096, .f32⟩
  | .hbm, ⟨30, _⟩ => ⟨S4096, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S4096, .f32⟩
  | .hbm, ⟨39, _⟩ => ⟨S_, .f32⟩
  | .hbm, ⟨40, _⟩ => ⟨S4096, .f32⟩
  | .hbm, ⟨41, _⟩ => ⟨S4096, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S6x1024, .f32⟩
  | .hbm, ⟨51, _⟩ => ⟨S1x1, .f32⟩
  | .hbm, ⟨52, _⟩ => ⟨S_, .f32⟩
  | .hbm, ⟨53, _⟩ => ⟨S1x1023, .f32⟩
  | .hbm, ⟨54, _⟩ => ⟨S1x1024, .f32⟩
  | .hbm, ⟨55, _⟩ => ⟨S_, .f32⟩
  | .hbm, ⟨56, _⟩ => ⟨S1x1024, .f32⟩
  | .hbm, ⟨57, _⟩ => ⟨S8x1024, .f32⟩
  | .hbm, ⟨58, _⟩ => ⟨S4096x1024, .bf16⟩
  | .hbm, ⟨59, _⟩ => ⟨S4096x1024, .bf16⟩
  | .hbm, ⟨60, _⟩ => ⟨S4096x1024, .bf16⟩
  | .hbm, ⟨61, _⟩ => ⟨S4096x256, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_cst_7 : Ref sig .tc := ⟨.hbm, 35, rfl⟩
abbrev main_cst_8 : Ref sig .tc := ⟨.hbm, 36, rfl⟩
abbrev main_v22 : Ref sig .tc := ⟨.hbm, 37, rfl⟩
abbrev main_v23 : Ref sig .tc := ⟨.hbm, 38, rfl⟩
abbrev main_cst_9 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_10 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_cst_12 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩

abbrev nD : Nat := 1
abbrev τ : Topo := Topo.v7x

variable {F : FTy → Type} [FloatOps F]
-- ==== KernelFfn.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩
abbrev S1024x4x1408 : Shape := ⟨3, ![1024, 4, 1408]⟩
abbrev S4x1024x1408 : Shape := ⟨3, ![4, 1024, 1408]⟩
abbrev S8x1024 : Shape := ⟨2, ![8, 1024]⟩
abbrev S256x1024 : Shape := ⟨2, ![256, 1024]⟩
abbrev S256x5632 : Shape := ⟨2, ![256, 5632]⟩
abbrev S256 : Shape := ⟨1, ![256]⟩
abbrev S256x1 : Shape := ⟨2, ![256, 1]⟩
abbrev S1024 : Shape := ⟨1, ![1024]⟩
abbrev S256x2816 : Shape := ⟨2, ![256, 2816]⟩
abbrev S256x1408 : Shape := ⟨2, ![256, 1408]⟩
abbrev S1x1024x1408 : Shape := ⟨3, ![1, 1024, 1408]⟩
abbrev S1024x1408 : Shape := ⟨2, ![1024, 1408]⟩

abbrev nBuf : Space → Nat
  | .hbm => 44
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1024x5632, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x5632, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S_, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x1024, .f32⟩
  | .hbm, ⟨35, _⟩ => ⟨S4096x5632, .bf16⟩
  | .hbm, ⟨36, _⟩ => ⟨S1024x4x1408, .f32⟩
  | .hbm, ⟨37, _⟩ => ⟨S4x1024x1408, .f32⟩
  | .hbm, ⟨38, _⟩ => ⟨S4x1024x1408, .bf16⟩
  | .hbm, ⟨39, _⟩ => ⟨S2816x1024, .bf16⟩
  | .hbm, ⟨40, _⟩ => ⟨S4096x1024, .bf16⟩
  | .hbm, ⟨41, _⟩ => ⟨S4096x5632, .bf16⟩
  | .hbm, ⟨42, _⟩ => ⟨S4096x1024, .f32⟩
  | .hbm, ⟨43, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x5632, .bf16⟩
  | .local _ .vmem, ⟨7, _⟩ => ⟨S256x5632, .bf16⟩
  | .local _ .vmem, ⟨8, _⟩ => ⟨S1x1024, .f32⟩
  | .local _ .vmem, ⟨9, _⟩ => ⟨S1x1024, .f32⟩
  | .local _ .vmem, ⟨10, _⟩ => ⟨S256x1024, .bf16⟩
  | .local _ .vmem, ⟨11, _⟩ => ⟨S256x1024, .bf16⟩
  | .local _ .vmem, ⟨12, _⟩ => ⟨S256x5632, .bf16⟩
  | .local _ .vmem, ⟨13, _⟩ => ⟨S256x5632, .bf16⟩
  | .local _ .vmem, ⟨14, _⟩ => ⟨S256x1024, .f32⟩
  | .local _ .vmem, ⟨15, _⟩ => ⟨S256x1024, .f32⟩
  | .local _ .vmem, ⟨16, _⟩ => ⟨S8x1024, .f32⟩
  | .local _ .vmem, ⟨17, _⟩ => ⟨S4x1024x1408, .bf16⟩
  | .local _ .vmem, ⟨18, _⟩ => ⟨S2816x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23_0 : Ref sig .tc := ⟨.hbm, 40, rfl⟩
abbrev main_v23_1 : Ref sig .tc := ⟨.hbm, 41, rfl⟩
abbrev main_v23_2 : Ref sig .tc := ⟨.hbm, 42, rfl⟩
abbrev main_v23_3 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x5632 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceFfnIdeal.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩
abbrev S1024 : Shape := ⟨1, ![1024]⟩
abbrev S4x1024 : Shape := ⟨2, ![4, 1024]⟩
abbrev S2x1024 : Shape := ⟨2, ![2, 1024]⟩
abbrev S8x1024 : Shape := ⟨2, ![8, 1024]⟩

abbrev nBuf : Space → Nat
  | .hbm => 125
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1024x5632, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x5632, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S_, .f32⟩
  | .hbm, ⟨31, _⟩ => ⟨S4096x2816, .f32⟩
  | .hbm, ⟨32, _⟩ => ⟨S4096x2816, .f32⟩
  | .hbm, ⟨33, _⟩ => ⟨S_, .f32⟩
  | .hbm, ⟨34, _⟩ => ⟨S4096x2816, .f32⟩
  | .hbm, ⟨35, _⟩ => ⟨S4096x2816, .f32⟩
  | .hbm, ⟨36, _⟩ => ⟨S_, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S4096x1, .f32⟩
  | .hbm, ⟨54, _⟩ => ⟨S4096x1, .f32⟩
  | .hbm, ⟨55, _⟩ => ⟨S_, .f32⟩
  | .hbm, ⟨56, _⟩ => ⟨S4096x1, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S_, .f32⟩
  | .hbm, ⟨70, _⟩ => ⟨S4096, .f32⟩
  | .hbm, ⟨71, _⟩ => ⟨S4096x1, .f32⟩
  | .hbm, ⟨72, _⟩ => ⟨S4096x1024, .f32⟩
  | .hbm, ⟨73, _⟩ => ⟨S4096x1024, .f32⟩
  | .hbm, ⟨74, _⟩ => ⟨S4096x1, .f32⟩
  | .hbm, ⟨75, _⟩ => ⟨S_, .f32⟩
  | .hbm, ⟨76, _⟩ => ⟨S4096x1, .f32⟩
  | .hbm, ⟨77, _⟩ => ⟨S4096x1, .f32⟩
  | .hbm, ⟨78, _⟩ => ⟨S_, .f32⟩
  | .hbm, ⟨79, _⟩ => ⟨S4096, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x2816, .f32⟩
  | .hbm, ⟨86, _⟩ => ⟨S4096x2816, .f32⟩
  | .hbm, ⟨87, _⟩ => ⟨S4096x2816, .f32⟩
  | .hbm, ⟨88, _⟩ => ⟨S4096x2816, .f32⟩
  | .hbm, ⟨89, _⟩ => ⟨S4096x2816, .f32⟩
  | .hbm, ⟨90, _⟩ => ⟨S4096x2816, .f32⟩
  | .hbm, ⟨91, _⟩ => ⟨S4096x2816, .f32⟩
  | .hbm, ⟨92, _⟩ => ⟨S4096x5632, .f32⟩
  | .hbm, ⟨93, _⟩ => ⟨S4096x1024, .f32⟩
  | .hbm, ⟨94, _⟩ => ⟨S4096x1024, .f32⟩
  | .hbm, ⟨95, _⟩ => ⟨S_, .f32⟩
  | .hbm, ⟨96, _⟩ => ⟨S1024, .f32⟩
  | .hbm, ⟨97, _⟩ => ⟨S1x1024, .f32⟩
  | .hbm, ⟨98, _⟩ => ⟨S4096x1024, .f32⟩
  | .hbm, ⟨99, _⟩ => ⟨S4096x1024, .f32⟩
  | .hbm, ⟨100, _⟩ => ⟨S4096x1024, .f32⟩
  | .hbm, ⟨101, _⟩ => ⟨S_, .f32⟩
  | .hbm, ⟨102, _⟩ => ⟨S4096, .f32⟩
  | .hbm, ⟨103, _⟩ => ⟨S4096x1, .f32⟩
  | .hbm, ⟨104, _⟩ => ⟨S4096x1024, .f32⟩
  | .hbm, ⟨105, _⟩ => ⟨S4096x1024, .f32⟩
  | .hbm, ⟨106, _⟩ => ⟨S4096x1, .f32⟩
  | .hbm, ⟨107, _⟩ => ⟨S_, .f32⟩
  | .hbm, ⟨108, _⟩ => ⟨S4096x1, .f32⟩
  | .hbm, ⟨109, _⟩ => ⟨S4096x1, .f32⟩
  | .hbm, ⟨110, _⟩ => ⟨S_, .f32⟩
  | .hbm, ⟨111, _⟩ => ⟨S4096, .f32⟩
  | .hbm, ⟨112, _⟩ => ⟨S4096x1024, .f32⟩
  | .hbm, ⟨113, _⟩ => ⟨S4096x1024, .f32⟩
  | .hbm, ⟨114, _⟩ => ⟨S4096x1024, .f32⟩
  | .hbm, ⟨115, _⟩ => ⟨S4096x1024, .f32⟩
  | .hbm, ⟨116, _⟩ => ⟨S4096x1024, .f32⟩
  | .hbm, ⟨117, _⟩ => ⟨S_, .f32⟩
  | .hbm, ⟨118, _⟩ => ⟨S4x1024, .f32⟩
  | .hbm, ⟨119, _⟩ => ⟨S_, .f32⟩
  | .hbm, ⟨120, _⟩ => ⟨S2x1024, .f32⟩
  | .hbm, ⟨121, _⟩ => ⟨S8x1024, .f32⟩
  | .hbm, ⟨122, _⟩ => ⟨S4096x1024, .bf16⟩
  | .hbm, ⟨123, _⟩ => ⟨S4096x5632, .bf16⟩
  | .hbm, ⟨124, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v18_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v18_1 : Ref sig .tc := ⟨.hbm, 39, rfl⟩
abbrev main_v18_0 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_3 : Ref sig .tc := ⟨.hbm, 44, rfl⟩
abbrev main_v22 : Ref sig .tc := ⟨.hbm, 45, rfl⟩
abbrev main_v23 : Ref sig .tc := ⟨.hbm, 46, rfl⟩
abbrev main_cst_4 : Ref sig .tc := ⟨.hbm, 47, rfl⟩
abbrev main_v24 : Ref sig .tc := ⟨.hbm, 48, rfl⟩
abbrev main_v25 : Ref sig .tc := ⟨.hbm, 49, rfl⟩
abbrev main_cst_5 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_6 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_7 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_8 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_9 : Ref sig .tc := ⟨.hbm, 75, rfl⟩
abbrev main_v47 : Ref sig .tc := ⟨.hbm, 76, rfl⟩
abbrev main_v48 : Ref sig .tc := ⟨.hbm, 77, rfl⟩
abbrev main_cst_10 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_call1_v0 : Ref sig .tc := ⟨.hbm, 88, rfl⟩
abbrev main_call1_v1 : Ref sig .tc := ⟨.hbm, 89, rfl⟩
abbrev main_call1_v2 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_11 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_12 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_13 : Ref sig .tc := ⟨.hbm, 107, rfl⟩
abbrev main_v72 : Ref sig .tc := ⟨.hbm, 108, rfl⟩
abbrev main_v73 : Ref sig .tc := ⟨.hbm, 109, rfl⟩
abbrev main_cst_14 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_cst_15 : Ref sig .tc := ⟨.hbm, 117, rfl⟩
abbrev main_v80 : Ref sig .tc := ⟨.hbm, 118, rfl⟩
abbrev main_cst_16 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩

abbrev nD : Nat := 1
abbrev τ : Topo := Topo.v7x

variable {F : FTy → Type} [FloatOps F]
-- ==== KernelMix.lean ====
abbrev S4096x1024 : Shape := ⟨2, ![4096, 1024]⟩
abbrev S4096x512 : Shape := ⟨2, ![4096, 512]⟩
abbrev S4096x2048 : Shape := ⟨2, ![4096, 2048]⟩
abbrev S1x1024 : Shape := ⟨2, ![1, 1024]⟩
abbrev S1024x1024 : Shape := ⟨2, ![1024, 1024]⟩
abbrev S1x512 : Shape := ⟨2, ![1, 512]⟩
abbrev S_ : Shape := ⟨0, ![]⟩
abbrev S4096 : Shape := ⟨1, ![4096]⟩
abbrev S4096x1 : Shape := ⟨2, ![4096, 1]⟩
abbrev S8x1024 : Shape := ⟨2, ![8, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1024 : Shape := ⟨1, ![1024]⟩

abbrev nBuf : Space → Nat
  | .hbm => 61
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x2048, .f32⟩
  | .hbm, ⟨3, _⟩ => ⟨S4096x512, .f32⟩
  | .hbm, ⟨4, _⟩ => ⟨S1x1024, .f32⟩
  | .hbm, ⟨5, _⟩ => ⟨S1x1024, .f32⟩
  | .hbm, ⟨6, _⟩ => ⟨S1024x1024, .f32⟩
  | .hbm, ⟨7, _⟩ => ⟨S1x512, .f32⟩
  | .hbm, ⟨8, _⟩ => ⟨S1x512, .f32⟩
  | .hbm, ⟨9, _⟩ => ⟨S4096x512, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S4096x512, .f32⟩
  | .hbm, ⟨28, _⟩ => ⟨S4096x512, .f32⟩
  | .hbm, ⟨29, _⟩ => ⟨S4096x512, .f32⟩
  | .hbm, ⟨30, _⟩ => ⟨S_, .f32⟩
  | .hbm, ⟨31, _⟩ => ⟨S4096x512, .f32⟩
  | .hbm, ⟨32, _⟩ => ⟨S4096x512, .f32⟩
  | .hbm, ⟨33, _⟩ => ⟨S_, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S4096x512, .f32⟩
  | .hbm, ⟨38, _⟩ => ⟨S4096x512, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S4096x1, .f32⟩
  | .hbm, ⟨49, _⟩ => ⟨S4096x512, .f32⟩
  | .hbm, ⟨50, _⟩ => ⟨S4096x512, .f32⟩
  | .hbm, ⟨51, _⟩ => ⟨S4096x512, .f32⟩
  | .hbm, ⟨52, _⟩ => ⟨S4096x512, .f32⟩
  | .hbm, ⟨53, _⟩ => ⟨S4096x1024, .f32⟩
  | .hbm, ⟨54, _⟩ => ⟨S4096x1024, .f32⟩
  | .hbm, ⟨55, _⟩ => ⟨S1024x1024, .bf16⟩
  | .hbm, ⟨56, _⟩ => ⟨S4096x1024, .bf16⟩
  | .hbm, ⟨57, _⟩ => ⟨S4096x512, .f32⟩
  | .hbm, ⟨58, _⟩ => ⟨S4096x512, .f32⟩
  | .hbm, ⟨59, _⟩ => ⟨S4096x512, .f32⟩
  | .hbm, ⟨60, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S1x1024, .f32⟩
  | .local _ .vmem, ⟨11, _⟩ => ⟨S1x1024, .f32⟩
  | .local _ .vmem, ⟨12, _⟩ => ⟨S512x1024, .bf16⟩
  | .local _ .vmem, ⟨13, _⟩ => ⟨S512x1024, .bf16⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S8x1024, .f32⟩
  | .local _ .vmem, ⟨21, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_2 : Ref sig .tc := ⟨.hbm, 39, rfl⟩
abbrev main_v21 : Ref sig .tc := ⟨.hbm, 40, rfl⟩
abbrev main_v22 : Ref sig .tc := ⟨.hbm, 41, rfl⟩
abbrev main_cst_3 : Ref sig .tc := ⟨.hbm, 42, rfl⟩
abbrev main_v23 : Ref sig .tc := ⟨.hbm, 43, rfl⟩
abbrev main_v24 : Ref sig .tc := ⟨.hbm, 44, rfl⟩
abbrev main_cst_4 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35_0 : Ref sig .tc := ⟨.hbm, 56, rfl⟩
abbrev main_v35_1 : Ref sig .tc := ⟨.hbm, 57, rfl⟩
abbrev main_v35_2 : Ref sig .tc := ⟨.hbm, 58, rfl⟩
abbrev main_v35_3 : Ref sig .tc := ⟨.hbm, 59, rfl⟩
abbrev main_v35_4 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceMixIdeal.lean ====
abbrev S4096x1024 : Shape := ⟨2, ![4096, 1024]⟩
abbrev S4096x512 : Shape := ⟨2, ![4096, 512]⟩
abbrev S4096x2048 : Shape := ⟨2, ![4096, 2048]⟩
abbrev S1x1024 : Shape := ⟨2, ![1, 1024]⟩
abbrev S1024x1024 : Shape := ⟨2, ![1024, 1024]⟩
abbrev S1x512 : Shape := ⟨2, ![1, 512]⟩
abbrev S_ : Shape := ⟨0, ![]⟩
abbrev S4096 : Shape := ⟨1, ![4096]⟩
abbrev S4096x1 : Shape := ⟨2, ![4096, 1]⟩
abbrev S1024 : Shape := ⟨1, ![1024]⟩
abbrev S512 : Shape := ⟨1, ![512]⟩
abbrev S2x1024 : Shape := ⟨2, ![2, 1024]⟩
abbrev S4x1024 : Shape := ⟨2, ![4, 1024]⟩
abbrev S8x1024 : Shape := ⟨2, ![8, 1024]⟩

abbrev nBuf : Space → Nat
  | .hbm => 171
  | .vmem => 0
  | .smem => 0
  | _ => 0

abbrev hbmTy0_0 (i : Nat) : BufTy := match i % 128 with
  | 0 => ⟨S4096x1024, .f32⟩
  | 1 => ⟨S4096x512, .f32⟩
  | 2 => ⟨S4096x2048, .f32⟩
  | 3 => ⟨S4096x512, .f32⟩
  | 4 => ⟨S1x1024, .f32⟩
  | 5 => ⟨S1x1024, .f32⟩
  | 6 => ⟨S1024x1024, .f32⟩
  | 7 => ⟨S4096x512, .f32⟩
  | 8 => ⟨S4096x512, .f32⟩
  | 9 => ⟨S4096x512, .f32⟩
  | 10 => ⟨S4096x512, .f32⟩
  | 11 => ⟨S1x512, .f32⟩
  | 12 => ⟨S1x512, .f32⟩
  | 13 => ⟨S4096x512, .f32⟩
  | 14 => ⟨S_, .f32⟩
  | 15 => ⟨S4096, .f32⟩
  | 16 => ⟨S4096x1, .f32⟩
  | 17 => ⟨S_, .f32⟩
  | 18 => ⟨S4096x1, .f32⟩
  | 19 => ⟨S4096x1, .f32⟩
  | 20 => ⟨S_, .f32⟩
  | 21 => ⟨S4096x1, .f32⟩
  | 22 => ⟨S4096x1, .f32⟩
  | 23 => ⟨S4096x1, .f32⟩
  | 24 => ⟨S4096x1, .f32⟩
  | 25 => ⟨S_, .f32⟩
  | 26 => ⟨S4096x1, .f32⟩
  | 27 => ⟨S4096x1, .f32⟩
  | 28 => ⟨S4096x512, .f32⟩
  | 29 => ⟨S4096x512, .f32⟩
  | 30 => ⟨S4096x512, .f32⟩
  | 31 => ⟨S4096x512, .f32⟩
  | 32 => ⟨S4096x512, .f32⟩
  | 33 => ⟨S4096x512, .f32⟩
  | 34 => ⟨S_, .f32⟩
  | 35 => ⟨S4096x512, .f32⟩
  | 36 => ⟨S4096x512, .f32⟩
  | 37 => ⟨S_, .f32⟩
  | 38 => ⟨S4096x512, .f32⟩
  | 39 => ⟨S4096x512, .f32⟩
  | 40 => ⟨S_, .f32⟩
  | 41 => ⟨S4096x512, .f32⟩
  | 42 => ⟨S4096x512, .f32⟩
  | 43 => ⟨S4096x512, .f32⟩
  | 44 => ⟨S4096x512, .f32⟩
  | 45 => ⟨S4096x512, .f32⟩
  | 46 => ⟨S4096x512, .f32⟩
  | 47 => ⟨S_, .f32⟩
  | 48 => ⟨S4096, .f32⟩
  | 49 => ⟨S4096x1, .f32⟩
  | 50 => ⟨S_, .f32⟩
  | 51 => ⟨S4096x1, .f32⟩
  | 52 => ⟨S4096x1, .f32⟩
  | 53 => ⟨S_, .f32⟩
  | 54 => ⟨S4096x1, .f32⟩
  | 55 => ⟨S4096x1, .f32⟩
  | 56 => ⟨S4096x1, .f32⟩
  | 57 => ⟨S4096x1, .f32⟩
  | 58 => ⟨S_, .f32⟩
  | 59 => ⟨S4096x1, .f32⟩
  | 60 => ⟨S4096x1, .f32⟩
  | 61 => ⟨S4096x512, .f32⟩
  | 62 => ⟨S4096x512, .f32⟩
  | 63 => ⟨S4096x512, .f32⟩
  | 64 => ⟨S4096x512, .f32⟩
  | 65 => ⟨S4096x1024, .f32⟩
  | 66 => ⟨S4096x1024, .f32⟩
  | 67 => ⟨S4096x1024, .f32⟩
  | 68 => ⟨S_, .f32⟩
  | 69 => ⟨S4096, .f32⟩
  | 70 => ⟨S4096x1, .f32⟩
  | 71 => ⟨S_, .f32⟩
  | 72 => ⟨S4096x1, .f32⟩
  | 73 => ⟨S4096x1, .f32⟩
  | 74 => ⟨S_, .f32⟩
  | 75 => ⟨S4096x1, .f32⟩
  | 76 => ⟨S4096x1, .f32⟩
  | 77 => ⟨S4096x1, .f32⟩
  | 78 => ⟨S4096x1, .f32⟩
  | 79 => ⟨S_, .f32⟩
  | 80 => ⟨S4096x1, .f32⟩
  | 81 => ⟨S4096x1, .f32⟩
  | 82 => ⟨S4096x1024, .f32⟩
  | 83 => ⟨S4096x1024, .f32⟩
  | 84 => ⟨S4096x1024, .f32⟩
  | 85 => ⟨S4096x1024, .f32⟩
  | 86 => ⟨S4096x1024, .f32⟩
  | 87 => ⟨S_, .f32⟩
  | 88 => ⟨S1024, .f32⟩
  | 89 => ⟨S1x1024, .f32⟩
  | 90 => ⟨S4096x1024, .f32⟩
  | 91 => ⟨S4096x1024, .f32⟩
  | 92 => ⟨S4096x1024, .f32⟩
  | 93 => ⟨S_, .f32⟩
  | 94 => ⟨S4096, .f32⟩
  | 95 => ⟨S4096x1, .f32⟩
  | 96 => ⟨S4096x1024, .f32⟩
  | 97 => ⟨S4096x1024, .f32⟩
  | 98 => ⟨S4096x1, .f32⟩
  | 99 => ⟨S_, .f32⟩
  | 100 => ⟨S4096x1, .f32⟩
  | 101 => ⟨S4096x1, .f32⟩
  | 102 => ⟨S_, .f32⟩
  | 103 => ⟨S4096, .f32⟩
  | 104 => ⟨S4096x1024, .f32⟩
  | 105 => ⟨S4096x1024, .f32⟩
  | 106 => ⟨S4096x1024, .f32⟩
  | 107 => ⟨S4096x1024, .f32⟩
  | 108 => ⟨S4096x1024, .f32⟩
  | 109 => ⟨S4096x1024, .f32⟩
  | 110 => ⟨S4096x512, .f32⟩
  | 111 => ⟨S4096x512, .f32⟩
  | 112 => ⟨S4096x512, .f32⟩
  | 113 => ⟨S_, .f32⟩
  | 114 => ⟨S512, .f32⟩
  | 115 => ⟨S1x512, .f32⟩
  | 116 => ⟨S4096x512, .f32⟩
  | 117 => ⟨S4096x512, .f32⟩
  | 118 => ⟨S4096x512, .f32⟩
  | 119 => ⟨S_, .f32⟩
  | 120 => ⟨S4096, .f32⟩
  | 121 => ⟨S4096x1, .f32⟩
  | 122 => ⟨S4096x512, .f32⟩
  | 123 => ⟨S4096x512, .f32⟩
  | 124 => ⟨S4096x1, .f32⟩
  | 125 => ⟨S_, .f32⟩
  | 126 => ⟨S4096x1, .f32⟩
  | 127 => ⟨S4096x1, .f32⟩
  | _ => ⟨S4096x1024, .f32⟩

abbrev hbmTy0_1 (i : Nat) : BufTy := match i % 128 with
  | 0 => ⟨S_, .f32⟩
  | 1 => ⟨S4096, .f32⟩
  | 2 => ⟨S4096x512, .f32⟩
  | 3 => ⟨S4096x512, .f32⟩
  | 4 => ⟨S4096x512, .f32⟩
  | 5 => ⟨S4096x512, .f32⟩
  | 6 => ⟨S4096x512, .f32⟩
  | 7 => ⟨S4096x512, .f32⟩
  | 8 => ⟨S4096x512, .f32⟩
  | 9 => ⟨S4096x512, .f32⟩
  | 10 => ⟨S4096x512, .f32⟩
  | 11 => ⟨S4096x512, .f32⟩
  | 12 => ⟨S4096x512, .f32⟩
  | 13 => ⟨S4096x512, .f32⟩
  | 14 => ⟨S_, .f32⟩
  | 15 => ⟨S512, .f32⟩
  | 16 => ⟨S1x512, .f32⟩
  | 17 => ⟨S4096x512, .f32⟩
  | 18 => ⟨S4096x512, .f32⟩
  | 19 => ⟨S4096x512, .f32⟩
  | 20 => ⟨S_, .f32⟩
  | 21 => ⟨S4096, .f32⟩
  | 22 => ⟨S4096x1, .f32⟩
  | 23 => ⟨S4096x512, .f32⟩
  | 24 => ⟨S4096x512, .f32⟩
  | 25 => ⟨S4096x1, .f32⟩
  | 26 => ⟨S_, .f32⟩
  | 27 => ⟨S4096x1, .f32⟩
  | 28 => ⟨S4096x1, .f32⟩
  | 29 => ⟨S_, .f32⟩
  | 30 => ⟨S4096, .f32⟩
  | 31 => ⟨S4096x512, .f32⟩
  | 32 => ⟨S4096x512, .f32⟩
  | 33 => ⟨S4096x512, .f32⟩
  | 34 => ⟨S4096x512, .f32⟩
  | 35 => ⟨S4096x512, .f32⟩
  | 36 => ⟨S1x1024, .f32⟩
  | 37 => ⟨S_, .f32⟩
  | 38 => ⟨S2x1024, .f32⟩
  | 39 => ⟨S_, .f32⟩
  | 40 => ⟨S4x1024, .f32⟩
  | 41 => ⟨S8x1024, .f32⟩
  | 42 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_v21_2 : Ref sig .tc := ⟨.hbm, 39, rfl⟩
abbrev main_call0_cst_1 : Ref sig .tc := ⟨.hbm, 40, rfl⟩
abbrev main_call0_v6 : Ref sig .tc := ⟨.hbm, 41, rfl⟩
abbrev main_call0_v7 : Ref sig .tc := ⟨.hbm, 42, rfl⟩
abbrev main_v21_1 : Ref sig .tc := ⟨.hbm, 43, rfl⟩
abbrev main_v21_0 : Ref sig .tc := ⟨.hbm, 44, rfl⟩
abbrev main_v22 : Ref sig .tc := ⟨.hbm, 45, rfl⟩
abbrev main_v23 : Ref sig .tc := ⟨.hbm, 46, rfl⟩
abbrev main_cst_3 : Ref sig .tc := ⟨.hbm, 47, rfl⟩
abbrev main_v24 : Ref sig .tc := ⟨.hbm, 48, rfl⟩
abbrev main_v25 : Ref sig .tc := ⟨.hbm, 49, rfl⟩
abbrev main_cst_4 : Ref sig .tc := ⟨.hbm, 50, rfl⟩
abbrev main_v26 : Ref sig .tc := ⟨.hbm, 51, rfl⟩
abbrev main_v27 : Ref sig .tc := ⟨.hbm, 52, rfl⟩
abbrev main_cst_5 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_6 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_7 : Ref sig .tc := ⟨.hbm, 68, rfl⟩
abbrev main_v41 : Ref sig .tc := ⟨.hbm, 69, rfl⟩
abbrev main_v42 : Ref sig .tc := ⟨.hbm, 70, rfl⟩
abbrev main_cst_8 : Ref sig .tc := ⟨.hbm, 71, rfl⟩
abbrev main_v43 : Ref sig .tc := ⟨.hbm, 72, rfl⟩
abbrev main_v44 : Ref sig .tc := ⟨.hbm, 73, rfl⟩
abbrev main_cst_9 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_10 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_11 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_12 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_13 : Ref sig .tc := ⟨.hbm, 99, rfl⟩
abbrev main_v66 : Ref sig .tc := ⟨.hbm, 100, rfl⟩
abbrev main_v67 : Ref sig .tc := ⟨.hbm, 101, rfl⟩
abbrev main_cst_14 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_cst_15 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_cst_16 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_cst_17 : Ref sig .tc := ⟨.hbm, 125, rfl⟩
abbrev main_v88 : Ref sig .tc := ⟨.hbm, 126, rfl⟩
abbrev main_v89 : Ref sig .tc := ⟨.hbm, 127, rfl⟩
abbrev main_cst_18 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_call1_v0 : Ref sig .tc := ⟨.hbm, 137, rfl⟩
abbrev main_call1_v1 : Ref sig .tc := ⟨.hbm, 138, rfl⟩
abbrev main_call1_v2 : Ref sig .tc := ⟨.hbm, 139, rfl⟩
abbrev main_v98 : Ref sig .tc := ⟨.hbm, 140, rfl⟩
abbrev main_v99 : Ref sig .tc := ⟨.hbm, 141, rfl⟩
abbrev main_cst_19 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_cst_20 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_cst_21 : Ref sig .tc := ⟨.hbm, 154, rfl⟩
abbrev main_v110 : Ref sig .tc := ⟨.hbm, 155, rfl⟩
abbrev main_v111 : Ref sig .tc := ⟨.hbm, 156, rfl⟩
abbrev main_cst_22 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_cst_23 : Ref sig .tc := ⟨.hbm, 165, rfl⟩
abbrev main_v119 : Ref sig .tc := ⟨.hbm, 166, rfl⟩
abbrev main_cst_24 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩

abbrev nD : Nat := 1
abbrev τ : Topo := Topo.v7x

variable {F : FTy → Type} [FloatOps F]
-- ==== KernelInFwd.lean ====
abbrev S4096x1024 : Shape := ⟨2, ![4096, 1024]⟩
abbrev S1x1024 : Shape := ⟨2, ![1, 1024]⟩
abbrev S1024x3584 : Shape := ⟨2, ![1024, 3584]⟩
abbrev S1024x4x896 : Shape := ⟨3, ![1024, 4, 896]⟩
abbrev S4x1024x896 : Shape := ⟨3, ![4, 1024, 896]⟩
abbrev S4096x2048 : Shape := ⟨2, ![4096, 2048]⟩
abbrev S4096x1536 : Shape := ⟨2, ![4096, 1536]⟩
abbrev S512x1024 : Shape := ⟨2, ![512, 1024]⟩
abbrev S512x2048 : Shape := ⟨2, ![512, 2048]⟩
abbrev S512x1536 : Shape := ⟨2, ![512, 1536]⟩
abbrev S512x3584 : Shape := ⟨2, ![512, 3584]⟩
abbrev S_ : Shape := ⟨0, ![]⟩
abbrev S512 : Shape := ⟨1, ![512]⟩
abbrev S512x1 : Shape := ⟨2, ![512, 1]⟩
abbrev S1x1024x896 : Shape := ⟨3, ![1, 1024, 896]⟩
abbrev S1024x896 : Shape := ⟨2, ![1024, 896]⟩
abbrev S512x896 : Shape := ⟨2, ![512, 896]⟩
abbrev S512x512 : Shape := ⟨2, ![512, 512]⟩

abbrev nBuf : Space → Nat
  | .hbm => 9
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3584, .f32⟩
  | .hbm, ⟨3, _⟩ => ⟨S1024x4x896, .f32⟩
  | .hbm, ⟨4, _⟩ => ⟨S4x1024x896, .f32⟩
  | .hbm, ⟨5, _⟩ => ⟨S4x1024x896, .bf16⟩
  | .hbm, ⟨6, _⟩ => ⟨S4096x2048, .f32⟩
  | .hbm, ⟨7, _⟩ => ⟨S4096x1536, .bf16⟩
  | .hbm, ⟨8, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x2048, .f32⟩
  | .local _ .vmem, ⟨4, _⟩ => ⟨S512x2048, .f32⟩
  | .local _ .vmem, ⟨5, _⟩ => ⟨S512x1536, .bf16⟩
  | .local _ .vmem, ⟨6, _⟩ => ⟨S512x1536, .bf16⟩
  | .local _ .vmem, ⟨7, _⟩ => ⟨S512x1024, .bf16⟩
  | .local _ .vmem, ⟨8, _⟩ => ⟨S512x1024, .bf16⟩
  | .local _ .vmem, ⟨9, _⟩ => ⟨S4x1024x896, .bf16⟩
  | .local _ .vmem, ⟨10, _⟩ => ⟨S512x3584, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceInFwdIdeal.lean ====
abbrev S4096x1024 : Shape := ⟨2, ![4096, 1024]⟩
abbrev S1x1024 : Shape := ⟨2, ![1, 1024]⟩
abbrev S1024x3584 : Shape := ⟨2, ![1024, 3584]⟩
abbrev S_ : Shape := ⟨0, ![]⟩
abbrev S4096 : Shape := ⟨1, ![4096]⟩
abbrev S4096x1 : Shape := ⟨2, ![4096, 1]⟩
abbrev S4096x3584 : Shape := ⟨2, ![4096, 3584]⟩
abbrev S4096x512 : Shape := ⟨2, ![4096, 512]⟩
abbrev S4096x1536 : Shape := ⟨2, ![4096, 1536]⟩
abbrev S4096x2048 : Shape := ⟨2, ![4096, 2048]⟩

abbrev nBuf : Space → Nat
  | .hbm => 28
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3584, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x3584, .f32⟩
  | .hbm, ⟨19, _⟩ => ⟨S4096x512, .f32⟩
  | .hbm, ⟨20, _⟩ => ⟨S_, .f32⟩
  | .hbm, ⟨21, _⟩ => ⟨S4096x512, .f32⟩
  | .hbm, ⟨22, _⟩ => ⟨S4096x512, .f32⟩
  | .hbm, ⟨23, _⟩ => ⟨S4096x1024, .f32⟩
  | .hbm, ⟨24, _⟩ => ⟨S4096x1536, .f32⟩
  | .hbm, ⟨25, _⟩ => ⟨S4096x2048, .f32⟩
  | .hbm, ⟨26, _⟩ => ⟨S4096x1536, .bf16⟩
  | .hbm, ⟨27, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== KernelMixFwd.lean ====
abbrev S4096x512 : Shape := ⟨2, ![4096, 512]⟩
abbrev S4096x2048 : Shape := ⟨2, ![4096, 2048]⟩
abbrev S4096x1024 : Shape := ⟨2, ![4096, 1024]⟩
abbrev S1x1024 : Shape := ⟨2, ![1, 1024]⟩
abbrev S1024x1024 : Shape := ⟨2, ![1024, 1024]⟩
abbrev S512x512 : Shape := ⟨2, ![512, 512]⟩
abbrev S512x1024 : Shape := ⟨2, ![512, 1024]⟩
abbrev S_ : Shape := ⟨0, ![]⟩
abbrev S1x512 : Shape := ⟨2, ![1, 512]⟩
abbrev S512 : Shape := ⟨1, ![512]⟩
abbrev S512x1 : Shape := ⟨2, ![512, 1]⟩

abbrev nBuf : Space → Nat
  | .hbm => 11
  | .vmem => 17
  | .smem => 0
  | _ => 0

abbrev bufTy : (tb : Table) → Fin (tcTables nBuf tb) → BufTy
  | .hbm, ⟨0, _⟩ => ⟨S4096x512, .f32⟩
  | .hbm, ⟨1, _⟩ => ⟨S4096x2048, .f32⟩
  | .hbm, ⟨2, _⟩ => ⟨S4096x512, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S1024x1024, .f32⟩
  | .hbm, ⟨7, _⟩ => ⟨S1024x1024, .bf16⟩
  | .hbm, ⟨8, _⟩ => ⟨S4096x1024, .bf16⟩
  | .hbm, ⟨9, _⟩ => ⟨S4096x1024, .f32⟩
  | .hbm, ⟨10, _⟩ => ⟨S4096x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S1024x1024, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceMixFwdIdeal.lean ====
abbrev S4096x512 : Shape := ⟨2, ![4096, 512]⟩
abbrev S4096x2048 : Shape := ⟨2, ![4096, 2048]⟩
abbrev S4096x1024 : Shape := ⟨2, ![4096, 1024]⟩
abbrev S1x1024 : Shape := ⟨2, ![1, 1024]⟩
abbrev S1024x1024 : Shape := ⟨2, ![1024, 1024]⟩
abbrev S1x512 : Shape := ⟨2, ![1, 512]⟩
abbrev S_ : Shape := ⟨0, ![]⟩
abbrev S4096 : Shape := ⟨1, ![4096]⟩
abbrev S4096x1 : Shape := ⟨2, ![4096, 1]⟩

abbrev nBuf : Space → Nat
  | .hbm => 72
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x2048, .f32⟩
  | .hbm, ⟨2, _⟩ => ⟨S4096x512, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S1024x1024, .f32⟩
  | .hbm, ⟨7, _⟩ => ⟨S1x512, .f32⟩
  | .hbm, ⟨8, _⟩ => ⟨S1x512, .f32⟩
  | .hbm, ⟨9, _⟩ => ⟨S4096x512, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S4096x512, .f32⟩
  | .hbm, ⟨28, _⟩ => ⟨S4096x512, .f32⟩
  | .hbm, ⟨29, _⟩ => ⟨S4096x512, .f32⟩
  | .hbm, ⟨30, _⟩ => ⟨S_, .f32⟩
  | .hbm, ⟨31, _⟩ => ⟨S4096x512, .f32⟩
  | .hbm, ⟨32, _⟩ => ⟨S4096x512, .f32⟩
  | .hbm, ⟨33, _⟩ => ⟨S_, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S4096x512, .f32⟩
  | .hbm, ⟨38, _⟩ => ⟨S4096x512, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S4096x1, .f32⟩
  | .hbm, ⟨49, _⟩ => ⟨S4096x512, .f32⟩
  | .hbm, ⟨50, _⟩ => ⟨S4096x512, .f32⟩
  | .hbm, ⟨51, _⟩ => ⟨S4096x512, .f32⟩
  | .hbm, ⟨52, _⟩ => ⟨S4096x512, .f32⟩
  | .hbm, ⟨53, _⟩ => ⟨S4096x1024, .f32⟩
  | .hbm, ⟨54, _⟩ => ⟨S4096x1024, .f32⟩
  | .hbm, ⟨55, _⟩ => ⟨S4096x1024, .bf16⟩
  | .hbm, ⟨56, _⟩ => ⟨S4096x1024, .f32⟩
  | .hbm, ⟨57, _⟩ => ⟨S_, .f32⟩
  | .hbm, ⟨58, _⟩ => ⟨S4096, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S4096x1, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_2 : Ref sig .tc := ⟨.hbm, 39, rfl⟩
abbrev main_v21 : Ref sig .tc := ⟨.hbm, 40, rfl⟩
abbrev main_v22 : Ref sig .tc := ⟨.hbm, 41, rfl⟩
abbrev main_cst_3 : Ref sig .tc := ⟨.hbm, 42, rfl⟩
abbrev main_v23 : Ref sig .tc := ⟨.hbm, 43, rfl⟩
abbrev main_v24 : Ref sig .tc := ⟨.hbm, 44, rfl⟩
abbrev main_cst_4 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_5 : Ref sig .tc := ⟨.hbm, 57, rfl⟩
abbrev main_v36 : Ref sig .tc := ⟨.hbm, 58, rfl⟩
abbrev main_v37 : Ref sig .tc := ⟨.hbm, 59, rfl⟩
abbrev main_cst_6 : Ref sig .tc := ⟨.hbm, 60, rfl⟩
abbrev main_v38 : Ref sig .tc := ⟨.hbm, 61, rfl⟩
abbrev main_v39 : Ref sig .tc := ⟨.hbm, 62, rfl⟩
abbrev main_cst_7 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩

abbrev nD : Nat := 1
abbrev τ : Topo := Topo.v7x

variable {F : FTy → Type} [FloatOps F]
-- ==== KernelFfnFwd.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S1024x4x1408 : Shape := ⟨3, ![1024, 4, 1408]⟩
abbrev S4x1024x1408 : Shape := ⟨3, ![4, 1024, 1408]⟩
abbrev S4096x5632 : Shape := ⟨2, ![4096, 5632]⟩
abbrev S4096x2816 : Shape := ⟨2, ![4096, 2816]⟩
abbrev S256x1024 : Shape := ⟨2, ![256, 1024]⟩
abbrev S256x5632 : Shape := ⟨2, ![256, 5632]⟩
abbrev S256x2816 : Shape := ⟨2, ![256, 2816]⟩
abbrev S_ : Shape := ⟨0, ![]⟩
abbrev S256 : Shape := ⟨1, ![256]⟩
abbrev S256x1 : Shape := ⟨2, ![256, 1]⟩
abbrev S1x1024x1408 : Shape := ⟨3, ![1, 1024, 1408]⟩
abbrev S1024x1408 : Shape := ⟨2, ![1024, 1408]⟩
abbrev S256x1408 : Shape := ⟨2, ![256, 1408]⟩

abbrev nBuf : Space → Nat
  | .hbm => 14
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1024x5632, .f32⟩
  | .hbm, ⟨4, _⟩ => ⟨S2816x1024, .f32⟩
  | .hbm, ⟨5, _⟩ => ⟨S1024x4x1408, .f32⟩
  | .hbm, ⟨6, _⟩ => ⟨S4x1024x1408, .f32⟩
  | .hbm, ⟨7, _⟩ => ⟨S4x1024x1408, .bf16⟩
  | .hbm, ⟨8, _⟩ => ⟨S2816x1024, .bf16⟩
  | .hbm, ⟨9, _⟩ => ⟨S4096x1024, .bf16⟩
  | .hbm, ⟨10, _⟩ => ⟨S4096x5632, .bf16⟩
  | .hbm, ⟨11, _⟩ => ⟨S4096x2816, .bf16⟩
  | .hbm, ⟨12, _⟩ => ⟨S4096x1024, .f32⟩
  | .hbm, ⟨13, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S256x1024, .bf16⟩
  | .local _ .vmem, ⟨5, _⟩ => ⟨S256x1024, .bf16⟩
  | .local _ .vmem, ⟨6, _⟩ => ⟨S256x5632, .bf16⟩
  | .local _ .vmem, ⟨7, _⟩ => ⟨S256x5632, .bf16⟩
  | .local _ .vmem, ⟨8, _⟩ => ⟨S256x2816, .bf16⟩
  | .local _ .vmem, ⟨9, _⟩ => ⟨S256x2816, .bf16⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S4x1024x1408, .bf16⟩
  | .local _ .vmem, ⟨15, _⟩ => ⟨S2816x1024, .bf16⟩
  | .local _ .vmem, ⟨16, _⟩ => ⟨S256x5632, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v4_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceFfnFwdIdeal.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩

abbrev nBuf : Space → Nat
  | .hbm => 53
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1024x5632, .f32⟩
  | .hbm, ⟨4, _⟩ => ⟨S2816x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x5632, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S_, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x1024, .f32⟩
  | .hbm, ⟨34, _⟩ => ⟨S4096x1024, .bf16⟩
  | .hbm, ⟨35, _⟩ => ⟨S4096x5632, .bf16⟩
  | .hbm, ⟨36, _⟩ => ⟨S4096x2816, .bf16⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S4096x1, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_v25 : Ref sig .tc := ⟨.hbm, 43, rfl⟩
abbrev main_cst_4 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩

abbrev nD : Nat := 1
abbrev τ : Topo := Topo.v7x

variable {F : FTy → Type} [FloatOps F]
-- ==== KernelWg.lean ====
abbrev S4096x1024 : Shape := ⟨2, ![4096, 1024]⟩
abbrev S4096x5632 : Shape := ⟨2, ![4096, 5632]⟩
abbrev S4x1024x1408 : Shape := ⟨3, ![4, 1024, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S4096x1024, .bf16⟩
  | .hbm, ⟨3, _⟩ => ⟨S4096x5632, .bf16⟩
  | .hbm, ⟨4, _⟩ => ⟨S4x1024x1408, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .f32⟩
  | .local _ .vmem, ⟨5, _⟩ => ⟨S1x1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceWgIdeal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩
abbrev S1024x1408 : Shape := ⟨2, ![1024, 1408]⟩
abbrev S1x1024x1408 : Shape := ⟨3, ![1, 1024, 1408]⟩
abbrev S4x1024x1408 : Shape := ⟨3, ![4, 1024, 1408]⟩

abbrev nBuf : Space → Nat
  | .hbm => 16
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S_, .f32⟩
  | .hbm, ⟨3, _⟩ => ⟨S1024x5632, .f32⟩
  | .hbm, ⟨4, _⟩ => ⟨S4096x5632, .f32⟩
  | .hbm, ⟨5, _⟩ => ⟨S5632x1024, .f32⟩
  | .hbm, ⟨6, _⟩ => ⟨S1024x5632, .f32⟩
  | .hbm, ⟨7, _⟩ => ⟨S1024x1408, .f32⟩
  | .hbm, ⟨8, _⟩ => ⟨S1024x1408, .f32⟩
  | .hbm, ⟨9, _⟩ => ⟨S1024x1408, .f32⟩
  | .hbm, ⟨10, _⟩ => ⟨S1024x1408, .f32⟩
  | .hbm, ⟨11, _⟩ => ⟨S1x1024x1408, .f32⟩
  | .hbm, ⟨12, _⟩ => ⟨S1x1024x1408, .f32⟩
  | .hbm, ⟨13, _⟩ => ⟨S1x1024x1408, .f32⟩
  | .hbm, ⟨14, _⟩ => ⟨S1x1024x1408, .f32⟩
  | .hbm, ⟨15, _⟩ => ⟨S4x1024x1408, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== KernelAdam.lean ====
abbrev S1024x1408 : Shape := ⟨2, ![1024, 1408]⟩
abbrev S256x1408 : Shape := ⟨2, ![256, 1408]⟩

abbrev nBuf : Space → Nat
  | .hbm => 8
  | .vmem => 16
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .hbm, ⟨7, _⟩ => ⟨S1024x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceAdamIdeal.lean ====
abbrev S1024x1408 : Shape := ⟨2, ![1024, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S_, .f32⟩
  | .hbm, ⟨5, _⟩ => ⟨S1024x1408, .f32⟩
  | .hbm, ⟨6, _⟩ => ⟨S1024x1408, .f32⟩
  | .hbm, ⟨7, _⟩ => ⟨S_, .f32⟩
  | .hbm, ⟨8, _⟩ => ⟨S1024x1408, .f32⟩
  | .hbm, ⟨9, _⟩ => ⟨S1024x1408, .f32⟩
  | .hbm, ⟨10, _⟩ => ⟨S1024x1408, .f32⟩
  | .hbm, ⟨11, _⟩ => ⟨S_, .f32⟩
  | .hbm, ⟨12, _⟩ => ⟨S1024x1408, .f32⟩
  | .hbm, ⟨13, _⟩ => ⟨S1024x1408, .f32⟩
  | .hbm, ⟨14, _⟩ => ⟨S1024x1408, .f32⟩
  | .hbm, ⟨15, _⟩ => ⟨S_, .f32⟩
  | .hbm, ⟨16, _⟩ => ⟨S1024x1408, .f32⟩
  | .hbm, ⟨17, _⟩ => ⟨S1024x1408, .f32⟩
  | .hbm, ⟨18, _⟩ => ⟨S1024x1408, .f32⟩
  | .hbm, ⟨19, _⟩ => ⟨S_, .f32⟩
  | .hbm, ⟨20, _⟩ => ⟨S1024x1408, .f32⟩
  | .hbm, ⟨21, _⟩ => ⟨S1024x1408, .f32⟩
  | .hbm, ⟨22, _⟩ => ⟨S_, .f32⟩
  | .hbm, ⟨23, _⟩ => ⟨S1024x1408, .f32⟩
  | .hbm, ⟨24, _⟩ => ⟨S1024x1408, .f32⟩
  | .hbm, ⟨25, _⟩ => ⟨S1024x1408, .f32⟩
  | .hbm, ⟨26, _⟩ => ⟨S_, .f32⟩
  | .hbm, ⟨27, _⟩ => ⟨S1024x1408, .f32⟩
  | .hbm, ⟨28, _⟩ => ⟨S1024x1408, .f32⟩
  | .hbm, ⟨29, _⟩ => ⟨S1024x1408, .f32⟩
  | .hbm, ⟨30, _⟩ => ⟨S_, .f32⟩
  | .hbm, ⟨31, _⟩ => ⟨S1024x1408, .f32⟩
  | .hbm, ⟨32, _⟩ => ⟨S1024x1408, .f32⟩
  | .hbm, ⟨33, _⟩ => ⟨S1024x1408, .f32⟩
  | .hbm, ⟨34, _⟩ => ⟨S_, .f32⟩
  | .hbm, ⟨35, _⟩ => ⟨S1024x1408, .f32⟩
  | .hbm, ⟨36, _⟩ => ⟨S1024x1408, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelHgFwd.lean ====
abbrev S4096x512 : Shape := ⟨2, ![4096, 512]⟩
abbrev S2x512 : Shape := ⟨2, ![2, 512]⟩
abbrev S512x64 : Shape := ⟨2, ![512, 64]⟩
abbrev S4096x2048 : Shape := ⟨2, ![4096, 2048]⟩
abbrev S64x4x128x128 : Shape := ⟨4, ![64, 4, 128, 128]⟩
abbrev S512x512 : Shape := ⟨2, ![512, 512]⟩
abbrev S8x4x128x128 : Shape := ⟨4, ![8, 4, 128, 128]⟩
abbrev S4x128x128 : Shape := ⟨3, ![4, 128, 128]⟩
abbrev S1x512 : Shape := ⟨2, ![1, 512]⟩
abbrev S64x64 : Shape := ⟨2, ![64, 64]⟩
abbrev S64x512 : Shape := ⟨2, ![64, 512]⟩
abbrev S64x128 : Shape := ⟨2, ![64, 128]⟩
abbrev S128x128 : Shape := ⟨2, ![128, 128]⟩
abbrev S1x128x128 : Shape := ⟨3, ![1, 128, 128]⟩
abbrev S1x128 : Shape := ⟨2, ![1, 128]⟩
abbrev S1x1x128x128 : Shape := ⟨4, ![1, 1, 128, 128]⟩

abbrev nBuf : Space → Nat
  | .hbm => 8
  | .vmem => 13
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S2x512, .f32⟩
  | .hbm, ⟨4, _⟩ => ⟨S512x64, .bf16⟩
  | .hbm, ⟨5, _⟩ => ⟨S4096x2048, .f32⟩
  | .hbm, ⟨6, _⟩ => ⟨S4096x512, .f32⟩
  | .hbm, ⟨7, _⟩ => ⟨S64x4x128x128, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S2x512, .f32⟩
  | .local _ .vmem, ⟨7, _⟩ => ⟨S512x64, .bf16⟩
  | .local _ .vmem, ⟨8, _⟩ => ⟨S512x512, .f32⟩
  | .local _ .vmem, ⟨9, _⟩ => ⟨S512x512, .f32⟩
  | .local _ .vmem, ⟨10, _⟩ => ⟨S8x4x128x128, .f32⟩
  | .local _ .vmem, ⟨11, _⟩ => ⟨S8x4x128x128, .f32⟩
  | .local _ .vmem, ⟨12, _⟩ => ⟨S4x128x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceHgFwdIdeal.lean ====
abbrev S4096x512 : Shape := ⟨2, ![4096, 512]⟩
abbrev S2x512 : Shape := ⟨2, ![2, 512]⟩
abbrev S_ : Shape := ⟨0, ![]⟩
abbrev S512 : Shape := ⟨1, ![512]⟩
abbrev S1x512 : Shape := ⟨2, ![1, 512]⟩
abbrev S64x64x4x128 : Shape := ⟨4, ![64, 64, 4, 128]⟩
abbrev S64x4x64x128 : Shape := ⟨4, ![64, 4, 64, 128]⟩
abbrev S64x64 : Shape := ⟨2, ![64, 64]⟩
abbrev S4x128x128 : Shape := ⟨3, ![4, 128, 128]⟩
abbrev S64x4x128x128 : Shape := ⟨4, ![64, 4, 128, 128]⟩
abbrev S1x4x64x128 : Shape := ⟨4, ![1, 4, 64, 128]⟩
abbrev S4x64x128 : Shape := ⟨3, ![4, 64, 128]⟩
abbrev S4x64x1x128 : Shape := ⟨4, ![4, 64, 1, 128]⟩
abbrev S4x1x64x128 : Shape := ⟨4, ![4, 1, 64, 128]⟩
abbrev S4x64x64x128 : Shape := ⟨4, ![4, 64, 64, 128]⟩
abbrev S64x64x1 : Shape := ⟨3, ![64, 64, 1]⟩
abbrev S4x64x64 : Shape := ⟨3, ![4, 64, 64]⟩
abbrev S4x1x128 : Shape := ⟨3, ![4, 1, 128]⟩
abbrev S4x128 : Shape := ⟨2, ![4, 128]⟩
abbrev S4x128x1 : Shape := ⟨3, ![4, 128, 1]⟩
abbrev S1x4x128x128 : Shape := ⟨4, ![1, 4, 128, 128]⟩

abbrev nBuf : Space → Nat
  | .hbm => 182
  | .vmem => 0
  | .smem => 0
  | _ => 0

abbrev hbmTy0_0 (i : Nat) : BufTy := match i % 128 with
  | 0 => ⟨S4096x512, .f32⟩
  | 1 => ⟨S4096x512, .f32⟩
  | 2 => ⟨S4096x512, .f32⟩
  | 3 => ⟨S2x512, .f32⟩
  | 4 => ⟨S_, .f32⟩
  | 5 => ⟨S512, .f32⟩
  | 6 => ⟨S_, .f32⟩
  | 7 => ⟨S512, .f32⟩
  | 8 => ⟨S512, .f32⟩
  | 9 => ⟨S1x512, .f32⟩
  | 10 => ⟨S2x512, .f32⟩
  | 11 => ⟨S2x512, .f32⟩
  | 12 => ⟨S2x512, .f32⟩
  | 13 => ⟨S_, .f32⟩
  | 14 => ⟨S512, .f32⟩
  | 15 => ⟨S1x512, .f32⟩
  | 16 => ⟨S2x512, .f32⟩
  | 17 => ⟨S2x512, .f32⟩
  | 18 => ⟨S_, .f32⟩
  | 19 => ⟨S_, .f32⟩
  | 20 => ⟨S2x512, .f32⟩
  | 21 => ⟨S1x512, .f32⟩
  | 22 => ⟨S512, .f32⟩
  | 23 => ⟨S4096x512, .f32⟩
  | 24 => ⟨S4096x512, .f32⟩
  | 25 => ⟨S_, .f32⟩
  | 26 => ⟨S4096x512, .f32⟩
  | 27 => ⟨S4096x512, .f32⟩
  | 28 => ⟨S_, .f32⟩
  | 29 => ⟨S4096x512, .f32⟩
  | 30 => ⟨S4096x512, .f32⟩
  | 31 => ⟨S4096x512, .f32⟩
  | 32 => ⟨S512, .f32⟩
  | 33 => ⟨S512, .f32⟩
  | 34 => ⟨S512, .f32⟩
  | 35 => ⟨S4096x512, .f32⟩
  | 36 => ⟨S_, .f32⟩
  | 37 => ⟨S4096x512, .f32⟩
  | 38 => ⟨S4096x512, .f32⟩
  | 39 => ⟨S4096x512, .f32⟩
  | 40 => ⟨S4096x512, .f32⟩
  | 41 => ⟨S4096x512, .i1⟩
  | 42 => ⟨S4096x512, .f32⟩
  | 43 => ⟨S4096x512, .f32⟩
  | 44 => ⟨S4096x512, .f32⟩
  | 45 => ⟨S4096x512, .f32⟩
  | 46 => ⟨S4096x512, .f32⟩
  | 47 => ⟨S4096x512, .f32⟩
  | 48 => ⟨S4096x512, .f32⟩
  | 49 => ⟨S4096x512, .f32⟩
  | 50 => ⟨S4096x512, .f32⟩
  | 51 => ⟨S1x512, .f32⟩
  | 52 => ⟨S4096x512, .f32⟩
  | 53 => ⟨S4096x512, .f32⟩
  | 54 => ⟨S1x512, .f32⟩
  | 55 => ⟨S4096x512, .f32⟩
  | 56 => ⟨S4096x512, .f32⟩
  | 57 => ⟨S4096x512, .f32⟩
  | 58 => ⟨S4096x512, .f32⟩
  | 59 => ⟨S4096x512, .i1⟩
  | 60 => ⟨S4096x512, .f32⟩
  | 61 => ⟨S4096x512, .f32⟩
  | 62 => ⟨S4096x512, .f32⟩
  | 63 => ⟨S4096x512, .f32⟩
  | 64 => ⟨S4096x512, .f32⟩
  | 65 => ⟨S4096x512, .f32⟩
  | 66 => ⟨S4096x512, .f32⟩
  | 67 => ⟨S4096x512, .f32⟩
  | 68 => ⟨S4096x512, .f32⟩
  | 69 => ⟨S4096x512, .f32⟩
  | 70 => ⟨S64x64x4x128, .f32⟩
  | 71 => ⟨S64x4x64x128, .f32⟩
  | 72 => ⟨S64x64x4x128, .f32⟩
  | 73 => ⟨S64x4x64x128, .f32⟩
  | 74 => ⟨S64x64x4x128, .f32⟩
  | 75 => ⟨S64x4x64x128, .f32⟩
  | 76 => ⟨S64x64x4x128, .f32⟩
  | 77 => ⟨S64x4x64x128, .f32⟩
  | 78 => ⟨S_, .i1⟩
  | 79 => ⟨S64x64, .i1⟩
  | 80 => ⟨S64x64, .i32⟩
  | 81 => ⟨S_, .i32⟩
  | 82 => ⟨S64x64, .i32⟩
  | 83 => ⟨S64x64, .i32⟩
  | 84 => ⟨S64x64, .i32⟩
  | 85 => ⟨S64x64, .i1⟩
  | 86 => ⟨S_, .i1⟩
  | 87 => ⟨S64x64, .i1⟩
  | 88 => ⟨S64x64, .i1⟩
  | 89 => ⟨S_, .f32⟩
  | 90 => ⟨S4x128x128, .f32⟩
  | 91 => ⟨S_, .f32⟩
  | 92 => ⟨S64x4x64x128, .f32⟩
  | 93 => ⟨S_, .f32⟩
  | 94 => ⟨S64x4x128x128, .f32⟩
  | 95 => ⟨S_, .i32⟩
  | 96 => ⟨S64x4x64x128, .f32⟩
  | 97 => ⟨S64x4x64x128, .f32⟩
  | 98 => ⟨S64x4x64x128, .f32⟩
  | 99 => ⟨S64x4x64x128, .f32⟩
  | 100 => ⟨S64x64, .i1⟩
  | 101 => ⟨S_, .i32⟩
  | 102 => ⟨S4x128x128, .f32⟩
  | 103 => ⟨S64x4x64x128, .f32⟩
  | 104 => ⟨S64x4x128x128, .f32⟩
  | 105 => ⟨S_, .i32⟩
  | 106 => ⟨S_, .i1⟩
  | 107 => ⟨S_, .i32⟩
  | 108 => ⟨S_, .i32⟩
  | 109 => ⟨S_, .i32⟩
  | 110 => ⟨S1x4x64x128, .f32⟩
  | 111 => ⟨S4x64x128, .f32⟩
  | 112 => ⟨S_, .i32⟩
  | 113 => ⟨S_, .i32⟩
  | 114 => ⟨S_, .i32⟩
  | 115 => ⟨S1x4x64x128, .f32⟩
  | 116 => ⟨S4x64x128, .f32⟩
  | 117 => ⟨S_, .i32⟩
  | 118 => ⟨S_, .i32⟩
  | 119 => ⟨S_, .i32⟩
  | 120 => ⟨S1x4x64x128, .f32⟩
  | 121 => ⟨S4x64x128, .f32⟩
  | 122 => ⟨S_, .i32⟩
  | 123 => ⟨S_, .i32⟩
  | 124 => ⟨S_, .i32⟩
  | 125 => ⟨S1x4x64x128, .f32⟩
  | 126 => ⟨S4x64x128, .f32⟩
  | 127 => ⟨S_, .f32⟩
  | _ => ⟨S4096x512, .f32⟩

abbrev hbmTy0_1 (i : Nat) : BufTy := match i % 128 with
  | 0 => ⟨S_, .f32⟩
  | 1 => ⟨S4x64x128, .f32⟩
  | 2 => ⟨S4x64x128, .f32⟩
  | 3 => ⟨S4x64x128, .f32⟩
  | 4 => ⟨S4x64x128, .f32⟩
  | 5 => ⟨S4x64x1x128, .f32⟩
  | 6 => ⟨S4x1x64x128, .f32⟩
  | 7 => ⟨S4x64x64x128, .f32⟩
  | 8 => ⟨S4x64x64x128, .f32⟩
  | 9 => ⟨S4x64x64x128, .f32⟩
  | 10 => ⟨S64x64x1, .i1⟩
  | 11 => ⟨S_, .f32⟩
  | 12 => ⟨S4x64x64x128, .f32⟩
  | 13 => ⟨S4x64x64x128, .f32⟩
  | 14 => ⟨S4x64x64x128, .f32⟩
  | 15 => ⟨S_, .f32⟩
  | 16 => ⟨S_, .f32⟩
  | 17 => ⟨S4x64x64x128, .i1⟩
  | 18 => ⟨S4x64x64x128, .f32⟩
  | 19 => ⟨S4x64x64x128, .f32⟩
  | 20 => ⟨S4x64x1x128, .f32⟩
  | 21 => ⟨S4x64x64x128, .f32⟩
  | 22 => ⟨S4x64x64x128, .f32⟩
  | 23 => ⟨S4x64x64, .f32⟩
  | 24 => ⟨S4x64x64, .f32⟩
  | 25 => ⟨S4x64x128, .f32⟩
  | 26 => ⟨S4x1x128, .f32⟩
  | 27 => ⟨S4x128, .f32⟩
  | 28 => ⟨S4x128, .f32⟩
  | 29 => ⟨S4x128x1, .f32⟩
  | 30 => ⟨S4x128x128, .f32⟩
  | 31 => ⟨S4x128x128, .f32⟩
  | 32 => ⟨S4x64x128, .f32⟩
  | 33 => ⟨S4x64x128, .f32⟩
  | 34 => ⟨S4x64x128, .f32⟩
  | 35 => ⟨S4x64x128, .f32⟩
  | 36 => ⟨S4x128x128, .f32⟩
  | 37 => ⟨S4x128x128, .f32⟩
  | 38 => ⟨S4x64x128, .f32⟩
  | 39 => ⟨S4x128x128, .f32⟩
  | 40 => ⟨S1x4x64x128, .f32⟩
  | 41 => ⟨S_, .i32⟩
  | 42 => ⟨S_, .i32⟩
  | 43 => ⟨S_, .i32⟩
  | 44 => ⟨S64x4x64x128, .f32⟩
  | 45 => ⟨S1x4x128x128, .f32⟩
  | 46 => ⟨S_, .i32⟩
  | 47 => ⟨S_, .i32⟩
  | 48 => ⟨S_, .i32⟩
  | 49 => ⟨S64x4x128x128, .f32⟩
  | 50 => ⟨S_, .i32⟩
  | 51 => ⟨S_, .i32⟩
  | 52 => ⟨S64x64x4x128, .f32⟩
  | 53 => ⟨S4096x512, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_call0_cst : Ref sig .tc := ⟨.hbm, 18, rfl⟩
abbrev main_call0_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call1_v0 : Ref sig .tc := ⟨.hbm, 23, rfl⟩
abbrev main_call1_v1 : Ref sig .tc := ⟨.hbm, 24, rfl⟩
abbrev main_call1_cst : Ref sig .tc := ⟨.hbm, 25, rfl⟩
abbrev main_call1_v2 : Ref sig .tc := ⟨.hbm, 26, rfl⟩
abbrev main_call1_v3 : Ref sig .tc := ⟨.hbm, 27, rfl⟩
abbrev main_call1_cst_0 : Ref sig .tc := ⟨.hbm, 28, rfl⟩
abbrev main_call1_v4 : Ref sig .tc := ⟨.hbm, 29, rfl⟩
abbrev main_call1_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_call2_v0 : Ref sig .tc := ⟨.hbm, 35, rfl⟩
abbrev main_call2_call0_cst : Ref sig .tc := ⟨.hbm, 36, rfl⟩
abbrev main_call2_call0_v0 : Ref sig .tc := ⟨.hbm, 37, rfl⟩
abbrev main_call2_call0_v1 : Ref sig .tc := ⟨.hbm, 38, rfl⟩
abbrev main_call2_call0_v2 : Ref sig .tc := ⟨.hbm, 39, rfl⟩
abbrev main_call2_call0_v3 : Ref sig .tc := ⟨.hbm, 40, rfl⟩
abbrev main_call2_call0_v4 : Ref sig .tc := ⟨.hbm, 41, rfl⟩
abbrev main_call2_call0_v5 : Ref sig .tc := ⟨.hbm, 42, rfl⟩
abbrev main_call2_call0_v6 : Ref sig .tc := ⟨.hbm, 43, rfl⟩
abbrev main_call2_call0_v7 : Ref sig .tc := ⟨.hbm, 44, rfl⟩
abbrev main_call2_call0_v8 : Ref sig .tc := ⟨.hbm, 45, rfl⟩
abbrev main_call2_call0_v9 : Ref sig .tc := ⟨.hbm, 46, rfl⟩
abbrev main_call2_call0_v10 : Ref sig .tc := ⟨.hbm, 47, rfl⟩
abbrev main_call2_call0_v11 : Ref sig .tc := ⟨.hbm, 48, rfl⟩
abbrev main_call2_v1 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_c : Ref sig .tc := ⟨.hbm, 78, rfl⟩
abbrev main_v46 : Ref sig .tc := ⟨.hbm, 79, rfl⟩
abbrev main_call3_v0 : Ref sig .tc := ⟨.hbm, 80, rfl⟩
abbrev main_call3_c : Ref sig .tc := ⟨.hbm, 81, rfl⟩
abbrev main_call3_v1 : Ref sig .tc := ⟨.hbm, 82, rfl⟩
abbrev main_call3_v2 : Ref sig .tc := ⟨.hbm, 83, rfl⟩
abbrev main_call3_v3 : Ref sig .tc := ⟨.hbm, 84, rfl⟩
abbrev main_call3_v4 : Ref sig .tc := ⟨.hbm, 85, rfl⟩
abbrev main_call3_c_0 : Ref sig .tc := ⟨.hbm, 86, rfl⟩
abbrev main_call3_v5 : Ref sig .tc := ⟨.hbm, 87, rfl⟩
abbrev main_v47 : Ref sig .tc := ⟨.hbm, 88, rfl⟩
abbrev main_cst_2 : Ref sig .tc := ⟨.hbm, 89, rfl⟩
abbrev main_v48 : Ref sig .tc := ⟨.hbm, 90, rfl⟩
abbrev main_cst_3 : Ref sig .tc := ⟨.hbm, 91, rfl⟩
abbrev main_v49 : Ref sig .tc := ⟨.hbm, 92, rfl⟩
abbrev main_cst_4 : Ref sig .tc := ⟨.hbm, 93, rfl⟩
abbrev main_v50 : Ref sig .tc := ⟨.hbm, 94, rfl⟩
abbrev main_c_5 : Ref sig .tc := ⟨.hbm, 95, rfl⟩
abbrev main_v51_0 : Ref sig .tc := ⟨.hbm, 96, rfl⟩
abbrev main_v51_1 : Ref sig .tc := ⟨.hbm, 97, rfl⟩
abbrev main_v51_2 : Ref sig .tc := ⟨.hbm, 98, rfl⟩
abbrev main_v51_3 : Ref sig .tc := ⟨.hbm, 99, rfl⟩
abbrev main_v51_4 : Ref sig .tc := ⟨.hbm, 100, rfl⟩
abbrev main_v51_5 : Ref sig .tc := ⟨.hbm, 101, rfl⟩
abbrev main_v51_6 : Ref sig .tc := ⟨.hbm, 102, rfl⟩
abbrev main_v51_7 : Ref sig .tc := ⟨.hbm, 103, rfl⟩
abbrev main_v51_8 : Ref sig .tc := ⟨.hbm, 104, rfl⟩
abbrev main_while0c_c_14 : Ref sig .tc := ⟨.hbm, 105, rfl⟩
abbrev main_while0c_v54 : Ref sig .tc := ⟨.hbm, 106, rfl⟩
abbrev main_while0b_call4_c : Ref sig .tc := ⟨.hbm, 107, rfl⟩
abbrev main_while0b_call4_c_0 : Ref sig .tc := ⟨.hbm, 108, rfl⟩
abbrev main_while0b_call4_c_1 : Ref sig .tc := ⟨.hbm, 109, rfl⟩
abbrev main_while0b_call4_v0 : Ref sig .tc := ⟨.hbm, 110, rfl⟩
abbrev main_while0b_v54 : Ref sig .tc := ⟨.hbm, 111, rfl⟩
abbrev main_while0b_call5_c : Ref sig .tc := ⟨.hbm, 112, rfl⟩
abbrev main_while0b_call5_c_0 : Ref sig .tc := ⟨.hbm, 113, rfl⟩
abbrev main_while0b_call5_c_1 : Ref sig .tc := ⟨.hbm, 114, rfl⟩
abbrev main_while0b_call5_v0 : Ref sig .tc := ⟨.hbm, 115, rfl⟩
abbrev main_while0b_v55 : Ref sig .tc := ⟨.hbm, 116, rfl⟩
abbrev main_while0b_call6_c : Ref sig .tc := ⟨.hbm, 117, rfl⟩
abbrev main_while0b_call6_c_0 : Ref sig .tc := ⟨.hbm, 118, rfl⟩
abbrev main_while0b_call6_c_1 : Ref sig .tc := ⟨.hbm, 119, rfl⟩
abbrev main_while0b_call6_v0 : Ref sig .tc := ⟨.hbm, 120, rfl⟩
abbrev main_while0b_v56 : Ref sig .tc := ⟨.hbm, 121, rfl⟩
abbrev main_while0b_call7_c : Ref sig .tc := ⟨.hbm, 122, rfl⟩
abbrev main_while0b_call7_c_0 : Ref sig .tc := ⟨.hbm, 123, rfl⟩
abbrev main_while0b_call7_c_1 : Ref sig .tc := ⟨.hbm, 124, rfl⟩
abbrev main_while0b_call7_v0 : Ref sig .tc := ⟨.hbm, 125, rfl⟩
abbrev main_while0b_v57 : Ref sig .tc := ⟨.hbm, 126, rfl⟩
abbrev main_while0b_call8_call0_cst : Ref sig .tc := ⟨.hbm, 127, rfl⟩
abbrev main_while0b_call8_call0_v0 : Ref sig .tc := ⟨.hbm, 128, rfl⟩
abbrev main_while0b_v58 : Ref sig .tc := ⟨.hbm, 129, rfl⟩
abbrev main_while0b_v59 : Ref sig .tc := ⟨.hbm, 130, rfl⟩
abbrev main_while0b_v60 : Ref sig .tc := ⟨.hbm, 131, rfl⟩
abbrev main_while0b_v61 : Ref sig .tc := ⟨.hbm, 132, rfl⟩
abbrev main_while0b_v62 : Ref sig .tc := ⟨.hbm, 133, rfl⟩
abbrev main_while0b_v63 : Ref sig .tc := ⟨.hbm, 134, rfl⟩
abbrev main_while0b_v64 : Ref sig .tc := ⟨.hbm, 135, rfl⟩
abbrev main_while0b_v65 : Ref sig .tc := ⟨.hbm, 136, rfl⟩
abbrev main_while0b_v66 : Ref sig .tc := ⟨.hbm, 137, rfl⟩
abbrev main_while0b_v67 : Ref sig .tc := ⟨.hbm, 138, rfl⟩
abbrev main_while0b_cst_14 : Ref sig .tc := ⟨.hbm, 139, rfl⟩
abbrev main_while0b_v68 : Ref sig .tc := ⟨.hbm, 140, rfl⟩
abbrev main_while0b_v69 : Ref sig .tc := ⟨.hbm, 141, rfl⟩
abbrev main_while0b_v70 : Ref sig .tc := ⟨.hbm, 142, rfl⟩
abbrev main_while0b_cst_15 : Ref sig .tc := ⟨.hbm, 143, rfl⟩
abbrev main_while0b_call9_v0 : Ref sig .tc := ⟨.hbm, 144, rfl⟩
abbrev main_while0b_call9_v1 : Ref sig .tc := ⟨.hbm, 145, rfl⟩
abbrev main_while0b_call9_v2 : Ref sig .tc := ⟨.hbm, 146, rfl⟩
abbrev main_while0b_v71 : Ref sig .tc := ⟨.hbm, 147, rfl⟩
abbrev main_while0b_v72 : Ref sig .tc := ⟨.hbm, 148, rfl⟩
abbrev main_while0b_v73 : Ref sig .tc := ⟨.hbm, 149, rfl⟩
abbrev main_while0b_v74 : Ref sig .tc := ⟨.hbm, 150, rfl⟩
abbrev main_while0b_v75 : Ref sig .tc := ⟨.hbm, 151, rfl⟩
abbrev main_while0b_v76 : Ref sig .tc := ⟨.hbm, 152, rfl⟩
abbrev main_while0b_v77 : Ref sig .tc := ⟨.hbm, 153, rfl⟩
abbrev main_while0b_v78 : Ref sig .tc := ⟨.hbm, 154, rfl⟩
abbrev main_while0b_v79 : Ref sig .tc := ⟨.hbm, 155, rfl⟩
abbrev main_while0b_v80 : Ref sig .tc := ⟨.hbm, 156, rfl⟩
abbrev main_while0b_v81 : Ref sig .tc := ⟨.hbm, 157, rfl⟩
abbrev main_while0b_v82 : Ref sig .tc := ⟨.hbm, 158, rfl⟩
abbrev main_while0b_v83 : Ref sig .tc := ⟨.hbm, 159, rfl⟩
abbrev main_while0b_v84 : Ref sig .tc := ⟨.hbm, 160, rfl⟩
abbrev main_while0b_v85 : Ref sig .tc := ⟨.hbm, 161, rfl⟩
abbrev main_while0b_v86 : Ref sig .tc := ⟨.hbm, 162, rfl⟩
abbrev main_while0b_v87 : Ref sig .tc := ⟨.hbm, 163, rfl⟩
abbrev main_while0b_v88 : Ref sig .tc := ⟨.hbm, 164, rfl⟩
abbrev main_while0b_v89 : Ref sig .tc := ⟨.hbm, 165, rfl⟩
abbrev main_while0b_v90 : Ref sig .tc := ⟨.hbm, 166, rfl⟩
abbrev main_while0b_v91 : Ref sig .tc := ⟨.hbm, 167, rfl⟩
abbrev main_while0b_call10_v0 : Ref sig .tc := ⟨.hbm, 168, rfl⟩
abbrev main_while0b_call10_c : Ref sig .tc := ⟨.hbm, 169, rfl⟩
abbrev main_while0b_call10_c_0 : Ref sig .tc := ⟨.hbm, 170, rfl⟩
abbrev main_while0b_call10_c_1 : Ref sig .tc := ⟨.hbm, 171, rfl⟩
abbrev main_while0b_v92 : Ref sig .tc := ⟨.hbm, 172, rfl⟩
abbrev main_while0b_call11_v0 : Ref sig .tc := ⟨.hbm, 173, rfl⟩
abbrev main_while0b_call11_c : Ref sig .tc := ⟨.hbm, 174, rfl⟩
abbrev main_while0b_call11_c_0 : Ref sig .tc := ⟨.hbm, 175, rfl⟩
abbrev main_while0b_call11_c_1 : Ref sig .tc := ⟨.hbm, 176, rfl⟩
abbrev main_while0b_v93 : Ref sig .tc := ⟨.hbm, 177, rfl⟩
abbrev main_while0b_c_16 : Ref sig .tc := ⟨.hbm, 178, rfl⟩
abbrev main_while0b_v94 : Ref sig .tc := ⟨.hbm, 179, rfl⟩
abbrev main_v52 : Ref sig .tc := ⟨.hbm, 180, rfl⟩
abbrev main_v53 : Ref sig .tc := ⟨.hbm, 181, rfl⟩

abbrev nD : Nat := 1
abbrev τ : Topo := Topo.v7x

variable {F : FTy → Type} [FloatOps F]

abbrev main_while0_count : Scf.Loop 32 := ⟨0#32, 64#32, 1#32⟩
-- ==== KernelAdd.lean ====
abbrev S4x1024x1408 : Shape := ⟨3, ![4, 1024, 1408]⟩
abbrev S4x512x1408 : Shape := ⟨3, ![4, 512, 1408]⟩
abbrev S_ : Shape := ⟨0, ![]⟩
abbrev S1 : Shape := ⟨1, ![1]⟩
abbrev S1x512x1408 : Shape := ⟨3, ![1, 512, 1408]⟩

abbrev nBuf : Space → Nat
  | .hbm => 5
  | .vmem => 8
  | .smem => 1
  | _ => 0

abbrev bufTy : (tb : Table) → Fin (tcTables nBuf tb) → BufTy
  | .hbm, ⟨0, _⟩ => ⟨S4x1024x1408, .f32⟩
  | .hbm, ⟨1, _⟩ => ⟨S4x512x1408, .f32⟩
  | .hbm, ⟨2, _⟩ => ⟨S_, .i32⟩
  | .hbm, ⟨3, _⟩ => ⟨S4x512x1408, .bf16⟩
  | .hbm, ⟨4, _⟩ => ⟨S4x512x1408, .bf16⟩
  | .local _ .vmem, ⟨0, _⟩ => ⟨S1x512x1408, .f32⟩
  | .local _ .vmem, ⟨1, _⟩ => ⟨S1x512x1408, .f32⟩
  | .local _ .vmem, ⟨2, _⟩ => ⟨S1x512x1408, .f32⟩
  | .local _ .vmem, ⟨3, _⟩ => ⟨S1x512x1408, .f32⟩
  | .local _ .vmem, ⟨4, _⟩ => ⟨S1x512x1408, .bf16⟩
  | .local _ .vmem, ⟨5, _⟩ => ⟨S1x512x1408, .bf16⟩
  | .local _ .vmem, ⟨6, _⟩ => ⟨S1x512x1408, .bf16⟩
  | .local _ .vmem, ⟨7, _⟩ => ⟨S1x512x1408, .bf16⟩
  | .local _ .smem, ⟨0, _⟩ => ⟨S1, .i32⟩
  | _, _ => ⟨S4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1_0 : Ref sig .tc := ⟨.hbm, 3, rfl⟩
abbrev main_v1_1 : Ref sig .tc := ⟨.hbm, 4, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg1
  let c0_i32 : BitVec 32 := 0#32
  let c0_i32_0 : BitVec 32 := 0#32
  ![arg0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceAddIdeal.lean ====
abbrev S4x1024x1408 : Shape := ⟨3, ![4, 1024, 1408]⟩
abbrev S4x512x1408 : Shape := ⟨3, ![4, 512, 1408]⟩

abbrev nBuf : Space → Nat
  | .hbm => 5
  | .vmem => 0
  | .smem => 0
  | _ => 0

abbrev bufTy : (tb : Table) → Fin (tcTables nBuf tb) → BufTy
  | .hbm, ⟨0, _⟩ => ⟨S4x1024x1408, .f32⟩
  | .hbm, ⟨1, _⟩ => ⟨S4x512x1408, .f32⟩
  | .hbm, ⟨2, _⟩ => ⟨S4x512x1408, .f32⟩
  | .hbm, ⟨3, _⟩ => ⟨S4x512x1408, .f32⟩
  | .hbm, ⟨4, _⟩ => ⟨S4x512x1408, .bf16⟩
  | _, _ => ⟨S4x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Reals.lean ====
/- Extended reals that are real numbers: at the ideal instance a float is an extended real, and for finite
   arguments every value below is a real number, so that the two programs are compared by real algebra. -/
module

public import Idealize.ShloMosaic.Lib.Pipeline.ValueKit
public import Idealize.ShloMosaic.Lib.Pointwise
public import Idealize.ShloMosaic.PureOps.Ideal.Laws

@[expose] public section

noncomputable section

namespace Cert.Reals

open Idealize.ShloMosaic

/-- Every element of the array is a real number. -/
def IsReal {s : Shape} {φ : FTy} (x : FVec Ideal s φ) : Prop := ∀ i, ∃ r : ℝ, x i = (r : EReal)

/-- The real numbers of an array. -/
def re {s : Shape} {φ : FTy} (x : FVec Ideal s φ) (i : s.Idx) : ℝ := EReal.toReal (x i)

/-- Each entry of an array of reals is its own real part. -/
theorem IsReal.eq {s : Shape} {φ : FTy} {x : FVec Ideal s φ} (h : IsReal x) (i : s.Idx) :
    x i = ((re x i : ℝ) : EReal) := by
  obtain ⟨r, hr⟩ := h i
  simp [re, hr]

/-- A number whose absolute value lies below infinity is real. -/
theorem real_of_abs_lt (a : EReal) (h : max a (-a) < ⊤) : ∃ r : ℝ, a = (r : EReal) := by
  induction a with
  | bot => simp at h
  | top => simp at h
  | coe r => exact ⟨r, rfl⟩

/-- The word of infinity. -/
theorem ofBits_inf : Ideal.ofBits .f32 0x7F800000#32 = ⊤ := by simp [Ideal.ofBits, Ideal.ieee]

/-- What the precondition says of one array: it is real. -/
theorem isReal_of_pre {s : Shape} (hb : (⟨0, ![]⟩ : Shape).BroadcastsInDim s ![]) (x : FVec Ideal s .f32)
    (e : cmpf .olt (Host.absf x) (broadcastInDim s ![] hb (constant ⟨0, ![]⟩ .f32 0x7F800000#32)) = fun _ => 1#1) :
    IsReal x := by
  intro i
  have h := congrFun e i
  apply real_of_abs_lt
  have hbr : broadcastInDim s ![] hb (constant (F := Ideal) ⟨0, ![]⟩ .f32 0x7F800000#32) i = ⊤ := ofBits_inf
  by_contra hn
  have h' : Ideal.cmp .olt (max (x i) (-(x i))) ⊤ = 1#1 := by
    rw [← hbr]; exact h
  simp [Ideal.cmp, hn] at h'

/-- A sum of reals is the same sum at the extended reals. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Division of reals by a number other than zero. -/
theorem div_real (x y : ℝ) (h : y ≠ 0) : Ideal.div (x : EReal) (y : EReal) = ((x / y : ℝ) : EReal) := by
  rw [Ideal.div_coe h, ← EReal.coe_mul]; congr 1; field_simp

/-- The reciprocal square root of a positive real. -/
theorem rsqrt_real (r : ℝ) (h : 0 < r) : Ideal.rsqrt (r : EReal) = (((Real.sqrt r)⁻¹ : ℝ) : EReal) := by
  rw [Ideal.rsqrt_coe, if_neg (not_lt.mpr h.le), if_neg h.ne']

/-- The exponential of a real. -/
theorem exp_real (r : ℝ) : Ideal.exp (r : EReal) = ((Real.exp r : ℝ) : EReal) := Ideal.exp_coe r

/-- The sigmoid of a real number. -/
def sigm (x : ℝ) : ℝ := 1 / (1 + Real.exp (-x))

/-- The sigmoid as both programs compute it. -/
theorem sigm_real (x : ℝ) : Ideal.div 1 (1 + Ideal.exp (-(x : EReal))) = ((sigm x : ℝ) : EReal) := by
  rw [← EReal.coe_neg, exp_real, ← EReal.coe_one, ← EReal.coe_add, div_real _ _ (by positivity)]
  rfl

/-- The logarithm of a positive real. -/
theorem log_real (r : ℝ) (h : 0 < r) : Ideal.log (r : EReal) = ((Real.log r : ℝ) : EReal) := by
  rw [Ideal.log_coe, if_neg (not_le.mpr h)]

/-- The number a literal word stands for. -/
theorem ofBits_1024 : Ideal.ofBits .f32 0x44800000#32 = ((1024 : ℝ) : EReal) := by
  simp [Ideal.ofBits, Ideal.ieee, -one_div]; rw [← EReal.coe_mul]; norm_num

/-- The number a literal word stands for. -/
theorem ofBits_half : Ideal.ofBits .f32 0x3F000000#32 = ((1/2 : ℝ) : EReal) := by
  simp [Ideal.ofBits, Ideal.ieee, -one_div]; rw [← EReal.coe_mul]; norm_num

/-- The number a literal word stands for. -/
theorem ofBits_two : Ideal.ofBits .f32 0x40000000#32 = ((2 : ℝ) : EReal) := by
  simp [Ideal.ofBits, Ideal.ieee, -one_div]; rw [← EReal.coe_mul]; norm_num

/-- The number a literal word stands for. -/
theorem ofBits_inv1024 : Ideal.ofBits .f32 0x3A800000#32 = ((1/1024 : ℝ) : EReal) := by
  simp [Ideal.ofBits, Ideal.ieee, -one_div]; rw [← EReal.coe_mul]; norm_num

/-- The number a literal word stands for. -/
theorem ofBits_neg_half : Ideal.ofBits .f32 0xBF000000#32 = ((-(1/2) : ℝ) : EReal) := by
  simp [Ideal.ofBits, Ideal.ieee, -one_div]; rw [← EReal.coe_mul]; norm_num

/-- The number added to a mean of squares, 9.99999997e-7. -/
def eps : ℝ := EReal.toReal (Ideal.ofBits .f32 0x358637BD#32)

/-- The norm's small constant is a positive real. -/
theorem eps_spec : ∃ e : ℝ, 0 < e ∧ Ideal.ofBits .f32 0x358637BD#32 = (e : EReal) :=
  ⟨8796093 / 8796093022208, by norm_num, by simp [Ideal.ofBits, Ideal.ieee, -one_div]; rw [← EReal.coe_mul]; norm_num⟩

/-- The number a literal word stands for. -/
theorem ofBits_eps : Ideal.ofBits .f32 0x358637BD#32 = (eps : EReal) := by
  obtain ⟨e, _, he⟩ := eps_spec
  simp [eps, he]

/-- The norm's small constant is positive. -/
theorem eps_pos : 0 < eps := by
  obtain ⟨e, h, he⟩ := eps_spec
  simpa [eps, he] using h

end Cert.Reals

end
-- ==== Proof.Rms.lean ====
/- The root-mean-square norm of a row and its gradient over the real numbers. -/
module

public import proofs.«01_k».proof.Proof.Reals

@[expose] public section

noncomputable section

namespace Cert.Reals

/-- The mean of a row's squares, a little above: what the norm takes the root of. -/
def meanSq {n : ℕ} (d : ℝ) (X : Fin n → ℝ) : ℝ := (∑ k, X k * X k) / d + eps

/-- The reciprocal of the row's root mean square. -/
def rstd {n : ℕ} (d : ℝ) (X : Fin n → ℝ) : ℝ := (Real.sqrt (meanSq d X))⁻¹

/-- The gradient of the norm at row `X`, as the kernel writes it: `D` is the gradient of the normalised row. -/
def rmsGrad {n : ℕ} (d : ℝ) (X D : Fin n → ℝ) (j : Fin n) : ℝ :=
  rstd d X * (D j - X j * rstd d X * ((∑ k, D k * (X k * rstd d X)) / d))

/-- The mean square plus the small constant is positive. -/
theorem meanSq_pos {n : ℕ} {d : ℝ} (hd : 0 < d) (X : Fin n → ℝ) : 0 < meanSq d X :=
  add_pos_of_nonneg_of_pos (div_nonneg (Finset.sum_nonneg fun k _ => mul_self_nonneg (X k)) hd.le) eps_pos

/-- The derivative that differentiates the root, the mean and the square one after the other is the kernel's. -/
theorem rmsGrad_chain {n : ℕ} {d : ℝ} (hd : 0 < d) (X D : Fin n → ℝ) (j : Fin n) :
    D j * rstd d X + X j * (((∑ k, X k * D k) * (-(1/2) * (rstd d X / meanSq d X))) / d)
      + (((∑ k, X k * D k) * (-(1/2) * (rstd d X / meanSq d X))) / d) * X j = rmsGrad d X D j := by
  have hm := meanSq_pos hd X
  have hr : rstd d X / meanSq d X = rstd d X * rstd d X * rstd d X := by
    have hs : Real.sqrt (meanSq d X) ≠ 0 := (Real.sqrt_pos.mpr hm).ne'
    have he : meanSq d X = Real.sqrt (meanSq d X) * Real.sqrt (meanSq d X) := (Real.mul_self_sqrt hm.le).symm
    unfold rstd
    generalize Real.sqrt (meanSq d X) = s at *
    rw [he]; field_simp
  have hsum : ∑ k, D k * (X k * rstd d X) = (∑ k, X k * D k) * rstd d X := by
    rw [Finset.sum_mul]; exact Finset.sum_congr rfl fun k _ => by ring
  unfold rmsGrad
  rw [hr, hsum]
  field_simp
  ring

end Cert.Reals

end
-- ==== Proof.InProjPay.lean ====
module

public import proofs.«01_k».proof.Proof.Rms
public import proofs.«01_k».proof.Proof.Gen.KernelIdeal.Skeleton

@[expose] public section

set_option maxRecDepth 16384

noncomputable section

namespace Cert.InProj

open Idealize.ShloMosaic Cert.KernelIdeal Cert.KernelIdeal.Gen Cert.Reals

/-- The reciprocal root of each row's mean square. -/
theorem rstd_block (x : FVec Ideal S512x1024 .f32) (X : Fin 512 → Fin 1024 → ℝ)
    (hx : ∀ r j, x (ix2 r j) = ((X r j : ℝ) : EReal)) (r : Fin 512) (z : Fin 1) :
    k0_pay1 (F := Ideal) (k0_pay14 x) (ix2 r z) = ((rstd 1024 (X r) : ℝ) : EReal) := by
  pointwise [k0_pay1, k0_pay14]
  simp only [hx, ← EReal.coe_mul, coe_sum, ofBits_1024, ofBits_eps]
  rw [div_real _ _ (by norm_num), ← EReal.coe_add]
  exact rsqrt_real _ (meanSq_pos (by norm_num) (X r))

/-- The four column pieces of 896 of one product over 3584 columns. -/
theorem du_block (p0 p1 p2 p3 : FVec Ideal S512x896 .bf16) (w0 w1 w2 w3 : FVec Ideal S1x1024x896 .bf16)
    (D : Fin 512 → Fin 3584 → EReal) (W : Fin 1024 → Fin 3584 → EReal)
    (hp0 : ∀ r (x : Fin 896), p0 (ix2 r x) = D r ⟨0 * 896 + x, by omega⟩) (hw0 : ∀ j (x : Fin 896), w0 (ix3 0 j x) = W j ⟨0 * 896 + x, by omega⟩)
    (hp1 : ∀ r (x : Fin 896), p1 (ix2 r x) = D r ⟨1 * 896 + x, by omega⟩) (hw1 : ∀ j (x : Fin 896), w1 (ix3 0 j x) = W j ⟨1 * 896 + x, by omega⟩)
    (hp2 : ∀ r (x : Fin 896), p2 (ix2 r x) = D r ⟨2 * 896 + x, by omega⟩) (hw2 : ∀ j (x : Fin 896), w2 (ix3 0 j x) = W j ⟨2 * 896 + x, by omega⟩)
    (hp3 : ∀ r (x : Fin 896), p3 (ix2 r x) = D r ⟨3 * 896 + x, by omega⟩) (hw3 : ∀ j (x : Fin 896), w3 (ix3 0 j x) = W j ⟨3 * 896 + x, by omega⟩)
    (r : Fin 512) (j : Fin 1024) :
    k0_pay13 (F := Ideal) p0 w0 p1 w1 p2 w2 p3 w3 (ix2 r j) = ∑ k, D r k * W j k := by
  pointwise [k0_pay13]
  rw [Fin.sum_univ_tiles 4 896 rfl, Fin.sum_univ_four]
  simp only [hp0, hw0, hp1, hw1, hp2, hw2, hp3, hw3]
  rfl

/-- The gradient of the rows, from blocks of reals. -/
theorem dx_block (u x d : FVec Ideal S512x1024 .f32) (g : FVec Ideal S1x1024 .f32) (X U : Fin 512 → Fin 1024 → ℝ) (G : Fin 1024 → ℝ)
    (hx : ∀ r j, x (ix2 r j) = ((X r j : ℝ) : EReal)) (hu : ∀ r j, u (ix2 r j) = ((U r j : ℝ) : EReal))
    (hg : ∀ j, g (ix2 0 j) = ((G j : ℝ) : EReal)) (r : Fin 512) (j : Fin 1024) :
    k0_pay4 (F := Ideal) u x (k0_pay14 x) g d (ix2 r j) = d (ix2 r j) + ((rmsGrad 1024 (X r) (fun k => U r k * G k) j : ℝ) : EReal) := by
  pointwise [k0_pay4, k0_pay2]
  simp only [rstd_block x X hx, hx, hu, hg, ← EReal.coe_mul, coe_sum, ofBits_1024]
  rw [div_real _ _ (by norm_num), ← EReal.coe_mul, ← EReal.coe_sub, ← EReal.coe_mul]
  rfl

/-- One point's part of the gradient of the norm's weight, from blocks of reals. -/
theorem dg_block (u x : FVec Ideal S512x1024 .f32) (a : FVec Ideal S1x1024 .f32) (X U : Fin 512 → Fin 1024 → ℝ)
    (hx : ∀ r j, x (ix2 r j) = ((X r j : ℝ) : EReal)) (hu : ∀ r j, u (ix2 r j) = ((U r j : ℝ) : EReal))
    (j : Fin 1024) :
    k0_pay3 (F := Ideal) u x (k0_pay14 x) a (ix2 0 j) = a (ix2 0 j) + ((∑ r, U r j * (X r j * rstd 1024 (X r)) : ℝ) : EReal) := by
  pointwise [k0_pay3, k0_pay2]
  simp only [rstd_block x X hx, hx, hu, ← EReal.coe_mul, coe_sum]

end Cert.InProj

end
-- ==== Proof.InProjSpec.lean ====
module

public import proofs.«01_k».proof.Proof.Reals
public import proofs.«01_k».proof.Proof.Rms
public import Idealize.ShloMosaic.Lib.Pointwise

@[expose] public section

noncomputable section

namespace Cert.InProj

open Idealize.ShloMosaic Cert.Reals

/-- The arrays the backward pass of the input projection takes. -/
structure Args where
  /-- the rows -/
  x : FVec Ideal ⟨2, ![4096, 1024]⟩ .f32
  /-- the cotangent that reaches the rows by the residual path -/
  dh1 : FVec Ideal ⟨2, ![4096, 1024]⟩ .f32
  /-- the norm's weight -/
  g : FVec Ideal ⟨2, ![1, 1024]⟩ .f32
  /-- the projection's weight -/
  w : FVec Ideal ⟨2, ![1024, 3584]⟩ .f32
  /-- the seven column blocks of the projection's cotangent -/
  part : Fin 7 → FVec Ideal ⟨2, ![4096, 512]⟩ .f32

namespace Args

variable (a : Args)

/-- Every argument but `dh1` holds numbers only. -/
structure Finite : Prop where
  x : IsReal a.x
  g : IsReal a.g
  w : IsReal a.w
  part : ∀ n, IsReal (a.part n)

/-- The seven blocks side by side, at row `r` and column `k`. -/
def cat (r : Fin 4096) (k : Fin 3584) : EReal := a.part ⟨k.val / 512, by omega⟩ (ix2 r ⟨k.val % 512, by omega⟩)

/-- The cotangent of the normalised and weighted rows. -/
def du (r : Fin 4096) (j : Fin 1024) : ℝ := ∑ k, (a.cat r k).toReal * re a.w (ix2 j k)

/-- The gradient of the rows. -/
def dx : FVec Ideal ⟨2, ![4096, 1024]⟩ .f32 := fun i =>
  a.dh1 i + ((rmsGrad 1024 (fun k => re a.x (ix2 (i 0) k)) (fun k => a.du (i 0) k * re a.g (ix2 0 k)) (i 1) : ℝ) : EReal)

/-- The gradient of the norm's weight. -/
def dg (j : Fin 1024) : ℝ := ∑ r, a.du r j * (re a.x (ix2 r j) * rstd 1024 (fun k => re a.x (ix2 r k)))

/-- The gradient of the norm's weight in row 0 of eight rows, the others zero. -/
def pack : FVec Ideal ⟨2, ![8, 1024]⟩ .f32 := fun i => if (i 0).val = 0 then ((a.dg (i 1) : ℝ) : EReal) else 0

/-- The projection's cotangent. -/
def dproj : FVec Ideal ⟨2, ![4096, 3584]⟩ .bf16 := fun i => a.cat (i 0) (i 1)

/-- Each entry of the joined cotangent is real. -/
theorem cat_real (h : a.Finite) (r : Fin 4096) (k : Fin 3584) : a.cat r k = (((a.cat r k).toReal : ℝ) : EReal) :=
  (h.part _).eq _

/-- The joined cotangent times the weight, transposed, is real. -/
theorem du_real (h : a.Finite) (r : Fin 4096) (j : Fin 1024) : ∑ k, a.cat r k * a.w (ix2 j k) = ((a.du r j : ℝ) : EReal) := by
  rw [du, ← coe_sum]
  exact Finset.sum_congr rfl fun k _ => by rw [a.cat_real h r k, h.w.eq, ← EReal.coe_mul, EReal.toReal_coe]

/-- Column `512 n + x` is column `x` of block `n`. -/
theorem cat_at (r : Fin 4096) (k : Fin 3584) (n : Fin 7) (x : Fin 512) (h : k.val = 512 * n.val + x.val) : a.cat r k = a.part n (ix2 r x) := by
  have e1 : (⟨k.val / 512, by omega⟩ : Fin 7) = n := Fin.ext (by show k.val / 512 = n.val; omega)
  have e2 : (⟨k.val % 512, by omega⟩ : Fin 512) = x := Fin.ext (by show k.val % 512 = x.val; omega)
  rw [cat, e1, e2]

end Args

end Cert.InProj

end
-- ==== Proof.Pack.lean ====
/- An array of eight rows into which rows and halves of rows are stored. -/
module

public import Idealize.ShloMosaic.Lib.Pipeline.ValueKit
public import Idealize.ShloMosaic.Lib.WritesUnit
public import Idealize.ShloMosaic.Lib.Pointwise

@[expose] public section

noncomputable section

namespace Cert.Pack

open Idealize.ShloMosaic

variable {Val : EltTy → Type} [∀ e, Nonempty (Val e)] {e : EltTy}

/-- An array of 8 rows of which row `a` was stored last: that row is the one stored, the others are what was there before. -/
theorem canon_row (a : Fin 8) (inb : ∀ d, (![a.val, 0] : Fin 2 → ℕ) d + (![1, 1024] : Fin 2 → ℕ) d ≤ (⟨2, ![8, 1024]⟩ : Shape).size d)
    (w : (Rect.unit (s := ⟨2, ![8, 1024]⟩) ![a.val, 0] ![1, 1024] inb).shape.Idx → Val e)
    (L : List (View.Piece Val ⟨2, ![8, 1024]⟩ e)) (r : Fin 8) (j : Fin 1024) :
    View.canon (⟨Rect.unit (s := ⟨2, ![8, 1024]⟩) ![a.val, 0] ![1, 1024] inb, w⟩ :: L) (ix2 r j) = if r = a then w (ix2 0 j) else View.canon L (ix2 r j) := by
  split_ifs with h
  · subst h
    have hx : (Rect.unit (s := ⟨2, ![8, 1024]⟩) ![r.val, 0] ![1, 1024] inb).emb (ix2 0 j) = ix2 r j := by
      funext d
      fin_cases d
      · exact Fin.ext (by rw [Rect.emb_apply]; exact (by omega : r.val + 1 * 0 = r.val))
      · exact Fin.ext (by rw [Rect.emb_apply]; exact (by omega : 0 + 1 * j.val = j.val))
    rw [← hx, View.canon_cons_emb]
  · refine View.canon_cons_of_not_mem _ _ ?_
    intro hm
    rw [← Rect.map_emb_univ] at hm
    obtain ⟨x, -, hx⟩ := Finset.mem_map.mp hm
    have h0 := congrArg (fun y : (⟨2, ![8, 1024]⟩ : Shape).Idx => (y 0).val) hx
    have hx0 : (x 0).val < 1 := (x 0).isLt
    have : a.val + 1 * (x 0).val = r.val := h0
    exact h (Fin.ext (by omega))

/-- The same of the rows read out of memory. -/
theorem read_row {sig : RefSig} {κ : Kind} {sp : Space} (v : View sig κ sp ⟨2, ![8, 1024]⟩ e) (f : v.ty.Contents Val) (a : Fin 8) (inb : ∀ d, (![a.val, 0] : Fin 2 → ℕ) d + (![1, 1024] : Fin 2 → ℕ) d ≤ (⟨2, ![8, 1024]⟩ : Shape).size d)
    (w : (Rect.unit (s := ⟨2, ![8, 1024]⟩) ![a.val, 0] ![1, 1024] inb).shape.Idx → Val e)
    (L : List (View.Piece Val ⟨2, ![8, 1024]⟩ e)) (r : Fin 8) (j : Fin 1024) :
    v.read Val (v.writes Val f (⟨Rect.unit (s := ⟨2, ![8, 1024]⟩) ![a.val, 0] ![1, 1024] inb, w⟩ :: L)) (ix2 r j) = if r = a then w (ix2 0 j) else v.read Val (v.writes Val f L) (ix2 r j) := by
  split_ifs with h
  · subst h
    refine View.read_writes_cons_unit_of_mem v f inb w L (ix2 r j) (ix2 0 j) rfl fun d => ?_
    fin_cases d
    · rfl
    · exact (Nat.zero_add _).symm
  · refine View.read_writes_cons_unit_of_not_mem v f inb w L (ix2 r j) rfl 0 ?_
    have hne : r.val ≠ a.val := fun e => h (Fin.ext e)
    exact (by omega : r.val < a.val ∨ a.val + 1 ≤ r.val)

/-- A store of 512 columns of row `a`, from column `o` on: those numbers are the ones stored, the others are what was there before. -/
theorem canon_half (a : Fin 8) (o : ℕ) (inb : ∀ d, (![a.val, o] : Fin 2 → ℕ) d + (![1, 512] : Fin 2 → ℕ) d ≤ (⟨2, ![8, 1024]⟩ : Shape).size d)
    (w : (Rect.unit (s := ⟨2, ![8, 1024]⟩) ![a.val, o] ![1, 512] inb).shape.Idx → Val e)
    (L : List (View.Piece Val ⟨2, ![8, 1024]⟩ e)) (r : Fin 8) (j : Fin 1024) :
    View.canon (⟨Rect.unit (s := ⟨2, ![8, 1024]⟩) ![a.val, o] ![1, 512] inb, w⟩ :: L) (ix2 r j)
      = if h : r = a ∧ o ≤ j.val ∧ j.val < o + 512 then w (ix2 0 ⟨j.val - o, by omega⟩) else View.canon L (ix2 r j) := by
  split_ifs with h
  · obtain ⟨rfl, h1, h2⟩ := h
    have hx : (Rect.unit (s := ⟨2, ![8, 1024]⟩) ![r.val, o] ![1, 512] inb).emb (ix2 0 ⟨j.val - o, by omega⟩) = ix2 r j := by
      funext d
      fin_cases d
      · exact Fin.ext (by rw [Rect.emb_apply]; exact (by omega : r.val + 1 * 0 = r.val))
      · exact Fin.ext (by rw [Rect.emb_apply]; exact (by omega : o + 1 * (j.val - o) = j.val))
    rw [← hx, View.canon_cons_emb]
  · refine View.canon_cons_of_not_mem _ _ ?_
    intro hm
    rw [← Rect.map_emb_univ] at hm
    obtain ⟨x, -, hx⟩ := Finset.mem_map.mp hm
    have h0 := congrArg (fun y : (⟨2, ![8, 1024]⟩ : Shape).Idx => (y 0).val) hx
    have h1 := congrArg (fun y : (⟨2, ![8, 1024]⟩ : Shape).Idx => (y 1).val) hx
    have hx0 : (x 0).val < 1 := (x 0).isLt
    have hx1 : (x 1).val < 512 := (x 1).isLt
    have e0 : a.val + 1 * (x 0).val = r.val := h0
    have e1 : o + 1 * (x 1).val = j.val := h1
    exact h ⟨Fin.ext (by omega), by omega, by omega⟩

/-- The same of the rows read out of memory. -/
theorem read_half {sig : RefSig} {κ : Kind} {sp : Space} (v : View sig κ sp ⟨2, ![8, 1024]⟩ e) (f : v.ty.Contents Val) (a : Fin 8) (o : ℕ)
    (inb : ∀ d, (![a.val, o] : Fin 2 → ℕ) d + (![1, 512] : Fin 2 → ℕ) d ≤ (⟨2, ![8, 1024]⟩ : Shape).size d)
    (w : (Rect.unit (s := ⟨2, ![8, 1024]⟩) ![a.val, o] ![1, 512] inb).shape.Idx → Val e)
    (L : List (View.Piece Val ⟨2, ![8, 1024]⟩ e)) (r : Fin 8) (j : Fin 1024) :
    v.read Val (v.writes Val f (⟨Rect.unit (s := ⟨2, ![8, 1024]⟩) ![a.val, o] ![1, 512] inb, w⟩ :: L)) (ix2 r j)
      = if h : r = a ∧ o ≤ j.val ∧ j.val < o + 512 then w (ix2 0 ⟨j.val - o, by omega⟩) else v.read Val (v.writes Val f L) (ix2 r j) := by
  split_ifs with h
  · obtain ⟨rfl, h1, h2⟩ := h
    refine View.read_writes_cons_unit_of_mem v f inb w L (ix2 r j) (ix2 0 ⟨j.val - o, by omega⟩) rfl fun d => ?_
    fin_cases d
    · rfl
    · exact (by omega : j.val = o + (j.val - o))
  · by_cases hr : r = a
    · refine View.read_writes_cons_unit_of_not_mem v f inb w L (ix2 r j) rfl 1 ?_
      exact (by omega : j.val < o ∨ o + 512 ≤ j.val)
    · refine View.read_writes_cons_unit_of_not_mem v f inb w L (ix2 r j) rfl 0 ?_
      have hne : r.val ≠ a.val := fun e => hr (Fin.ext e)
      exact (by omega : r.val < a.val ∨ a.val + 1 ≤ r.val)

end Cert.Pack
end
-- ==== Proof.InProjKernel.lean ====
module

public import proofs.«01_k».proof.Proof.InProjPay
public import proofs.«01_k».proof.Proof.InProjSpec
public import proofs.«01_k».proof.Proof.Pack
public import proofs.«01_k».proof.Proof.Gen.KernelIdeal.Value

@[expose] public section

set_option maxRecDepth 16384

noncomputable section

namespace Cert.InProj

open Idealize.ShloMosaic Idealize.ShloMosaic.TcCoe Idealize.SL.Sem Cert.KernelIdeal Cert.KernelIdeal.Gen Cert.Reals

variable (m : (ℓ : Loc nD τ sig) → Buf (Elt Ideal) ℓ) (c : Dev nD)

/-- Row `r` of the block of 512 rows that grid point `t` works on. -/
def row (t : Fin cfg0.N) (r : Fin 512) : Fin 4096 := ⟨512 * t.val + r.val, by have := t.isLt; have h : cfg0.N = 8 := N_0; omega⟩

/-- An argument of the kernel, as memory holds it. -/
abbrev arr (b : Ref sig .tc) : Buf (Elt Ideal) ((c : Thread nD τ).loc b) := m ((c : Thread nD τ).loc b)

/-- The arguments the kernel finds in memory. -/
def args : Args where
  x := arr m c main_arg0
  dh1 := arr m c main_arg1
  g := arr m c main_arg2
  w := arr m c main_arg3
  part := ![arr m c main_arg4, arr m c main_arg5, arr m c main_arg6, arr m c main_arg7, arr m c main_arg8, arr m c main_arg9, arr m c main_arg10]

/-- The cotangent of the projection, at row `r` and column `k`, as the kernel's arguments hold it. -/
abbrev dpr (r : Fin 4096) (k : Fin 3584) : EReal := (args m c).cat r k

/-- Which block of its array each window holds at a point. -/
theorem idx : ∀ t : Fin cfg0.N, win0_0.index t = ![t.val, 0] ∧ win0_1.index t = ![t.val, 0] ∧ win0_2.index t = ![t.val, 0] ∧ win0_3.index t = ![t.val, 0] ∧
    win0_4.index t = ![t.val, 0] ∧ win0_5.index t = ![t.val, 0] ∧ win0_6.index t = ![t.val, 0] ∧ win0_7.index t = ![t.val, 0] ∧ win0_8.index t = ![t.val, 0] ∧
    win0_9.index t = ![0, 0] ∧ win0_10.index t = ![t.val, 0] ∧ win0_11.index t = ![t.val, 0] ∧ win0_12.index t = ![0, 0] :=
  (by decide +kernel : ∀ t : Fin grid0.N, _)

/-- What this window holds at a point, as rows of its argument. -/
theorem blk0 (t : Fin cfg0.N) (r : Fin 512) (j : Fin 512) : iblk m c 0 t (ix2 r j) = arr m c main_arg4 (ix2 (row t r) j) := by
  blk_point [iblk, idx t, row]

/-- What this window holds at a point, as rows of its argument. -/
theorem blk1 (t : Fin cfg0.N) (r : Fin 512) (j : Fin 512) : iblk m c 1 t (ix2 r j) = arr m c main_arg5 (ix2 (row t r) j) := by
  blk_point [iblk, idx t, row]

/-- What this window holds at a point, as rows of its argument. -/
theorem blk2 (t : Fin cfg0.N) (r : Fin 512) (j : Fin 512) : iblk m c 2 t (ix2 r j) = arr m c main_arg6 (ix2 (row t r) j) := by
  blk_point [iblk, idx t, row]

/-- What this window holds at a point, as rows of its argument. -/
theorem blk3 (t : Fin cfg0.N) (r : Fin 512) (j : Fin 512) : iblk m c 3 t (ix2 r j) = arr m c main_arg7 (ix2 (row t r) j) := by
  blk_point [iblk, idx t, row]

/-- What this window holds at a point, as rows of its argument. -/
theorem blk4 (t : Fin cfg0.N) (r : Fin 512) (j : Fin 512) : iblk m c 4 t (ix2 r j) = arr m c main_arg8 (ix2 (row t r) j) := by
  blk_point [iblk, idx t, row]

/-- What this window holds at a point, as rows of its argument. -/
theorem blk5 (t : Fin cfg0.N) (r : Fin 512) (j : Fin 512) : iblk m c 5 t (ix2 r j) = arr m c main_arg9 (ix2 (row t r) j) := by
  blk_point [iblk, idx t, row]

/-- What this window holds at a point, as rows of its argument. -/
theorem blk6 (t : Fin cfg0.N) (r : Fin 512) (j : Fin 512) : iblk m c 6 t (ix2 r j) = arr m c main_arg10 (ix2 (row t r) j) := by
  blk_point [iblk, idx t, row]

/-- What this window holds at a point, as rows of its argument. -/
theorem blk7 (t : Fin cfg0.N) (r : Fin 512) (j : Fin 1024) : iblk m c 7 t (ix2 r j) = arr m c main_arg0 (ix2 (row t r) j) := by
  blk_point [iblk, idx t, row]

/-- What this window holds at a point, as rows of its argument. -/
theorem blk8 (t : Fin cfg0.N) (r : Fin 512) (j : Fin 1024) : iblk m c 8 t (ix2 r j) = arr m c main_arg1 (ix2 (row t r) j) := by
  blk_point [iblk, idx t, row]

/-- What this window holds at a point, as rows of its argument. -/
theorem blk9 (t : Fin cfg0.N) (j : Fin 1024) : iblk m c 9 t (ix2 0 j) = arr m c main_arg2 (ix2 0 j) := by
  blk_point [iblk, idx t]

/-- What this store puts into the joined cotangent. -/
theorem piece0 (t : Fin cfg0.N) (x : S512x512.Idx) (r : Fin 512) (k : Fin 3584) (h0 : r.val = (x 0).val) (h1 : k.val = 0 + (x 1).val) :
    k0_pay6 (F := Ideal) (iblk m c 0 t) x = dpr m c (row t r) k := by
  idx_vars x
  obtain rfl : r = x0 := Fin.ext h0
  pointwise [k0_pay6]
  rw [blk0, dpr, Args.cat_at _ _ _ 0 x1 (by omega)]
  rfl

/-- What this store puts into the joined cotangent. -/
theorem piece1 (t : Fin cfg0.N) (x : S512x512.Idx) (r : Fin 512) (k : Fin 3584) (h0 : r.val = (x 0).val) (h1 : k.val = 512 + (x 1).val) :
    k0_pay7 (F := Ideal) (iblk m c 1 t) x = dpr m c (row t r) k := by
  idx_vars x
  obtain rfl : r = x0 := Fin.ext h0
  pointwise [k0_pay7]
  rw [blk1, dpr, Args.cat_at _ _ _ 1 x1 h1]
  rfl

/-- What this store puts into the joined cotangent. -/
theorem piece2 (t : Fin cfg0.N) (x : S512x512.Idx) (r : Fin 512) (k : Fin 3584) (h0 : r.val = (x 0).val) (h1 : k.val = 1024 + (x 1).val) :
    k0_pay8 (F := Ideal) (iblk m c 2 t) x = dpr m c (row t r) k := by
  idx_vars x
  obtain rfl : r = x0 := Fin.ext h0
  pointwise [k0_pay8]
  rw [blk2, dpr, Args.cat_at _ _ _ 2 x1 h1]
  rfl

/-- What this store puts into the joined cotangent. -/
theorem piece3 (t : Fin cfg0.N) (x : S512x512.Idx) (r : Fin 512) (k : Fin 3584) (h0 : r.val = (x 0).val) (h1 : k.val = 1536 + (x 1).val) :
    k0_pay9 (F := Ideal) (iblk m c 3 t) x = dpr m c (row t r) k := by
  idx_vars x
  obtain rfl : r = x0 := Fin.ext h0
  pointwise [k0_pay9]
  rw [blk3, dpr, Args.cat_at _ _ _ 3 x1 h1]
  rfl

/-- What this store puts into the joined cotangent. -/
theorem piece4 (t : Fin cfg0.N) (x : S512x512.Idx) (r : Fin 512) (k : Fin 3584) (h0 : r.val = (x 0).val) (h1 : k.val = 2048 + (x 1).val) :
    k0_pay10 (F := Ideal) (iblk m c 4 t) x = dpr m c (row t r) k := by
  idx_vars x
  obtain rfl : r = x0 := Fin.ext h0
  pointwise [k0_pay10]
  rw [blk4, dpr, Args.cat_at _ _ _ 4 x1 h1]
  rfl

/-- What this store puts into the joined cotangent. -/
theorem piece5 (t : Fin cfg0.N) (x : S512x512.Idx) (r : Fin 512) (k : Fin 3584) (h0 : r.val = (x 0).val) (h1 : k.val = 2560 + (x 1).val) :
    k0_pay11 (F := Ideal) (iblk m c 5 t) x = dpr m c (row t r) k := by
  idx_vars x
  obtain rfl : r = x0 := Fin.ext h0
  pointwise [k0_pay11]
  rw [blk5, dpr, Args.cat_at _ _ _ 5 x1 h1]
  rfl

/-- What this store puts into the joined cotangent. -/
theorem piece6 (t : Fin cfg0.N) (x : S512x512.Idx) (r : Fin 512) (k : Fin 3584) (h0 : r.val = (x 0).val) (h1 : k.val = 3072 + (x 1).val) :
    k0_pay12 (F := Ideal) (iblk m c 6 t) x = dpr m c (row t r) k := by
  idx_vars x
  obtain rfl : r = x0 := Fin.ext h0
  pointwise [k0_pay12]
  rw [blk6, dpr, Args.cat_at _ _ _ 6 x1 h1]
  rfl

/-- The weight of four column blocks as the host hands it over. -/
theorem w_entry (q : Fin 4) (j : Fin 1024) (k : Fin 896) : (V m c main_v2) (ix3 q j k) = arr m c main_arg3 (ix2 j ⟨q.val * 896 + k.val, by omega⟩) := by
  entry_read
  pointwise

/-- A later point leaves the scratch memory as it is. -/
theorem sc_B (t : Fin cfg0.N) (h : ¬ t.val % 8 = 0) : (outsAt0 m c t.val t.isLt).2.2.2 = (outsAt0 m c (t.val - 1) (by omega)).2.2.2 := by
  rw [outsAt0_B m c t h h]
  rfl

/-- The seven stores that fill the block of the projection's cotangent. -/
def pcs (t : Fin cfg0.N) : List (View.Piece (Elt Ideal) S512x3584 .bf16) :=
  [⟨Rect.unit ![0, 3072] ![512, 512] inb_S512x3584_S512x512_0_3072, k0_pay12 (iblk m c 6 t)⟩,
    ⟨Rect.unit ![0, 2560] ![512, 512] inb_S512x3584_S512x512_0_2560, k0_pay11 (iblk m c 5 t)⟩,
    ⟨Rect.unit ![0, 2048] ![512, 512] inb_S512x3584_S512x512_0_2048, k0_pay10 (iblk m c 4 t)⟩,
    ⟨Rect.unit ![0, 1536] ![512, 512] inb_S512x3584_S512x512_0_1536, k0_pay9 (iblk m c 3 t)⟩,
    ⟨Rect.unit ![0, 1024] ![512, 512] inb_S512x3584_S512x512_0_1024, k0_pay8 (iblk m c 2 t)⟩,
    ⟨Rect.unit ![0, 512] ![512, 512] inb_S512x3584_S512x512_0_512, k0_pay7 (iblk m c 1 t)⟩,
    ⟨Rect.unit ![0, 0] ![512, 512] inb_S512x3584_S512x512_0_0, k0_pay6 (iblk m c 0 t)⟩]

/-- The seven stores fill the block with the joined cotangent. -/
theorem pcs_canon (t : Fin cfg0.N) (r : Fin 512) (j : Fin 3584) : View.canon (pcs m c t) (ix2 r j) = dpr m c (row t r) j := by
  unfold pcs
  canon_tiles x h
  · exact piece6 m c t x r j h0 h1
  · exact piece5 m c t x r j h0 h1
  · exact piece4 m c t x r j h0 h1
  · exact piece3 m c t x r j h0 h1
  · exact piece2 m c t x r j h0 h1
  · exact piece1 m c t x r j h0 h1
  · exact piece0 m c t x r j h0 (by rw [Nat.zero_add]; exact h1)

/-- A load of 896 of its columns. -/
theorem pcs_load (v : View sig .tc .vmem S512x3584 .bf16) (t : Fin cfg0.N) (o : ℕ) (inb : ∀ a, (![0, o] : Fin 2 → ℕ) a + (![512, 896] : Fin 2 → ℕ) a ≤ S512x3584.size a)
    (r : Fin 512) (x : Fin 896) (k : Fin 3584) (hk : k.val = o + x.val) :
    v.readCov (pcs m c t) (Rect.unit (s := S512x3584) ![0, o] ![512, 896] inb).toLoadRect (ix2 r x) = dpr m c (row t r) k := by
  have e : (Rect.unit (s := S512x3584) ![0, o] ![512, 896] inb).toLoadRect.idx (ix2 r x) = ix2 r k := by
    funext a
    fin_cases a
    · exact Fin.ext (by show 0 + 1 * r.val = r.val; omega)
    · exact Fin.ext (by show o + 1 * x.val = k.val; omega)
  rw [View.readCov_eq_canon']
  exact (congrArg (View.canon (pcs m c t)) e).trans (pcs_canon m c t r k)

/-- A load of one of the weight's four column blocks, out of the copy of it that point 0 makes. -/
theorem w_load (v : View sig .tc .vmem S4x1024x896 .bf16) (q : Fin 4) (w : Vec Ideal S4x1024x896 .bf16) (hw : w = V m c main_v2)
    (inb : ∀ a, (![q.val, 0, 0] : Fin 3 → ℕ) a + (![1, 1024, 896] : Fin 3 → ℕ) a ≤ S4x1024x896.size a) (j : Fin 1024) (x : Fin 896) :
    View.ld (Val := Elt Ideal) (e' := .bf16) w (Rect.unit (s := S4x1024x896) ![q.val, 0, 0] ![1, 1024, 896] inb) (ix3 0 j x)
      = arr m c main_arg3 (ix2 j ⟨q.val * 896 + x.val, by omega⟩) := by
  rw [hw, ← w_entry]
  show V m c main_v2 _ = _
  congr 1
  funext a
  fin_cases a
  · exact Fin.ext (by show q.val + 1 * 0 = q.val; omega)
  · exact Fin.ext (by show 0 + 1 * j.val = j.val; omega)
  · exact Fin.ext (by show 0 + 1 * x.val = x.val; omega)

/-- The copy of the weight holds what the host hands over. -/
theorem w_canon (y : S4x1024x896.Idx) :
    View.canon (Val := Elt Ideal) (s := S4x1024x896) (e := .bf16) [⟨Rect.whole S4x1024x896, ReadAs.same.apply (View.read (Elt Ideal) (View.whole main_v2) (V m c main_v2))⟩] y = V m c main_v2 y := by
  canon_tiles x h
  obtain rfl : y = x := by
    funext a
    fin_cases a
    · exact Fin.ext h0
    · exact Fin.ext h1
    · exact Fin.ext h2
  rfl

/-- The first point leaves the weight in the scratch memory. -/
theorem sc_A (t : Fin cfg0.N) (h : t.val % 8 = 0) : (outsAt0 m c t.val t.isLt).2.2.2 = V m c main_v2 := by
  rw [outsAt0_A m c t h h]
  frame_out
  exact funext (w_canon m c)

end Cert.InProj
end
-- ==== Proof.InProjPoints.lean ====
module

public import proofs.«01_k».proof.Proof.InProjKernel

@[expose] public section

set_option maxRecDepth 16384

noncomputable section

namespace Cert.InProj

open Idealize.ShloMosaic Idealize.ShloMosaic.TcCoe Idealize.SL.Sem Cert.KernelIdeal Cert.KernelIdeal.Gen Cert.Reals

variable (m : (ℓ : Loc nD τ sig) → Buf (Elt Ideal) ℓ) (c : Dev nD)

/-- The cotangent of the normalised rows: the projection's cotangent times the transposed weight. -/
def du (r : Fin 4096) (j : Fin 1024) : EReal := ∑ k, dpr m c r k * arr m c main_arg3 (ix2 j k)

/-- The kernel's copy of the weight holds the weight's four column blocks after every point. -/
theorem scr : ∀ (n : ℕ) (hn : n < cfg0.N), (outsAt0 m c n hn).2.2.2 = V m c main_v2
  | 0, hn => sc_A m c ⟨0, hn⟩ rfl
  | n + 1, hn => by
    have hN : cfg0.N = 8 := N_0
    exact (sc_B m c ⟨n + 1, hn⟩ (by show ¬ (n + 1) % 8 = 0; omega)).trans (scr n (by omega))

/-- A point's rows of the joined cotangent. -/
theorem out10 (t : Fin cfg0.N) (r : Fin 512) (j : Fin 3584) : (outsAt0 m c t.val t.isLt).1 (ix2 r j) = dpr m c (row t r) j := by
  by_cases h : t.val % 8 = 0
  · rw [outsAt0_A m c t h h]
    frame_out
    exact pcs_canon m c t r j
  · rw [outsAt0_B m c t h h]
    frame_out
    exact pcs_canon m c t r j

/-- What point 0 leaves. -/
theorem out_A (t : Fin cfg0.N) (h : t.val % 8 = 0) : ∃ u : FVec Ideal S512x1024 .f32, (∀ r j, u (ix2 r j) = du m c (row t r) j) ∧
    (∀ r j, (outsAt0 m c t.val t.isLt).2.1 (ix2 r j) = k0_pay4 (F := Ideal) u (iblk m c 7 t) (k0_pay14 (iblk m c 7 t)) (iblk m c 9 t) (iblk m c 8 t) (ix2 r j)) ∧
    (∀ r j, (outsAt0 m c t.val t.isLt).2.2.1 (ix2 r j) = if r = 0 then k0_pay3 (F := Ideal) u (iblk m c 7 t) (k0_pay14 (iblk m c 7 t)) (fun _ => 0) (ix2 0 j) else 0) := by
  refine' ⟨_, ?hu, ?h1, ?h2⟩
  case h1 =>
    intro r j
    rw [outsAt0_A m c t h h]
    frame_out
    rfl
  case hu =>
    intro r j
    refine du_block _ _ _ _ _ _ _ _ (fun r k => dpr m c (row t r) k) (fun j k => arr m c main_arg3 (ix2 j k)) ?_ ?_ ?_ ?_ ?_ ?_ ?_ ?_ r j
    · exact fun r x => pcs_load m c _ t 0 _ r x _ rfl
    · exact fun j x => (congrFun (View.readCov_eq_canon' _ _ _) _).trans (w_load m c (View.whole cc0_scratch0) 0 _ (funext (w_canon m c)) _ j x)
    · exact fun r x => pcs_load m c _ t 896 _ r x _ rfl
    · exact fun j x => (congrFun (View.readCov_eq_canon' _ _ _) _).trans (w_load m c (View.whole cc0_scratch0) 1 _ (funext (w_canon m c)) _ j x)
    · exact fun r x => pcs_load m c _ t 1792 _ r x _ rfl
    · exact fun j x => (congrFun (View.readCov_eq_canon' _ _ _) _).trans (w_load m c (View.whole cc0_scratch0) 2 _ (funext (w_canon m c)) _ j x)
    · exact fun r x => pcs_load m c _ t 2688 _ r x _ rfl
    · exact fun j x => (congrFun (View.readCov_eq_canon' _ _ _) _).trans (w_load m c (View.whole cc0_scratch0) 3 _ (funext (w_canon m c)) _ j x)
  case h2 =>
    intro r j
    rw [outsAt0_A m c t h h]
    frame_out
    refine (Cert.Pack.canon_row 0 _ _ _ r j).trans ?_
    split_ifs with hr
    · congr 1
      funext z
      idx_vars z
      rw [View.readCov_eq_canon']
      canon_tiles x h
      pointwise [k0_pay5]
    · canon_tiles x h
      pointwise [k0_pay5]

/-- What a later point leaves. -/
theorem out_B (t : Fin cfg0.N) (h : ¬ t.val % 8 = 0) : ∃ u : FVec Ideal S512x1024 .f32, (∀ r j, u (ix2 r j) = du m c (row t r) j) ∧
    (∀ r j, (outsAt0 m c t.val t.isLt).2.1 (ix2 r j) = k0_pay4 (F := Ideal) u (iblk m c 7 t) (k0_pay14 (iblk m c 7 t)) (iblk m c 9 t) (iblk m c 8 t) (ix2 r j)) ∧
    (∀ r j, (outsAt0 m c t.val t.isLt).2.2.1 (ix2 r j) = if r = 0 then k0_pay3 (F := Ideal) u (iblk m c 7 t) (k0_pay14 (iblk m c 7 t)) (fun z => (outsAt0 m c (t.val - 1) (by omega)).2.2.1 (ix2 0 (z 1))) (ix2 0 j)
      else (outsAt0 m c (t.val - 1) (by omega)).2.2.1 (ix2 r j)) := by
  have hs := scr m c (t.val - 1) (by have := t.isLt; omega)
  refine' ⟨_, ?hu, ?h1, ?h2⟩
  case h1 =>
    intro r j
    rw [outsAt0_B m c t h h]
    frame_out
    rfl
  case hu =>
    intro r j
    refine du_block _ _ _ _ _ _ _ _ (fun r k => dpr m c (row t r) k) (fun j k => arr m c main_arg3 (ix2 j k)) ?_ ?_ ?_ ?_ ?_ ?_ ?_ ?_ r j
    · exact fun r x => pcs_load m c _ t 0 _ r x _ rfl
    · exact fun j x => w_load m c (View.whole cc0_scratch0) 0 _ ((Memref.isWhole_whole _).read_unread _ |>.trans hs) _ j x
    · exact fun r x => pcs_load m c _ t 896 _ r x _ rfl
    · exact fun j x => w_load m c (View.whole cc0_scratch0) 1 _ ((Memref.isWhole_whole _).read_unread _ |>.trans hs) _ j x
    · exact fun r x => pcs_load m c _ t 1792 _ r x _ rfl
    · exact fun j x => w_load m c (View.whole cc0_scratch0) 2 _ ((Memref.isWhole_whole _).read_unread _ |>.trans hs) _ j x
    · exact fun r x => pcs_load m c _ t 2688 _ r x _ rfl
    · exact fun j x => w_load m c (View.whole cc0_scratch0) 3 _ ((Memref.isWhole_whole _).read_unread _ |>.trans hs) _ j x
  case h2 =>
    intro r j
    rw [outsAt0_B m c t h h]
    frame_out
    refine (Cert.Pack.read_row _ _ 0 _ _ _ r j).trans ?_
    split_ifs with hr
    · congr 1
      funext z
      idx_vars z
      refine congrArg (outsAt0 m c (t.val - 1) (by omega)).2.2.1 ?_
      funext a
      have := z0.isLt
      fin_cases a
      · exact Fin.ext (by show 0 + 1 * z0.val = 0; omega)
      · exact Fin.ext (by show 0 + 1 * z1.val = z1.val; omega)
    · rw [View.writes_nil, (hs0_12 t).read_unread]

end Cert.InProj
end
-- ==== Proof.InProjFinal.lean ====
module

public import proofs.«01_k».proof.Proof.InProjPoints

@[expose] public section

set_option maxRecDepth 16384

noncomputable section

namespace Cert.InProj

open Idealize.ShloMosaic Idealize.ShloMosaic.TcCoe Idealize.SL.Sem Cert.KernelIdeal Cert.KernelIdeal.Gen Cert.Reals

variable (m : (ℓ : Loc nD τ sig) → Buf (Elt Ideal) ℓ) (c : Dev nD)

/-- What a grid point leaves of the rows' gradient. -/
theorem out11 (hf : (args m c).Finite) (t : Fin cfg0.N) (r : Fin 512) (j : Fin 1024) :
    (outsAt0 m c t.val t.isLt).2.1 (ix2 r j) = (args m c).dx (ix2 (row t r) j) := by
  have key : ∀ u : FVec Ideal S512x1024 .f32, (∀ r j, u (ix2 r j) = du m c (row t r) j) →
      k0_pay4 (F := Ideal) u (iblk m c 7 t) (k0_pay14 (iblk m c 7 t)) (iblk m c 9 t) (iblk m c 8 t) (ix2 r j) = (args m c).dx (ix2 (row t r) j) := by
    intro u hu
    rw [dx_block u (iblk m c 7 t) (iblk m c 8 t) (iblk m c 9 t) (fun r k => re (args m c).x (ix2 (row t r) k)) (fun r k => (args m c).du (row t r) k)
      (fun k => re (args m c).g (ix2 0 k)) (fun r j => (blk7 m c t r j).trans (hf.x.eq _)) (fun r j => (hu r j).trans ((args m c).du_real hf _ _))
      (fun j => (blk9 m c t j).trans (hf.g.eq _)), blk8]
    rfl
  by_cases h : t.val % 8 = 0
  · obtain ⟨u, hu, h1, -⟩ := out_A m c t h
    rw [h1, key u hu]
  · obtain ⟨u, hu, h1, -⟩ := out_B m c t h
    rw [h1, key u hu]

/-- What a grid point adds to the gradient of the norm's weight. -/
def dgPart (t : Fin cfg0.N) (j : Fin 1024) : ℝ :=
  ∑ r, (args m c).du (row t r) j * (re (args m c).x (ix2 (row t r) j) * rstd 1024 (fun k => re (args m c).x (ix2 (row t r) k)))

/-- What a grid point adds to the eight rows: its part of the weight's gradient, to row 0. -/
def packPart (t : Fin cfg0.N) (i : S8x1024.Idx) : EReal := if (i 0).val = 0 then ((dgPart m c t (i 1) : ℝ) : EReal) else 0

/-- What a point adds to `pack`, at an index. -/
theorem packPart_ix (t : Fin cfg0.N) (r : Fin 8) (j : Fin 1024) : packPart m c t (ix2 r j) = if r = 0 then ((dgPart m c t j : ℝ) : EReal) else 0 := by
  by_cases h : r = 0
  · rw [if_pos h, h]
    exact if_pos rfl
  · rw [if_neg h]
    exact if_neg fun e => h (Fin.ext e)

/-- A point's part of the gradient of the norm's weight, as a sum over its rows. -/
theorem dg_point (hf : (args m c).Finite) (t : Fin cfg0.N) (u : FVec Ideal S512x1024 .f32) (hu : ∀ r j, u (ix2 r j) = du m c (row t r) j)
    (a : FVec Ideal S1x1024 .f32) (j : Fin 1024) :
    k0_pay3 (F := Ideal) u (iblk m c 7 t) (k0_pay14 (iblk m c 7 t)) a (ix2 0 j) = a (ix2 0 j) + ((dgPart m c t j : ℝ) : EReal) :=
  dg_block u (iblk m c 7 t) a (fun r k => re (args m c).x (ix2 (row t r) k)) (fun r k => (args m c).du (row t r) k)
    (fun r j => (blk7 m c t r j).trans (hf.x.eq _)) (fun r j => (hu r j).trans ((args m c).du_real hf _ _)) j

/-- Point 0 leaves its own part in `pack`. -/
theorem out12_A (hf : (args m c).Finite) (t : Fin cfg0.N) (h : t.val % 8 = 0) (i : S8x1024.Idx) :
    (outsAt0 m c t.val t.isLt).2.2.1 i = 0 + packPart m c t i := by
  idx_vars i
  obtain ⟨u, hu, -, h2⟩ := out_A m c t h
  rw [h2, packPart_ix]
  split_ifs with hr
  · rw [dg_point m c hf t u hu]
  · rw [add_zero]

/-- A later point adds its part to `pack`. -/
theorem out12_B (hf : (args m c).Finite) (t : Fin cfg0.N) (h : ¬ t.val % 8 = 0) (i : S8x1024.Idx) :
    (outsAt0 m c t.val t.isLt).2.2.1 i = (outsAt0 m c (t.val - 1) (by omega)).2.2.1 i + packPart m c t i := by
  idx_vars i
  obtain ⟨u, hu, -, h2⟩ := out_B m c t h
  rw [h2, packPart_ix]
  split_ifs with hr
  · rw [dg_point m c hf t u hu, hr]
    rfl
  · rw [add_zero]

/-- The array this output ends with. -/
theorem final10 : (dats m 0 c).arrAt 10 cfg0.N = (args m c).dproj := by
  refine (dats m 0 c).arrAt_eq_of_covers 10 _ (by decide +kernel) fun t hf y => ?_
  blk_simp
  rw [after0_10]
  idx_vars y
  rw [out10]
  have e : ((View.whole main_v3_0).slice (win0_10.rect t)).emb (ix2 y0 y1) = ix2 (row t y0) y1 := by blk_ext [idx t, row]
  rw [e]
  rfl

/-- The array this output ends with. -/
theorem final11 (hf : (args m c).Finite) : (dats m 0 c).arrAt 11 cfg0.N = (args m c).dx := by
  refine (dats m 0 c).arrAt_eq_of_covers 11 _ (by decide +kernel) fun t _ y => ?_
  blk_simp
  rw [after0_11]
  idx_vars y
  rw [out11 m c hf]
  have e : ((View.whole main_v3_1).slice (win0_11.rect t)).emb (ix2 y0 y1) = ix2 (row t y0) y1 := by blk_ext [idx t, row]
  rw [e]

/-- The eight points' parts add up to the gradient of the norm's weight. -/
theorem dg_sum (j : Fin 1024) : ∑ t : Fin cfg0.N, dgPart m c t j = (args m c).dg j := by
  rw [Args.dg, Fin.sum_univ_tiles 8 512 rfl]
  refine Fintype.sum_equiv (finCongr N_0) _ _ fun t => Finset.sum_congr rfl fun r _ => ?_
  have e : (⟨(finCongr N_0 t).val * 512 + r.val, by have := (finCongr N_0 t).isLt; omega⟩ : Fin 4096) = row t r :=
    Fin.ext (by show t.val * 512 + r.val = 512 * t.val + r.val; omega)
  rw [e]

/-- The array this output ends with. -/
theorem final12 (hf : (args m c).Finite) : (dats m 0 c).arrAt 12 cfg0.N = (args m c).pack := by
  refine (dats m 0 c).arrAt_eq_of_after_last 12 t0_7 (by decide +kernel) _ fun j => ?_
  blk_simp
  rw [after0_12]
  idx_vars j
  refine (Pipeline.eq_sum_fin_of_reset_step_apply_last (fun n h => (outsAt0 m c n h).2.2.1) 8 (fun _ => 0) (packPart m c) (out12_A m c hf) (out12_B m c hf) (le_of_eq N_0)
    t0_7 rfl (ix2 j0 j1)).trans ?_
  simp only [packPart_ix, zero_add]
  by_cases hr : j0 = 0
  · simp only [if_pos hr]
    rw [coe_sum, dg_sum, hr]
    exact (if_pos rfl).symm
  · simp only [if_neg hr, Finset.sum_const_zero]
    exact (if_neg fun e => hr (Fin.ext e)).symm

end Cert.InProj
end
-- ==== Proof.InProjRef.lean ====
module

public import proofs.«01_k».proof.Proof.InProjSpec
public import proofs.«01_k».proof.Proof.Gen.ReferenceIdeal.Run
public import proofs.«01_k».proof.Proof.Gen.ReferenceIdeal.Read
public import Idealize.ShloMosaic.Lib.Pointwise

@[expose] public section

set_option maxRecDepth 16384

noncomputable section

namespace Cert.InProj

open Idealize.ShloMosaic Cert.ReferenceIdeal Cert.ReferenceIdeal.Read Cert.Reals

variable (a : Args)

/-- The mean of a row's squares with the norm's epsilon added, as the reference computes it. -/
theorem ref_meanSq (hf : a.Finite) (r : Fin 4096) (z : Fin 1) :
    val_main_v7 (F := Ideal) a.x (ix2 r z) = ((meanSq 1024 (fun k => re a.x (ix2 r k)) : ℝ) : EReal) := by
  pointwise [val_main_v7, val_main_v5, val_main_v3, val_main_v2, val_main_v1, val_main_v4, val_main_v6, val_main_cst, val_main_cst_0, val_main_cst_1]
  simp only [hf.x.eq, ← EReal.coe_mul, coe_sum]
  rw [ofBits_1024, ofBits_eps, div_real _ _ (by norm_num), ← EReal.coe_add]
  rfl

/-- Its reciprocal square root. -/
theorem ref_rstd (hf : a.Finite) (r : Fin 4096) (z : Fin 1) :
    val_main_v8 (F := Ideal) a.x (ix2 r z) = ((rstd 1024 (fun k => re a.x (ix2 r k)) : ℝ) : EReal) := by
  pointwise [val_main_v8]
  rw [ref_meanSq a hf]
  exact rsqrt_real _ (meanSq_pos (by norm_num) _)

/-- The derivative of the reciprocal square root. -/
theorem ref_slope (hf : a.Finite) (r : Fin 4096) (z : Fin 1) :
    val_main_v11 (F := Ideal) a.x (ix2 r z)
      = ((-(1/2) * (rstd 1024 (fun k => re a.x (ix2 r k)) / meanSq 1024 (fun k => re a.x (ix2 r k))) : ℝ) : EReal) := by
  pointwise [val_main_v11, val_main_v10, val_main_v9, val_main_cst_2]
  rw [ref_rstd a hf, ref_meanSq a hf, ofBits_neg_half, div_real _ _ (meanSq_pos (by norm_num) _).ne', ← EReal.coe_mul]

/-- The reference's joined cotangent. -/
theorem ref_cat (r : Fin 4096) (k : Fin 3584) :
    val_main_v0 (F := Ideal) (a.part 0) (a.part 1) (a.part 2) (a.part 3) (a.part 4) (a.part 5) (a.part 6) (ix2 r k) = a.cat r k := by
  pointwise [val_main_v0]
  by_cases h0 : k.val < 512
  · rw [dif_pos h0]
    exact (a.cat_at r k 0 _ (by show k.val = 512 * 0 + (k.val); omega)).symm
  rw [dif_neg h0]
  by_cases h1 : k.val - 512 < 512
  · rw [dif_pos h1]
    exact (a.cat_at r k 1 _ (by show k.val = 512 * 1 + (k.val - 512); omega)).symm
  rw [dif_neg h1]
  by_cases h2 : k.val - 512 - 512 < 512
  · rw [dif_pos h2]
    exact (a.cat_at r k 2 _ (by show k.val = 512 * 2 + (k.val - 512 - 512); omega)).symm
  rw [dif_neg h2]
  by_cases h3 : k.val - 512 - 512 - 512 < 512
  · rw [dif_pos h3]
    exact (a.cat_at r k 3 _ (by show k.val = 512 * 3 + (k.val - 512 - 512 - 512); omega)).symm
  rw [dif_neg h3]
  by_cases h4 : k.val - 512 - 512 - 512 - 512 < 512
  · rw [dif_pos h4]
    exact (a.cat_at r k 4 _ (by show k.val = 512 * 4 + (k.val - 512 - 512 - 512 - 512); omega)).symm
  rw [dif_neg h4]
  by_cases h5 : k.val - 512 - 512 - 512 - 512 - 512 < 512
  · rw [dif_pos h5]
    exact (a.cat_at r k 5 _ (by show k.val = 512 * 5 + (k.val - 512 - 512 - 512 - 512 - 512); omega)).symm
  rw [dif_neg h5]
  exact (a.cat_at r k 6 _ (by show k.val = 512 * 6 + (k.val - 512 - 512 - 512 - 512 - 512 - 512); omega)).symm

/-- The reference's cotangent of the normalised rows. -/
theorem ref_du (hf : a.Finite) (r : Fin 4096) (j : Fin 1024) :
    val_main_v19 (F := Ideal) a.w (a.part 0) (a.part 1) (a.part 2) (a.part 3) (a.part 4) (a.part 5) (a.part 6) (ix2 r j) = ((a.du r j : ℝ) : EReal) := by
  pointwise [val_main_v19]
  simp only [ref_cat]
  exact a.du_real hf r j

/-- The cotangent times the norm's weight. -/
theorem ref_dug (hf : a.Finite) (r : Fin 4096) (j : Fin 1024) :
    val_main_v24 (F := Ideal) a.g a.w (a.part 0) (a.part 1) (a.part 2) (a.part 3) (a.part 4) (a.part 5) (a.part 6) (ix2 r j)
      = ((a.du r j * re a.g (ix2 0 j) : ℝ) : EReal) := by
  pointwise [val_main_v24, val_main_v23]
  rw [ref_du a hf, hf.g.eq, ← EReal.coe_mul]

/-- What reaches the rows through the reciprocal square root. -/
theorem ref_through (hf : a.Finite) (r : Fin 4096) (j : Fin 1024) :
    val_main_v35 (F := Ideal) a.x a.g a.w (a.part 0) (a.part 1) (a.part 2) (a.part 3) (a.part 4) (a.part 5) (a.part 6) (ix2 r j)
      = (((∑ k, re a.x (ix2 r k) * (a.du r k * re a.g (ix2 0 k))) *
          (-(1/2) * (rstd 1024 (fun k => re a.x (ix2 r k)) / meanSq 1024 (fun k => re a.x (ix2 r k)))) / 1024 : ℝ) : EReal) := by
  pointwise [val_main_v35, val_main_v34, val_main_v33, val_main_v32, val_main_v31, val_main_v27, val_main_v26, val_main_v25, val_main_cst_4, val_main_cst_5, val_main_cst_6]
  simp only [ref_dug a hf, ref_slope a hf, hf.x.eq, ← EReal.coe_mul, coe_sum]
  rw [ofBits_1024, div_real _ _ (by norm_num)]
  exact Fin.sum_univ_one _

/-- This result of the reference, as the formulas give it. -/
theorem ref_dx (hf : a.Finite) :
    val_main_v39 (F := Ideal) a.x a.dh1 a.g a.w (a.part 0) (a.part 1) (a.part 2) (a.part 3) (a.part 4) (a.part 5) (a.part 6) = a.dx := by
  funext i
  idx_vars i
  pointwise [val_main_v39, val_main_v38, val_main_v37, val_main_v36, val_main_v30, val_main_v29, val_main_v28]
  simp only [ref_through a hf, ref_dug a hf, ref_rstd a hf, hf.x.eq, ← EReal.coe_mul, add_assoc, ← EReal.coe_add]
  refine congrArg (fun y : ℝ => a.dh1 (ix2 i0 i1) + (y : EReal)) ?_
  rw [← add_assoc]
  exact rmsGrad_chain (by norm_num) (fun k => re a.x (ix2 i0 k)) (fun k => a.du i0 k * re a.g (ix2 0 k)) i1

/-- This result of the reference, as the formulas give it. -/
theorem ref_dproj : val_main_v40 (F := Ideal) (a.part 0) (a.part 1) (a.part 2) (a.part 3) (a.part 4) (a.part 5) (a.part 6) = a.dproj := by
  funext i
  idx_vars i
  pointwise [val_main_v40]
  exact ref_cat a i0 i1

/-- This result of the reference, as the formulas give it. -/
theorem ref_pack (hf : a.Finite) :
    val_main_v42 (F := Ideal) a.x a.w (a.part 0) (a.part 1) (a.part 2) (a.part 3) (a.part 4) (a.part 5) (a.part 6) = a.pack := by
  funext i
  idx_vars i
  pointwise [val_main_v42, val_main_v41, val_main_v22, val_main_v21, val_main_v20, val_main_v13, val_main_v12, val_main_cst_3, val_main_cst_7]
  simp only [ref_du a hf, ref_rstd a hf, hf.x.eq, ← EReal.coe_mul, coe_sum]
  by_cases h : i0 = 0
  · rw [dif_pos (by rw [h]; exact Nat.one_pos)]
    refine Eq.trans ?_ (if_pos (congrArg Fin.val h)).symm
    exact congrArg (fun y : ℝ => (y : EReal)) (Finset.sum_congr rfl fun k _ => mul_comm _ _)
  · have h' : i0.val ≠ 0 := fun e => h (Fin.ext e)
    rw [dif_neg (by omega)]
    exact (if_neg h').symm

end Cert.InProj
end
-- ==== Proof.InProjClaim.lean ====
/- The claim on the backward call of the input projection: kernel and reference end with equal results. -/
module

public import proofs.«01_k».proof.Defs
public import proofs.«01_k».proof.Proof.InProjFinal
public import proofs.«01_k».proof.Proof.InProjRef
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal.Read
public import proofs.«01_k».proof.Proof.Gen.Pre_finite

@[expose] public section

set_option maxRecDepth 16384

noncomputable section

namespace Cert.InProj

open Idealize.ShloMosaic Idealize.SL.Sem Cert.Reals

/-- The precondition says that every argument but `dh1` holds numbers only. -/
theorem finite_of_pre {m : (ℓ : Loc Cert.KernelIdeal.nD Cert.KernelIdeal.τ Cert.KernelIdeal.sig) → Buf (Elt Ideal) ℓ}
    (hpre : Cert.Pre_KernelIdeal_finite m) (c : Dev Cert.KernelIdeal.nD) : (args m c).Finite := by
  obtain ⟨h0, h2, h3, h4, h5, h6, h7, h8, h9, h10⟩ := hpre c
  refine ⟨isReal_of_pre _ _ h0, isReal_of_pre _ _ h2, isReal_of_pre _ _ h3, fun n => ?_⟩
  match n with
  | 0 => exact isReal_of_pre _ _ h4
  | 1 => exact isReal_of_pre _ _ h5
  | 2 => exact isReal_of_pre _ _ h6
  | 3 => exact isReal_of_pre _ _ h7
  | 4 => exact isReal_of_pre _ _ h8
  | 5 => exact isReal_of_pre _ _ h9
  | 6 => exact isReal_of_pre _ _ h10

open Cert.ReferenceIdeal Cert.ReferenceIdeal.Read in
/-- The arguments the reference finds in memory. -/
def refArgs (m' : (ℓ : Loc Cert.ReferenceIdeal.nD Cert.ReferenceIdeal.τ Cert.ReferenceIdeal.sig) → Buf (Elt Ideal) ℓ) (c : Dev Cert.ReferenceIdeal.nD) : Args where
  x := m' ((c.tc : Thread nD τ).loc main_arg0)
  dh1 := m' ((c.tc : Thread nD τ).loc main_arg1)
  g := m' ((c.tc : Thread nD τ).loc main_arg2)
  w := m' ((c.tc : Thread nD τ).loc main_arg3)
  part := ![m' ((c.tc : Thread nD τ).loc main_arg4), m' ((c.tc : Thread nD τ).loc main_arg5), m' ((c.tc : Thread nD τ).loc main_arg6),
    m' ((c.tc : Thread nD τ).loc main_arg7), m' ((c.tc : Thread nD τ).loc main_arg8), m' ((c.tc : Thread nD τ).loc main_arg9),
    m' ((c.tc : Thread nD τ).loc main_arg10)]

/-- Under the precondition the backward kernel and the derivative of the forward lines end with the same three arrays. -/
theorem algebraic : Cert.algebraic_KernelIdeal_ReferenceIdeal_pre_finite := by
  pair_intro
  · run_from Cert.KernelIdeal.Value.run_blocks m g
  · have e : ∀ c, refArgs m' c = args m c := by
      intro c
      obtain ⟨h0, h1, h2, h3, h4, h5, h6, h7, h8, h9, h10⟩ := hagree c
      unfold refArgs args arr
      rw [h0, h1, h2, h3, h4, h5, h6, h7, h8, h9, h10]
    have hf : ∀ c, (refArgs m' c).Finite := fun c => (e c).symm ▸ finite_of_pre hpre c
    clear hagree
    run_from Cert.ReferenceIdeal.Value.run m' g'
    · rw [final10, ← e c]
      exact (Cert.ReferenceIdeal.Read.val_main_v40_eq _ _ _ _ _ _ _).trans (ref_dproj (refArgs m' c))
    · rw [final11 m c (finite_of_pre hpre c), ← e c]
      exact (Cert.ReferenceIdeal.Read.val_main_v39_eq m' c).trans (ref_dx (refArgs m' c) (hf c))
    · rw [final12 m c (finite_of_pre hpre c), ← e c]
      exact (Cert.ReferenceIdeal.Read.val_main_v42_eq _ _ _ _ _ _ _ _ _).trans (ref_pack (refArgs m' c) (hf c))

end Cert.InProj

end
-- ==== Proof.PleSpec.lean ====
/- What the backward call of the gated embedding and the loss computes, as formulas of its arguments. -/
module

public import proofs.«01_k».proof.Proof.Reals

@[expose] public section

noncomputable section

namespace Cert.Ple

open Idealize.ShloMosaic Cert.Reals

/-- The arguments, as memory holds them. -/
structure Args where
  /-- the rows -/
  h2 : FVec Ideal ⟨2, ![4096, 1024]⟩ .f32
  /-- the rows of the per-layer embedding -/
  p : FVec Ideal ⟨2, ![4096, 256]⟩ .f32
  /-- what the rows should be -/
  target : FVec Ideal ⟨2, ![4096, 1024]⟩ .f32
  /-- the embedding's projection -/
  wp : FVec Ideal ⟨2, ![256, 1024]⟩ .f32
  /-- the gate's projection -/
  wg : FVec Ideal ⟨2, ![1024, 1024]⟩ .f32

namespace Args

variable (a : Args)

/-- The projected embedding. -/
def e (r : Fin 4096) (j : Fin 1024) : EReal := ∑ k, a.p (ix2 r k) * a.wp (ix2 k j)

/-- The gate before its sigmoid. -/
def s (r : Fin 4096) (j : Fin 1024) : EReal := ∑ k, a.h2 (ix2 r k) * a.wg (ix2 k j)

/-- The gate. -/
def sig (r : Fin 4096) (j : Fin 1024) : EReal := Ideal.div (1) (1 + Ideal.exp (-(a.s r j)))

/-- The error of the prediction. -/
def err (r : Fin 4096) (j : Fin 1024) : EReal := a.h2 (ix2 r j) + a.e r j * a.sig r j - a.target (ix2 r j)

/-- The loss's derivative by the prediction. -/
def dh3 (r : Fin 4096) (j : Fin 1024) : EReal := a.err r j * Ideal.ofBits .f32 0x3A800000#32

/-- The derivative by the gate before its sigmoid. -/
def dgate (r : Fin 4096) (j : Fin 1024) : EReal := a.dh3 r j * a.e r j * a.sig r j * (1 - a.sig r j)

/-- The mean square error of a row. -/
def rowLoss (r : Fin 4096) : EReal := Ideal.div (∑ j, a.err r j * a.err r j) (Ideal.ofBits .f32 0x44800000#32)

/-- The loss: half the sum of the rows' mean square errors. -/
def loss : EReal := Ideal.ofBits .f32 0x3F000000#32 * ∑ r, a.rowLoss r

/-- The derivative by the projected embedding. -/
def de : FVec Ideal ⟨2, ![4096, 1024]⟩ .bf16 := fun i => a.dh3 (i 0) (i 1) * a.sig (i 0) (i 1)

/-- The derivative by the gate before its sigmoid, as an array. -/
def ds : FVec Ideal ⟨2, ![4096, 1024]⟩ .bf16 := fun i => a.dgate (i 0) (i 1)

/-- The derivative by the rows. -/
def dh2 : FVec Ideal ⟨2, ![4096, 1024]⟩ .f32 := fun i => a.dh3 (i 0) (i 1) + ∑ k, a.dgate (i 0) k * a.wg (ix2 (i 1) k)

/-- The rows, in bfloat16. -/
def h2b : FVec Ideal ⟨2, ![4096, 1024]⟩ .bf16 := fun i => a.h2 i

/-- The embedding's rows, in bfloat16. -/
def pb : FVec Ideal ⟨2, ![4096, 256]⟩ .bf16 := fun i => a.p i

/-- Eight rows of which row 6 begins with the loss. -/
def pack : FVec Ideal ⟨2, ![8, 1024]⟩ .f32 := fun i => if (i 0).val = 6 ∧ (i 1).val = 0 then a.loss else 0

end Args

end Cert.Ple

end
-- ==== Proof.PlePay.lean ====
/- What the payloads of the loss kernel compute at an index, from blocks that hold rows `φ r` of the arguments. -/
module

public import proofs.«01_k».proof.Proof.PleSpec
public import proofs.«01_k».proof.Proof.Gen.KernelPleIdeal.Skeleton

@[expose] public section

set_option maxRecDepth 16384

noncomputable section

namespace Cert.Ple

open Idealize.ShloMosaic Cert.KernelPleIdeal Cert.KernelPleIdeal.Gen Cert.Reals

/-- What a grid point adds to row 6 of the pack: half its part of the loss to the first column, and zero to the others. -/
theorem pack_block (v58 : FVec Ideal S1 .f32) (v63 : Vec Ideal S1x1024 .f32) (j : Fin 1024) :
    k0_pay1 (F := Ideal) v58 v63 (ix2 0 j) = v63 (ix2 0 j) + if j = 0 then Ideal.ofBits .f32 0x3F000000#32 * v58 (ix1 0) else 0 := by
  pointwise [k0_pay1]
  congr 1
  by_cases h : j = 0
  · subst h
    rfl
  · rw [if_neg h]
    have : ¬ (BitVec.ofNat 32 j.val = 0#32) := by
      intro e
      have e' := congrArg BitVec.toNat e
      rw [BitVec.toNat_ofNat] at e'
      have := j.isLt
      have : j.val = 0 := by
        have h2 : j.val % 2 ^ 32 = 0 := e'
        omega
      exact h (Fin.ext this)
    have hb : (BitVec.ofNat 32 j.val == 0#32) = false := beq_false_of_ne this
    show (if BitVec.ofBool (BitVec.ofNat 32 j.val == 0#32) = 1#1 then _ else _) = _
    rw [hb]
    rfl

variable (a : Args) (φ : Fin 512 → Fin 4096) (h e tg : FVec Ideal S512x1024 .f32) (w : FVec Ideal S1024x1024 .bf16)

/-- The gate. -/
theorem sig_block (hh : ∀ r j, h (ix2 r j) = a.h2 (ix2 (φ r) j)) (hw : ∀ j k, w (ix2 j k) = a.wg (ix2 j k)) (r : Fin 512) (j : Fin 1024) :
    k0_pay13 (F := Ideal) (k0_pay7 h) w (ix2 r j) = a.sig (φ r) j := by
  pointwise [k0_pay13, k0_pay7]
  simp only [hh, hw, zero_sub]
  rfl

/-- The error. -/
theorem err_block (hh : ∀ r j, h (ix2 r j) = a.h2 (ix2 (φ r) j)) (hw : ∀ j k, w (ix2 j k) = a.wg (ix2 j k)) (he : ∀ r j, e (ix2 r j) = a.e (φ r) j)
    (ht : ∀ r j, tg (ix2 r j) = a.target (ix2 (φ r) j)) (r : Fin 512) (j : Fin 1024) :
    k0_pay14 (F := Ideal) h (k0_pay7 h) e w tg (ix2 r j) = a.err (φ r) j := by
  pointwise [k0_pay14]
  rw [sig_block a φ h w hh hw, hh, he, ht]
  rfl

/-- The sum of the rows' losses. -/
theorem loss_block (hh : ∀ r j, h (ix2 r j) = a.h2 (ix2 (φ r) j)) (hw : ∀ j k, w (ix2 j k) = a.wg (ix2 j k)) (he : ∀ r j, e (ix2 r j) = a.e (φ r) j)
    (ht : ∀ r j, tg (ix2 r j) = a.target (ix2 (φ r) j)) : k0_pay15 (F := Ideal) h (k0_pay7 h) e w tg (ix1 0) = ∑ r, a.rowLoss (φ r) := by
  pointwise [k0_pay15, k0_pay14]
  simp only [sig_block a φ h w hh hw, hh, he, ht]
  rfl

variable (v48 v52 : FVec Ideal S512x1024 .f32)

/-- The derivative by the projected embedding. -/
theorem de_block (h48 : ∀ r j, v48 (ix2 r j) = a.sig (φ r) j) (h52 : ∀ r j, v52 (ix2 r j) = a.err (φ r) j) (r : Fin 512) (j : Fin 1024) :
    k0_pay3 (F := Ideal) v48 v52 (ix2 r j) = a.dh3 (φ r) j * a.sig (φ r) j := by
  pointwise [k0_pay3, k0_pay2]
  rw [h48, h52]
  rfl

/-- The derivative by the gate before its sigmoid. -/
theorem ds_block (he : ∀ r j, e (ix2 r j) = a.e (φ r) j) (h48 : ∀ r j, v48 (ix2 r j) = a.sig (φ r) j) (h52 : ∀ r j, v52 (ix2 r j) = a.err (φ r) j) (r : Fin 512)
    (j : Fin 1024) : k0_pay4 (F := Ideal) e v48 v52 (ix2 r j) = a.dgate (φ r) j := by
  pointwise [k0_pay4, k0_pay2]
  rw [he, h48, h52]
  rfl

/-- The derivative by the rows. -/
theorem dh2_block (hw : ∀ j k, w (ix2 j k) = a.wg (ix2 j k)) (he : ∀ r j, e (ix2 r j) = a.e (φ r) j) (h48 : ∀ r j, v48 (ix2 r j) = a.sig (φ r) j)
    (h52 : ∀ r j, v52 (ix2 r j) = a.err (φ r) j) (r : Fin 512) (j : Fin 1024) :
    k0_pay5 (F := Ideal) e v48 v52 w (ix2 r j) = a.dh3 (φ r) j + ∑ k, a.dgate (φ r) k * a.wg (ix2 j k) := by
  pointwise [k0_pay5, k0_pay2]
  simp only [ds_block a φ e v48 v52 he h48 h52, hw, h52]
  rfl

end Cert.Ple
end
-- ==== Proof.PleKernel.lean ====
/- The blocks, the weights and the scratch of the loss kernel, as formulas of its arguments. -/
module

public import proofs.«01_k».proof.Proof.PlePay
public import proofs.«01_k».proof.Proof.PleSpec
public import proofs.«01_k».proof.Proof.Pack
public import proofs.«01_k».proof.Proof.Gen.KernelPleIdeal.Value

@[expose] public section

set_option maxRecDepth 16384

noncomputable section

namespace Cert.Ple

open Idealize.ShloMosaic Idealize.ShloMosaic.TcCoe Idealize.SL.Sem Cert.KernelPleIdeal Cert.KernelPleIdeal.Gen Cert.Reals

variable (m : (ℓ : Loc nD τ sig) → Buf (Elt Ideal) ℓ) (c : Dev nD)

/-- Row `r` of the block of 512 rows that grid point `t` works on. -/
def row (t : Fin cfg0.N) (r : Fin 512) : Fin 4096 := ⟨512 * t.val + r.val, by have := t.isLt; have h : cfg0.N = 8 := N_0; omega⟩

/-- An argument of the kernel, as memory holds it. -/
abbrev arr (b : Ref sig .tc) : Buf (Elt Ideal) ((c : Thread nD τ).loc b) := m ((c : Thread nD τ).loc b)

/-- The arguments the kernel finds in memory. -/
def args : Args where
  h2 := arr m c main_arg0
  p := arr m c main_arg1
  target := arr m c main_arg2
  wp := arr m c main_arg3
  wg := arr m c main_arg4

/-- Which block of its array each window holds at a point. -/
theorem idx : ∀ t : Fin cfg0.N, win0_0.index t = ![t.val, 0] ∧ win0_1.index t = ![t.val, 0] ∧ win0_2.index t = ![t.val, 0] ∧ win0_3.index t = ![t.val, 0] ∧
    win0_4.index t = ![t.val, 0] ∧ win0_5.index t = ![t.val, 0] ∧ win0_6.index t = ![t.val, 0] ∧ win0_7.index t = ![t.val, 0] ∧ win0_8.index t = ![0, 0] :=
  (by decide +kernel : ∀ t : Fin grid0.N, _)

/-- The block of the rows at point `t`. -/
theorem blk0 (t : Fin cfg0.N) (r : Fin 512) (j : Fin 1024) : iblk m c 0 t (ix2 r j) = (args m c).h2 (ix2 (row t r) j) := by
  blk_point [iblk, idx t, row]

/-- The block of the embedding's rows at point `t`. -/
theorem blk1 (t : Fin cfg0.N) (r : Fin 512) (j : Fin 256) : iblk m c 1 t (ix2 r j) = (args m c).p (ix2 (row t r) j) := by
  blk_point [iblk, idx t, row]

/-- The block of the target's rows at point `t`. -/
theorem blk2 (t : Fin cfg0.N) (r : Fin 512) (j : Fin 1024) : iblk m c 2 t (ix2 r j) = (args m c).target (ix2 (row t r) j) := by
  blk_point [iblk, idx t, row]

/-- The embedding's projection as the host hands it over: four blocks of columns. -/
theorem wp_entry (q : Fin 4) (j : Fin 256) (k : Fin 256) : (V m c main_v2) (ix3 q j k) = (args m c).wp (ix2 j ⟨q.val * 256 + k.val, by omega⟩) := by
  entry_read
  pointwise
  rfl

/-- The gate's projection as the host hands it over. -/
theorem wg_entry (j : Fin 1024) (k : Fin 1024) : (V m c main_v3) (ix2 j k) = (args m c).wg (ix2 j k) := by
  entry_read
  pointwise
  rfl

/-- A load of one of the projection's four column blocks, out of the copy of it that point 0 makes. -/
theorem w_load (q : Fin 4) (w : Vec Ideal S4x256x256 .bf16) (hw : w = V m c main_v2)
    (inb : ∀ a, (![q.val, 0, 0] : Fin 3 → ℕ) a + (![1, 256, 256] : Fin 3 → ℕ) a ≤ S4x256x256.size a) (j : Fin 256) (x : Fin 256) :
    View.ld (Val := Elt Ideal) (e' := .bf16) w (Rect.unit (s := S4x256x256) ![q.val, 0, 0] ![1, 256, 256] inb) (ix3 0 j x)
      = (args m c).wp (ix2 j ⟨q.val * 256 + x.val, by omega⟩) := by
  rw [hw, ← wp_entry]
  show V m c main_v2 _ = _
  congr 1
  funext a
  fin_cases a
  · exact Fin.ext (by show q.val + 1 * 0 = q.val; omega)
  · exact Fin.ext (by show 0 + 1 * j.val = j.val; omega)
  · exact Fin.ext (by show 0 + 1 * x.val = x.val; omega)

/-- The copy of the projection holds what the host hands over. -/
theorem wp_canon (y : S4x256x256.Idx) :
    View.canon (Val := Elt Ideal) (s := S4x256x256) (e := .bf16) [⟨Rect.whole S4x256x256, ReadAs.same.apply (View.read (Elt Ideal) (View.whole main_v2) (V m c main_v2))⟩] y = V m c main_v2 y := by
  canon_tiles x h
  obtain rfl : y = x := by
    funext a
    fin_cases a
    · exact Fin.ext h0
    · exact Fin.ext h1
    · exact Fin.ext h2
  rfl

/-- The copy of the gate's projection holds what the host hands over. -/
theorem wg_canon (y : S1024x1024.Idx) :
    View.canon (Val := Elt Ideal) (s := S1024x1024) (e := .bf16) [⟨Rect.whole S1024x1024, ReadAs.same.apply (View.read (Elt Ideal) (View.whole main_v3) (V m c main_v3))⟩] y = V m c main_v3 y := by
  canon_tiles x h
  obtain rfl : y = x := by
    funext a
    fin_cases a
    · exact Fin.ext h0
    · exact Fin.ext h1
  rfl

/-- The first point leaves the weights in the scratch memory. -/
theorem scr_A (t : Fin cfg0.N) (h : t.val % 8 = 0) : (outsAt0 m c t.val t.isLt).2.2.2.2.2.2 = (V m c main_v2, V m c main_v3) := by
  rw [outsAt0_A m c t h h h]
  refine Prod.ext ?_ ?_
  · frame_out
    exact funext (wp_canon m c)
  · frame_out
    exact funext (wg_canon m c)

/-- A later point leaves the scratch memory as it is. -/
theorem scr_B (t : Fin cfg0.N) (h : ¬ t.val % 8 = 0) : (outsAt0 m c t.val t.isLt).2.2.2.2.2.2 = (outsAt0 m c (t.val - 1) (by omega)).2.2.2.2.2.2 := by
  rw [outsAt0_B m c t h h h]
  rfl

/-- The two copies hold the weights after every point. -/
theorem scr : ∀ (n : ℕ) (hn : n < cfg0.N), (outsAt0 m c n hn).2.2.2.2.2.2 = (V m c main_v2, V m c main_v3)
  | 0, hn => scr_A m c ⟨0, hn⟩ rfl
  | n + 1, hn => by
    have hN : cfg0.N = 8 := N_0
    exact (scr_B m c ⟨n + 1, hn⟩ (by show ¬ (n + 1) % 8 = 0; omega)).trans (scr n (by omega))

/-- The four stores that fill the projected embedding's block. -/
def epcs (p : FVec Ideal S512x256 .f32) (w0 w1 w2 w3 : FVec Ideal S1x256x256 .bf16) : List (View.Piece (Elt Ideal) S512x1024 .f32) :=
  [⟨Rect.unit ![0, 768] ![512, 256] inb_S512x1024_S512x256_0_768, k0_pay12 (F := Ideal) (k0_pay8 p) w3⟩,
    ⟨Rect.unit ![0, 512] ![512, 256] inb_S512x1024_S512x256_0_512, k0_pay11 (F := Ideal) (k0_pay8 p) w2⟩,
    ⟨Rect.unit ![0, 256] ![512, 256] inb_S512x1024_S512x256_0_256, k0_pay10 (F := Ideal) p w1⟩,
    ⟨Rect.unit ![0, 0] ![512, 256] inb_S512x1024_S512x256_0_0, k0_pay9 (F := Ideal) p w0⟩]

/-- One column block of the product. -/
theorem e_piece (a : Args) (φ : Fin 512 → Fin 4096) (p : FVec Ideal S512x256 .f32) (hp : ∀ r k, p (ix2 r k) = a.p (ix2 (φ r) k)) (q : Fin 4)
    (w : FVec Ideal S1x256x256 .bf16) (hw : ∀ k x : Fin 256, w (ix3 0 k x) = a.wp (ix2 k ⟨q.val * 256 + x.val, by omega⟩))
    (x0 : Fin 512) (x1 : Fin 256) (r : Fin 512) (j : Fin 1024) (h0 : r.val = x0.val) (h1 : j.val = q.val * 256 + x1.val) :
    ∑ k, p (ix2 x0 k) * w (ix3 0 k x1) = a.e (φ r) j := by
  obtain rfl : r = x0 := Fin.ext h0
  have e1 : (⟨q.val * 256 + x1.val, by omega⟩ : Fin 1024) = j := Fin.ext h1.symm
  simp only [hp, hw, e1]
  rfl

/-- The four stores fill the scratch memory with the projection. -/
theorem epcs_canon (a : Args) (φ : Fin 512 → Fin 4096) (p : FVec Ideal S512x256 .f32) (hp : ∀ r k, p (ix2 r k) = a.p (ix2 (φ r) k)) (w0 w1 w2 w3 : FVec Ideal S1x256x256 .bf16)
    (hw0 : ∀ k x : Fin 256, w0 (ix3 0 k x) = a.wp (ix2 k ⟨0 * 256 + x.val, by omega⟩)) (hw1 : ∀ k x : Fin 256, w1 (ix3 0 k x) = a.wp (ix2 k ⟨1 * 256 + x.val, by omega⟩))
    (hw2 : ∀ k x : Fin 256, w2 (ix3 0 k x) = a.wp (ix2 k ⟨2 * 256 + x.val, by omega⟩)) (hw3 : ∀ k x : Fin 256, w3 (ix3 0 k x) = a.wp (ix2 k ⟨3 * 256 + x.val, by omega⟩))
    (r : Fin 512) (j : Fin 1024) : View.canon (epcs p w0 w1 w2 w3) (ix2 r j) = a.e (φ r) j := by
  unfold epcs
  canon_tiles x h
  · idx_vars x
    pointwise [k0_pay12, k0_pay8]
    exact e_piece a φ p hp 3 w3 hw3 x0 x1 r j h0 h1
  · idx_vars x
    pointwise [k0_pay11, k0_pay8]
    exact e_piece a φ p hp 2 w2 hw2 x0 x1 r j h0 h1
  · idx_vars x
    pointwise [k0_pay10, k0_pay8]
    exact e_piece a φ p hp 1 w1 hw1 x0 x1 r j h0 h1
  · idx_vars x
    pointwise [k0_pay9, k0_pay8]
    exact e_piece a φ p hp 0 w0 hw0 x0 x1 r j h0 (h1.trans (Nat.zero_add _).symm)

/-- The block as a whole, read back. -/
theorem epcs_load (v : View sig .tc .vmem S512x1024 .f32) (p : FVec Ideal S512x256 .f32) (w0 w1 w2 w3 : FVec Ideal S1x256x256 .bf16) (r : Fin 512) (j : Fin 1024) :
    v.readCov (epcs p w0 w1 w2 w3) (Rect.unit (s := S512x1024) ![0, 0] ![512, 1024] inb_S512x1024_S512x1024_0_0).toLoadRect (ix2 r j)
      = View.canon (epcs p w0 w1 w2 w3) (ix2 r j) := by
  have e : (Rect.unit (s := S512x1024) ![0, 0] ![512, 1024] inb_S512x1024_S512x1024_0_0).toLoadRect.idx (ix2 r j) = ix2 r j := by
    funext a
    fin_cases a
    · exact Fin.ext (by show 0 + 1 * r.val = r.val; omega)
    · exact Fin.ext (by show 0 + 1 * j.val = j.val; omega)
  rw [View.readCov_eq_canon']
  exact congrArg (View.canon (epcs p w0 w1 w2 w3)) e

end Cert.Ple
end
-- ==== Proof.PlePoints.lean ====
/- What a grid point of the loss kernel leaves in its outputs. -/
module

public import proofs.«01_k».proof.Proof.PleKernel

@[expose] public section

set_option maxRecDepth 16384

noncomputable section

namespace Cert.Ple

open Idealize.ShloMosaic Idealize.ShloMosaic.TcCoe Idealize.SL.Sem Cert.KernelPleIdeal Cert.KernelPleIdeal.Gen Cert.Reals

variable (m : (ℓ : Loc nD τ sig) → Buf (Elt Ideal) ℓ) (c : Dev nD)

/-- What every point leaves, from the projected embedding `e` and the gate's projection `w` it reads back: the outputs but the pack. -/
structure Outs (t : Fin cfg0.N) (e : FVec Ideal S512x1024 .f32) (w : FVec Ideal S1024x1024 .bf16) : Prop where
  he : ∀ r j, e (ix2 r j) = (args m c).e (row t r) j
  hw : ∀ j k, w (ix2 j k) = (args m c).wg (ix2 j k)
  o3 : ∀ r j, (outsAt0 m c t.val t.isLt).1 (ix2 r j) = k0_pay3 (F := Ideal) (k0_pay13 (k0_pay7 (iblk m c 0 t)) w) (k0_pay14 (iblk m c 0 t) (k0_pay7 (iblk m c 0 t)) e w (iblk m c 2 t)) (ix2 r j)
  o4 : ∀ r j, (outsAt0 m c t.val t.isLt).2.1 (ix2 r j) = k0_pay4 (F := Ideal) e (k0_pay13 (k0_pay7 (iblk m c 0 t)) w) (k0_pay14 (iblk m c 0 t) (k0_pay7 (iblk m c 0 t)) e w (iblk m c 2 t)) (ix2 r j)
  o5 : ∀ r j, (outsAt0 m c t.val t.isLt).2.2.1 (ix2 r j) = k0_pay5 (F := Ideal) e (k0_pay13 (k0_pay7 (iblk m c 0 t)) w) (k0_pay14 (iblk m c 0 t) (k0_pay7 (iblk m c 0 t)) e w (iblk m c 2 t)) w (ix2 r j)
  o6 : ∀ r j, (outsAt0 m c t.val t.isLt).2.2.2.1 (ix2 r j) = k0_pay7 (F := Ideal) (iblk m c 0 t) (ix2 r j)
  o7 : ∀ r j, (outsAt0 m c t.val t.isLt).2.2.2.2.1 (ix2 r j) = k0_pay8 (F := Ideal) (iblk m c 1 t) (ix2 r j)

/-- What point 0 leaves: the pack is zero but for row 6. -/
theorem out_A (t : Fin cfg0.N) (h : t.val % 8 = 0) : ∃ (e : FVec Ideal S512x1024 .f32) (w : FVec Ideal S1024x1024 .bf16), Outs m c t e w ∧
    (∀ r j, (outsAt0 m c t.val t.isLt).2.2.2.2.2.1 (ix2 r j) =
      if r = 6 then k0_pay1 (F := Ideal) (k0_pay15 (iblk m c 0 t) (k0_pay7 (iblk m c 0 t)) e w (iblk m c 2 t)) (fun _ => 0) (ix2 0 j) else 0) := by
  refine' ⟨_, _, ⟨?he, ?hw, ?h0, ?h4, ?h5, ?h6, ?h7⟩, ?h8⟩
  case h0 =>
    intro r j
    rw [outsAt0_A m c t h h h]
    frame_out
    rfl
  case he =>
    intro r j
    refine (epcs_load _ _ _ _ _ _ r j).trans (epcs_canon (args m c) (row t) _ (blk1 m c t) _ _ _ _ ?_ ?_ ?_ ?_ r j)
    · exact fun k x => (congrFun (View.readCov_eq_canon' _ _ _) _).trans (w_load m c 0 _ (funext (wp_canon m c)) _ k x)
    · exact fun k x => (congrFun (View.readCov_eq_canon' _ _ _) _).trans (w_load m c 1 _ (funext (wp_canon m c)) _ k x)
    · exact fun k x => (congrFun (View.readCov_eq_canon' _ _ _) _).trans (w_load m c 2 _ (funext (wp_canon m c)) _ k x)
    · exact fun k x => (congrFun (View.readCov_eq_canon' _ _ _) _).trans (w_load m c 3 _ (funext (wp_canon m c)) _ k x)
  case hw =>
    intro r j
    rw [View.readCov_eq_canon']
    refine (wg_canon m c _).trans ((congrArg (V m c main_v3) ?_).trans (wg_entry m c r j))
    funext a
    fin_cases a
    · exact Fin.ext (by show 0 + 1 * r.val = r.val; omega)
    · exact Fin.ext (by show 0 + 1 * j.val = j.val; omega)
  case h4 =>
    intro r j
    rw [outsAt0_A m c t h h h]
    frame_out
  case h5 =>
    intro r j
    rw [outsAt0_A m c t h h h]
    frame_out
  case h6 =>
    intro r j
    rw [outsAt0_A m c t h h h]
    frame_out
  case h7 =>
    intro r j
    rw [outsAt0_A m c t h h h]
    frame_out
  case h8 =>
    intro r j
    rw [outsAt0_A m c t h h h]
    frame_out
    refine (Cert.Pack.canon_row 6 _ _ _ r j).trans ?_
    split_ifs with hr
    · congr 1
      funext z
      idx_vars z
      rw [View.readCov_eq_canon']
      canon_tiles x h
      pointwise [k0_pay6]
    · canon_tiles x h
      pointwise [k0_pay6]

/-- What a later point leaves: it adds to the pack's row 6. -/
theorem out_B (t : Fin cfg0.N) (h : ¬ t.val % 8 = 0) : ∃ (e : FVec Ideal S512x1024 .f32) (w : FVec Ideal S1024x1024 .bf16), Outs m c t e w ∧
    (∀ r j, (outsAt0 m c t.val t.isLt).2.2.2.2.2.1 (ix2 r j) =
      if r = 6 then k0_pay1 (F := Ideal) (k0_pay15 (iblk m c 0 t) (k0_pay7 (iblk m c 0 t)) e w (iblk m c 2 t))
        (fun z => (outsAt0 m c (t.val - 1) (by omega)).2.2.2.2.2.1 (ix2 6 (z 1))) (ix2 0 j)
      else (outsAt0 m c (t.val - 1) (by omega)).2.2.2.2.2.1 (ix2 r j)) := by
  have hs := scr m c (t.val - 1) (by have := t.isLt; omega)
  have hs1 := congrArg Prod.fst hs
  have hs2 := congrArg Prod.snd hs
  refine' ⟨_, _, ⟨?he, ?hw, ?h0, ?h4, ?h5, ?h6, ?h7⟩, ?h8⟩
  case h0 =>
    intro r j
    rw [outsAt0_B m c t h h h]
    frame_out
    rfl
  case he =>
    intro r j
    refine (epcs_load _ _ _ _ _ _ r j).trans (epcs_canon (args m c) (row t) _ (blk1 m c t) _ _ _ _ ?_ ?_ ?_ ?_ r j)
    · exact fun k x => w_load m c 0 _ ((Memref.isWhole_whole _).read_unread _ |>.trans hs1) _ k x
    · exact fun k x => w_load m c 1 _ ((Memref.isWhole_whole _).read_unread _ |>.trans hs1) _ k x
    · exact fun k x => w_load m c 2 _ ((Memref.isWhole_whole _).read_unread _ |>.trans hs1) _ k x
    · exact fun k x => w_load m c 3 _ ((Memref.isWhole_whole _).read_unread _ |>.trans hs1) _ k x
  case hw =>
    intro r j
    exact (congrFun ((Memref.isWhole_whole _).read_unread _ |>.trans hs2) _).trans (wg_entry m c r j)
  case h4 =>
    intro r j
    rw [outsAt0_B m c t h h h]
    frame_out
  case h5 =>
    intro r j
    rw [outsAt0_B m c t h h h]
    frame_out
  case h6 =>
    intro r j
    rw [outsAt0_B m c t h h h]
    frame_out
  case h7 =>
    intro r j
    rw [outsAt0_B m c t h h h]
    frame_out
  case h8 =>
    intro r j
    rw [outsAt0_B m c t h h h]
    frame_out
    refine (Cert.Pack.read_row _ _ 6 _ _ _ r j).trans ?_
    split_ifs with hr
    · congr 1
      funext z
      idx_vars z
      refine congrArg (outsAt0 m c (t.val - 1) (by omega)).2.2.2.2.2.1 ?_
      funext a
      have := z0.isLt
      fin_cases a
      · exact Fin.ext (by show 6 + 1 * z0.val = 6; omega)
      · exact Fin.ext (by show 0 + 1 * z1.val = z1.val; omega)
    · rw [View.writes_nil, (hs0_8 t).read_unread]

end Cert.Ple
end
-- ==== Proof.PleFinal.lean ====
/- The arrays the loss kernel ends with. -/
module

public import proofs.«01_k».proof.Proof.PlePoints

@[expose] public section

set_option maxRecDepth 16384

noncomputable section

namespace Cert.Ple

open Idealize.ShloMosaic Idealize.ShloMosaic.TcCoe Idealize.SL.Sem Cert.KernelPleIdeal Cert.KernelPleIdeal.Gen Cert.Reals

variable (m : (ℓ : Loc nD τ sig) → Buf (Elt Ideal) ℓ) (c : Dev nD)

/-- The gate of a point's rows. -/
theorem sig_of {t : Fin cfg0.N} {e : FVec Ideal S512x1024 .f32} {w : FVec Ideal S1024x1024 .bf16} (o : Outs m c t e w) (r : Fin 512) (j : Fin 1024) :
    k0_pay13 (F := Ideal) (k0_pay7 (iblk m c 0 t)) w (ix2 r j) = (args m c).sig (row t r) j :=
  sig_block (args m c) (row t) (iblk m c 0 t) w (blk0 m c t) o.hw r j

/-- The error of a point's rows. -/
theorem err_of {t : Fin cfg0.N} {e : FVec Ideal S512x1024 .f32} {w : FVec Ideal S1024x1024 .bf16} (o : Outs m c t e w) (r : Fin 512) (j : Fin 1024) :
    k0_pay14 (F := Ideal) (iblk m c 0 t) (k0_pay7 (iblk m c 0 t)) e w (iblk m c 2 t) (ix2 r j) = (args m c).err (row t r) j :=
  err_block (args m c) (row t) (iblk m c 0 t) e (iblk m c 2 t) w (blk0 m c t) o.hw o.he (blk2 m c t) r j

/-- The loss of a point's rows. -/
theorem loss_of {t : Fin cfg0.N} {e : FVec Ideal S512x1024 .f32} {w : FVec Ideal S1024x1024 .bf16} (o : Outs m c t e w) :
    k0_pay15 (F := Ideal) (iblk m c 0 t) (k0_pay7 (iblk m c 0 t)) e w (iblk m c 2 t) (ix1 0) = ∑ r, (args m c).rowLoss (row t r) :=
  loss_block (args m c) (row t) (iblk m c 0 t) e (iblk m c 2 t) w (blk0 m c t) o.hw o.he (blk2 m c t)

/-- Every point's outputs come of some pair of arrays it read back. -/
theorem outs (t : Fin cfg0.N) : ∃ (e : FVec Ideal S512x1024 .f32) (w : FVec Ideal S1024x1024 .bf16), Outs m c t e w := by
  by_cases h : t.val % 8 = 0
  · obtain ⟨e, w, o, -⟩ := out_A m c t h
    exact ⟨e, w, o⟩
  · obtain ⟨e, w, o, -⟩ := out_B m c t h
    exact ⟨e, w, o⟩

/-- A point's rows of this output. -/
theorem out3 (t : Fin cfg0.N) (r : Fin 512) (j : Fin 1024) : (outsAt0 m c t.val t.isLt).1 (ix2 r j) = (args m c).de (ix2 (row t r) j) := by
  obtain ⟨e, w, o⟩ := outs m c t
  exact (o.o3 r j).trans (de_block (args m c) (row t) _ _ (sig_of m c o) (err_of m c o) r j)

/-- The array this output ends with. -/
theorem final3 : (dats m 0 c).arrAt 3 cfg0.N = (args m c).de := by
  refine (dats m 0 c).arrAt_eq_of_covers 3 _ (by decide +kernel) fun t _ y => ?_
  blk_simp
  rw [after0_3]
  idx_vars y
  rw [out3]
  have e : ((View.whole main_v4_0).slice (win0_3.rect t)).emb (ix2 y0 y1) = ix2 (row t y0) y1 := by blk_ext [idx t, row]
  rw [e]

/-- A point's rows of this output. -/
theorem out4 (t : Fin cfg0.N) (r : Fin 512) (j : Fin 1024) : (outsAt0 m c t.val t.isLt).2.1 (ix2 r j) = (args m c).ds (ix2 (row t r) j) := by
  obtain ⟨e, w, o⟩ := outs m c t
  exact (o.o4 r j).trans (ds_block (args m c) (row t) _ _ _ o.he (sig_of m c o) (err_of m c o) r j)

/-- The array this output ends with. -/
theorem final4 : (dats m 0 c).arrAt 4 cfg0.N = (args m c).ds := by
  refine (dats m 0 c).arrAt_eq_of_covers 4 _ (by decide +kernel) fun t _ y => ?_
  blk_simp
  rw [after0_4]
  idx_vars y
  rw [out4]
  have e : ((View.whole main_v4_1).slice (win0_4.rect t)).emb (ix2 y0 y1) = ix2 (row t y0) y1 := by blk_ext [idx t, row]
  rw [e]

/-- A point's rows of this output. -/
theorem out5 (t : Fin cfg0.N) (r : Fin 512) (j : Fin 1024) : (outsAt0 m c t.val t.isLt).2.2.1 (ix2 r j) = (args m c).dh2 (ix2 (row t r) j) := by
  obtain ⟨e, w, o⟩ := outs m c t
  exact (o.o5 r j).trans (dh2_block (args m c) (row t) _ _ _ _ o.hw o.he (sig_of m c o) (err_of m c o) r j)

/-- The array this output ends with. -/
theorem final5 : (dats m 0 c).arrAt 5 cfg0.N = (args m c).dh2 := by
  refine (dats m 0 c).arrAt_eq_of_covers 5 _ (by decide +kernel) fun t _ y => ?_
  blk_simp
  rw [after0_5]
  idx_vars y
  rw [out5]
  have e : ((View.whole main_v4_2).slice (win0_5.rect t)).emb (ix2 y0 y1) = ix2 (row t y0) y1 := by blk_ext [idx t, row]
  rw [e]

/-- A point's rows of this output. -/
theorem out6 (t : Fin cfg0.N) (r : Fin 512) (j : Fin 1024) : (outsAt0 m c t.val t.isLt).2.2.2.1 (ix2 r j) = (args m c).h2b (ix2 (row t r) j) := by
  obtain ⟨e, w, o⟩ := outs m c t
  exact (o.o6 r j).trans (blk0 m c t r j)

/-- The array this output ends with. -/
theorem final6 : (dats m 0 c).arrAt 6 cfg0.N = (args m c).h2b := by
  refine (dats m 0 c).arrAt_eq_of_covers 6 _ (by decide +kernel) fun t _ y => ?_
  blk_simp
  rw [after0_6]
  idx_vars y
  rw [out6]
  have e : ((View.whole main_v4_3).slice (win0_6.rect t)).emb (ix2 y0 y1) = ix2 (row t y0) y1 := by blk_ext [idx t, row]
  rw [e]

/-- A point's rows of this output. -/
theorem out7 (t : Fin cfg0.N) (r : Fin 512) (j : Fin 256) : (outsAt0 m c t.val t.isLt).2.2.2.2.1 (ix2 r j) = (args m c).pb (ix2 (row t r) j) := by
  obtain ⟨e, w, o⟩ := outs m c t
  exact (o.o7 r j).trans (blk1 m c t r j)

/-- The array this output ends with. -/
theorem final7 : (dats m 0 c).arrAt 7 cfg0.N = (args m c).pb := by
  refine (dats m 0 c).arrAt_eq_of_covers 7 _ (by decide +kernel) fun t _ y => ?_
  blk_simp
  rw [after0_7]
  idx_vars y
  rw [out7]
  have e : ((View.whole main_v4_4).slice (win0_7.rect t)).emb (ix2 y0 y1) = ix2 (row t y0) y1 := by blk_ext [idx t, row]
  rw [e]

/-- What a grid point adds to the loss. -/
def lossPart (t : Fin cfg0.N) : EReal := Ideal.ofBits .f32 0x3F000000#32 * ∑ r, (args m c).rowLoss (row t r)

/-- What a grid point adds to the eight rows: its part of the loss, to the first column of row 6. -/
def packPart (t : Fin cfg0.N) (i : S8x1024.Idx) : EReal := if (i 0).val = 6 ∧ (i 1).val = 0 then lossPart m c t else 0

/-- What a point adds to `pack`, at an index. -/
theorem packPart_ix (t : Fin cfg0.N) (r : Fin 8) (j : Fin 1024) : packPart m c t (ix2 r j) = if r = 6 then (if j = 0 then lossPart m c t else 0) else 0 := by
  by_cases h : r = 6
  · subst h
    rw [if_pos rfl]
    by_cases h1 : j = 0
    · subst h1
      exact if_pos ⟨rfl, rfl⟩
    · rw [if_neg h1]
      exact if_neg fun e => h1 (Fin.ext e.2)
  · rw [if_neg h]
    exact if_neg fun e => h (Fin.ext e.1)

/-- Point 0 leaves its own part in `pack`. -/
theorem out8_A (t : Fin cfg0.N) (h : t.val % 8 = 0) (i : S8x1024.Idx) : (outsAt0 m c t.val t.isLt).2.2.2.2.2.1 i = 0 + packPart m c t i := by
  idx_vars i
  obtain ⟨e, w, o, h8⟩ := out_A m c t h
  rw [h8, packPart_ix]
  split_ifs with hr hj
  · rw [pack_block, loss_of m c o, if_pos hj]
    rfl
  · rw [pack_block, if_neg hj]
  · rw [add_zero]

/-- A later point adds its part to `pack`. -/
theorem out8_B (t : Fin cfg0.N) (h : ¬ t.val % 8 = 0) (i : S8x1024.Idx) :
    (outsAt0 m c t.val t.isLt).2.2.2.2.2.1 i = (outsAt0 m c (t.val - 1) (by omega)).2.2.2.2.2.1 i + packPart m c t i := by
  idx_vars i
  obtain ⟨e, w, o, h8⟩ := out_B m c t h
  rw [h8, packPart_ix]
  split_ifs with hr hj
  · rw [pack_block, loss_of m c o, if_pos hj, hr]
    rfl
  · rw [pack_block, if_neg hj, hr]
    rfl
  · rw [add_zero]

/-- The eight points' parts add up to the loss. -/
theorem loss_sum : ∑ t : Fin cfg0.N, lossPart m c t = (args m c).loss := by
  have hd : ∀ f : Fin cfg0.N → EReal, ∑ t, Ideal.ofBits .f32 0x3F000000#32 * f t = Ideal.ofBits .f32 0x3F000000#32 * ∑ t, f t := by
    intro f
    generalize (Finset.univ : Finset (Fin cfg0.N)) = s
    classical
    induction s using Finset.induction_on with
    | empty => rw [Finset.sum_empty, Finset.sum_empty, mul_zero]
    | insert a s ha ih => rw [Finset.sum_insert ha, Finset.sum_insert ha, ih, ofBits_half, EReal.left_distrib_of_nonneg_of_ne_top (by exact_mod_cast (by norm_num : (0:ℝ) ≤ 1/2)) (EReal.coe_ne_top _)]
  unfold lossPart
  rw [hd, Args.loss, Fin.sum_univ_tiles 8 512 rfl]
  refine congrArg (Ideal.ofBits .f32 0x3F000000#32 * ·) ?_
  refine Fintype.sum_equiv (finCongr N_0) _ _ fun t => Finset.sum_congr rfl fun r _ => ?_
  have e : (⟨(finCongr N_0 t).val * 512 + r.val, by have := (finCongr N_0 t).isLt; omega⟩ : Fin 4096) = row t r :=
    Fin.ext (by show t.val * 512 + r.val = 512 * t.val + r.val; omega)
  rw [e]

/-- The array this output ends with. -/
theorem final8 : (dats m 0 c).arrAt 8 cfg0.N = (args m c).pack := by
  refine (dats m 0 c).arrAt_eq_of_after_last 8 t0_7 (by decide +kernel) _ fun j => ?_
  blk_simp
  rw [after0_8]
  idx_vars j
  refine (Pipeline.eq_sum_fin_of_reset_step_apply_last (fun n h => (outsAt0 m c n h).2.2.2.2.2.1) 8 (fun _ => 0) (packPart m c) (out8_A m c) (out8_B m c) (le_of_eq N_0)
    t0_7 rfl (ix2 j0 j1)).trans ?_
  simp only [packPart_ix, zero_add]
  by_cases hr : j0 = 6
  · simp only [if_pos hr]
    by_cases hj : j1 = 0
    · simp only [if_pos hj]
      rw [loss_sum, hr, hj]
      exact (if_pos ⟨rfl, rfl⟩).symm
    · simp only [if_neg hj, Finset.sum_const_zero]
      exact (if_neg fun e => hj (Fin.ext e.2)).symm
  · simp only [if_neg hr, Finset.sum_const_zero]
    exact (if_neg fun e => hr (Fin.ext e.1)).symm

end Cert.Ple
end
-- ==== Proof.PleRef.lean ====
/- What the reference of the loss kernel computes. -/
module

public import proofs.«01_k».proof.Proof.PleSpec
public import proofs.«01_k».proof.Proof.Gen.ReferencePleIdeal.Run
public import proofs.«01_k».proof.Proof.Gen.ReferencePleIdeal.Read
public import Idealize.ShloMosaic.Lib.Pointwise

@[expose] public section

set_option maxRecDepth 16384

noncomputable section

namespace Cert.Ple

open Idealize.ShloMosaic Cert.ReferencePleIdeal Cert.ReferencePleIdeal.Read Cert.Reals

variable (a : Args)

/-- The reference's projection. -/
theorem ref_e (r : Fin 4096) (j : Fin 1024) : val_main_v0 (F := Ideal) a.p a.wp (ix2 r j) = a.e r j := by
  pointwise [val_main_v0]
  rfl

/-- The reference's gate. -/
theorem ref_sig (r : Fin 4096) (j : Fin 1024) : val_main_v7 (F := Ideal) a.h2 a.wg (ix2 r j) = a.sig r j := by
  pointwise [val_main_v7, val_main_v6, val_main_v5, val_main_v4, val_main_v3, val_main_v2, val_main_v1, val_main_cst, val_main_cst_0]
  rfl

/-- The reference's error. -/
theorem ref_err (r : Fin 4096) (j : Fin 1024) : val_main_v13 (F := Ideal) a.h2 a.p a.target a.wp a.wg (ix2 r j) = a.err r j := by
  pointwise [val_main_v13, val_main_v12, val_main_v11]
  rw [ref_e, ref_sig]
  rfl

/-- Twice the error over 2048 is the error over 1024. -/
theorem ref_dh3 (r : Fin 4096) (j : Fin 1024) : val_main_v27 (F := Ideal) a.h2 a.p a.target a.wp a.wg (ix2 r j) = a.dh3 r j := by
  pointwise [val_main_v27, val_main_v26, val_main_v25, val_main_v24, val_main_v23, val_main_v22, val_main_v16, val_main_v15, val_main_cst_2, val_main_cst_7, val_main_cst_8, val_main_cst_9]
  rw [ref_err, Args.dh3, ofBits_half, ofBits_1024, ofBits_two, ofBits_inv1024, div_real _ _ (by norm_num), ← mul_assoc, ← EReal.coe_mul, mul_comm]
  norm_num

/-- The reference's cotangent of the gate's product. -/
theorem ref_ds (r : Fin 4096) (j : Fin 1024) : val_main_v30 (F := Ideal) a.h2 a.p a.target a.wp a.wg (ix2 r j) = a.dgate r j := by
  pointwise [val_main_v30, val_main_v28, val_main_v10, val_main_v9, val_main_v8, val_main_cst_1]
  rw [ref_e, ref_sig, ref_dh3, Args.dgate, mul_comm (a.e r j), mul_assoc (a.dh3 r j * a.e r j)]

/-- The reference's loss. -/
theorem ref_loss : val_main_v21 (F := Ideal) a.h2 a.p a.target a.wp a.wg ix0 = a.loss := by
  pointwise [val_main_v21, val_main_v20, val_main_v19, val_main_v18, val_main_v17, val_main_v14, val_main_cst_3, val_main_cst_4, val_main_cst_5, val_main_cst_6]
  simp only [ref_err]
  rfl

/-- This result of the reference, as the formulas give it. -/
theorem ref_de_all : val_main_v39 (F := Ideal) a.h2 a.p a.target a.wp a.wg = a.de := by
  funext i
  idx_vars i
  pointwise [val_main_v39, val_main_v29]
  rw [ref_dh3, ref_sig]
  rfl

/-- This result of the reference, as the formulas give it. -/
theorem ref_ds_all : val_main_v40 (F := Ideal) a.h2 a.p a.target a.wp a.wg = a.ds := by
  funext i
  idx_vars i
  pointwise [val_main_v40]
  rw [ref_ds]
  rfl

/-- This result of the reference, as the formulas give it. -/
theorem ref_dh2_all : val_main_v32 (F := Ideal) a.h2 a.p a.target a.wp a.wg = a.dh2 := by
  funext i
  idx_vars i
  pointwise [val_main_v32, val_main_v31]
  simp only [ref_dh3, ref_ds]
  rfl

/-- This result of the reference, as the formulas give it. -/
theorem ref_h2b_all : val_main_v41 (F := Ideal) a.h2 = a.h2b := by
  funext i
  idx_vars i
  pointwise [val_main_v41]
  rfl

/-- This result of the reference, as the formulas give it. -/
theorem ref_pb_all : val_main_v42 (F := Ideal) a.p = a.pb := by
  funext i
  idx_vars i
  pointwise [val_main_v42]
  rfl

/-- This result of the reference, as the formulas give it. -/
theorem ref_pack_all : val_main_v38 (F := Ideal) a.h2 a.p a.target a.wp a.wg = a.pack := by
  funext i
  idx_vars i
  pointwise [val_main_v38, val_main_v37, val_main_v36, val_main_v35, val_main_v34, val_main_v33, val_main_cst_10, val_main_cst_11, val_main_cst_12]
  by_cases h0 : i0.val < 6
  · rw [dif_pos h0]
    exact (if_neg fun e => absurd e.1 (by show i0.val ≠ 6; omega)).symm
  rw [dif_neg h0]
  by_cases h1 : i0.val - 6 < 1
  · rw [dif_pos h1]
    by_cases h2 : i1.val < 1
    · rw [dif_pos h2, ref_loss]
      exact (if_pos ⟨by show i0.val = 6; omega, by show i1.val = 0; omega⟩).symm
    · rw [dif_neg h2]
      exact (if_neg fun e => absurd e.2 (by show i1.val ≠ 0; omega)).symm
  · rw [dif_neg h1]
    exact (if_neg fun e => absurd e.1 (by show i0.val ≠ 6; omega)).symm

end Cert.Ple
end
-- ==== Proof.PleClaim.lean ====
/- The claim on the backward call of the gated embedding and the loss: kernel and reference end with equal results. -/
module

public import proofs.«01_k».proof.Defs
public import proofs.«01_k».proof.Proof.PleFinal
public import proofs.«01_k».proof.Proof.PleRef
public import proofs.«01_k».proof.Proof.Gen.KernelPle.Frame
public import proofs.«01_k».proof.Proof.Gen.KernelPleIdeal.Frame

@[expose] public section

set_option maxRecDepth 16384

noncomputable section

namespace Cert.Ple

open Idealize.ShloMosaic Idealize.SL.Sem Cert.Reals

open Cert.ReferencePleIdeal Cert.ReferencePleIdeal.Read in
/-- The arguments the reference finds in memory. -/
def refArgs (m' : (ℓ : Loc Cert.ReferencePleIdeal.nD Cert.ReferencePleIdeal.τ Cert.ReferencePleIdeal.sig) → Buf (Elt Ideal) ℓ) (c : Dev Cert.ReferencePleIdeal.nD) : Args where
  h2 := m' ((c.tc : Thread nD τ).loc main_arg0)
  p := m' ((c.tc : Thread nD τ).loc main_arg1)
  target := m' ((c.tc : Thread nD τ).loc main_arg2)
  wp := m' ((c.tc : Thread nD τ).loc main_arg3)
  wg := m' ((c.tc : Thread nD τ).loc main_arg4)

/-- The backward kernel and the derivative of the forward lines end with the same six arrays, whatever the arguments. -/
theorem algebraic : Cert.algebraic_KernelPleIdeal_ReferencePleIdeal := by
  pair_intro
  · run_from Cert.KernelPleIdeal.Value.run_blocks m g
  · have e : ∀ c, refArgs m' c = args m c := by
      intro c
      obtain ⟨h0, h1, h2, h3, h4⟩ := hagree c
      unfold refArgs args arr
      rw [h0, h1, h2, h3, h4]
    clear hagree
    run_from Cert.ReferencePleIdeal.Value.run m' g'
    · rw [final3, ← e c]
      exact (Cert.ReferencePleIdeal.Read.val_main_v39_eq _ _ _ _ _).trans (ref_de_all (refArgs m' c))
    · rw [final4, ← e c]
      exact (Cert.ReferencePleIdeal.Read.val_main_v40_eq _ _ _ _ _).trans (ref_ds_all (refArgs m' c))
    · rw [final5, ← e c]
      exact (Cert.ReferencePleIdeal.Read.val_main_v32_eq _ _ _ _ _).trans (ref_dh2_all (refArgs m' c))
    · rw [final6, ← e c]
      exact (Cert.ReferencePleIdeal.Read.val_main_v41_eq _).trans (ref_h2b_all (refArgs m' c))
    · rw [final7, ← e c]
      exact (Cert.ReferencePleIdeal.Read.val_main_v42_eq _).trans (ref_pb_all (refArgs m' c))
    · rw [final8, ← e c]
      exact (Cert.ReferencePleIdeal.Read.val_main_v38_eq _ _ _ _ _).trans (ref_pack_all (refArgs m' c))

/-- The reference runs, keeps its arguments and leaves every counter at zero. -/
theorem frame_reference : Cert.quiescent_ReferencePleIdeal := fun m ρ _ =>
  (θ_run Cert.ReferencePleIdeal.defs _ _).mono
    (fun r h => ⟨fun c => (h c).2.2.2.2.2.2, Idealize.ShloMosaic.sem_eq_zero_of_no_sems (by decide) r.2⟩)
    (Cert.ReferencePleIdeal.Value.run (F := Ideal) m ρ)

end Cert.Ple

end
-- ==== Proof.FfnSpec.lean ====
/- What the backward call of the feed-forward block computes, as formulas of its arguments. -/
module

public import proofs.«01_k».proof.Proof.Rms

@[expose] public section

set_option maxRecDepth 16384

noncomputable section

namespace Cert.Ffn

open Idealize.ShloMosaic Cert.Reals

/-- The arguments, as memory holds them. -/
structure Args where
  /-- the rows -/
  h1 : FVec Ideal ⟨2, ![4096, 1024]⟩ .f32
  /-- the weight of the norm before the block -/
  g1 : FVec Ideal ⟨2, ![1, 1024]⟩ .f32
  /-- the weight of the norm after the block -/
  g2 : FVec Ideal ⟨2, ![1, 1024]⟩ .f32
  /-- the weight of the first product -/
  wgu : FVec Ideal ⟨2, ![1024, 5632]⟩ .f32
  /-- the weight of the second product -/
  wd : FVec Ideal ⟨2, ![2816, 1024]⟩ .f32
  /-- the cotangent of the block's output -/
  dh2 : FVec Ideal ⟨2, ![4096, 1024]⟩ .f32

namespace Args

variable (a : Args)

/-- Every argument holds real numbers only. -/
structure Finite : Prop where
  h1 : IsReal a.h1
  g1 : IsReal a.g1
  g2 : IsReal a.g2
  wgu : IsReal a.wgu
  wd : IsReal a.wd
  dh2 : IsReal a.dh2

/-- A row. -/
def X (r : Fin 4096) (j : Fin 1024) : ℝ := re a.h1 (ix2 r j)

/-- A row of the cotangent. -/
def D (r : Fin 4096) (j : Fin 1024) : ℝ := re a.dh2 (ix2 r j)

/-- The weight of the norm before the block. -/
def G1 (j : Fin 1024) : ℝ := re a.g1 (ix2 0 j)

/-- The weight of the norm after the block. -/
def G2 (j : Fin 1024) : ℝ := re a.g2 (ix2 0 j)

/-- The weight of the first product. -/
def Wgu (j : Fin 1024) (k : Fin 5632) : ℝ := re a.wgu (ix2 j k)

/-- The weight of the second product. -/
def Wd (i : Fin 2816) (j : Fin 1024) : ℝ := re a.wd (ix2 i j)

/-- Gate and up projection, side by side. -/
def gu (r : Fin 4096) (k : Fin 5632) : ℝ := ∑ j, a.X r j * rstd 1024 (a.X r) * a.G1 j * a.Wgu j k

/-- The gate. -/
def gate (r : Fin 4096) (i : Fin 2816) : ℝ := a.gu r ⟨i.val, by omega⟩

/-- The up projection. -/
def up (r : Fin 4096) (i : Fin 2816) : ℝ := a.gu r ⟨2816 + i.val, by omega⟩

/-- The block's output before its norm. -/
def y (r : Fin 4096) (j : Fin 1024) : ℝ := ∑ i, a.gate r i * sigm (a.gate r i) * a.up r i * a.Wd i j

/-- The cotangent of that output. -/
def dy (r : Fin 4096) (j : Fin 1024) : ℝ := rmsGrad 1024 (a.y r) (fun k => a.D r k * a.G2 k) j

/-- The cotangent of the activation. -/
def dact (r : Fin 4096) (i : Fin 2816) : ℝ := ∑ j, a.dy r j * a.Wd i j

/-- The cotangent of the gate. -/
def dgate (r : Fin 4096) (i : Fin 2816) : ℝ :=
  a.dact r i * a.up r i * (sigm (a.gate r i) * (1 + a.gate r i * (1 - sigm (a.gate r i))))

/-- The cotangent of the up projection. -/
def dup (r : Fin 4096) (i : Fin 2816) : ℝ := a.dact r i * a.gate r i * sigm (a.gate r i)

/-- The two side by side. -/
def dgu (r : Fin 4096) (k : Fin 5632) : ℝ := if h : k.val < 2816 then a.dgate r ⟨k.val, h⟩ else a.dup r ⟨k.val - 2816, by omega⟩

/-- The cotangent of the normalised rows. -/
def du (r : Fin 4096) (j : Fin 1024) : ℝ := ∑ k, a.dgu r k * a.Wgu j k

/-- The gradient of the weight of the norm before the block. -/
def dg1 (j : Fin 1024) : ℝ := ∑ r, a.du r j * (a.X r j * rstd 1024 (a.X r))

/-- The gradient of the weight of the norm after the block. -/
def dg2 (j : Fin 1024) : ℝ := ∑ r, a.D r j * (a.y r j * rstd 1024 (a.y r))

/-- The cotangent of the block's output before its norm, as an array. -/
def dyArr : FVec Ideal ⟨2, ![4096, 1024]⟩ .bf16 := fun i => ((a.dy (i 0) (i 1) : ℝ) : EReal)

/-- The cotangent of gate and up projection, as an array. -/
def dguArr : FVec Ideal ⟨2, ![4096, 5632]⟩ .bf16 := fun i => ((a.dgu (i 0) (i 1) : ℝ) : EReal)

/-- The gradient of the rows. -/
def dh1Arr : FVec Ideal ⟨2, ![4096, 1024]⟩ .f32 := fun i => ((a.D (i 0) (i 1) + rmsGrad 1024 (a.X (i 0)) (fun k => a.du (i 0) k * a.G1 k) (i 1) : ℝ) : EReal)

/-- Eight rows, of which row 4 is the gradient of the first norm's weight and row 5 that of the second's. -/
def pack : FVec Ideal ⟨2, ![8, 1024]⟩ .f32 := fun i =>
  if (i 0).val = 4 then ((a.dg1 (i 1) : ℝ) : EReal) else if (i 0).val = 5 then ((a.dg2 (i 1) : ℝ) : EReal) else 0

end Args

end Cert.Ffn
end
-- ==== Proof.FfnPay.lean ====
/- What the payloads of the feed-forward block's backward kernel compute at an index, from blocks of real numbers. -/
module

public import proofs.«01_k».proof.Proof.FfnSpec
public import proofs.«01_k».proof.Proof.Gen.KernelFfnIdeal.Skeleton

@[expose] public section

set_option maxRecDepth 16384

noncomputable section

namespace Cert.Ffn

open Idealize.ShloMosaic Cert.KernelFfnIdeal Cert.KernelFfnIdeal.Gen Cert.Reals

/-- The reciprocal root mean square of the rows. -/
theorem rstd_block (x : FVec Ideal S256x1024 .f32) (X : Fin 256 → Fin 1024 → ℝ)
    (hx : ∀ r j, x (ix2 r j) = ((X r j : ℝ) : EReal)) (r : Fin 256) (z : Fin 1) :
    k0_pay1 (F := Ideal) (k0_pay19 x) k0_pay20 (ix2 r z) = ((rstd 1024 (X r) : ℝ) : EReal) := by
  pointwise [k0_pay1, k0_pay19, k0_pay20]
  simp only [hx, ← EReal.coe_mul, coe_sum, ofBits_1024, ofBits_eps]
  rw [div_real _ _ (by norm_num), ← EReal.coe_add]
  exact rsqrt_real _ (meanSq_pos (by norm_num) (X r))

/-- The same of the block's outputs. -/
theorem rstd_block' (x : FVec Ideal S256x1024 .f32) (X : Fin 256 → Fin 1024 → ℝ)
    (hx : ∀ r j, x (ix2 r j) = ((X r j : ℝ) : EReal)) (r : Fin 256) (z : Fin 1) :
    k0_pay7 (F := Ideal) x (ix2 r z) = ((rstd 1024 (X r) : ℝ) : EReal) := by
  pointwise [k0_pay7, k0_pay6]
  simp only [hx, ← EReal.coe_mul, coe_sum, ofBits_1024, ofBits_eps]
  rw [div_real _ _ (by norm_num), ← EReal.coe_add]
  exact rsqrt_real _ (meanSq_pos (by norm_num) (X r))

/-- The gradient of the norm after the block. -/
theorem dy_block (d y : FVec Ideal S256x1024 .f32) (g : FVec Ideal S1x1024 .f32) (Y D : Fin 256 → Fin 1024 → ℝ) (G : Fin 1024 → ℝ)
    (hy : ∀ r j, y (ix2 r j) = ((Y r j : ℝ) : EReal)) (hd : ∀ r j, d (ix2 r j) = ((D r j : ℝ) : EReal))
    (hg : ∀ j, g (ix2 0 j) = ((G j : ℝ) : EReal)) (r : Fin 256) (j : Fin 1024) :
    k0_pay9 (F := Ideal) d y g (ix2 r j) = ((rmsGrad 1024 (Y r) (fun k => D r k * G k) j : ℝ) : EReal) := by
  pointwise [k0_pay9, k0_pay8, k0_pay6]
  simp only [rstd_block' y Y hy, hy, hd, hg, ← EReal.coe_mul, coe_sum, ofBits_1024]
  rw [div_real _ _ (by norm_num), ← EReal.coe_mul, ← EReal.coe_sub, ← EReal.coe_mul]
  rfl

/-- What a point adds to the gradient of that norm's weight. -/
theorem dg2_block (d y : FVec Ideal S256x1024 .f32) (a : FVec Ideal S1x1024 .f32) (Y D : Fin 256 → Fin 1024 → ℝ)
    (hy : ∀ r j, y (ix2 r j) = ((Y r j : ℝ) : EReal)) (hd : ∀ r j, d (ix2 r j) = ((D r j : ℝ) : EReal)) (j : Fin 1024) :
    k0_pay11 (F := Ideal) (k0_pay10 d y) a (ix2 0 j) = a (ix2 0 j) + ((∑ r, D r j * (Y r j * rstd 1024 (Y r)) : ℝ) : EReal) := by
  pointwise [k0_pay11, k0_pay10, k0_pay8, k0_pay6]
  simp only [rstd_block' y Y hy, hy, hd, ← EReal.coe_mul, coe_sum]

/-- The cotangent of the activation. -/
theorem dact_block (v : FVec Ideal S256x1024 .f32) (w : FVec Ideal S2816x1024 .bf16) (Y : Fin 256 → Fin 1024 → ℝ) (W : Fin 2816 → Fin 1024 → ℝ)
    (hv : ∀ r j, v (ix2 r j) = ((Y r j : ℝ) : EReal)) (hw : ∀ i j, w (ix2 i j) = ((W i j : ℝ) : EReal)) (r : Fin 256) (i : Fin 2816) :
    k0_pay13 (F := Ideal) v w (ix2 r i) = ((∑ j, Y r j * W i j : ℝ) : EReal) := by
  pointwise [k0_pay13, k0_pay12]
  simp only [hv, hw, ← EReal.coe_mul, coe_sum]

/-- The gate's sigmoid. -/
theorem sig_block (v : FVec Ideal S256x2816 .bf16) (A : Fin 256 → Fin 2816 → ℝ) (hv : ∀ r i, v (ix2 r i) = ((A r i : ℝ) : EReal)) (r : Fin 256) (i : Fin 2816) :
    k0_pay15 (F := Ideal) v (ix2 r i) = ((sigm (A r i) : ℝ) : EReal) := by
  pointwise [k0_pay15, k0_pay14]
  rw [hv, zero_sub]
  exact sigm_real _

section
variable (v : FVec Ideal S256x1024 .f32) (w : FVec Ideal S2816x1024 .bf16) (v46 v49 : FVec Ideal S256x2816 .bf16) (Y : Fin 256 → Fin 1024 → ℝ)
  (W : Fin 2816 → Fin 1024 → ℝ) (A B : Fin 256 → Fin 2816 → ℝ)

/-- The cotangent of the gate. -/
theorem dgate_block (hv : ∀ r j, v (ix2 r j) = ((Y r j : ℝ) : EReal)) (hw : ∀ i j, w (ix2 i j) = ((W i j : ℝ) : EReal))
    (h46 : ∀ r i, v46 (ix2 r i) = ((A r i : ℝ) : EReal)) (h49 : ∀ r i, v49 (ix2 r i) = ((B r i : ℝ) : EReal)) (r : Fin 256) (i : Fin 2816) :
    k0_pay16 (F := Ideal) v w v46 v49 (ix2 r i)
      = (((∑ j, Y r j * W i j) * B r i * (sigm (A r i) * (1 + A r i * (1 - sigm (A r i)))) : ℝ) : EReal) := by
  pointwise [k0_pay16, k0_pay14]
  rw [dact_block v w Y W hv hw, sig_block v46 A h46, h46, h49]
  simp only [← EReal.coe_one, ← EReal.coe_mul, ← EReal.coe_sub, ← EReal.coe_add]

/-- The cotangent of the up projection. -/
theorem dup_block (hv : ∀ r j, v (ix2 r j) = ((Y r j : ℝ) : EReal)) (hw : ∀ i j, w (ix2 i j) = ((W i j : ℝ) : EReal))
    (h46 : ∀ r i, v46 (ix2 r i) = ((A r i : ℝ) : EReal)) (r : Fin 256) (i : Fin 2816) :
    k0_pay17 (F := Ideal) v w v46 (ix2 r i) = (((∑ j, Y r j * W i j) * A r i * sigm (A r i) : ℝ) : EReal) := by
  pointwise [k0_pay17, k0_pay14]
  rw [dact_block v w Y W hv hw, sig_block v46 A h46, h46]
  simp only [← EReal.coe_mul]

end

/-- The four column pieces of 1408 of one product over 5632 columns. -/
theorem du_block (p0 p1 p2 p3 : FVec Ideal S256x1408 .bf16) (w0 w1 w2 w3 : FVec Ideal S1x1024x1408 .bf16)
    (D : Fin 256 → Fin 5632 → ℝ) (W : Fin 1024 → Fin 5632 → ℝ)
    (hp0 : ∀ r (x : Fin 1408), p0 (ix2 r x) = ((D r ⟨0 * 1408 + x, by omega⟩ : ℝ) : EReal)) (hw0 : ∀ j (x : Fin 1408), w0 (ix3 0 j x) = ((W j ⟨0 * 1408 + x, by omega⟩ : ℝ) : EReal))
    (hp1 : ∀ r (x : Fin 1408), p1 (ix2 r x) = ((D r ⟨1 * 1408 + x, by omega⟩ : ℝ) : EReal)) (hw1 : ∀ j (x : Fin 1408), w1 (ix3 0 j x) = ((W j ⟨1 * 1408 + x, by omega⟩ : ℝ) : EReal))
    (hp2 : ∀ r (x : Fin 1408), p2 (ix2 r x) = ((D r ⟨2 * 1408 + x, by omega⟩ : ℝ) : EReal)) (hw2 : ∀ j (x : Fin 1408), w2 (ix3 0 j x) = ((W j ⟨2 * 1408 + x, by omega⟩ : ℝ) : EReal))
    (hp3 : ∀ r (x : Fin 1408), p3 (ix2 r x) = ((D r ⟨3 * 1408 + x, by omega⟩ : ℝ) : EReal)) (hw3 : ∀ j (x : Fin 1408), w3 (ix3 0 j x) = ((W j ⟨3 * 1408 + x, by omega⟩ : ℝ) : EReal))
    (r : Fin 256) (j : Fin 1024) :
    k0_pay18 (F := Ideal) p0 w0 p1 w1 p2 w2 p3 w3 (ix2 r j) = ((∑ k, D r k * W j k : ℝ) : EReal) := by
  pointwise [k0_pay18]
  rw [Fin.sum_univ_tiles 4 1408 rfl, Fin.sum_univ_four]
  simp only [hp0, hw0, hp1, hw1, hp2, hw2, hp3, hw3, ← EReal.coe_mul, coe_sum, ← EReal.coe_add]
  rfl

/-- The gradient of the rows. -/
theorem dh1_block (u x d : FVec Ideal S256x1024 .f32) (g : FVec Ideal S1x1024 .f32) (X U D : Fin 256 → Fin 1024 → ℝ) (G : Fin 1024 → ℝ)
    (hx : ∀ r j, x (ix2 r j) = ((X r j : ℝ) : EReal)) (hu : ∀ r j, u (ix2 r j) = ((U r j : ℝ) : EReal)) (hd : ∀ r j, d (ix2 r j) = ((D r j : ℝ) : EReal))
    (hg : ∀ j, g (ix2 0 j) = ((G j : ℝ) : EReal)) (r : Fin 256) (j : Fin 1024) :
    k0_pay4 (F := Ideal) d u x (k0_pay19 x) k0_pay20 g (ix2 r j) = ((D r j + rmsGrad 1024 (X r) (fun k => U r k * G k) j : ℝ) : EReal) := by
  pointwise [k0_pay4, k0_pay2]
  simp only [rstd_block x X hx, hx, hu, hg, hd, ← EReal.coe_mul, coe_sum, ofBits_1024]
  rw [div_real _ _ (by norm_num), ← EReal.coe_mul, ← EReal.coe_sub, ← EReal.coe_mul, ← EReal.coe_add]
  rfl

/-- What a point adds to the gradient of the weight of the norm before the block. -/
theorem dg1_block (u x : FVec Ideal S256x1024 .f32) (a : FVec Ideal S1x1024 .f32) (X U : Fin 256 → Fin 1024 → ℝ)
    (hx : ∀ r j, x (ix2 r j) = ((X r j : ℝ) : EReal)) (hu : ∀ r j, u (ix2 r j) = ((U r j : ℝ) : EReal)) (j : Fin 1024) :
    k0_pay3 (F := Ideal) u x (k0_pay19 x) k0_pay20 a (ix2 0 j) = a (ix2 0 j) + ((∑ r, U r j * (X r j * rstd 1024 (X r)) : ℝ) : EReal) := by
  pointwise [k0_pay3, k0_pay2]
  simp only [rstd_block x X hx, hx, hu, ← EReal.coe_mul, coe_sum]

end Cert.Ffn
end
-- ==== Proof.FfnKernel.lean ====
/- The blocks, the saved forward values, the weights and the scratch of the feed-forward block's backward kernel. -/
module

public import proofs.«01_k».proof.Proof.FfnPay
public import proofs.«01_k».proof.Proof.Pack
public import proofs.«01_k».proof.Proof.Gen.KernelFfnIdeal.Value

@[expose] public section

set_option maxRecDepth 16384

noncomputable section

namespace Cert.Ffn

open Idealize.ShloMosaic Idealize.ShloMosaic.TcCoe Idealize.SL.Sem Cert.KernelFfnIdeal Cert.KernelFfnIdeal.Gen Cert.Reals

variable (m : (ℓ : Loc nD τ sig) → Buf (Elt Ideal) ℓ) (c : Dev nD)

/-- Row `r` of the block of 256 rows that grid point `t` works on. -/
def row (t : Fin cfg0.N) (r : Fin 256) : Fin 4096 := ⟨256 * t.val + r.val, by have := t.isLt; have h : cfg0.N = 16 := N_0; omega⟩

/-- An argument of the kernel, as memory holds it. -/
abbrev arr (b : Ref sig .tc) : Buf (Elt Ideal) ((c : Thread nD τ).loc b) := m ((c : Thread nD τ).loc b)

/-- The arguments the kernel finds in memory. -/
def args : Args where
  h1 := arr m c main_arg0
  g1 := arr m c main_arg1
  g2 := arr m c main_arg2
  wgu := arr m c main_arg3
  wd := arr m c main_arg4
  dh2 := arr m c main_arg5

/-- Which block of its array each window holds at a point. -/
theorem idx : ∀ t : Fin cfg0.N, win0_0.index t = ![t.val, 0] ∧ win0_1.index t = ![t.val, 0] ∧ win0_2.index t = ![t.val, 0] ∧ win0_3.index t = ![t.val, 0] ∧
    win0_4.index t = ![0, 0] ∧ win0_5.index t = ![0, 0] ∧ win0_6.index t = ![t.val, 0] ∧ win0_7.index t = ![t.val, 0] ∧ win0_8.index t = ![t.val, 0] ∧ win0_9.index t = ![0, 0] :=
  (by decide +kernel : ∀ t : Fin grid0.N, _)

/-- The block of the cotangent's rows at point `t`. -/
theorem blk0 (t : Fin cfg0.N) (r : Fin 256) (j : Fin 1024) : iblk m c 0 t (ix2 r j) = (args m c).dh2 (ix2 (row t r) j) := by
  blk_point [iblk, idx t, row]

/-- The block of the saved outputs at point `t`. -/
theorem blk1 (t : Fin cfg0.N) (r : Fin 256) (j : Fin 1024) : iblk m c 1 t (ix2 r j) = V m c main_v17 (ix2 (row t r) j) := by
  blk_point [iblk, idx t, row]

/-- The block of the rows at point `t`. -/
theorem blk2 (t : Fin cfg0.N) (r : Fin 256) (j : Fin 1024) : iblk m c 2 t (ix2 r j) = (args m c).h1 (ix2 (row t r) j) := by
  blk_point [iblk, idx t, row]

/-- The block of the saved gate and up projection at point `t`. -/
theorem blk3 (t : Fin cfg0.N) (r : Fin 256) (k : Fin 5632) : iblk m c 3 t (ix2 r k) = V m c main_v18 (ix2 (row t r) k) := by
  blk_point [iblk, idx t, row]

/-- The first norm's weight, the same at every point. -/
theorem blk4 (t : Fin cfg0.N) (j : Fin 1024) : iblk m c 4 t (ix2 0 j) = (args m c).g1 (ix2 0 j) := by
  blk_point [iblk, idx t]

/-- The second norm's weight, the same at every point. -/
theorem blk5 (t : Fin cfg0.N) (j : Fin 1024) : iblk m c 5 t (ix2 0 j) = (args m c).g2 (ix2 0 j) := by
  blk_point [iblk, idx t]

/-- The first product's weight as the host hands it over: four blocks of columns. -/
theorem wgu_entry (q : Fin 4) (j : Fin 1024) (k : Fin 1408) : (V m c main_v21) (ix3 q j k) = (args m c).wgu (ix2 j ⟨q.val * 1408 + k.val, by omega⟩) := by
  simp only [V, hostOps0, hostOps0_1, hostOps0_2, List.flatten_cons, List.flatten_nil, List.append_nil, List.cons_append, List.nil_append]
  entry_read
  pointwise
  rfl

/-- The second product's weight as the host hands it over. -/
theorem wd_entry (i : Fin 2816) (j : Fin 1024) : (V m c main_v22) (ix2 i j) = (args m c).wd (ix2 i j) := by
  simp only [V, hostOps0, hostOps0_1, hostOps0_2, List.flatten_cons, List.flatten_nil, List.append_nil, List.cons_append, List.nil_append]
  entry_read
  pointwise
  rfl

/-- The reciprocal root mean square, as the host lines write it. -/
theorem rstd_host (x : FVec Ideal S4096x1024 .f32) (X : Fin 4096 → Fin 1024 → ℝ) (hx : ∀ r j, x (ix2 r j) = ((X r j : ℝ) : EReal)) (r : Fin 4096) :
    Ideal.rsqrt (Ideal.div (∑ j, x (ix2 r j) * x (ix2 r j)) (Ideal.ofBits FTy.f32 1149239296#32) + Ideal.ofBits FTy.f32 897988541#32) = ((rstd 1024 (X r) : ℝ) : EReal) := by
  simp only [hx, ← EReal.coe_mul, coe_sum, ofBits_1024, ofBits_eps]
  rw [div_real _ _ (by norm_num), ← EReal.coe_add]
  exact rsqrt_real _ (meanSq_pos (by norm_num) (X r))

/-- Gate and up projection, as the host lines write them. -/
def guHost (a : Args) (r : Fin 4096) (k : Fin 5632) : EReal :=
  ∑ j, a.h1 (ix2 r j) * Ideal.rsqrt (Ideal.div (∑ j, a.h1 (ix2 r j) * a.h1 (ix2 r j)) (Ideal.ofBits FTy.f32 1149239296#32) + Ideal.ofBits FTy.f32 897988541#32)
    * a.g1 (ix2 0 j) * a.wgu (ix2 j k)

/-- The saved gate and up projection, at finite arguments. -/
theorem guHost_eq (a : Args) (hf : a.Finite) (r : Fin 4096) (k : Fin 5632) : guHost a r k = ((a.gu r k : ℝ) : EReal) := by
  unfold guHost
  rw [rstd_host a.h1 a.X (fun r j => hf.h1.eq (ix2 r j))]
  unfold Args.gu
  rw [← coe_sum]
  refine Finset.sum_congr rfl fun j _ => ?_
  rw [hf.h1.eq, hf.g1.eq, hf.wgu.eq]
  simp only [← EReal.coe_mul]
  rfl

/-- The block's output before its norm, as the host lines write it. -/
theorem yHost_eq (a : Args) (hf : a.Finite) (r : Fin 4096) (k : Fin 1024) :
    ∑ i : Fin 2816, guHost a r ⟨i.val, by omega⟩ * Ideal.div 1 (1 + Ideal.exp (-guHost a r ⟨i.val, by omega⟩)) * guHost a r ⟨2816 + i.val, by omega⟩ * a.wd (ix2 i k)
      = ((a.y r k : ℝ) : EReal) := by
  simp only [guHost_eq a hf, sigm_real]
  unfold Args.y
  rw [← coe_sum]
  refine Finset.sum_congr rfl fun i _ => ?_
  rw [hf.wd.eq]
  simp only [← EReal.coe_mul]
  rfl

/-- The saved gate and up projection. -/
theorem gu_entry (hf : (args m c).Finite) (r : Fin 4096) (k : Fin 5632) : (V m c main_v18) (ix2 r k) = (((args m c).gu r k : ℝ) : EReal) := by
  simp only [V, hostOps0, hostOps0_1, hostOps0_2, List.flatten_cons, List.flatten_nil, List.append_nil, List.cons_append, List.nil_append]
  entry_read
  pointwise
  exact guHost_eq (args m c) hf r k

/-- The saved outputs of the block before its norm. -/
theorem y_entry (hf : (args m c).Finite) (r : Fin 4096) (k : Fin 1024) : (V m c main_v17) (ix2 r k) = (((args m c).y r k : ℝ) : EReal) := by
  simp only [V, hostOps0, hostOps0_1, hostOps0_2, List.flatten_cons, List.flatten_nil, List.append_nil, List.cons_append, List.nil_append]
  entry_read
  simp only [StableHlo.TRef.ofBuf_toBuf]
  simp -implicitDefEqProofs only [StableHlo.TRef.ofBuf, StableHlo.TRef.toBuf, cast_eq]
  pointwise
  exact yHost_eq (args m c) hf r k

/-- A load of one of the first weight's four column blocks, out of the copy of it that point 0 makes. -/
theorem w_load (q : Fin 4) (w : Vec Ideal S4x1024x1408 .bf16) (hw : w = V m c main_v21)
    (inb : ∀ a, (![q.val, 0, 0] : Fin 3 → ℕ) a + (![1, 1024, 1408] : Fin 3 → ℕ) a ≤ S4x1024x1408.size a) (j : Fin 1024) (x : Fin 1408) :
    View.ld (Val := Elt Ideal) (e' := .bf16) w (Rect.unit (s := S4x1024x1408) ![q.val, 0, 0] ![1, 1024, 1408] inb) (ix3 0 j x)
      = (args m c).wgu (ix2 j ⟨q.val * 1408 + x.val, by omega⟩) := by
  rw [hw, ← wgu_entry]
  show V m c main_v21 _ = _
  congr 1
  funext a
  fin_cases a
  · exact Fin.ext (by show q.val + 1 * 0 = q.val; omega)
  · exact Fin.ext (by show 0 + 1 * j.val = j.val; omega)
  · exact Fin.ext (by show 0 + 1 * x.val = x.val; omega)

/-- The copy of the first weight holds what the host hands over. -/
theorem wgu_canon (y : S4x1024x1408.Idx) :
    View.canon (Val := Elt Ideal) (s := S4x1024x1408) (e := .bf16) [⟨Rect.whole S4x1024x1408, ReadAs.same.apply (View.read (Elt Ideal) (View.whole main_v21) (V m c main_v21))⟩] y = V m c main_v21 y := by
  canon_tiles x h
  obtain rfl : y = x := by
    funext a
    fin_cases a
    · exact Fin.ext h0
    · exact Fin.ext h1
    · exact Fin.ext h2
  rfl

/-- The copy of the second weight holds what the host hands over. -/
theorem wd_canon (y : S2816x1024.Idx) :
    View.canon (Val := Elt Ideal) (s := S2816x1024) (e := .bf16) [⟨Rect.whole S2816x1024, ReadAs.same.apply (View.read (Elt Ideal) (View.whole main_v22) (V m c main_v22))⟩] y = V m c main_v22 y := by
  canon_tiles x h
  obtain rfl : y = x := by
    funext a
    fin_cases a
    · exact Fin.ext h0
    · exact Fin.ext h1
  rfl

/-- The first point leaves the weights in the scratch memory. -/
theorem scr_A (t : Fin cfg0.N) (h : t.val % 16 = 0) : (outsAt0 m c t.val t.isLt).2.2.2.2 = (V m c main_v21, V m c main_v22) := by
  rw [outsAt0_A m c t h h h]
  refine Prod.ext ?_ ?_
  · frame_out
    exact funext (wgu_canon m c)
  · frame_out
    exact funext (wd_canon m c)

/-- A later point leaves the scratch memory as it is. -/
theorem scr_B (t : Fin cfg0.N) (h : ¬ t.val % 16 = 0) : (outsAt0 m c t.val t.isLt).2.2.2.2 = (outsAt0 m c (t.val - 1) (by omega)).2.2.2.2 := by
  rw [outsAt0_B m c t h h h]
  rfl

/-- The two copies hold the weights after every point. -/
theorem scr : ∀ (n : ℕ) (hn : n < cfg0.N), (outsAt0 m c n hn).2.2.2.2 = (V m c main_v21, V m c main_v22)
  | 0, hn => scr_A m c ⟨0, hn⟩ rfl
  | n + 1, hn => by
    have hN : cfg0.N = 16 := N_0
    exact (scr_B m c ⟨n + 1, hn⟩ (by show ¬ (n + 1) % 16 = 0; omega)).trans (scr n (by omega))

/-- The two stores that fill the block of the cotangent of gate and up projection. -/
def gpcs (v : FVec Ideal S256x1024 .f32) (w : FVec Ideal S2816x1024 .bf16) (v46 v49 : FVec Ideal S256x2816 .bf16) : List (View.Piece (Elt Ideal) S256x5632 .bf16) :=
  [⟨Rect.unit ![0, 2816] ![256, 2816] inb_S256x5632_S256x2816_0_2816, k0_pay17 (F := Ideal) v w v46⟩,
    ⟨Rect.unit ![0, 0] ![256, 2816] inb_S256x5632_S256x2816_0_0, k0_pay16 (F := Ideal) v w v46 v49⟩]

section
variable (a : Args) (φ : Fin 256 → Fin 4096) (v : FVec Ideal S256x1024 .f32) (w : FVec Ideal S2816x1024 .bf16) (v46 v49 : FVec Ideal S256x2816 .bf16)
  (hv : ∀ r j, v (ix2 r j) = ((a.dy (φ r) j : ℝ) : EReal)) (hw : ∀ i j, w (ix2 i j) = ((a.Wd i j : ℝ) : EReal))
  (h46 : ∀ r i, v46 (ix2 r i) = ((a.gate (φ r) i : ℝ) : EReal)) (h49 : ∀ r i, v49 (ix2 r i) = ((a.up (φ r) i : ℝ) : EReal))

include hv hw h46 h49 in
/-- The two stores fill the block with the cotangent of gate and up projection. -/
theorem gpcs_canon (r : Fin 256) (k : Fin 5632) : View.canon (gpcs v w v46 v49) (ix2 r k) = ((a.dgu (φ r) k : ℝ) : EReal) := by
  unfold gpcs
  canon_tiles x h
  · idx_vars x
    obtain rfl : r = x0 := Fin.ext h0
    refine (dup_block v w v46 _ _ _ hv hw h46 r x1).trans ?_
    have e : (⟨k.val - 2816, by omega⟩ : Fin 2816) = x1 := Fin.ext (by have : k.val = 2816 + x1.val := h1; show k.val - 2816 = x1.val; omega)
    have hk : ¬ k.val < 2816 := by have : k.val = 2816 + x1.val := h1; omega
    unfold Args.dgu
    rw [dif_neg hk, e]
    rfl
  · idx_vars x
    obtain rfl : r = x0 := Fin.ext h0
    refine (dgate_block v w v46 v49 _ _ _ _ hv hw h46 h49 r x1).trans ?_
    have hk : k.val < 2816 := by have : k.val = x1.val := h1; omega
    have e : (⟨k.val, hk⟩ : Fin 2816) = x1 := Fin.ext h1
    unfold Args.dgu
    rw [dif_pos hk, e]
    rfl

include hv hw h46 h49 in
/-- A load of 1408 of its columns. -/
theorem gpcs_load (V' : View sig .tc .vmem S256x5632 .bf16) (o : ℕ) (inb : ∀ a, (![0, o] : Fin 2 → ℕ) a + (![256, 1408] : Fin 2 → ℕ) a ≤ S256x5632.size a)
    (r : Fin 256) (x : Fin 1408) (k : Fin 5632) (hk : k.val = o + x.val) :
    V'.readCov (gpcs v w v46 v49) (Rect.unit (s := S256x5632) ![0, o] ![256, 1408] inb).toLoadRect (ix2 r x) = ((a.dgu (φ r) k : ℝ) : EReal) := by
  have e : (Rect.unit (s := S256x5632) ![0, o] ![256, 1408] inb).toLoadRect.idx (ix2 r x) = ix2 r k := by
    funext a
    fin_cases a
    · exact Fin.ext (by show 0 + 1 * r.val = r.val; omega)
    · exact Fin.ext (by show o + 1 * x.val = k.val; omega)
  rw [View.readCov_eq_canon']
  exact (congrArg (View.canon (gpcs v w v46 v49)) e).trans (gpcs_canon a φ v w v46 v49 hv hw h46 h49 r k)

end

/-- The gate of the rows at point `t`, as the kernel loads it. -/
theorem gate_load (hf : (args m c).Finite) (t : Fin cfg0.N) (inb : ∀ a, (![0, 0] : Fin 2 → ℕ) a + (![256, 2816] : Fin 2 → ℕ) a ≤ S256x5632.size a) (r : Fin 256) (i : Fin 2816) :
    View.ld (Val := Elt Ideal) (e' := .bf16) (iblk m c 3 t) (Rect.unit (s := S256x5632) ![0, 0] ![256, 2816] inb) (ix2 r i) = (((args m c).gate (row t r) i : ℝ) : EReal) := by
  refine (congrArg (iblk m c 3 t) ?_).trans ((blk3 m c t r ⟨i.val, by omega⟩).trans (gu_entry m c hf _ _))
  funext a
  fin_cases a
  · exact Fin.ext (by show 0 + 1 * r.val = r.val; omega)
  · exact Fin.ext (by show 0 + 1 * i.val = i.val; omega)

/-- The up projection of the rows at point `t`, as the kernel loads it. -/
theorem up_load (hf : (args m c).Finite) (t : Fin cfg0.N) (inb : ∀ a, (![0, 2816] : Fin 2 → ℕ) a + (![256, 2816] : Fin 2 → ℕ) a ≤ S256x5632.size a) (r : Fin 256) (i : Fin 2816) :
    View.ld (Val := Elt Ideal) (e' := .bf16) (iblk m c 3 t) (Rect.unit (s := S256x5632) ![0, 2816] ![256, 2816] inb) (ix2 r i) = (((args m c).up (row t r) i : ℝ) : EReal) := by
  refine (congrArg (iblk m c 3 t) ?_).trans ((blk3 m c t r ⟨2816 + i.val, by omega⟩).trans (gu_entry m c hf _ _))
  funext a
  fin_cases a
  · exact Fin.ext (by show 0 + 1 * r.val = r.val; omega)
  · exact Fin.ext (by show 2816 + 1 * i.val = 2816 + i.val; omega)

end Cert.Ffn
end
-- ==== Proof.FfnPoints.lean ====
/- What a grid point of the feed-forward block's backward kernel leaves in its outputs. -/
module

public import proofs.«01_k».proof.Proof.FfnKernel

@[expose] public section

set_option maxRecDepth 16384

noncomputable section

namespace Cert.Ffn

open Idealize.ShloMosaic Idealize.ShloMosaic.TcCoe Idealize.SL.Sem Cert.KernelFfnIdeal Cert.KernelFfnIdeal.Gen Cert.Reals

variable (m : (ℓ : Loc nD τ sig) → Buf (Elt Ideal) ℓ) (c : Dev nD)

/-- What every point leaves, from the second weight `w`, gate and up projection `v46`, `v49` and the cotangent `u` of the normalised rows: the outputs but the pack. -/
structure Outs (t : Fin cfg0.N) (w : FVec Ideal S2816x1024 .bf16) (v46 v49 : FVec Ideal S256x2816 .bf16) (u : FVec Ideal S256x1024 .f32) : Prop where
  hw : ∀ i j, w (ix2 i j) = (args m c).wd (ix2 i j)
  h46 : (args m c).Finite → ∀ r i, v46 (ix2 r i) = (((args m c).gate (row t r) i : ℝ) : EReal)
  h49 : (args m c).Finite → ∀ r i, v49 (ix2 r i) = (((args m c).up (row t r) i : ℝ) : EReal)
  hu : (args m c).Finite → ∀ r j, u (ix2 r j) = (((args m c).du (row t r) j : ℝ) : EReal)
  o6 : ∀ r j, (outsAt0 m c t.val t.isLt).1 (ix2 r j) = k0_pay12 (F := Ideal) (k0_pay9 (iblk m c 0 t) (iblk m c 1 t) (iblk m c 5 t)) (ix2 r j)
  o7 : ∀ r k, (outsAt0 m c t.val t.isLt).2.1 (ix2 r k) = View.canon (gpcs (k0_pay9 (iblk m c 0 t) (iblk m c 1 t) (iblk m c 5 t)) w v46 v49) (ix2 r k)
  o8 : ∀ r j, (outsAt0 m c t.val t.isLt).2.2.1 (ix2 r j)
    = k0_pay4 (F := Ideal) (iblk m c 0 t) u (iblk m c 2 t) (k0_pay19 (iblk m c 2 t)) k0_pay20 (iblk m c 4 t) (ix2 r j)

/-- The cotangent of the block's output before its norm, from the blocks of a point. -/
theorem dy_point (hf : (args m c).Finite) (t : Fin cfg0.N) (r : Fin 256) (j : Fin 1024) :
    k0_pay9 (F := Ideal) (iblk m c 0 t) (iblk m c 1 t) (iblk m c 5 t) (ix2 r j) = (((args m c).dy (row t r) j : ℝ) : EReal) :=
  dy_block (iblk m c 0 t) (iblk m c 1 t) (iblk m c 5 t) (fun r => (args m c).y (row t r)) (fun r => (args m c).D (row t r)) (args m c).G2
    (fun r j => (blk1 m c t r j).trans (y_entry m c hf _ _)) (fun r j => (blk0 m c t r j).trans (hf.dh2.eq _)) (fun j => (blk5 m c t j).trans (hf.g2.eq _)) r j

/-- A load of the second weight, out of the copy of it that point 0 makes. -/
theorem wd_load (V' : View sig .tc .vmem S2816x1024 .bf16) (r : Fin 2816) (j : Fin 1024) :
    V'.readCov (Val := Elt Ideal) [⟨Rect.whole S2816x1024, ReadAs.same.apply (View.read (Elt Ideal) (View.whole main_v22) (V m c main_v22))⟩]
      (Rect.unit (s := S2816x1024) ![0, 0] ![2816, 1024] inb_S2816x1024_S2816x1024_0_0).toLoadRect (ix2 r j) = (args m c).wd (ix2 r j) := by
  rw [View.readCov_eq_canon']
  refine (wd_canon m c _).trans ((congrArg (V m c main_v22) ?_).trans (wd_entry m c r j))
  funext a
  fin_cases a
  · exact Fin.ext (by show 0 + 1 * r.val = r.val; omega)
  · exact Fin.ext (by show 0 + 1 * j.val = j.val; omega)

/-- The cotangent of the normalised rows, from the four column blocks a point reads back and the four of the first weight. -/
theorem du_point (hf : (args m c).Finite) (t : Fin cfg0.N) (V' : View sig .tc .vmem S256x5632 .bf16) (w : FVec Ideal S2816x1024 .bf16) (v46 v49 : FVec Ideal S256x2816 .bf16)
    (hw : ∀ i j, w (ix2 i j) = (args m c).wd (ix2 i j)) (h46 : ∀ r i, v46 (ix2 r i) = (((args m c).gate (row t r) i : ℝ) : EReal))
    (h49 : ∀ r i, v49 (ix2 r i) = (((args m c).up (row t r) i : ℝ) : EReal)) (w0 w1 w2 w3 : FVec Ideal S1x1024x1408 .bf16)
    (hw0 : ∀ j (x : Fin 1408), w0 (ix3 0 j x) = (args m c).wgu (ix2 j ⟨0 * 1408 + x.val, by omega⟩)) (hw1 : ∀ j (x : Fin 1408), w1 (ix3 0 j x) = (args m c).wgu (ix2 j ⟨1 * 1408 + x.val, by omega⟩))
    (hw2 : ∀ j (x : Fin 1408), w2 (ix3 0 j x) = (args m c).wgu (ix2 j ⟨2 * 1408 + x.val, by omega⟩)) (hw3 : ∀ j (x : Fin 1408), w3 (ix3 0 j x) = (args m c).wgu (ix2 j ⟨3 * 1408 + x.val, by omega⟩))
    (r : Fin 256) (j : Fin 1024) :
    k0_pay18 (F := Ideal)
      (V'.readCov (gpcs (k0_pay9 (iblk m c 0 t) (iblk m c 1 t) (iblk m c 5 t)) w v46 v49) (Rect.unit (s := S256x5632) ![0, 0] ![256, 1408] inb_S256x5632_S256x1408_0_0).toLoadRect) w0
      (V'.readCov (gpcs (k0_pay9 (iblk m c 0 t) (iblk m c 1 t) (iblk m c 5 t)) w v46 v49) (Rect.unit (s := S256x5632) ![0, 1408] ![256, 1408] inb_S256x5632_S256x1408_0_1408).toLoadRect) w1
      (V'.readCov (gpcs (k0_pay9 (iblk m c 0 t) (iblk m c 1 t) (iblk m c 5 t)) w v46 v49) (Rect.unit (s := S256x5632) ![0, 2816] ![256, 1408] inb_S256x5632_S256x1408_0_2816).toLoadRect) w2
      (V'.readCov (gpcs (k0_pay9 (iblk m c 0 t) (iblk m c 1 t) (iblk m c 5 t)) w v46 v49) (Rect.unit (s := S256x5632) ![0, 4224] ![256, 1408] inb_S256x5632_S256x1408_0_4224).toLoadRect) w3 (ix2 r j)
      = (((args m c).du (row t r) j : ℝ) : EReal) := by
  have hw' : ∀ i j, w (ix2 i j) = (((args m c).Wd i j : ℝ) : EReal) := fun i j => (hw i j).trans (hf.wd.eq _)
  have hl := gpcs_load (args m c) (row t) (k0_pay9 (iblk m c 0 t) (iblk m c 1 t) (iblk m c 5 t)) w v46 v49 (dy_point m c hf t) hw' h46 h49 V'
  refine du_block _ _ _ _ _ _ _ _ (fun r => (args m c).dgu (row t r)) (args m c).Wgu ?_ ?_ ?_ ?_ ?_ ?_ ?_ ?_ r j
  · exact fun r x => hl 0 _ r x _ rfl
  · exact fun j x => (hw0 j x).trans (hf.wgu.eq _)
  · exact fun r x => hl 1408 _ r x _ rfl
  · exact fun j x => (hw1 j x).trans (hf.wgu.eq _)
  · exact fun r x => hl 2816 _ r x _ rfl
  · exact fun j x => (hw2 j x).trans (hf.wgu.eq _)
  · exact fun r x => hl 4224 _ r x _ rfl
  · exact fun j x => (hw3 j x).trans (hf.wgu.eq _)

/-- What point 0 leaves: the pack is zero but for rows 4 and 5. -/
theorem out_A (t : Fin cfg0.N) (h : t.val % 16 = 0) : ∃ (w : FVec Ideal S2816x1024 .bf16) (v46 v49 : FVec Ideal S256x2816 .bf16) (u : FVec Ideal S256x1024 .f32),
    Outs m c t w v46 v49 u ∧
    (∀ r j, (outsAt0 m c t.val t.isLt).2.2.2.1 (ix2 r j) =
      if r = 4 then k0_pay3 (F := Ideal) u (iblk m c 2 t) (k0_pay19 (iblk m c 2 t)) k0_pay20 (fun _ => 0) (ix2 0 j)
      else if r = 5 then k0_pay11 (F := Ideal) (k0_pay10 (iblk m c 0 t) (iblk m c 1 t)) (fun _ => 0) (ix2 0 j) else 0) := by
  refine' ⟨_, _, _, _, ⟨?hw, ?h46, ?h49, ?hu, ?h6, ?h7, ?h8⟩, ?h9⟩
  case h7 =>
    intro r j
    rw [outsAt0_A m c t h h h]
    frame_out
    rfl
  case h6 =>
    intro r j
    rw [outsAt0_A m c t h h h]
    frame_out
  case h8 =>
    intro r j
    rw [outsAt0_A m c t h h h]
    frame_out
    rfl
  case hw =>
    exact wd_load m c _
  case h46 =>
    exact fun hf r i => gate_load m c hf t _ r i
  case h49 =>
    exact fun hf r i => up_load m c hf t _ r i
  case hu =>
    intro hf r j
    refine du_point m c hf t (ms0_7 t).view _ _ _ ?_ (gate_load m c hf t _) (up_load m c hf t _) _ _ _ _ ?_ ?_ ?_ ?_ r j
    · exact wd_load m c _
    · exact fun j x => (congrFun (View.readCov_eq_canon' _ _ _) _).trans (w_load m c 0 _ (funext (wgu_canon m c)) _ j x)
    · exact fun j x => (congrFun (View.readCov_eq_canon' _ _ _) _).trans (w_load m c 1 _ (funext (wgu_canon m c)) _ j x)
    · exact fun j x => (congrFun (View.readCov_eq_canon' _ _ _) _).trans (w_load m c 2 _ (funext (wgu_canon m c)) _ j x)
    · exact fun j x => (congrFun (View.readCov_eq_canon' _ _ _) _).trans (w_load m c 3 _ (funext (wgu_canon m c)) _ j x)
  case h9 =>
    intro r j
    rw [outsAt0_A m c t h h h]
    frame_out
    refine (Cert.Pack.canon_row 4 _ _ _ r j).trans ?_
    split_ifs with h4 h5
    · congr 1
      funext z
      idx_vars z
      rw [View.readCov_eq_canon']
      have e : (Rect.unit (s := S8x1024) ![4, 0] ![1, 1024] inb_S8x1024_S1x1024_4_0).toLoadRect.idx (ix2 z0 z1) = ix2 4 z1 := by
        have := z0.isLt
        funext a
        fin_cases a
        · exact Fin.ext (by show 4 + 1 * z0.val = 4; omega)
        · exact Fin.ext (by show 0 + 1 * z1.val = z1.val; omega)
      refine (congrArg (View.canon _) e).trans ((Cert.Pack.canon_row 5 _ _ _ 4 z1).trans ?_)
      rw [if_neg (by decide)]
      canon_tiles x h
      pointwise [k0_pay5]
    · refine (Cert.Pack.canon_row 5 _ _ _ r j).trans ?_
      rw [if_pos h5]
      congr 1
      funext z
      idx_vars z
      rw [View.readCov_eq_canon']
      canon_tiles x h
      pointwise [k0_pay5]
    · refine (Cert.Pack.canon_row 5 _ _ _ r j).trans ?_
      rw [if_neg h5]
      canon_tiles x h
      pointwise [k0_pay5]

/-- What a later point leaves: it adds to the pack's rows 4 and 5. -/
theorem out_B (t : Fin cfg0.N) (h : ¬ t.val % 16 = 0) : ∃ (w : FVec Ideal S2816x1024 .bf16) (v46 v49 : FVec Ideal S256x2816 .bf16) (u : FVec Ideal S256x1024 .f32),
    Outs m c t w v46 v49 u ∧
    (∀ r j, (outsAt0 m c t.val t.isLt).2.2.2.1 (ix2 r j) =
      if r = 4 then k0_pay3 (F := Ideal) u (iblk m c 2 t) (k0_pay19 (iblk m c 2 t)) k0_pay20 (fun z => (outsAt0 m c (t.val - 1) (by omega)).2.2.2.1 (ix2 4 (z 1))) (ix2 0 j)
      else if r = 5 then k0_pay11 (F := Ideal) (k0_pay10 (iblk m c 0 t) (iblk m c 1 t)) (fun z => (outsAt0 m c (t.val - 1) (by omega)).2.2.2.1 (ix2 5 (z 1))) (ix2 0 j)
      else (outsAt0 m c (t.val - 1) (by omega)).2.2.2.1 (ix2 r j)) := by
  have hs := scr m c (t.val - 1) (by have := t.isLt; omega)
  have hs1 := congrArg Prod.fst hs
  have hs2 := congrArg Prod.snd hs
  refine' ⟨_, _, _, _, ⟨?hw, ?h46, ?h49, ?hu, ?h6, ?h7, ?h8⟩, ?h9⟩
  case h7 =>
    intro r j
    rw [outsAt0_B m c t h h h]
    frame_out
    rfl
  case h6 =>
    intro r j
    rw [outsAt0_B m c t h h h]
    frame_out
  case h8 =>
    intro r j
    rw [outsAt0_B m c t h h h]
    frame_out
    rfl
  case hw =>
    intro r j
    exact (congrFun ((Memref.isWhole_whole _).read_unread _ |>.trans hs2) _).trans (wd_entry m c r j)
  case h46 =>
    exact fun hf r i => gate_load m c hf t _ r i
  case h49 =>
    exact fun hf r i => up_load m c hf t _ r i
  case hu =>
    intro hf r j
    refine du_point m c hf t (ms0_7 t).view _ _ _ ?_ (gate_load m c hf t _) (up_load m c hf t _) _ _ _ _ ?_ ?_ ?_ ?_ r j
    · exact fun i j => (congrFun ((Memref.isWhole_whole _).read_unread _ |>.trans hs2) _).trans (wd_entry m c i j)
    · exact fun j x => w_load m c 0 _ ((Memref.isWhole_whole _).read_unread _ |>.trans hs1) _ j x
    · exact fun j x => w_load m c 1 _ ((Memref.isWhole_whole _).read_unread _ |>.trans hs1) _ j x
    · exact fun j x => w_load m c 2 _ ((Memref.isWhole_whole _).read_unread _ |>.trans hs1) _ j x
    · exact fun j x => w_load m c 3 _ ((Memref.isWhole_whole _).read_unread _ |>.trans hs1) _ j x
  case h9 =>
    intro r j
    rw [outsAt0_B m c t h h h]
    frame_out
    refine (Cert.Pack.read_row _ _ 4 _ _ _ r j).trans ?_
    split_ifs with h4 h5
    · congr 1
      funext z
      idx_vars z
      refine congrArg (outsAt0 m c (t.val - 1) (by omega)).2.2.2.1 ?_
      funext a
      have := z0.isLt
      fin_cases a
      · exact Fin.ext (by show 4 + 1 * z0.val = 4; omega)
      · exact Fin.ext (by show 0 + 1 * z1.val = z1.val; omega)
    · refine (Cert.Pack.read_row _ _ 5 _ _ _ r j).trans ?_
      rw [if_pos h5]
      congr 1
      funext z
      idx_vars z
      refine congrArg (outsAt0 m c (t.val - 1) (by omega)).2.2.2.1 ?_
      funext a
      have := z0.isLt
      fin_cases a
      · exact Fin.ext (by show 5 + 1 * z0.val = 5; omega)
      · exact Fin.ext (by show 0 + 1 * z1.val = z1.val; omega)
    · refine (Cert.Pack.read_row _ _ 5 _ _ _ r j).trans ?_
      rw [if_neg h5, View.writes_nil, (hs0_9 t).read_unread]

end Cert.Ffn
end
-- ==== Proof.FfnFinal.lean ====
/- The arrays the feed-forward block's backward kernel ends with. -/
module

public import proofs.«01_k».proof.Proof.FfnPoints

@[expose] public section

set_option maxRecDepth 16384

noncomputable section

namespace Cert.Ffn

open Idealize.ShloMosaic Idealize.ShloMosaic.TcCoe Idealize.SL.Sem Cert.KernelFfnIdeal Cert.KernelFfnIdeal.Gen Cert.Reals

variable (m : (ℓ : Loc nD τ sig) → Buf (Elt Ideal) ℓ) (c : Dev nD)

/-- Every point's outputs come of some arrays it read back. -/
theorem outs (t : Fin cfg0.N) : ∃ (w : FVec Ideal S2816x1024 .bf16) (v46 v49 : FVec Ideal S256x2816 .bf16) (u : FVec Ideal S256x1024 .f32), Outs m c t w v46 v49 u := by
  by_cases h : t.val % 16 = 0
  · obtain ⟨w, v46, v49, u, o, -⟩ := out_A m c t h
    exact ⟨w, v46, v49, u, o⟩
  · obtain ⟨w, v46, v49, u, o, -⟩ := out_B m c t h
    exact ⟨w, v46, v49, u, o⟩

section
variable (hf : (args m c).Finite)
include hf

/-- A point's rows of the cotangent of the block's output before its norm. -/
theorem out6 (t : Fin cfg0.N) (r : Fin 256) (j : Fin 1024) : (outsAt0 m c t.val t.isLt).1 (ix2 r j) = (args m c).dyArr (ix2 (row t r) j) := by
  obtain ⟨w, v46, v49, u, o⟩ := outs m c t
  refine (o.o6 r j).trans ?_
  pointwise [k0_pay12]
  exact dy_point m c hf t r j

/-- A point's rows of the cotangent of gate and up projection. -/
theorem out7 (t : Fin cfg0.N) (r : Fin 256) (k : Fin 5632) : (outsAt0 m c t.val t.isLt).2.1 (ix2 r k) = (args m c).dguArr (ix2 (row t r) k) := by
  obtain ⟨w, v46, v49, u, o⟩ := outs m c t
  exact (o.o7 r k).trans (gpcs_canon (args m c) (row t) _ w v46 v49 (dy_point m c hf t) (fun i j => (o.hw i j).trans (hf.wd.eq _)) (o.h46 hf) (o.h49 hf) r k)

/-- A point's rows of the gradient of the rows. -/
theorem out8 (t : Fin cfg0.N) (r : Fin 256) (j : Fin 1024) : (outsAt0 m c t.val t.isLt).2.2.1 (ix2 r j) = (args m c).dh1Arr (ix2 (row t r) j) := by
  obtain ⟨w, v46, v49, u, o⟩ := outs m c t
  exact (o.o8 r j).trans (dh1_block u (iblk m c 2 t) (iblk m c 0 t) (iblk m c 4 t) (fun r => (args m c).X (row t r)) (fun r => (args m c).du (row t r)) (fun r => (args m c).D (row t r))
    (args m c).G1 (fun r j => (blk2 m c t r j).trans (hf.h1.eq _)) (o.hu hf) (fun r j => (blk0 m c t r j).trans (hf.dh2.eq _)) (fun j => (blk4 m c t j).trans (hf.g1.eq _)) r j)

/-- The array this output ends with. -/
theorem final6 : (dats m 0 c).arrAt 6 cfg0.N = (args m c).dyArr := by
  refine (dats m 0 c).arrAt_eq_of_covers 6 _ (by decide +kernel) fun t _ y => ?_
  blk_simp
  rw [after0_6]
  idx_vars y
  rw [out6 m c hf]
  have e : ((View.whole main_v23_0).slice (win0_6.rect t)).emb (ix2 y0 y1) = ix2 (row t y0) y1 := by blk_ext [idx t, row]
  rw [e]

/-- The array this output ends with. -/
theorem final7 : (dats m 0 c).arrAt 7 cfg0.N = (args m c).dguArr := by
  refine (dats m 0 c).arrAt_eq_of_covers 7 _ (by decide +kernel) fun t _ y => ?_
  blk_simp
  rw [after0_7]
  idx_vars y
  rw [out7 m c hf]
  have e : ((View.whole main_v23_1).slice (win0_7.rect t)).emb (ix2 y0 y1) = ix2 (row t y0) y1 := by blk_ext [idx t, row]
  rw [e]

/-- The array this output ends with. -/
theorem final8 : (dats m 0 c).arrAt 8 cfg0.N = (args m c).dh1Arr := by
  refine (dats m 0 c).arrAt_eq_of_covers 8 _ (by decide +kernel) fun t _ y => ?_
  blk_simp
  rw [after0_8]
  idx_vars y
  rw [out8 m c hf]
  have e : ((View.whole main_v23_2).slice (win0_8.rect t)).emb (ix2 y0 y1) = ix2 (row t y0) y1 := by blk_ext [idx t, row]
  rw [e]

end

/-- What a grid point adds to the eight rows: its rows' part of the gradients of the two norms' weights. -/
def packPart (t : Fin cfg0.N) (i : S8x1024.Idx) : EReal :=
  if (i 0).val = 4 then ((∑ r, (args m c).du (row t r) (i 1) * ((args m c).X (row t r) (i 1) * rstd 1024 ((args m c).X (row t r))) : ℝ) : EReal)
  else if (i 0).val = 5 then ((∑ r, (args m c).D (row t r) (i 1) * ((args m c).y (row t r) (i 1) * rstd 1024 ((args m c).y (row t r))) : ℝ) : EReal) else 0

/-- What a point adds to `pack`, at an index. -/
theorem packPart_ix (t : Fin cfg0.N) (r : Fin 8) (j : Fin 1024) : packPart m c t (ix2 r j) =
    if r = 4 then ((∑ r, (args m c).du (row t r) j * ((args m c).X (row t r) j * rstd 1024 ((args m c).X (row t r))) : ℝ) : EReal)
    else if r = 5 then ((∑ r, (args m c).D (row t r) j * ((args m c).y (row t r) j * rstd 1024 ((args m c).y (row t r))) : ℝ) : EReal) else 0 := by
  have h4 : (r = 4) = (r.val = 4) := propext ⟨fun e => congrArg Fin.val e, fun e => Fin.ext e⟩
  have h5 : (r = 5) = (r.val = 5) := propext ⟨fun e => congrArg Fin.val e, fun e => Fin.ext e⟩
  simp only [h4, h5]
  rfl

section
variable (hf : (args m c).Finite)
include hf

/-- A point's part of the gradient of the weight of the norm before the block, added to what was there. -/
theorem dg1_point (t : Fin cfg0.N) (u : FVec Ideal S256x1024 .f32) (hu : ∀ r j, u (ix2 r j) = (((args m c).du (row t r) j : ℝ) : EReal)) (a : FVec Ideal S1x1024 .f32) (j : Fin 1024) :
    k0_pay3 (F := Ideal) u (iblk m c 2 t) (k0_pay19 (iblk m c 2 t)) k0_pay20 a (ix2 0 j)
      = a (ix2 0 j) + ((∑ r, (args m c).du (row t r) j * ((args m c).X (row t r) j * rstd 1024 ((args m c).X (row t r))) : ℝ) : EReal) :=
  dg1_block u (iblk m c 2 t) a (fun r => (args m c).X (row t r)) (fun r => (args m c).du (row t r)) (fun r j => (blk2 m c t r j).trans (hf.h1.eq _)) hu j

/-- A point's part of the gradient of the weight of the norm after the block, added to what was there. -/
theorem dg2_point (t : Fin cfg0.N) (a : FVec Ideal S1x1024 .f32) (j : Fin 1024) :
    k0_pay11 (F := Ideal) (k0_pay10 (iblk m c 0 t) (iblk m c 1 t)) a (ix2 0 j)
      = a (ix2 0 j) + ((∑ r, (args m c).D (row t r) j * ((args m c).y (row t r) j * rstd 1024 ((args m c).y (row t r))) : ℝ) : EReal) :=
  dg2_block (iblk m c 0 t) (iblk m c 1 t) a (fun r => (args m c).y (row t r)) (fun r => (args m c).D (row t r))
    (fun r j => (blk1 m c t r j).trans (y_entry m c hf _ _)) (fun r j => (blk0 m c t r j).trans (hf.dh2.eq _)) j

/-- Point 0 leaves its own part in `pack`. -/
theorem out9_A (t : Fin cfg0.N) (h : t.val % 16 = 0) (i : S8x1024.Idx) : (outsAt0 m c t.val t.isLt).2.2.2.1 i = 0 + packPart m c t i := by
  idx_vars i
  obtain ⟨w, v46, v49, u, o, h9⟩ := out_A m c t h
  rw [h9, packPart_ix]
  split_ifs with h4 h5
  · exact dg1_point m c hf t u (o.hu hf) _ _
  · exact dg2_point m c hf t _ _
  · rw [add_zero]

/-- A later point adds its part to `pack`. -/
theorem out9_B (t : Fin cfg0.N) (h : ¬ t.val % 16 = 0) (i : S8x1024.Idx) :
    (outsAt0 m c t.val t.isLt).2.2.2.1 i = (outsAt0 m c (t.val - 1) (by omega)).2.2.2.1 i + packPart m c t i := by
  idx_vars i
  obtain ⟨w, v46, v49, u, o, h9⟩ := out_B m c t h
  rw [h9, packPart_ix]
  split_ifs with h4 h5
  · subst h4
    exact dg1_point m c hf t u (o.hu hf) _ _
  · subst h5
    exact dg2_point m c hf t _ _
  · rw [add_zero]

omit hf in
/-- A sum over all rows, point by point. -/
theorem rows_sum (f : Fin 4096 → ℝ) : ∑ t : Fin cfg0.N, ((∑ r, f (row t r) : ℝ) : EReal) = ((∑ r, f r : ℝ) : EReal) := by
  rw [coe_sum, Fin.sum_univ_tiles 16 256 rfl]
  refine congrArg (fun x : ℝ => (x : EReal)) ?_
  refine Fintype.sum_equiv (finCongr N_0) _ _ fun t => Finset.sum_congr rfl fun r _ => congrArg f ?_
  exact Fin.ext (by show 256 * t.val + r.val = t.val * 256 + r.val; omega)

/-- The array this output ends with. -/
theorem final9 : (dats m 0 c).arrAt 9 cfg0.N = (args m c).pack := by
  refine (dats m 0 c).arrAt_eq_of_after_last 9 t0_15 (by decide +kernel) _ fun j => ?_
  blk_simp
  rw [after0_9]
  idx_vars j
  refine (Pipeline.eq_sum_fin_of_reset_step_apply_last (fun n h => (outsAt0 m c n h).2.2.2.1) 16 (fun _ => 0) (packPart m c) (out9_A m c hf) (out9_B m c hf) (le_of_eq N_0)
    t0_15 rfl (ix2 j0 j1)).trans ?_
  simp only [packPart_ix, zero_add]
  by_cases h4 : j0 = 4
  · simp only [if_pos h4]
    rw [rows_sum fun r => (args m c).du r j1 * ((args m c).X r j1 * rstd 1024 ((args m c).X r)), h4]
    exact (if_pos rfl).symm
  · have n4 : ¬ j0.val = 4 := fun e => h4 (Fin.ext e)
    simp only [if_neg h4]
    by_cases h5 : j0 = 5
    · simp only [if_pos h5]
      rw [rows_sum fun r => (args m c).D r j1 * ((args m c).y r j1 * rstd 1024 ((args m c).y r)), h5]
      exact ((if_neg (by show ¬ (5 : ℕ) = 4; decide)).trans (if_pos rfl)).symm
    · have n5 : ¬ j0.val = 5 := fun e => h5 (Fin.ext e)
      simp only [if_neg h5, Finset.sum_const_zero]
      exact ((if_neg n4).trans (if_neg n5)).symm

end

end Cert.Ffn
end
-- ==== Proof.FfnRef.lean ====
/- What the reference of the feed-forward block's backward call computes. -/
module

public import proofs.«01_k».proof.Proof.FfnSpec
public import proofs.«01_k».proof.Proof.Gen.ReferenceFfnIdeal.Run
public import proofs.«01_k».proof.Proof.Gen.ReferenceFfnIdeal.Read
public import Idealize.ShloMosaic.Lib.Pointwise

@[expose] public section

set_option maxRecDepth 16384

noncomputable section

namespace Cert.Ffn

open Idealize.ShloMosaic Cert.ReferenceFfnIdeal Cert.ReferenceFfnIdeal.Read Cert.Reals

variable (a : Args) (hf : a.Finite)
include hf

/-- The rows' mean square, a little above. -/
theorem ref_meanSq (r : Fin 4096) (z : Fin 1) : val_main_v6 (F := Ideal) a.h1 (ix2 r z) = ((meanSq 1024 (a.X r) : ℝ) : EReal) := by
  pointwise [val_main_v6, val_main_v5, val_main_v4, val_main_v3, val_main_v2, val_main_v1, val_main_v0, val_main_cst, val_main_cst_0, val_main_cst_1]
  simp only [hf.h1.eq, ← EReal.coe_mul, coe_sum]
  rw [ofBits_1024, ofBits_eps, div_real _ _ (by norm_num), ← EReal.coe_add]
  rfl

/-- Its reciprocal square root. -/
theorem ref_rstd (r : Fin 4096) (z : Fin 1) : val_main_v7 (F := Ideal) a.h1 (ix2 r z) = ((rstd 1024 (a.X r) : ℝ) : EReal) := by
  pointwise [val_main_v7]
  rw [ref_meanSq a hf]
  exact rsqrt_real _ (meanSq_pos (by norm_num) _)

/-- The derivative of the reciprocal square root. -/
theorem ref_slope (r : Fin 4096) (z : Fin 1) : val_main_v10 (F := Ideal) a.h1 (ix2 r z) = ((-(1/2) * (rstd 1024 (a.X r) / meanSq 1024 (a.X r)) : ℝ) : EReal) := by
  pointwise [val_main_v10, val_main_v9, val_main_v8, val_main_cst_2]
  rw [ref_rstd a hf, ref_meanSq a hf, ofBits_neg_half, div_real _ _ (meanSq_pos (by norm_num) _).ne', ← EReal.coe_mul]

/-- Gate and up projection. -/
theorem ref_gu (r : Fin 4096) (k : Fin 5632) : val_main_v15 (F := Ideal) a.h1 a.g1 a.wgu (ix2 r k) = ((a.gu r k : ℝ) : EReal) := by
  pointwise [val_main_v15, val_main_v14, val_main_v13, val_main_v12, val_main_v11]
  simp only [ref_rstd a hf, hf.h1.eq, hf.g1.eq, hf.wgu.eq, ← EReal.coe_mul, coe_sum]
  rfl

/-- The reference's gate. -/
theorem ref_gate (r : Fin 4096) (i : Fin 2816) : val_main_v16 (F := Ideal) a.h1 a.g1 a.wgu (ix2 r i) = ((a.gate r i : ℝ) : EReal) := by
  pointwise [val_main_v16]
  exact ref_gu a hf r _

/-- The reference's up projection. -/
theorem ref_up (r : Fin 4096) (i : Fin 2816) : val_main_v17 (F := Ideal) a.h1 a.g1 a.wgu (ix2 r i) = ((a.up r i : ℝ) : EReal) := by
  pointwise [val_main_v17]
  exact ref_gu a hf r _

/-- The gate's sigmoid. -/
theorem ref_sig (r : Fin 4096) (i : Fin 2816) : val_main_v18_2 (F := Ideal) a.h1 a.g1 a.wgu (ix2 r i) = ((sigm (a.gate r i) : ℝ) : EReal) := by
  pointwise [val_main_v18_2, val_main_call0_v4, val_main_call0_v3, val_main_call0_v2, val_main_call0_v1, val_main_call0_v0, val_main_call0_cst, val_main_call0_cst_0]
  rw [ref_gate a hf]
  exact sigm_real _

/-- The gate's activation. -/
theorem ref_silu (r : Fin 4096) (i : Fin 2816) : val_main_v18_0 (F := Ideal) a.h1 a.g1 a.wgu (ix2 r i) = ((a.gate r i * sigm (a.gate r i) : ℝ) : EReal) := by
  pointwise [val_main_v18_0]
  rw [ref_gate a hf, ref_sig a hf, ← EReal.coe_mul]

/-- The block's output before its norm. -/
theorem ref_y (r : Fin 4096) (j : Fin 1024) : val_main_v20 (F := Ideal) a.h1 a.g1 a.wgu a.wd (ix2 r j) = ((a.y r j : ℝ) : EReal) := by
  pointwise [val_main_v20, val_main_v19]
  simp only [ref_silu a hf, ref_up a hf, hf.wd.eq, ← EReal.coe_mul, coe_sum]
  rfl

/-- Its mean square, a little above. -/
theorem ref_meanSq' (r : Fin 4096) (z : Fin 1) : val_main_v27 (F := Ideal) a.h1 a.g1 a.wgu a.wd (ix2 r z) = ((meanSq 1024 (a.y r) : ℝ) : EReal) := by
  pointwise [val_main_v27, val_main_v26, val_main_v25, val_main_v24, val_main_v23, val_main_v22, val_main_v21, val_main_cst_3, val_main_cst_4, val_main_cst_5]
  simp only [ref_y a hf, ← EReal.coe_mul, coe_sum]
  rw [ofBits_1024, ofBits_eps, div_real _ _ (by norm_num), ← EReal.coe_add]
  rfl

/-- Its reciprocal square root. -/
theorem ref_rstd' (r : Fin 4096) (z : Fin 1) : val_main_v28 (F := Ideal) a.h1 a.g1 a.wgu a.wd (ix2 r z) = ((rstd 1024 (a.y r) : ℝ) : EReal) := by
  pointwise [val_main_v28]
  rw [ref_meanSq' a hf]
  exact rsqrt_real _ (meanSq_pos (by norm_num) _)

/-- The derivative of that reciprocal square root. -/
theorem ref_slope' (r : Fin 4096) (z : Fin 1) : val_main_v31 (F := Ideal) a.h1 a.g1 a.wgu a.wd (ix2 r z) = ((-(1/2) * (rstd 1024 (a.y r) / meanSq 1024 (a.y r)) : ℝ) : EReal) := by
  pointwise [val_main_v31, val_main_v30, val_main_v29, val_main_cst_6]
  rw [ref_rstd' a hf, ref_meanSq' a hf, ofBits_neg_half, div_real _ _ (meanSq_pos (by norm_num) _).ne', ← EReal.coe_mul]

/-- The cotangent times the weight of the norm after the block. -/
theorem ref_dg (r : Fin 4096) (j : Fin 1024) : val_main_v40 (F := Ideal) a.g2 a.dh2 (ix2 r j) = ((a.D r j * a.G2 j : ℝ) : EReal) := by
  pointwise [val_main_v40, val_main_v39]
  rw [hf.dh2.eq, hf.g2.eq, ← EReal.coe_mul]
  rfl

/-- What reaches the block's output through the reciprocal square root. -/
theorem ref_through' (r : Fin 4096) (j : Fin 1024) : val_main_v50 (F := Ideal) a.h1 a.g1 a.g2 a.wgu a.wd a.dh2 (ix2 r j)
    = (((∑ k, a.y r k * (a.D r k * a.G2 k)) * (-(1/2) * (rstd 1024 (a.y r) / meanSq 1024 (a.y r))) / 1024 : ℝ) : EReal) := by
  pointwise [val_main_v50, val_main_v49, val_main_v48, val_main_v47, val_main_v46, val_main_v43, val_main_v42, val_main_v41, val_main_cst_8, val_main_cst_9, val_main_cst_10]
  simp only [ref_dg a hf, ref_slope' a hf, ref_y a hf, ← EReal.coe_mul, coe_sum]
  rw [ofBits_1024, div_real _ _ (by norm_num)]
  exact Fin.sum_univ_one _

/-- The cotangent of the block's output before its norm. -/
theorem ref_dy (r : Fin 4096) (j : Fin 1024) : val_main_v54 (F := Ideal) a.h1 a.g1 a.g2 a.wgu a.wd a.dh2 (ix2 r j) = ((a.dy r j : ℝ) : EReal) := by
  pointwise [val_main_v54, val_main_v53, val_main_v52, val_main_v51, val_main_v45, val_main_v44]
  simp only [ref_through' a hf, ref_dg a hf, ref_rstd' a hf, ref_y a hf, ← EReal.coe_mul, ← EReal.coe_add]
  exact congrArg (fun y : ℝ => (y : EReal)) (rmsGrad_chain (by norm_num) (a.y r) (fun k => a.D r k * a.G2 k) j)

/-- The cotangent of the activation. -/
theorem ref_dact (r : Fin 4096) (i : Fin 2816) : val_main_v55 (F := Ideal) a.h1 a.g1 a.g2 a.wgu a.wd a.dh2 (ix2 r i) = ((a.dact r i : ℝ) : EReal) := by
  pointwise [val_main_v55]
  simp only [ref_dy a hf, hf.wd.eq, ← EReal.coe_mul, coe_sum]
  rfl

/-- The cotangent of the up projection. -/
theorem ref_dup (r : Fin 4096) (i : Fin 2816) : val_main_v56 (F := Ideal) a.h1 a.g1 a.g2 a.wgu a.wd a.dh2 (ix2 r i) = ((a.dup r i : ℝ) : EReal) := by
  pointwise [val_main_v56]
  rw [ref_dact a hf, ref_silu a hf, ← EReal.coe_mul]
  refine congrArg (fun y : ℝ => (y : EReal)) ?_
  unfold Args.dup
  ring

/-- The cotangent of the gate. -/
theorem ref_dgate (r : Fin 4096) (i : Fin 2816) : val_main_v58 (F := Ideal) a.h1 a.g1 a.g2 a.wgu a.wd a.dh2 (ix2 r i) = ((a.dgate r i : ℝ) : EReal) := by
  pointwise [val_main_v58, val_main_v57, val_main_call1_v0, val_main_call1_v1, val_main_call1_v2, val_main_v18_1, val_main_call0_v7, val_main_call0_v6, val_main_call0_cst_1]
  rw [ref_dact a hf, ref_up a hf, ref_gate a hf, ref_sig a hf]
  simp only [← EReal.coe_one, ← EReal.coe_mul, ← EReal.coe_sub, ← EReal.coe_add]
  refine congrArg (fun y : ℝ => (y : EReal)) ?_
  unfold Args.dgate
  ring

/-- The two side by side. -/
theorem ref_dgu (r : Fin 4096) (k : Fin 5632) : val_main_v59 (F := Ideal) a.h1 a.g1 a.g2 a.wgu a.wd a.dh2 (ix2 r k) = ((a.dgu r k : ℝ) : EReal) := by
  pointwise [val_main_v59]
  unfold Args.dgu
  by_cases h : k.val < 2816
  · rw [dif_pos h, dif_pos h]
    exact ref_dgate a hf r _
  · rw [dif_neg h, dif_neg h]
    exact ref_dup a hf r _

/-- The cotangent of the normalised rows. -/
theorem ref_du (r : Fin 4096) (j : Fin 1024) : val_main_v60 (F := Ideal) a.h1 a.g1 a.g2 a.wgu a.wd a.dh2 (ix2 r j) = ((a.du r j : ℝ) : EReal) := by
  pointwise [val_main_v60]
  simp only [ref_dgu a hf, hf.wgu.eq, ← EReal.coe_mul, coe_sum]
  rfl

/-- That cotangent times the weight of the norm before the block. -/
theorem ref_dug (r : Fin 4096) (j : Fin 1024) : val_main_v65 (F := Ideal) a.h1 a.g1 a.g2 a.wgu a.wd a.dh2 (ix2 r j) = ((a.du r j * a.G1 j : ℝ) : EReal) := by
  pointwise [val_main_v65, val_main_v64]
  rw [ref_du a hf, hf.g1.eq, ← EReal.coe_mul]
  rfl

/-- What reaches the rows through the reciprocal square root. -/
theorem ref_through (r : Fin 4096) (j : Fin 1024) : val_main_v75 (F := Ideal) a.h1 a.g1 a.g2 a.wgu a.wd a.dh2 (ix2 r j)
    = (((∑ k, a.X r k * (a.du r k * a.G1 k)) * (-(1/2) * (rstd 1024 (a.X r) / meanSq 1024 (a.X r))) / 1024 : ℝ) : EReal) := by
  pointwise [val_main_v75, val_main_v74, val_main_v73, val_main_v72, val_main_v71, val_main_v68, val_main_v67, val_main_v66, val_main_cst_12, val_main_cst_13, val_main_cst_14]
  simp only [ref_dug a hf, ref_slope a hf, hf.h1.eq, ← EReal.coe_mul, coe_sum]
  rw [ofBits_1024, div_real _ _ (by norm_num)]
  exact Fin.sum_univ_one _

/-- This result of the reference, as the formulas give it. -/
theorem ref_dy_all : val_main_v83 (F := Ideal) a.h1 a.g1 a.g2 a.wgu a.wd a.dh2 = a.dyArr := by
  funext i
  idx_vars i
  pointwise [val_main_v83]
  exact ref_dy a hf i0 i1

/-- This result of the reference, as the formulas give it. -/
theorem ref_dgu_all : val_main_v84 (F := Ideal) a.h1 a.g1 a.g2 a.wgu a.wd a.dh2 = a.dguArr := by
  funext i
  idx_vars i
  pointwise [val_main_v84]
  exact ref_dgu a hf i0 i1

/-- This result of the reference, as the formulas give it. -/
theorem ref_dh1_all : val_main_v85 (F := Ideal) a.h1 a.g1 a.g2 a.wgu a.wd a.dh2 = a.dh1Arr := by
  funext i
  idx_vars i
  pointwise [val_main_v85, val_main_v79, val_main_v78, val_main_v77, val_main_v76, val_main_v70, val_main_v69]
  simp only [ref_through a hf, ref_dug a hf, ref_rstd a hf, hf.h1.eq, hf.dh2.eq, ← EReal.coe_mul, ← EReal.coe_add]
  exact congrArg (fun y : ℝ => ((a.D i0 i1 + y : ℝ) : EReal)) (rmsGrad_chain (by norm_num) (a.X i0) (fun k => a.du i0 k * a.G1 k) i1)

/-- The gradient of the weight of the norm before the block. -/
theorem ref_dg1 (z : Fin 1) (j : Fin 1024) : val_main_v63 (F := Ideal) a.h1 a.g1 a.g2 a.wgu a.wd a.dh2 (ix2 z j) = ((a.dg1 j : ℝ) : EReal) := by
  pointwise [val_main_v63, val_main_v62, val_main_v61, val_main_v12, val_main_v11, val_main_cst_11]
  simp only [ref_du a hf, ref_rstd a hf, hf.h1.eq, ← EReal.coe_mul, coe_sum]
  exact congrArg (fun y : ℝ => (y : EReal)) (Finset.sum_congr rfl fun k _ => mul_comm _ _)

/-- The gradient of the weight of the norm after the block. -/
theorem ref_dg2 (z : Fin 1) (j : Fin 1024) : val_main_v38 (F := Ideal) a.h1 a.g1 a.wgu a.wd a.dh2 (ix2 z j) = ((a.dg2 j : ℝ) : EReal) := by
  pointwise [val_main_v38, val_main_v37, val_main_v36, val_main_v33, val_main_v32, val_main_cst_7]
  simp only [ref_y a hf, ref_rstd' a hf, hf.dh2.eq, ← EReal.coe_mul, coe_sum]
  exact congrArg (fun y : ℝ => (y : EReal)) (Finset.sum_congr rfl fun k _ => mul_comm _ _)

/-- This result of the reference, as the formulas give it. -/
theorem ref_pack_all : val_main_v82 (F := Ideal) a.h1 a.g1 a.g2 a.wgu a.wd a.dh2 = a.pack := by
  funext i
  idx_vars i
  pointwise [val_main_v82, val_main_v81, val_main_v80, val_main_cst_15, val_main_cst_16]
  by_cases h0 : i0.val < 4
  · rw [dif_pos h0]
    exact ((if_neg (by show ¬ i0.val = 4; omega)).trans (if_neg (by show ¬ i0.val = 5; omega))).symm
  rw [dif_neg h0]
  by_cases h1 : i0.val - 4 < 1
  · rw [dif_pos h1, ref_dg1 a hf]
    exact (if_pos (by show i0.val = 4; omega)).symm
  rw [dif_neg h1]
  by_cases h2 : i0.val - 4 - 1 < 1
  · rw [dif_pos h2, ref_dg2 a hf]
    exact ((if_neg (by show ¬ i0.val = 4; omega)).trans (if_pos (by show i0.val = 5; omega))).symm
  rw [dif_neg h2]
  exact ((if_neg (by show ¬ i0.val = 4; omega)).trans (if_neg (by show ¬ i0.val = 5; omega))).symm

end Cert.Ffn
end
-- ==== Proof.FfnClaim.lean ====
/- The claim on the backward call of the feed-forward block: kernel and reference end with equal results. -/
module

public import proofs.«01_k».proof.Defs
public import proofs.«01_k».proof.Proof.FfnFinal
public import proofs.«01_k».proof.Proof.FfnRef
public import proofs.«01_k».proof.Proof.Gen.KernelFfn.Frame
public import proofs.«01_k».proof.Proof.Gen.KernelFfnIdeal.Frame
public import proofs.«01_k».proof.Proof.Gen.ReferenceFfnIdeal.Run
public import proofs.«01_k».proof.Proof.Gen.ReferenceFfnIdeal.Read
public import proofs.«01_k».proof.Proof.Gen.Pre_finite_ffn

@[expose] public section

set_option maxRecDepth 16384

noncomputable section

namespace Cert.Ffn

open Idealize.ShloMosaic Idealize.SL.Sem Cert.Reals

/-- The precondition says that every argument holds numbers only. -/
theorem finite_of_pre {m : (ℓ : Loc Cert.KernelFfnIdeal.nD Cert.KernelFfnIdeal.τ Cert.KernelFfnIdeal.sig) → Buf (Elt Ideal) ℓ}
    (hpre : Cert.Pre_KernelFfnIdeal_finite_ffn m) (c : Dev Cert.KernelFfnIdeal.nD) : (args m c).Finite := by
  obtain ⟨h0, h1, h2, h3, h4, h5⟩ := hpre c
  exact ⟨isReal_of_pre _ _ h0, isReal_of_pre _ _ h1, isReal_of_pre _ _ h2, isReal_of_pre _ _ h3, isReal_of_pre _ _ h4, isReal_of_pre _ _ h5⟩

open Cert.ReferenceFfnIdeal Cert.ReferenceFfnIdeal.Read in
/-- The arguments the reference finds in memory. -/
def refArgs (m' : (ℓ : Loc Cert.ReferenceFfnIdeal.nD Cert.ReferenceFfnIdeal.τ Cert.ReferenceFfnIdeal.sig) → Buf (Elt Ideal) ℓ) (c : Dev Cert.ReferenceFfnIdeal.nD) : Args where
  h1 := m' ((c.tc : Thread nD τ).loc main_arg0)
  g1 := m' ((c.tc : Thread nD τ).loc main_arg1)
  g2 := m' ((c.tc : Thread nD τ).loc main_arg2)
  wgu := m' ((c.tc : Thread nD τ).loc main_arg3)
  wd := m' ((c.tc : Thread nD τ).loc main_arg4)
  dh2 := m' ((c.tc : Thread nD τ).loc main_arg5)

/-- Under the precondition the backward kernel and the derivative of the forward lines end with the same four arrays. -/
theorem algebraic : Cert.algebraic_KernelFfnIdeal_ReferenceFfnIdeal_pre_finite_ffn := by
  pair_intro
  · run_from Cert.KernelFfnIdeal.Value.run_blocks m g
  · have e : ∀ c, refArgs m' c = args m c := by
      intro c
      obtain ⟨h0, h1, h2, h3, h4, h5⟩ := hagree c
      unfold refArgs args arr
      rw [h0, h1, h2, h3, h4, h5]
    have hf : ∀ c, (refArgs m' c).Finite := fun c => (e c).symm ▸ finite_of_pre hpre c
    clear hagree
    run_from Cert.ReferenceFfnIdeal.Value.run m' g'
    · rw [final6 m c (finite_of_pre hpre c), ← e c]
      exact (Cert.ReferenceFfnIdeal.Read.val_main_v83_eq (fun b => m' (c, b))).trans (ref_dy_all (refArgs m' c) (hf c))
    · rw [final7 m c (finite_of_pre hpre c), ← e c]
      exact (Cert.ReferenceFfnIdeal.Read.val_main_v84_eq (fun b => m' (c, b))).trans (ref_dgu_all (refArgs m' c) (hf c))
    · rw [final8 m c (finite_of_pre hpre c), ← e c]
      exact (Cert.ReferenceFfnIdeal.Read.val_main_v85_eq (fun b => m' (c, b))).trans (ref_dh1_all (refArgs m' c) (hf c))
    · rw [final9 m c (finite_of_pre hpre c), ← e c]
      exact (Cert.ReferenceFfnIdeal.Read.val_main_v82_eq (fun b => m' (c, b))).trans (ref_pack_all (refArgs m' c) (hf c))

/-- The reference runs, keeps its arguments and leaves every counter at zero. -/
theorem frame_reference : Cert.quiescent_ReferenceFfnIdeal := fun m ρ _ =>
  (θ_run Cert.ReferenceFfnIdeal.defs _ _).mono
    (fun r h => ⟨fun c => (h c).2.2.2.2, Idealize.ShloMosaic.sem_eq_zero_of_no_sems (by decide) r.2⟩)
    (Cert.ReferenceFfnIdeal.Value.run (F := Ideal) m ρ)

end Cert.Ffn

end
-- ==== Proof.MixSpec.lean ====
/- What the backward call of the output projection computes, as formulas of its arguments. -/
module

public import proofs.«01_k».proof.Proof.Rms

@[expose] public section

set_option maxRecDepth 16384

noncomputable section

namespace Cert.Mix

open Idealize.ShloMosaic Cert.Reals

/-- The arguments, as memory holds them. -/
structure Args where
  /-- the cotangent of the rows after the norm -/
  dh1 : FVec Ideal ⟨2, ![4096, 1024]⟩ .f32
  /-- the outputs of the recurrence -/
  ohg : FVec Ideal ⟨2, ![4096, 512]⟩ .f32
  /-- the recurrence's projections; the last 512 columns are its output gate -/
  proj : FVec Ideal ⟨2, ![4096, 2048]⟩ .f32
  /-- the outputs of the attention -/
  osb : FVec Ideal ⟨2, ![4096, 512]⟩ .f32
  /-- the weights of the two norms before the product, side by side -/
  norms : FVec Ideal ⟨2, ![1, 1024]⟩ .f32
  /-- the weight of the norm after the product -/
  gpost : FVec Ideal ⟨2, ![1, 1024]⟩ .f32
  /-- the weight of the product -/
  wout : FVec Ideal ⟨2, ![1024, 1024]⟩ .f32

namespace Args

variable (a : Args)

/-- Every argument holds real numbers only. -/
structure Finite : Prop where
  dh1 : IsReal a.dh1
  ohg : IsReal a.ohg
  proj : IsReal a.proj
  osb : IsReal a.osb
  norms : IsReal a.norms
  gpost : IsReal a.gpost
  wout : IsReal a.wout

/-- A row of the cotangent. -/
def D (r : Fin 4096) (j : Fin 1024) : ℝ := re a.dh1 (ix2 r j)

/-- A row of the recurrence's outputs. -/
def A (r : Fin 4096) (j : Fin 512) : ℝ := re a.ohg (ix2 r j)

/-- A row of the output gate. -/
def H (r : Fin 4096) (j : Fin 512) : ℝ := re a.proj (ix2 r ⟨1536 + j.val, by omega⟩)

/-- A row of the attention's outputs. -/
def B (r : Fin 4096) (j : Fin 512) : ℝ := re a.osb (ix2 r j)

/-- The weight of the recurrence's norm. -/
def Gh (j : Fin 512) : ℝ := re a.norms (ix2 0 ⟨j.val, by omega⟩)

/-- The weight of the attention's norm. -/
def Gs (j : Fin 512) : ℝ := re a.norms (ix2 0 ⟨512 + j.val, by omega⟩)

/-- The weight of the norm after the product. -/
def Gp (j : Fin 1024) : ℝ := re a.gpost (ix2 0 j)

/-- The weight of the product. -/
def W (k : Fin 1024) (j : Fin 1024) : ℝ := re a.wout (ix2 k j)

/-- The recurrence's outputs, normalised. -/
def nh (r : Fin 4096) (j : Fin 512) : ℝ := a.A r j * rstd 512 (a.A r)

/-- The attention's outputs, normalised. -/
def ns (r : Fin 4096) (j : Fin 512) : ℝ := a.B r j * rstd 512 (a.B r)

/-- The gate's activation. -/
def act (r : Fin 4096) (j : Fin 512) : ℝ := a.H r j * sigm (a.H r j)

/-- The gated recurrence and the attention side by side. -/
def cat (r : Fin 4096) (k : Fin 1024) : ℝ :=
  if h : k.val < 512 then a.nh r ⟨k.val, h⟩ * a.Gh ⟨k.val, h⟩ * a.act r ⟨k.val, h⟩
  else a.ns r ⟨k.val - 512, by omega⟩ * a.Gs ⟨k.val - 512, by omega⟩

/-- The product before its norm. -/
def mix (r : Fin 4096) (j : Fin 1024) : ℝ := ∑ k, a.cat r k * a.W k j

/-- The cotangent of the product. -/
def dmix (r : Fin 4096) (j : Fin 1024) : ℝ := rmsGrad 1024 (a.mix r) (fun k => a.D r k * a.Gp k) j

/-- The cotangent of what was multiplied. -/
def dcat (r : Fin 4096) (k : Fin 1024) : ℝ := ∑ j, a.dmix r j * a.W k j

/-- Its columns of the recurrence. -/
def dh (r : Fin 4096) (j : Fin 512) : ℝ := a.dcat r ⟨j.val, by omega⟩

/-- Its columns of the attention. -/
def ds (r : Fin 4096) (j : Fin 512) : ℝ := a.dcat r ⟨512 + j.val, by omega⟩

/-- The cotangent of the gate. -/
def dhg (r : Fin 4096) (j : Fin 512) : ℝ :=
  a.dh r j * (a.nh r j * a.Gh j) * (sigm (a.H r j) * (1 + a.H r j * (1 - sigm (a.H r j))))

/-- The cotangent of the recurrence's outputs. -/
def dohg (r : Fin 4096) (j : Fin 512) : ℝ := rmsGrad 512 (a.A r) (fun k => a.dh r k * a.act r k * a.Gh k) j

/-- The cotangent of the attention's outputs. -/
def dosb (r : Fin 4096) (j : Fin 512) : ℝ := rmsGrad 512 (a.B r) (fun k => a.ds r k * a.Gs k) j

/-- A row's part of the gradients of the two weights before the product, side by side. -/
def rowNorms (r : Fin 4096) (k : Fin 1024) : ℝ :=
  if h : k.val < 512 then a.dh r ⟨k.val, h⟩ * a.act r ⟨k.val, h⟩ * a.nh r ⟨k.val, h⟩
  else a.ds r ⟨k.val - 512, by omega⟩ * a.ns r ⟨k.val - 512, by omega⟩

/-- A row's part of the gradient of the weight after the product. -/
def rowPost (r : Fin 4096) (j : Fin 1024) : ℝ := a.D r j * (a.mix r j * rstd 1024 (a.mix r))

/-- The cotangent of the product, as an array. -/
def dmixArr : FVec Ideal ⟨2, ![4096, 1024]⟩ .bf16 := fun i => ((a.dmix (i 0) (i 1) : ℝ) : EReal)

/-- The cotangent of the recurrence's outputs, as an array. -/
def dohgArr : FVec Ideal ⟨2, ![4096, 512]⟩ .f32 := fun i => ((a.dohg (i 0) (i 1) : ℝ) : EReal)

/-- The cotangent of the gate, as an array. -/
def dhgArr : FVec Ideal ⟨2, ![4096, 512]⟩ .f32 := fun i => ((a.dhg (i 0) (i 1) : ℝ) : EReal)

/-- The cotangent of the attention's outputs, as an array. -/
def dosbArr : FVec Ideal ⟨2, ![4096, 512]⟩ .f32 := fun i => ((a.dosb (i 0) (i 1) : ℝ) : EReal)

/-- Eight rows, of which row 2 is the gradient of the two weights before the product and row 3 that of the one after it. -/
def pack : FVec Ideal ⟨2, ![8, 1024]⟩ .f32 := fun i =>
  if (i 0).val = 2 then ((∑ r, a.rowNorms r (i 1) : ℝ) : EReal) else if (i 0).val = 3 then ((∑ r, a.rowPost r (i 1) : ℝ) : EReal) else 0

end Args

/-- The number a literal word stands for. -/
theorem ofBits_512 : Ideal.ofBits .f32 0x44000000#32 = ((512 : ℝ) : EReal) := by
  simp [Ideal.ofBits, Ideal.ieee, -one_div]; rw [← EReal.coe_mul]; norm_num

end Cert.Mix
end
-- ==== Proof.MixPay.lean ====
/- What the payloads of the output projection's backward kernel compute at an index, from blocks of real numbers. -/
module

public import proofs.«01_k».proof.Proof.MixSpec
public import proofs.«01_k».proof.Proof.Gen.KernelMixIdeal.Skeleton

@[expose] public section

set_option maxRecDepth 16384

noncomputable section

namespace Cert.Mix

open Idealize.ShloMosaic Cert.KernelMixIdeal Cert.KernelMixIdeal.Gen Cert.Reals

/-- The reciprocal root mean square of the products. -/
theorem rstd_mix (x : FVec Ideal S512x1024 .f32) (X : Fin 512 → Fin 1024 → ℝ)
    (hx : ∀ r j, x (ix2 r j) = ((X r j : ℝ) : EReal)) (r : Fin 512) (z : Fin 1) :
    k0_pay5 (F := Ideal) x (ix2 r z) = ((rstd 1024 (X r) : ℝ) : EReal) := by
  pointwise [k0_pay5, k0_pay4]
  simp only [hx, ← EReal.coe_mul, coe_sum, ofBits_1024, ofBits_eps]
  rw [div_real _ _ (by norm_num), ← EReal.coe_add]
  exact rsqrt_real _ (meanSq_pos (by norm_num) (X r))

/-- The reciprocal root mean square of the recurrence's outputs. -/
theorem rstd_hg (x : FVec Ideal S512x512 .f32) (X : Fin 512 → Fin 512 → ℝ)
    (hx : ∀ r j, x (ix2 r j) = ((X r j : ℝ) : EReal)) (r : Fin 512) (z : Fin 1) :
    k0_pay13 (F := Ideal) x (ix2 r z) = ((rstd 512 (X r) : ℝ) : EReal) := by
  pointwise [k0_pay13]
  simp only [hx, ← EReal.coe_mul, coe_sum, ofBits_512, ofBits_eps]
  rw [div_real _ _ (by norm_num), ← EReal.coe_add]
  exact rsqrt_real _ (meanSq_pos (by norm_num) (X r))

/-- The reciprocal root mean square of the attention's outputs. -/
theorem rstd_sb (x : FVec Ideal S512x512 .f32) (X : Fin 512 → Fin 512 → ℝ)
    (hx : ∀ r j, x (ix2 r j) = ((X r j : ℝ) : EReal)) (r : Fin 512) (z : Fin 1) :
    k0_pay17 (F := Ideal) (k0_pay16 x) (ix2 r z) = ((rstd 512 (X r) : ℝ) : EReal) := by
  pointwise [k0_pay17, k0_pay16]
  simp only [hx, ← EReal.coe_mul, coe_sum, ofBits_512, ofBits_eps]
  rw [div_real _ _ (by norm_num), ← EReal.coe_add]
  exact rsqrt_real _ (meanSq_pos (by norm_num) (X r))

/-- The recurrence's outputs, normalised. -/
theorem norm_hg (x : FVec Ideal S512x512 .f32) (X : Fin 512 → Fin 512 → ℝ)
    (hx : ∀ r j, x (ix2 r j) = ((X r j : ℝ) : EReal)) (r : Fin 512) (j : Fin 512) :
    k0_pay14 (F := Ideal) x (ix2 r j) = ((X r j * rstd 512 (X r) : ℝ) : EReal) := by
  pointwise [k0_pay14]
  rw [rstd_hg x X hx, hx, ← EReal.coe_mul]

/-- The attention's outputs, normalised. -/
theorem norm_sb (x : FVec Ideal S512x512 .f32) (X : Fin 512 → Fin 512 → ℝ)
    (hx : ∀ r j, x (ix2 r j) = ((X r j : ℝ) : EReal)) (r : Fin 512) (j : Fin 512) :
    k0_pay18 (F := Ideal) x (k0_pay16 x) (ix2 r j) = ((X r j * rstd 512 (X r) : ℝ) : EReal) := by
  pointwise [k0_pay18]
  rw [rstd_sb x X hx, hx, ← EReal.coe_mul]

/-- The gate's sigmoid. -/
theorem sig_block (v : FVec Ideal S512x512 .f32) (A : Fin 512 → Fin 512 → ℝ) (hv : ∀ r i, v (ix2 r i) = ((A r i : ℝ) : EReal)) (r : Fin 512) (i : Fin 512) :
    k0_pay15 (F := Ideal) v (ix2 r i) = ((sigm (A r i) : ℝ) : EReal) := by
  pointwise [k0_pay15]
  rw [hv, zero_sub]
  exact sigm_real _

/-- The gradient of the norm after the product. -/
theorem dmix_block (x d : FVec Ideal S512x1024 .f32) (g : FVec Ideal S1x1024 .f32) (X D : Fin 512 → Fin 1024 → ℝ) (G : Fin 1024 → ℝ)
    (hx : ∀ r j, x (ix2 r j) = ((X r j : ℝ) : EReal)) (hd : ∀ r j, d (ix2 r j) = ((D r j : ℝ) : EReal))
    (hg : ∀ j, g (ix2 0 j) = ((G j : ℝ) : EReal)) (r : Fin 512) (j : Fin 1024) :
    k0_pay7 (F := Ideal) x d g (ix2 r j) = ((rmsGrad 1024 (X r) (fun k => D r k * G k) j : ℝ) : EReal) := by
  pointwise [k0_pay7, k0_pay6, k0_pay4]
  simp only [rstd_mix x X hx, hx, hd, hg, ← EReal.coe_mul, coe_sum, ofBits_1024]
  rw [div_real _ _ (by norm_num), ← EReal.coe_mul, ← EReal.coe_sub, ← EReal.coe_mul]
  rfl

/-- What a point adds to the gradient of that norm's weight. -/
theorem post_block (x d : FVec Ideal S512x1024 .f32) (a : FVec Ideal S1x1024 .f32) (X D : Fin 512 → Fin 1024 → ℝ)
    (hx : ∀ r j, x (ix2 r j) = ((X r j : ℝ) : EReal)) (hd : ∀ r j, d (ix2 r j) = ((D r j : ℝ) : EReal)) (j : Fin 1024) :
    k0_pay8 (F := Ideal) x d a (ix2 0 j) = a (ix2 0 j) + ((∑ r, D r j * (X r j * rstd 1024 (X r)) : ℝ) : EReal) := by
  pointwise [k0_pay8, k0_pay6, k0_pay4]
  simp only [rstd_mix x X hx, hx, hd, ← EReal.coe_mul, coe_sum]

/-- The cotangent of what was multiplied. -/
theorem dcat_block (v : FVec Ideal S512x1024 .f32) (w : FVec Ideal S1024x1024 .bf16) (Y : Fin 512 → Fin 1024 → ℝ) (W : Fin 1024 → Fin 1024 → ℝ)
    (hv : ∀ r j, v (ix2 r j) = ((Y r j : ℝ) : EReal)) (hw : ∀ i j, w (ix2 i j) = ((W i j : ℝ) : EReal)) (r : Fin 512) (i : Fin 1024) :
    k0_pay10 (F := Ideal) v w (ix2 r i) = ((∑ j, Y r j * W i j : ℝ) : EReal) := by
  pointwise [k0_pay10, k0_pay9]
  simp only [hv, hw, ← EReal.coe_mul, coe_sum]

section
variable (v : FVec Ideal S512x1024 .f32) (C : Fin 512 → Fin 1024 → ℝ) (hv : ∀ r k, v (ix2 r k) = ((C r k : ℝ) : EReal))
  (g : FVec Ideal S1x1024 .f32) (G : Fin 1024 → ℝ) (hg : ∀ j, g (ix2 0 j) = ((G j : ℝ) : EReal))
include hv

section
variable (x h : FVec Ideal S512x512 .f32) (X H : Fin 512 → Fin 512 → ℝ) (hx : ∀ r j, x (ix2 r j) = ((X r j : ℝ) : EReal)) (hh : ∀ r j, h (ix2 r j) = ((H r j : ℝ) : EReal))
include hx hh

include hg in
/-- The cotangent of the gate. -/
theorem dhg_block (r j : Fin 512) :
    k0_pay20 (F := Ideal) v (k0_pay11 g) h (k0_pay14 x) (k0_pay15 h) (ix2 r j)
      = ((C r ⟨j.val, by omega⟩ * (X r j * rstd 512 (X r) * G ⟨j.val, by omega⟩) * (sigm (H r j) * (1 + H r j * (1 - sigm (H r j)))) : ℝ) : EReal) := by
  pointwise [k0_pay20, k0_pay19, k0_pay11]
  rw [norm_hg x X hx, sig_block h H hh, hh, hv, hg]
  simp only [← EReal.coe_one, ← EReal.coe_mul, ← EReal.coe_sub, ← EReal.coe_add]

include hg in
/-- The cotangent of the recurrence's outputs. -/
theorem dohg_block (r j : Fin 512) :
    k0_pay22 (F := Ideal) v (k0_pay11 g) h (k0_pay13 x) (k0_pay14 x) (k0_pay15 h) (ix2 r j)
      = ((rmsGrad 512 (X r) (fun k => C r ⟨k.val, by omega⟩ * (H r k * sigm (H r k)) * G ⟨k.val, by omega⟩) j : ℝ) : EReal) := by
  pointwise [k0_pay22, k0_pay21, k0_pay19, k0_pay11]
  simp only [norm_hg x X hx, rstd_hg x X hx, sig_block h H hh, hh, hv, hg, ← EReal.coe_mul, coe_sum, ofBits_512]
  rw [div_real _ _ (by norm_num), ← EReal.coe_mul, ← EReal.coe_sub, ← EReal.coe_mul]
  rfl

/-- What a point adds to the gradient of the recurrence's norm. -/
theorem gh_block (a : FVec Ideal S1x512 .f32) (j : Fin 512) :
    k0_pay23 (F := Ideal) v h (k0_pay14 x) (k0_pay15 h) a (ix2 0 j)
      = a (ix2 0 j) + ((∑ r, C r ⟨j.val, by omega⟩ * (H r j * sigm (H r j)) * (X r j * rstd 512 (X r)) : ℝ) : EReal) := by
  pointwise [k0_pay23, k0_pay21, k0_pay19]
  simp only [norm_hg x X hx, sig_block h H hh, hh, hv, ← EReal.coe_mul, coe_sum]

end

section
variable (x : FVec Ideal S512x512 .f32) (X : Fin 512 → Fin 512 → ℝ) (hx : ∀ r j, x (ix2 r j) = ((X r j : ℝ) : EReal))
include hx

include hg in
/-- The cotangent of the attention's outputs. -/
theorem dosb_block (r j : Fin 512) :
    k0_pay1 (F := Ideal) (k0_pay17 (k0_pay16 x)) (k0_pay18 x (k0_pay16 x)) (k0_pay25 v (k0_pay12 g)) (k0_pay26 v (k0_pay12 g) x (k0_pay16 x)) (ix2 r j)
      = ((rmsGrad 512 (X r) (fun k => C r ⟨512 + k.val, by omega⟩ * G ⟨512 + k.val, by omega⟩) j : ℝ) : EReal) := by
  pointwise [k0_pay1, k0_pay26, k0_pay25, k0_pay24, k0_pay12]
  simp only [norm_sb x X hx, rstd_sb x X hx, hv, hg, ← EReal.coe_mul, coe_sum, ofBits_512]
  rw [div_real _ _ (by norm_num), ← EReal.coe_mul, ← EReal.coe_sub, ← EReal.coe_mul]
  rfl

/-- What a point adds to the gradient of the attention's norm. -/
theorem gs_block (a : FVec Ideal S1x512 .f32) (j : Fin 512) :
    k0_pay2 (F := Ideal) (k0_pay18 x (k0_pay16 x)) (k0_pay24 v) a (ix2 0 j)
      = a (ix2 0 j) + ((∑ r, C r ⟨512 + j.val, by omega⟩ * (X r j * rstd 512 (X r)) : ℝ) : EReal) := by
  pointwise [k0_pay2, k0_pay24]
  simp only [norm_sb x X hx, hv, ← EReal.coe_mul, coe_sum]

end
end

end Cert.Mix
end
-- ==== Proof.MixBody.lean ====
/- What one grid point of the output projection's backward kernel does to the memory it works on, point by point: the
   first point copies the weight in and clears the pack of norm gradients, the later ones find both as the point before
   left them. -/
module

public import proofs.«01_k».proof.Proof.Gen.KernelMixIdeal.Frame
public import proofs.«01_k».proof.Proof.Gen.KernelMixIdeal.Skeleton

@[expose] public section

set_option maxRecDepth 16384

noncomputable section

namespace Cert.KernelMixIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The first point: the condition of the body's two conditionals. -/
abbrev first (i : grid0.Coords) : Prop := (Scalar.cmpi .ne (Scalar.extui (Scalar.cmpi .eq (BitVec.ofNat 32 (i 0).val) 0#32)) 0#32) = 1#1

/-- It holds at point 0 alone. -/
theorem first_iff : ∀ t : Fin cfg0.N, first (grid0.coords t) ↔ t.val = 0 :=
  (fun t => by
    have ht : t.val < 8 := Nat.lt_of_lt_of_eq t.isLt N_0
    have e0 : (grid0.coords t 0).val = t.val / 1 % 8 := Pipeline.Grid.coords_val t 0 (by decide) rfl
    have e1 : (grid0.coords t 0).val = t.val := by omega
    simp only [first, e1]
    word_cmp
   : ∀ t : Fin grid0.N, first (grid0.coords t) ↔ t.val = 0)

/-- The memory a point works on: seven input blocks, five output blocks and the weight's scratch. -/
structure Mem where
  a1 : Memref sig .tc .vmem S512x1024 .f32
  h1 : a1.IsWhole
  a2 : Memref sig .tc .vmem S512x1024 .f32
  h2 : a2.IsWhole
  a3 : Memref sig .tc .vmem S512x512 .f32
  h3 : a3.IsWhole
  a4 : Memref sig .tc .vmem S512x512 .f32
  h4 : a4.IsWhole
  a5 : Memref sig .tc .vmem S512x512 .f32
  h5 : a5.IsWhole
  a6 : Memref sig .tc .vmem S1x1024 .f32
  h6 : a6.IsWhole
  a7 : Memref sig .tc .vmem S1x1024 .f32
  h7 : a7.IsWhole
  a9 : Memref sig .tc .vmem S512x1024 .bf16
  h9 : a9.IsWhole
  a10 : Memref sig .tc .vmem S512x512 .f32
  h10 : a10.IsWhole
  a11 : Memref sig .tc .vmem S512x512 .f32
  h11 : a11.IsWhole
  a12 : Memref sig .tc .vmem S512x512 .f32
  h12 : a12.IsWhole
  a13 : Memref sig .tc .vmem S8x1024 .f32
  h13 : a13.IsWhole
  a14 : Memref sig .tc .vmem S1024x1024 .bf16
  h14 : a14.IsWhole

/-- The values of the seven input blocks. -/
structure Blk (F : FTy → Type) [FloatOps F] where
  x0 : Vec F S512x1024 .f32
  x1 : Vec F S512x1024 .f32
  x2 : Vec F S512x512 .f32
  x3 : Vec F S512x512 .f32
  x4 : Vec F S512x512 .f32
  x5 : Vec F S1x1024 .f32
  x6 : Vec F S1x1024 .f32

/-- The weight where it lies in high-bandwidth memory. -/
abbrev hbM : Memref sig .tc .hbm S1024x1024 .bf16 := Memref.whole main_v34

/-- What a memory region holds. -/
abbrev HbBuf (c : Dev nD) {sp : Space} {S : Shape} {e : EltTy} (M : Memref sig .tc sp S e) : Type := Buf (Elt F) (M.view.loc (c : Thread nD τ))

/-- The region is owned and holds `f`. -/
abbrev hbPt (c : Dev nD) {sp : Space} {S : Shape} {e : EltTy} (M : Memref sig .tc sp S e) (f : HbBuf (F := F) c M) : sProp 𝕄 :=
  M.view.loc (c : Thread nD τ) ↦{fullShare} f

/-- The body of the kernel on the memory `s`. -/
abbrev body (i : grid0.Coords) (s : Mem) : Prog (TpuEff nD τ sig (Elt F) Λ₀ .tc) PUnit :=
  cc0_mix_out_bwd i s.a1 s.h1 s.a2 s.h2 s.a3 s.h3 s.a4 s.h4 s.a5 s.h5 s.a6 s.h6 s.a7 s.h7 (Memref.whole main_v34) (Memref.isWhole_whole _)
    s.a9 s.h9 s.a10 s.h10 s.a11 s.h11 s.a12 s.h12 s.a13 s.h13 s.a14 s.h14 cc0_scoped0

/-- The seven input blocks held at their values. -/
abbrev inputs (c : Dev nD) (s : Mem) (b : Blk F) : sProp 𝕄 :=
  iprop(owns (c : Thread nD τ) s.a1 fullShare b.x0 ∗ owns (c : Thread nD τ) s.a2 fullShare b.x1 ∗ owns (c : Thread nD τ) s.a3 fullShare b.x2
    ∗ owns (c : Thread nD τ) s.a4 fullShare b.x3 ∗ owns (c : Thread nD τ) s.a5 fullShare b.x4 ∗ owns (c : Thread nD τ) s.a6 fullShare b.x5
    ∗ owns (c : Thread nD τ) s.a7 fullShare b.x6)

/-- A block the stores `L` were written into, over anything. -/
abbrev stored (c : Dev nD) {S : Shape} {e : EltTy} (a : Memref sig .tc .vmem S e) (L : List (View.Piece (Elt F) S e)) : sProp 𝕄 :=
  iprop(∃ f, a.view.loc (c : Thread nD τ) ↦[a.view.set]{fullShare} a.view.writes (Elt F) f L)

/-- What is neither read nor written but handed through: the copy's semaphore at zero and the weight's source. -/
abbrev through (c : Dev nD) (fh : HbBuf (F := F) c hbM) : sProp 𝕄 :=
  iprop(semVal ((c : Thread nD τ), SemLoc.dma 21) 0 ∗ hbPt c hbM fh)

set_option maxHeartbeats 2000000 in
/-- The first point: from blocks at anything the body leaves the four gradients' blocks, the pack and the weight's scratch
    with the stores listed. -/
noncomputable def runA (c : Dev nD) (i : grid0.Coords) (s : Mem) (hc : first i) (b : Blk F) (fh : HbBuf (F := F) c hbM) :
    Σ' (L7 : List (View.Piece (Elt F) S512x1024 .bf16)), Σ' (L8 : List (View.Piece (Elt F) S512x512 .f32)), Σ' (L9 : List (View.Piece (Elt F) S512x512 .f32)), Σ' (L10 : List (View.Piece (Elt F) S512x512 .f32)), Σ' (L11 : List (View.Piece (Elt F) S8x1024 .f32)), { LS : List (View.Piece (Elt F) S1024x1024 .bf16) //
      ∀ (W : Waits sig Unit) (K : PUnit → sProp 𝕄),
        iprop(inputs c s b ∗ (∃ d, owns (c : Thread nD τ) s.a9 fullShare d) ∗ (∃ d, owns (c : Thread nD τ) s.a10 fullShare d)
            ∗ (∃ d, owns (c : Thread nD τ) s.a11 fullShare d) ∗ (∃ d, owns (c : Thread nD τ) s.a12 fullShare d)
            ∗ (∃ d, owns (c : Thread nD τ) s.a13 fullShare d) ∗ (∃ d, owns (c : Thread nD τ) s.a14 fullShare d)
            ∗ through c fh ∗ owes (c : Thread nD τ) 0 W
            ∗ (iprop(inputs c s b ∗ stored c s.a9 L7 ∗ stored c s.a10 L8 ∗ stored c s.a11 L9 ∗ stored c s.a12 L10 ∗ stored c s.a13 L11 ∗ stored c s.a14 LS
                ∗ through c fh ∗ (∃ W', owes (c : Thread nD τ) 0 W')) -∗ K ⟨⟩))
          ⊢ wp frame (wpE (defs₀ (F := F)) Variants.none c none) Set.univ (body i s) K } := by
  refine ⟨?_, ?_, ?_, ?_, ?_, ?_, fun W K => ?run⟩
  case run =>
    simp only [body, cc0_mix_out_bwd_eq_skeleton]; unfold cc0_mix_out_bwd_skel
    simp only [k0_part1_eq_skeleton, k0_part2_eq_skeleton, k0_part3_eq_skeleton]
    unfold inputs stored through owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%d7, %f7, -, H7⟩, ⟨%d8, %f8, -, H8⟩, ⟨%d9, %f9, -, H9⟩, ⟨%d10, %f10, -, H10⟩, ⟨%d11, %f11, -, H11⟩, ⟨%ds, %fs, -, HS⟩, ⟨Hq, Hh⟩, HW, Hk⟩
    obtain rfl := s.h1.eq_unread hf0; obtain rfl := s.h2.eq_unread hf1; obtain rfl := s.h3.eq_unread hf2; obtain rfl := s.h4.eq_unread hf3
    obtain rfl := s.h5.eq_unread hf4; obtain rfl := s.h6.eq_unread hf5; obtain rfl := s.h7.eq_unread hf6
    sl_exec (disch := sl_exact hc)
    sl_step
    iapply Hk
    isplitl [H0 H1 H2 H3 H4 H5 H6]
    · isplitl [H0]
      · iexists _; isplitr; · ipureintro; exact s.h1.read_unread _
        iexact H0
      isplitl [H1]
      · iexists _; isplitr; · ipureintro; exact s.h2.read_unread _
        iexact H1
      isplitl [H2]
      · iexists _; isplitr; · ipureintro; exact s.h3.read_unread _
        iexact H2
      isplitl [H3]
      · iexists _; isplitr; · ipureintro; exact s.h4.read_unread _
        iexact H3
      isplitl [H4]
      · iexists _; isplitr; · ipureintro; exact s.h5.read_unread _
        iexact H4
      isplitl [H5]
      · iexists _; isplitr; · ipureintro; exact s.h6.read_unread _
        iexact H5
      iexists _; isplitr; · ipureintro; exact s.h7.read_unread _
      iexact H6
    isplitl [H7]; · iexists _; iexact H7
    isplitl [H8]; · iexists _; iexact H8
    isplitl [H9]; · iexists _; iexact H9
    isplitl [H10]; · iexists _; iexact H10
    isplitl [H11]; · iexists _; iexact H11
    isplitl [HS]; · iexists _; iexact HS
    isplitl [Hq Hh]
    · isplitl [Hq]; · iexact Hq
      iexact Hh
    iexists _; iexact HW

set_option maxHeartbeats 2000000 in
/-- A later point: the pack holds `xo`, over which the stores listed are written, and the scratch `xs` stays. -/
noncomputable def runB (c : Dev nD) (i : grid0.Coords) (s : Mem) (hc : ¬first i) (b : Blk F) (xo : Vec F S8x1024 .f32) (xs : Vec F S1024x1024 .bf16) (fh : HbBuf (F := F) c hbM) :
    Σ' (L7 : List (View.Piece (Elt F) S512x1024 .bf16)), Σ' (L8 : List (View.Piece (Elt F) S512x512 .f32)), Σ' (L9 : List (View.Piece (Elt F) S512x512 .f32)), Σ' (L10 : List (View.Piece (Elt F) S512x512 .f32)), { L11 : List (View.Piece (Elt F) S8x1024 .f32) //
      ∀ (W : Waits sig Unit) (K : PUnit → sProp 𝕄),
        iprop(inputs c s b ∗ (∃ d, owns (c : Thread nD τ) s.a9 fullShare d) ∗ (∃ d, owns (c : Thread nD τ) s.a10 fullShare d)
            ∗ (∃ d, owns (c : Thread nD τ) s.a11 fullShare d) ∗ (∃ d, owns (c : Thread nD τ) s.a12 fullShare d)
            ∗ owns (c : Thread nD τ) s.a13 fullShare xo ∗ owns (c : Thread nD τ) s.a14 fullShare xs
            ∗ through c fh ∗ owes (c : Thread nD τ) 0 W
            ∗ (iprop(inputs c s b ∗ stored c s.a9 L7 ∗ stored c s.a10 L8 ∗ stored c s.a11 L9 ∗ stored c s.a12 L10
                ∗ (s.a13.view.loc (c : Thread nD τ) ↦[s.a13.view.set]{fullShare} s.a13.view.writes (Elt F) (s.h13.unread xo) L11)
                ∗ owns (c : Thread nD τ) s.a14 fullShare xs
                ∗ through c fh ∗ (∃ W', owes (c : Thread nD τ) 0 W')) -∗ K ⟨⟩))
          ⊢ wp frame (wpE (defs₀ (F := F)) Variants.none c none) Set.univ (body i s) K } := by
  refine ⟨?_, ?_, ?_, ?_, ?_, fun W K => ?run⟩
  case run =>
    simp only [body, cc0_mix_out_bwd_eq_skeleton]; unfold cc0_mix_out_bwd_skel
    simp only [k0_part1_eq_skeleton, k0_part2_eq_skeleton, k0_part3_eq_skeleton]
    unfold inputs stored through owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%d7, %f7, -, H7⟩, ⟨%d8, %f8, -, H8⟩, ⟨%d9, %f9, -, H9⟩, ⟨%d10, %f10, -, H10⟩, ⟨%f11, %hf11, H11⟩, ⟨%fs, %hfs, HS⟩, ⟨Hq, Hh⟩, HW, Hk⟩
    obtain rfl := s.h1.eq_unread hf0; obtain rfl := s.h2.eq_unread hf1; obtain rfl := s.h3.eq_unread hf2; obtain rfl := s.h4.eq_unread hf3
    obtain rfl := s.h5.eq_unread hf4; obtain rfl := s.h6.eq_unread hf5; obtain rfl := s.h7.eq_unread hf6
    obtain rfl := s.h13.eq_unread hf11; obtain rfl := s.h14.eq_unread hfs
    sl_exec (disch := sl_exact hc)
    sl_step
    iapply Hk
    isplitl [H0 H1 H2 H3 H4 H5 H6]
    · isplitl [H0]
      · iexists _; isplitr; · ipureintro; exact s.h1.read_unread _
        iexact H0
      isplitl [H1]
      · iexists _; isplitr; · ipureintro; exact s.h2.read_unread _
        iexact H1
      isplitl [H2]
      · iexists _; isplitr; · ipureintro; exact s.h3.read_unread _
        iexact H2
      isplitl [H3]
      · iexists _; isplitr; · ipureintro; exact s.h4.read_unread _
        iexact H3
      isplitl [H4]
      · iexists _; isplitr; · ipureintro; exact s.h5.read_unread _
        iexact H4
      isplitl [H5]
      · iexists _; isplitr; · ipureintro; exact s.h6.read_unread _
        iexact H5
      iexists _; isplitr; · ipureintro; exact s.h7.read_unread _
      iexact H6
    isplitl [H7]; · iexists _; iexact H7
    isplitl [H8]; · iexists _; iexact H8
    isplitl [H9]; · iexists _; iexact H9
    isplitl [H10]; · iexists _; iexact H10
    isplitl [H11]; · iexact H11
    isplitl [HS]
    · iexists _; isplitr; · ipureintro; exact s.h14.read_unread _
      iexact HS
    isplitl [Hq Hh]
    · isplitl [Hq]; · iexact Hq
      iexact Hh
    iexists _; iexact HW

end Cert.KernelMixIdeal.Gen

end
-- ==== Proof.MixRun.lean ====
/- The run of the output projection's backward kernel: what every point leaves in its blocks, the pipeline's body
   obligation, and that the program ends with its arguments as they were and every counter at zero. -/
module

public import proofs.«01_k».proof.Proof.MixBody

@[expose] public section

set_option maxRecDepth 16384

noncomputable section

namespace Cert.KernelMixIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What a point leaves in its blocks -/

/-- The staging buffer of an output, or the scratch memory, as a whole. -/
abbrev VO7 : View sig .tc .vmem S512x1024 .bf16 := (Memref.whole cc0_stg7_0 : Memref sig .tc .vmem S512x1024 .bf16).view
/-- The staging buffer of an output, or the scratch memory, as a whole. -/
abbrev VO8 : View sig .tc .vmem S512x512 .f32 := (Memref.whole cc0_stg8_0 : Memref sig .tc .vmem S512x512 .f32).view
/-- The staging buffer of an output, or the scratch memory, as a whole. -/
abbrev VO11 : View sig .tc .vmem S8x1024 .f32 := (Memref.whole cc0_stg11_0 : Memref sig .tc .vmem S8x1024 .f32).view
/-- The staging buffer of an output, or the scratch memory, as a whole. -/
abbrev scM : Memref sig .tc .vmem S1024x1024 .bf16 := Memref.whole cc0_scratch0
/-- The staging buffer of an output, or the scratch memory, as a whole. -/
abbrev VS : View sig .tc .vmem S1024x1024 .bf16 := scM.view

section Case
variable (c : Dev nD) (i : grid0.Coords) (s : Mem)

section A
variable (hc : first i) (b : Blk F) (fh : HbBuf (F := F) c hbM)

/-- What the first point's stores leave in this buffer. -/
def outA_7 : Vec F S512x1024 .bf16 := VO7.read (Elt F) (VO7.writes (Elt F) VO7.junk (runA c i s hc b fh).1)
/-- What the first point's stores leave in this buffer. -/
def outA_8 : Vec F S512x512 .f32 := VO8.read (Elt F) (VO8.writes (Elt F) VO8.junk (runA c i s hc b fh).2.1)
/-- What the first point's stores leave in this buffer. -/
def outA_9 : Vec F S512x512 .f32 := VO8.read (Elt F) (VO8.writes (Elt F) VO8.junk (runA c i s hc b fh).2.2.1)
/-- What the first point's stores leave in this buffer. -/
def outA_10 : Vec F S512x512 .f32 := VO8.read (Elt F) (VO8.writes (Elt F) VO8.junk (runA c i s hc b fh).2.2.2.1)
/-- What the first point's stores leave in this buffer. -/
def outA_11 : Vec F S8x1024 .f32 := VO11.read (Elt F) (VO11.writes (Elt F) VO11.junk (runA c i s hc b fh).2.2.2.2.1)
/-- What the first point's stores leave in this buffer. -/
def outA_S : Vec F S1024x1024 .bf16 := VS.read (Elt F) (VS.writes (Elt F) VS.junk (runA c i s hc b fh).2.2.2.2.2.1)

/-- The first point's stores fill this buffer. -/
theorem coverA_7 (y : S512x1024.Idx) : ∃ pc ∈ (runA c i s hc b fh).1, y ∈ pc.1.set :=
  View.cover_of_tiledL (runA c i s hc b fh).1 S512x1024.size (by sl_kernel_rfl) y
/-- The first point's stores fill this buffer. -/
theorem coverA_8 (y : S512x512.Idx) : ∃ pc ∈ (runA c i s hc b fh).2.1, y ∈ pc.1.set :=
  View.cover_of_tiledL (runA c i s hc b fh).2.1 S512x512.size (by sl_kernel_rfl) y
/-- The first point's stores fill this buffer. -/
theorem coverA_9 (y : S512x512.Idx) : ∃ pc ∈ (runA c i s hc b fh).2.2.1, y ∈ pc.1.set :=
  View.cover_of_tiledL (runA c i s hc b fh).2.2.1 S512x512.size (by sl_kernel_rfl) y
/-- The first point's stores fill this buffer. -/
theorem coverA_10 (y : S512x512.Idx) : ∃ pc ∈ (runA c i s hc b fh).2.2.2.1, y ∈ pc.1.set :=
  View.cover_of_tiledL (runA c i s hc b fh).2.2.2.1 S512x512.size (by sl_kernel_rfl) y
/-- The pack's stores are of several sizes; cut into half rows they tile it. -/
theorem coverA_11 (y : S8x1024.Idx) : ∃ pc ∈ (runA c i s hc b fh).2.2.2.2.1, y ∈ pc.1.set :=
  View.cover_of_tiledBy (runA c i s hc b fh).2.2.2.2.1 ![1, 512] (by sl_kernel_rfl) y
/-- The first point's stores fill this buffer. -/
theorem coverA_S (y : S1024x1024.Idx) : ∃ pc ∈ (runA c i s hc b fh).2.2.2.2.2.1, y ∈ pc.1.set :=
  View.cover_of_tiledL (runA c i s hc b fh).2.2.2.2.2.1 S1024x1024.size (by sl_kernel_rfl) y

end A

section B
variable (hc : ¬first i) (b : Blk F) (xo : Vec F S8x1024 .f32) (xs : Vec F S1024x1024 .bf16) (fh : HbBuf (F := F) c hbM)

/-- What a later point's stores leave in this buffer. -/
def outB_7 : Vec F S512x1024 .bf16 := VO7.read (Elt F) (VO7.writes (Elt F) VO7.junk (runB c i s hc b xo xs fh).1)
/-- What a later point's stores leave in this buffer. -/
def outB_8 : Vec F S512x512 .f32 := VO8.read (Elt F) (VO8.writes (Elt F) VO8.junk (runB c i s hc b xo xs fh).2.1)
/-- What a later point's stores leave in this buffer. -/
def outB_9 : Vec F S512x512 .f32 := VO8.read (Elt F) (VO8.writes (Elt F) VO8.junk (runB c i s hc b xo xs fh).2.2.1)
/-- What a later point's stores leave in this buffer. -/
def outB_10 : Vec F S512x512 .f32 := VO8.read (Elt F) (VO8.writes (Elt F) VO8.junk (runB c i s hc b xo xs fh).2.2.2.1)
/-- The pack of a later point: its stores written over what the point before left. -/
def outB_11 : Vec F S8x1024 .f32 := s.a13.view.read (Elt F) (s.a13.view.writes (Elt F) (s.h13.unread xo) (runB c i s hc b xo xs fh).2.2.2.2.1)

/-- A later point's stores fill this buffer. -/
theorem coverB_7 (y : S512x1024.Idx) : ∃ pc ∈ (runB c i s hc b xo xs fh).1, y ∈ pc.1.set :=
  View.cover_of_tiledL (runB c i s hc b xo xs fh).1 S512x1024.size (by sl_kernel_rfl) y
/-- A later point's stores fill this buffer. -/
theorem coverB_8 (y : S512x512.Idx) : ∃ pc ∈ (runB c i s hc b xo xs fh).2.1, y ∈ pc.1.set :=
  View.cover_of_tiledL (runB c i s hc b xo xs fh).2.1 S512x512.size (by sl_kernel_rfl) y
/-- A later point's stores fill this buffer. -/
theorem coverB_9 (y : S512x512.Idx) : ∃ pc ∈ (runB c i s hc b xo xs fh).2.2.1, y ∈ pc.1.set :=
  View.cover_of_tiledL (runB c i s hc b xo xs fh).2.2.1 S512x512.size (by sl_kernel_rfl) y
/-- A later point's stores fill this buffer. -/
theorem coverB_10 (y : S512x512.Idx) : ∃ pc ∈ (runB c i s hc b xo xs fh).2.2.2.1, y ∈ pc.1.set :=
  View.cover_of_tiledL (runB c i s hc b xo xs fh).2.2.2.1 S512x512.size (by sl_kernel_rfl) y

end B
end Case

/-! ## What the blocks hold after each point -/

variable (m : (ℓ : Loc nD τ sig) → Buf (Elt F) ℓ) (ρ : Dev nD → PrngReg)

/-- The memory grid point `t` works on: its current staging buffers and the scratch. -/
abbrev mem (t : Fin cfg0.N) : Mem where
  a1 := win0_0.stage (cfg0.slots t 0)
  h1 := hstage0_0 ((cfg0.slots t 0).cast nbuf0_0)
  a2 := win0_1.stage (cfg0.slots t 1)
  h2 := hstage0_1 ((cfg0.slots t 1).cast nbuf0_1)
  a3 := win0_2.stage (cfg0.slots t 2)
  h3 := hstage0_2 ((cfg0.slots t 2).cast nbuf0_2)
  a4 := win0_3.stage (cfg0.slots t 3)
  h4 := hstage0_3 ((cfg0.slots t 3).cast nbuf0_3)
  a5 := win0_4.stage (cfg0.slots t 4)
  h5 := hstage0_4 ((cfg0.slots t 4).cast nbuf0_4)
  a6 := win0_5.stage (cfg0.slots t 5)
  h6 := hstage0_5 ((cfg0.slots t 5).cast nbuf0_5)
  a7 := win0_6.stage (cfg0.slots t 6)
  h7 := hstage0_6 ((cfg0.slots t 6).cast nbuf0_6)
  a9 := win0_7.stage (cfg0.slots t 7)
  h9 := hstage0_7 ((cfg0.slots t 7).cast nbuf0_7)
  a10 := win0_8.stage (cfg0.slots t 8)
  h10 := hstage0_8 ((cfg0.slots t 8).cast nbuf0_8)
  a11 := win0_9.stage (cfg0.slots t 9)
  h11 := hstage0_9 ((cfg0.slots t 9).cast nbuf0_9)
  a12 := win0_10.stage (cfg0.slots t 10)
  h12 := hstage0_10 ((cfg0.slots t 10).cast nbuf0_10)
  a13 := win0_11.stage (cfg0.slots t 11)
  h13 := hstage0_11 ((cfg0.slots t 11).cast nbuf0_11)
  a14 := scM
  h14 := Memref.isWhole_whole _

/-- The input blocks of grid point `t`. -/
abbrev blk (c : Dev nD) (t : Fin cfg0.N) : Blk F :=
  ⟨iblk m c 0 t, iblk m c 1 t, iblk m c 2 t, iblk m c 3 t, iblk m c 4 t, iblk m c 5 t, iblk m c 6 t⟩

/-- What the body leaves in the five output blocks and the scratch after the point at position `n`. -/
def outsAt0 (c : Dev nD) : (n : ℕ) → n < cfg0.N →
    Vec F S512x1024 .bf16 × Vec F S512x512 .f32 × Vec F S512x512 .f32 × Vec F S512x512 .f32 × Vec F S8x1024 .f32 × Vec F S1024x1024 .bf16
  | 0, hn =>
    let t : Fin cfg0.N := ⟨0, hn⟩
    let hc := (first_iff t).mpr rfl
    (outA_7 c (grid0.coords t) (mem t) hc (blk m c t) (V m c main_v34), outA_8 c (grid0.coords t) (mem t) hc (blk m c t) (V m c main_v34),
      outA_9 c (grid0.coords t) (mem t) hc (blk m c t) (V m c main_v34), outA_10 c (grid0.coords t) (mem t) hc (blk m c t) (V m c main_v34),
      outA_11 c (grid0.coords t) (mem t) hc (blk m c t) (V m c main_v34), outA_S c (grid0.coords t) (mem t) hc (blk m c t) (V m c main_v34))
  | n + 1, hn =>
    let t : Fin cfg0.N := ⟨n + 1, hn⟩
    let hc := fun h => absurd ((first_iff t).mp h) (Nat.succ_ne_zero n)
    let p := outsAt0 c n (Nat.lt_of_succ_lt hn)
    (outB_7 c (grid0.coords t) (mem t) hc (blk m c t) p.2.2.2.2.1 p.2.2.2.2.2 (V m c main_v34),
      outB_8 c (grid0.coords t) (mem t) hc (blk m c t) p.2.2.2.2.1 p.2.2.2.2.2 (V m c main_v34),
      outB_9 c (grid0.coords t) (mem t) hc (blk m c t) p.2.2.2.2.1 p.2.2.2.2.2 (V m c main_v34),
      outB_10 c (grid0.coords t) (mem t) hc (blk m c t) p.2.2.2.2.1 p.2.2.2.2.2 (V m c main_v34),
      outB_11 c (grid0.coords t) (mem t) hc (blk m c t) p.2.2.2.2.1 p.2.2.2.2.2 (V m c main_v34), p.2.2.2.2.2)

/-- What the first point leaves, in terms of its blocks. -/
theorem outsAt0_A (c : Dev nD) (t : Fin cfg0.N) (h : t.val = 0) :
    outsAt0 m c t.val t.isLt =
      (outA_7 c (grid0.coords t) (mem t) ((first_iff t).mpr h) (blk m c t) (V m c main_v34), outA_8 c (grid0.coords t) (mem t) ((first_iff t).mpr h) (blk m c t) (V m c main_v34),
        outA_9 c (grid0.coords t) (mem t) ((first_iff t).mpr h) (blk m c t) (V m c main_v34), outA_10 c (grid0.coords t) (mem t) ((first_iff t).mpr h) (blk m c t) (V m c main_v34),
        outA_11 c (grid0.coords t) (mem t) ((first_iff t).mpr h) (blk m c t) (V m c main_v34), outA_S c (grid0.coords t) (mem t) ((first_iff t).mpr h) (blk m c t) (V m c main_v34)) := by
  obtain ⟨n, hn⟩ := t
  cases n with
  | zero => rfl
  | succ n => exact absurd h (Nat.succ_ne_zero n)

/-- What the point before `t` left. -/
abbrev prev (c : Dev nD) (t : Fin cfg0.N) := outsAt0 m c (t.val - 1) (Nat.lt_of_le_of_lt (Nat.sub_le _ _) t.isLt)

/-- What a later point leaves, in terms of its blocks and of what the point before left. -/
theorem outsAt0_B (c : Dev nD) (t : Fin cfg0.N) (h : ¬t.val = 0) :
    outsAt0 m c t.val t.isLt =
      (outB_7 c (grid0.coords t) (mem t) (fun h' => h ((first_iff t).mp h')) (blk m c t) (prev m c t).2.2.2.2.1 (prev m c t).2.2.2.2.2 (V m c main_v34),
        outB_8 c (grid0.coords t) (mem t) (fun h' => h ((first_iff t).mp h')) (blk m c t) (prev m c t).2.2.2.2.1 (prev m c t).2.2.2.2.2 (V m c main_v34),
        outB_9 c (grid0.coords t) (mem t) (fun h' => h ((first_iff t).mp h')) (blk m c t) (prev m c t).2.2.2.2.1 (prev m c t).2.2.2.2.2 (V m c main_v34),
        outB_10 c (grid0.coords t) (mem t) (fun h' => h ((first_iff t).mp h')) (blk m c t) (prev m c t).2.2.2.2.1 (prev m c t).2.2.2.2.2 (V m c main_v34),
        outB_11 c (grid0.coords t) (mem t) (fun h' => h ((first_iff t).mp h')) (blk m c t) (prev m c t).2.2.2.2.1 (prev m c t).2.2.2.2.2 (V m c main_v34),
        (prev m c t).2.2.2.2.2) := by
  obtain ⟨n, hn⟩ := t
  cases n with
  | zero => exact absurd rfl h
  | succ n => rfl

/-! ## The launch's own semaphore and the weight's source -/

/-- The semaphore the body uses itself. -/
abbrev osem0 : Fin 1 → SemLoc sig := fun _ => SemLoc.dma 21
/-- It is none of the pipeline's. -/
theorem ownSemFacts0 : Pipeline.OwnSemFacts spec0 osem0 := by decide
/-- Owning the body's semaphores is owning that one. -/
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma 21) 0 := by
  rw [Pipeline.ownSems0_eq_of_list c osem0 [0] (by decide) (by decide)]; rfl

/-- The array the body copies from by itself. -/
def H0 : Finset (Ref sig .tc) := {main_v34}
/-- It is none of the pipeline's arrays. -/
theorem H0_sub : H0 ⊆ Pipeline.restRefs sig spec0 := by decide
/-- Owning the arrays the body copies from is owning that one. -/
theorem hbmPts0_eq (c : Dev nD) :
    (bigSep H0 (fun b => ((c : Thread nD τ).loc b) ↦{fullShare} V m c b) : sProp 𝕄) = hbPt c hbM (V m c main_v34) := by
  rw [BI.bigSep_eq_bigSepL_of_eq [main_v34] (by decide) (by decide)]; rfl

/-- The launch's invariant, conjunct by conjunct. -/
theorem PhiD0_eq (c : Dev nD) :
    (Pipeline.ΦD osem0 spec0 H0 (V m) c : sProp 𝕄)
      = iprop((∃ d, owns (c : Thread nD τ) scM fullShare d) ∗ (∃ r, prngReg c r) ∗ semVal ((c : Thread nD τ), SemLoc.dma 21) 0 ∗ hbPt c hbM (V m c main_v34)) := by
  rw [Pipeline.ΦD_eq, scopedRest0_eq, ownSems00_eq, hbmPts0_eq]; simp only [scM, owns_whole]; try rfl

/-- The invariant before point `n`: the launch's at first, then with the scratch at what the point before left. -/
def PhiS (c : Dev nD) : (n : ℕ) → n ≤ cfg0.N → sProp 𝕄
  | 0, _ => Pipeline.ΦD osem0 spec0 H0 (V m) c
  | n + 1, hn => iprop(owns (c : Thread nD τ) scM fullShare ((outsAt0 m c n hn).2.2.2.2.2) ∗ (∃ r, prngReg c r) ∗ semVal ((c : Thread nD τ), SemLoc.dma 21) 0 ∗ hbPt c hbM (V m c main_v34))

/-- What is carried between points: nothing before the first one, the scratch memory's contents after it. -/
theorem PhiS_zero (c : Dev nD) (n : ℕ) (h : n ≤ cfg0.N) (hz : n = 0) : PhiS m c n h = Pipeline.ΦD osem0 spec0 H0 (V m) c := by
  subst hz; rfl

/-- What is carried between points: nothing before the first one, the scratch memory's contents after it. -/
theorem PhiS_succ (c : Dev nD) (n : ℕ) (hn : n < cfg0.N) :
    PhiS m c (n + 1) hn = iprop(owns (c : Thread nD τ) scM fullShare ((outsAt0 m c n hn).2.2.2.2.2) ∗ (∃ r, prngReg c r) ∗ semVal ((c : Thread nD τ), SemLoc.dma 21) 0 ∗ hbPt c hbM (V m c main_v34)) := rfl

/-- What is carried between points: nothing before the first one, the scratch memory's contents after it. -/
theorem PhiS_pos (c : Dev nD) (n : ℕ) (h : n ≤ cfg0.N) (hz : n ≠ 0) :
    PhiS m c n h = iprop(owns (c : Thread nD τ) scM fullShare ((outsAt0 m c (n - 1) (by omega)).2.2.2.2.2) ∗ (∃ r, prngReg c r) ∗ semVal ((c : Thread nD τ), SemLoc.dma 21) 0 ∗ hbPt c hbM (V m c main_v34)) := by
  cases n with
  | zero => exact absurd rfl hz
  | succ n => rfl

/-- The pipeline's proof data. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
    | ⟨8, _⟩ => (outsAt0 m c t.val t.isLt).2.1
    | ⟨9, _⟩ => (outsAt0 m c t.val t.isLt).2.2.1
    | ⟨10, _⟩ => (outsAt0 m c t.val t.isLt).2.2.2.1
    | ⟨11, _⟩ => (outsAt0 m c t.val t.isLt).2.2.2.2.1
  Φ t := PhiS m c t.val (Nat.le_of_lt_succ t.isLt)
  q _ := fullShare
  owed _ := 0

/-- The pipeline's arrays at the start. -/
theorem A_eq (c : Dev nD) (w : Fin cfg0.W) : (dats m 0 c).A w = V m c (Pipeline.arrRef spec0 w) := by
  dsimp only [dats]

/-- What is carried between points: nothing before the first one, the scratch memory's contents after it. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What this window holds after a point. -/
theorem after0_0 (c : Dev nD) (t : Fin cfg0.N) : (dats m 0 c).after 0 t = iblk m c 0 t := by dsimp only [dats]
/-- What this window holds after a point. -/
theorem after0_1 (c : Dev nD) (t : Fin cfg0.N) : (dats m 0 c).after 1 t = iblk m c 1 t := by dsimp only [dats]
/-- What this window holds after a point. -/
theorem after0_2 (c : Dev nD) (t : Fin cfg0.N) : (dats m 0 c).after 2 t = iblk m c 2 t := by dsimp only [dats]
/-- What this window holds after a point. -/
theorem after0_3 (c : Dev nD) (t : Fin cfg0.N) : (dats m 0 c).after 3 t = iblk m c 3 t := by dsimp only [dats]
/-- What this window holds after a point. -/
theorem after0_4 (c : Dev nD) (t : Fin cfg0.N) : (dats m 0 c).after 4 t = iblk m c 4 t := by dsimp only [dats]
/-- What this window holds after a point. -/
theorem after0_5 (c : Dev nD) (t : Fin cfg0.N) : (dats m 0 c).after 5 t = iblk m c 5 t := by dsimp only [dats]
/-- What this window holds after a point. -/
theorem after0_6 (c : Dev nD) (t : Fin cfg0.N) : (dats m 0 c).after 6 t = iblk m c 6 t := by dsimp only [dats]
/-- What this window holds after a point. -/
theorem after0_7 (c : Dev nD) (t : Fin cfg0.N) : (dats m 0 c).after 7 t = (outsAt0 m c t.val t.isLt).1 := by dsimp only [dats]
/-- What this window holds after a point. -/
theorem after0_8 (c : Dev nD) (t : Fin cfg0.N) : (dats m 0 c).after 8 t = (outsAt0 m c t.val t.isLt).2.1 := by dsimp only [dats]
/-- What this window holds after a point. -/
theorem after0_9 (c : Dev nD) (t : Fin cfg0.N) : (dats m 0 c).after 9 t = (outsAt0 m c t.val t.isLt).2.2.1 := by dsimp only [dats]
/-- What this window holds after a point. -/
theorem after0_10 (c : Dev nD) (t : Fin cfg0.N) : (dats m 0 c).after 10 t = (outsAt0 m c t.val t.isLt).2.2.2.1 := by dsimp only [dats]
/-- What this window holds after a point. -/
theorem after0_11 (c : Dev nD) (t : Fin cfg0.N) : (dats m 0 c).after 11 t = (outsAt0 m c t.val t.isLt).2.2.2.2.1 := by dsimp only [dats]

/-- What this window holds before a point. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
/-- What this window holds before a point. -/
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
/-- What this window holds before a point. -/
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
/-- What this window holds before a point. -/
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
/-- What this window holds before a point. -/
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
/-- What this window holds before a point. -/
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
/-- What this window holds before a point. -/
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)

/-- The pack's buffer is not written back between points: a later point finds what the point before left. -/
theorem before0_11 (c : Dev nD) (t : Fin cfg0.N) (h : ¬t.val = 0) (d) : (dats m 0 c).before 11 t d = (prev m c t).2.2.2.2.1 := by
  have hN : t.val < 8 := lt_of_lt_of_eq t.isLt (show cfg0.N = 8 from N_0)
  rw [Dat.before_out_kept _ 11 rfl t (by omega) (Bool.eq_false_iff.mpr fun h => by have := (flush0_11 _).mp h; dsimp only at this; omega)
    (fun _ => rfl) (fun _ _ => rfl)]
  dsimp only [dats]

/-! ## The body obligation -/

/-- What the body is given at a point. -/
def bodyPre (c : Dev nD) (t : Fin cfg0.N) : sProp 𝕄 :=
  iprop((dats m 0 c).Φ t.castSucc ∗ (dats m 0 c).owesAt () t.castSucc
    ∗ (∃ d, owns (c : Thread nD τ) (mem t).a1 fullShare ((dats m 0 c).before 0 t d))
    ∗ (∃ d, owns (c : Thread nD τ) (mem t).a2 fullShare ((dats m 0 c).before 1 t d))
    ∗ (∃ d, owns (c : Thread nD τ) (mem t).a3 fullShare ((dats m 0 c).before 2 t d))
    ∗ (∃ d, owns (c : Thread nD τ) (mem t).a4 fullShare ((dats m 0 c).before 3 t d))
    ∗ (∃ d, owns (c : Thread nD τ) (mem t).a5 fullShare ((dats m 0 c).before 4 t d))
    ∗ (∃ d, owns (c : Thread nD τ) (mem t).a6 fullShare ((dats m 0 c).before 5 t d))
    ∗ (∃ d, owns (c : Thread nD τ) (mem t).a7 fullShare ((dats m 0 c).before 6 t d))
    ∗ (∃ d, owns (c : Thread nD τ) (mem t).a9 fullShare ((dats m 0 c).before 7 t d))
    ∗ (∃ d, owns (c : Thread nD τ) (mem t).a10 fullShare ((dats m 0 c).before 8 t d))
    ∗ (∃ d, owns (c : Thread nD τ) (mem t).a11 fullShare ((dats m 0 c).before 9 t d))
    ∗ (∃ d, owns (c : Thread nD τ) (mem t).a12 fullShare ((dats m 0 c).before 10 t d))
    ∗ (∃ d, owns (c : Thread nD τ) (mem t).a13 fullShare ((dats m 0 c).before 11 t d)))

/-- What the body leaves at a point. -/
def bodyPost (c : Dev nD) (t : Fin cfg0.N) : sProp 𝕄 :=
  iprop((dats m 0 c).Φ t.succ ∗ (dats m 0 c).owesAt () t.succ
    ∗ owns (c : Thread nD τ) (mem t).a1 fullShare ((dats m 0 c).after 0 t)
    ∗ owns (c : Thread nD τ) (mem t).a2 fullShare ((dats m 0 c).after 1 t)
    ∗ owns (c : Thread nD τ) (mem t).a3 fullShare ((dats m 0 c).after 2 t)
    ∗ owns (c : Thread nD τ) (mem t).a4 fullShare ((dats m 0 c).after 3 t)
    ∗ owns (c : Thread nD τ) (mem t).a5 fullShare ((dats m 0 c).after 4 t)
    ∗ owns (c : Thread nD τ) (mem t).a6 fullShare ((dats m 0 c).after 5 t)
    ∗ owns (c : Thread nD τ) (mem t).a7 fullShare ((dats m 0 c).after 6 t)
    ∗ owns (c : Thread nD τ) (mem t).a9 fullShare ((dats m 0 c).after 7 t)
    ∗ owns (c : Thread nD τ) (mem t).a10 fullShare ((dats m 0 c).after 8 t)
    ∗ owns (c : Thread nD τ) (mem t).a11 fullShare ((dats m 0 c).after 9 t)
    ∗ owns (c : Thread nD τ) (mem t).a12 fullShare ((dats m 0 c).after 10 t)
    ∗ owns (c : Thread nD τ) (mem t).a13 fullShare ((dats m 0 c).after 11 t))

set_option maxHeartbeats 9600000 in
/-- At every point the body takes its blocks from what the pipeline staged to what the proof data say. -/
theorem sound_body (c : Dev nD) (t : Fin cfg0.N) :
    bodyPre m c t ⊢ wp frame (wpE (defs₀ (F := F)) Variants.none c none) Set.univ (body (grid0.coords t) (mem t)) (fun _ => bodyPost m c t) := by
  unfold bodyPre bodyPost
  simp only [before0_0, before0_1, before0_2, before0_3, before0_4, before0_5, before0_6]
  rw [show (dats m 0 c).Φ t.succ = PhiS m c (t.val + 1) t.isLt from rfl, PhiS_succ,
    after0_0, after0_1, after0_2, after0_3, after0_4, after0_5, after0_6, after0_7, after0_8, after0_9, after0_10, after0_11]
  unfold Dat.owesAt Pipeline.owesWithin
  rw [show (dats m 0 c).owed t.castSucc = 0 from rfl, show (dats m 0 c).owed t.succ = 0 from rfl]
  by_cases h : t.val = 0
  · rw [PhiS_castSucc m c t, PhiS_zero m c _ _ h, PhiD0_eq, outsAt0_A m c t h]
    unfold outA_7 outA_8 outA_9 outA_10 outA_11 outA_S
    dsimp only
    iintro ⟨⟨HS, Hg, Hq, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runA c (grid0.coords t) (mem t) ((first_iff t).mpr h) (blk m c t) (V m c main_v34)).2.2.2.2.2.2 W _)
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [H7]; · iexists _; iexact H7
    isplitl [H8]; · iexists _; iexact H8
    isplitl [H9]; · iexists _; iexact H9
    isplitl [H10]; · iexists _; iexact H10
    isplitl [H11]; · iexists _; iexact H11
    isplitl [HS]; · iexact HS
    isplitl [Hq Hh]
    · isplitl [Hq]; · iexact Hq
      iexact Hh
    isplitl [HW]; · iexact HW
    iintro ⟨⟨H0, H1, H2, H3, H4, H5, H6⟩, ⟨%e7, H7⟩, ⟨%e8, H8⟩, ⟨%e9, H9⟩, ⟨%e10, H10⟩, ⟨%e11, H11⟩, ⟨%es, HS⟩, ⟨Hq, Hh⟩, ⟨%W', HW'⟩⟩
    isplitl [HS Hg Hq Hh]
    · isplitl [HS]
      · unfold owns; iexists _; isplitr
        swap; · iexact HS
        ipureintro; exact View.read_writes_of_cover _ _ _ _ _ (coverA_S c _ _ _ _ _)
      isplitl [Hg]; · iexact Hg
      isplitl [Hq]; · iexact Hq
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (coverA_7 c _ _ _ _ _)
    isplitl [H8]
    · unfold owns; iexists _; isplitr
      swap; · iexact H8
      ipureintro; exact View.read_writes_of_cover _ _ _ _ _ (coverA_8 c _ _ _ _ _)
    isplitl [H9]
    · unfold owns; iexists _; isplitr
      swap; · iexact H9
      ipureintro; exact View.read_writes_of_cover _ _ _ _ _ (coverA_9 c _ _ _ _ _)
    isplitl [H10]
    · unfold owns; iexists _; isplitr
      swap; · iexact H10
      ipureintro; exact View.read_writes_of_cover _ _ _ _ _ (coverA_10 c _ _ _ _ _)
    unfold owns; iexists _; isplitr
    swap; · iexact H11
    ipureintro; exact View.read_writes_of_cover _ _ _ _ _ (coverA_11 c _ _ _ _ _)
  · rw [PhiS_castSucc m c t, PhiS_pos m c _ _ h, outsAt0_B m c t h]
    simp only [before0_11 m c t h]
    unfold outB_7 outB_8 outB_9 outB_10 outB_11
    dsimp only
    iintro ⟨⟨HS, Hg, Hq, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runB c (grid0.coords t) (mem t) (fun h' => h ((first_iff t).mp h')) (blk m c t) _ _ (V m c main_v34)).2.2.2.2.2 W _)
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [H7]; · iexists _; iexact H7
    isplitl [H8]; · iexists _; iexact H8
    isplitl [H9]; · iexists _; iexact H9
    isplitl [H10]; · iexists _; iexact H10
    isplitl [H11]; · iexact H11
    isplitl [HS]; · iexact HS
    isplitl [Hq Hh]
    · isplitl [Hq]; · iexact Hq
      iexact Hh
    isplitl [HW]; · iexact HW
    iintro ⟨⟨H0, H1, H2, H3, H4, H5, H6⟩, ⟨%e7, H7⟩, ⟨%e8, H8⟩, ⟨%e9, H9⟩, ⟨%e10, H10⟩, H11, HS, ⟨Hq, Hh⟩, ⟨%W', HW'⟩⟩
    isplitl [HS Hg Hq Hh]
    · isplitl [HS]; · iexact HS
      isplitl [Hg]; · iexact Hg
      isplitl [Hq]; · iexact Hq
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (coverB_7 c _ _ _ _ _ _ _)
    isplitl [H8]
    · unfold owns; iexists _; isplitr
      swap; · iexact H8
      ipureintro; exact View.read_writes_of_cover _ _ _ _ _ (coverB_8 c _ _ _ _ _ _ _)
    isplitl [H9]
    · unfold owns; iexists _; isplitr
      swap; · iexact H9
      ipureintro; exact View.read_writes_of_cover _ _ _ _ _ (coverB_9 c _ _ _ _ _ _ _)
    isplitl [H10]
    · unfold owns; iexists _; isplitr
      swap; · iexact H10
      ipureintro; exact View.read_writes_of_cover _ _ _ _ _ (coverB_10 c _ _ _ _ _ _ _)
    unfold owns; iexists _; isplitr
    swap; · iexact H11
    ipureintro; rfl

/-- The body the pipeline calls at a point. -/
theorem defs₀_row (t : Fin cfg0.N) :
    defs₀ (F := F) .tc cfg0.body (cfg0.bodyArgs t (cfg0.slots t)) = body (grid0.coords t) (mem t) := by
  unfold defs₀; rw [Defs.onTc_tc]

/-- The body does at every point what the pipeline asks of it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The pipeline starts with what is carried. -/
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]

/-- The pipeline ends with what is carried. -/
theorem hout (c : Dev nD) : (dats m 0 c).Φ (Fin.last cfg0.N) ⊢ Pipeline.ΦD osem0 spec0 H0 (V m) c := by
  have hN : cfg0.N = 8 := N_0
  rw [show (dats m 0 c).Φ (Fin.last cfg0.N) = PhiS m c cfg0.N (Nat.le_refl _) from rfl, PhiS_pos m c _ _ (by omega), PhiD0_eq]
  iintro ⟨HS, Hg, Hq, Hh⟩
  isplitl [HS]
  · iexists _; iexact HS
  isplitl [Hg]; · iexact Hg
  isplitl [Hq]; · iexact Hq
  iexact Hh

/-! ## The run and the frame -/

/-- The program is its host lines and then the region. -/
theorem hmainD : Pipeline.HMain (Ix := Unit) (Name := ℕ) (U := Pipeline.UD sig nD τ) (Lvl := ℕ) cfgs 0 defs₀ Variants.none m (main (F := F)) (V m) :=
  Pipeline.hmain_prefixes cfgs 0 defs₀ Variants.none m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

set_option backward.isDefEq.respectTransparency.types false in
/-- Every run ends with the arrays at what the proof data compute, and with every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmainD m) (hA := A_eq m)
    (hin := hin m) (hout := hout m)

/-- The whole program runs and ends with the pipeline's arrays. -/
theorem run_main : θ_run defs (onTc (τ := τ) (main (F := F))) (s₀ m ρ) (Pipeline.FramePost cfgs (dats m) 0 (V m)) :=
  (θ_run defs _ _).mono (fun _ h => h.1) (run_quiescent m ρ)

/-- The frame: every run ends, with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨((h.1 c).1 0).trans (((dats m 0 c).arrAt_in 0 rfl _).trans ((A_eq m c 0).trans (V_main_arg0 m c))),
      ((h.1 c).1 2).trans (((dats m 0 c).arrAt_in 2 rfl _).trans ((A_eq m c 2).trans (V_main_arg1 m c))),
      ((h.1 c).1 3).trans (((dats m 0 c).arrAt_in 3 rfl _).trans ((A_eq m c 3).trans (V_main_arg2 m c))),
      ((h.1 c).1 4).trans (((dats m 0 c).arrAt_in 4 rfl _).trans ((A_eq m c 4).trans (V_main_arg3 m c))),
      ((h.1 c).1 5).trans (((dats m 0 c).arrAt_in 5 rfl _).trans ((A_eq m c 5).trans (V_main_arg4 m c))),
      ((h.1 c).1 6).trans (((dats m 0 c).arrAt_in 6 rfl _).trans ((A_eq m c 6).trans (V_main_arg5 m c))),
      ((h.1 c).2 main_arg6 (Pipeline.mem_restRefs_of main_arg6 (by decide) (by decide))).trans (V_main_arg6 m c)⟩, h.2⟩) (run_quiescent m ρ)

/-- The run with every output array named. -/
theorem run_blocks : θ_run defs (onTc (τ := τ) (main (F := F))) ⟨m, fun _ => 0, ρ⟩ fun r => ∀ c : Dev nD,
      r.2.mem ((c : Thread nD τ).loc main_v35_0) = (dats m 0 c).arrAt 7 cfg0.N
      ∧ r.2.mem ((c : Thread nD τ).loc main_v35_1) = (dats m 0 c).arrAt 8 cfg0.N
      ∧ r.2.mem ((c : Thread nD τ).loc main_v35_2) = (dats m 0 c).arrAt 9 cfg0.N
      ∧ r.2.mem ((c : Thread nD τ).loc main_v35_3) = (dats m 0 c).arrAt 10 cfg0.N
      ∧ r.2.mem ((c : Thread nD τ).loc main_v35_4) = (dats m 0 c).arrAt 11 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1 7, (h c).1 8, (h c).1 9, (h c).1 10, (h c).1 11,
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).1 3).trans (((dats m 0 c).arrAt_in 3 rfl _).trans ((A_eq m c 3).trans (V_main_arg2 m c))),
      ((h c).1 4).trans (((dats m 0 c).arrAt_in 4 rfl _).trans ((A_eq m c 4).trans (V_main_arg3 m c))),
      ((h c).1 5).trans (((dats m 0 c).arrAt_in 5 rfl _).trans ((A_eq m c 5).trans (V_main_arg4 m c))),
      ((h c).1 6).trans (((dats m 0 c).arrAt_in 6 rfl _).trans ((A_eq m c 6).trans (V_main_arg5 m c))),
      ((h c).2 main_arg6 (Pipeline.mem_restRefs_of main_arg6 (by decide) (by decide))).trans (V_main_arg6 m c)⟩) (run_main m ρ)

end Cert.KernelMixIdeal.Gen

end
-- ==== Proof.MixKernel.lean ====
/- The blocks, the saved forward values, the weight and the scratch of the output projection's backward kernel. -/
module

public import proofs.«01_k».proof.Proof.MixPay
public import proofs.«01_k».proof.Proof.Pack
public import proofs.«01_k».proof.Proof.MixRun

@[expose] public section

set_option maxRecDepth 16384

noncomputable section

namespace Cert.Mix

open Idealize.ShloMosaic Idealize.ShloMosaic.TcCoe Idealize.SL.Sem Cert.KernelMixIdeal Cert.KernelMixIdeal.Gen Cert.Reals

variable (m : (ℓ : Loc nD τ sig) → Buf (Elt Ideal) ℓ) (c : Dev nD)

/-- Row `r` of the block of 512 rows that grid point `t` works on. -/
def row (t : Fin cfg0.N) (r : Fin 512) : Fin 4096 := ⟨512 * t.val + r.val, by have := t.isLt; have h : cfg0.N = 8 := N_0; omega⟩

/-- An argument of the kernel, as memory holds it. -/
abbrev arr (b : Ref sig .tc) : Buf (Elt Ideal) ((c : Thread nD τ).loc b) := m ((c : Thread nD τ).loc b)

/-- The arguments the kernel finds in memory. -/
def args : Args where
  dh1 := arr m c main_arg0
  ohg := arr m c main_arg1
  proj := arr m c main_arg2
  osb := arr m c main_arg3
  norms := arr m c main_arg4
  gpost := arr m c main_arg5
  wout := arr m c main_arg6

/-- Which block every window works on at a point. -/
theorem idx : ∀ t : Fin cfg0.N, win0_0.index t = ![t.val, 0] ∧ win0_1.index t = ![t.val, 0] ∧ win0_2.index t = ![t.val, 0] ∧ win0_3.index t = ![t.val, 3] ∧
    win0_4.index t = ![t.val, 0] ∧ win0_5.index t = ![0, 0] ∧ win0_6.index t = ![0, 0] ∧ win0_7.index t = ![t.val, 0] ∧ win0_8.index t = ![t.val, 0] ∧ win0_9.index t = ![t.val, 0] ∧
    win0_10.index t = ![t.val, 0] ∧ win0_11.index t = ![0, 0] :=
  (by decide +kernel : ∀ t : Fin grid0.N, _)

/-- The block of the cotangent's rows at point `t`. -/
theorem blk0 (t : Fin cfg0.N) (r : Fin 512) (j : Fin 1024) : iblk m c 0 t (ix2 r j) = (args m c).dh1 (ix2 (row t r) j) := by
  blk_point [iblk, idx t, row]

/-- The block of the saved products at point `t`. -/
theorem blk1 (t : Fin cfg0.N) (r : Fin 512) (j : Fin 1024) : iblk m c 1 t (ix2 r j) = V m c main_v33 (ix2 (row t r) j) := by
  blk_point [iblk, idx t, row]

/-- The block of the recurrence's outputs at point `t`. -/
theorem blk2 (t : Fin cfg0.N) (r : Fin 512) (j : Fin 512) : iblk m c 2 t (ix2 r j) = (args m c).ohg (ix2 (row t r) j) := by
  blk_point [iblk, idx t, row]

/-- The block of the gate at point `t`. -/
theorem blk3 (t : Fin cfg0.N) (r : Fin 512) (j : Fin 512) : iblk m c 3 t (ix2 r j) = (args m c).proj (ix2 (row t r) ⟨1536 + j.val, by omega⟩) := by
  blk_point [iblk, idx t, row]

/-- The block of the attention's outputs at point `t`. -/
theorem blk4 (t : Fin cfg0.N) (r : Fin 512) (j : Fin 512) : iblk m c 4 t (ix2 r j) = (args m c).osb (ix2 (row t r) j) := by
  blk_point [iblk, idx t, row]

/-- The weights of the two norms before the product. -/
theorem blk5 (t : Fin cfg0.N) (j : Fin 1024) : iblk m c 5 t (ix2 0 j) = (args m c).norms (ix2 0 j) := by
  blk_point [iblk, idx t]

/-- The weight of the norm after the product. -/
theorem blk6 (t : Fin cfg0.N) (j : Fin 1024) : iblk m c 6 t (ix2 0 j) = (args m c).gpost (ix2 0 j) := by
  blk_point [iblk, idx t]

/-- The product's weight as the host hands it over. -/
theorem w_entry (i j : Fin 1024) : (V m c main_v34) (ix2 i j) = (args m c).wout (ix2 i j) := by
  simp only [V, hostOps0, hostOps0_1, hostOps0_2, List.flatten_cons, List.flatten_nil, List.append_nil, List.cons_append, List.nil_append]
  entry_read
  pointwise
  rfl

/-- The reciprocal root mean square, as the host lines write it. -/
theorem rstd_host (x : FVec Ideal S4096x512 .f32) (X : Fin 4096 → Fin 512 → ℝ) (hx : ∀ r j, x (ix2 r j) = ((X r j : ℝ) : EReal)) (r : Fin 4096) :
    Ideal.rsqrt (Ideal.div (∑ j, x (ix2 r j) * x (ix2 r j)) (Ideal.ofBits FTy.f32 1140850688#32) + Ideal.ofBits FTy.f32 897988541#32) = ((rstd 512 (X r) : ℝ) : EReal) := by
  simp only [hx, ← EReal.coe_mul, coe_sum, ofBits_512, ofBits_eps]
  rw [div_real _ _ (by norm_num), ← EReal.coe_add]
  exact rsqrt_real _ (meanSq_pos (by norm_num) (X r))

/-- What is multiplied, in the recurrence's columns. -/
theorem cat_lo (a : Args) (r : Fin 4096) (x : Fin 512) (k : Fin 1024) (h : k.val = x.val) : a.cat r k = a.nh r x * a.Gh x * a.act r x := by
  have e : (⟨k.val, by omega⟩ : Fin 512) = x := Fin.ext h
  unfold Args.cat
  rw [dif_pos (by omega), e]

/-- What is multiplied, in the attention's columns. -/
theorem cat_hi (a : Args) (r : Fin 4096) (x : Fin 512) (k : Fin 1024) (h : k.val = 512 + x.val) : a.cat r k = a.ns r x * a.Gs x := by
  have e : (⟨k.val - 512, by omega⟩ : Fin 512) = x := Fin.ext (by show k.val - 512 = x.val; omega)
  unfold Args.cat
  rw [dif_neg (by omega), e]

/-- The product over the two halves. -/
theorem mix_halves (a : Args) (r : Fin 4096) (k : Fin 1024) :
    a.mix r k = (∑ x : Fin 512, a.nh r x * a.Gh x * a.act r x * a.W ⟨x.val, by omega⟩ k) + ∑ x : Fin 512, a.ns r x * a.Gs x * a.W ⟨512 + x.val, by omega⟩ k := by
  unfold Args.mix
  rw [Fin.sum_univ_add (a := 512) (b := 512) (fun k' : Fin 1024 => a.cat r k' * a.W k' k)]
  exact congrArg₂ (· + ·) (Finset.sum_congr rfl fun x _ => congrArg (· * _) (cat_lo a r x _ rfl)) (Finset.sum_congr rfl fun x _ => congrArg (· * _) (cat_hi a r x _ rfl))

/-- The product before its norm, as the host lines write it. -/
theorem mixHost_eq (a : Args) (hf : a.Finite) (r : Fin 4096) (k : Fin 1024) :
    (∑ x : Fin 512, a.ohg (ix2 r x) * Ideal.rsqrt (Ideal.div (∑ j, a.ohg (ix2 r j) * a.ohg (ix2 r j)) (Ideal.ofBits FTy.f32 1140850688#32) + Ideal.ofBits FTy.f32 897988541#32)
        * a.norms (ix2 0 ⟨x.val, by omega⟩)
        * (a.proj (ix2 r ⟨1536 + x.val, by omega⟩) * Ideal.div 1 (1 + Ideal.exp (-a.proj (ix2 r ⟨1536 + x.val, by omega⟩)))) * a.wout (ix2 ⟨x.val, by omega⟩ k))
      + ∑ x : Fin 512, a.osb (ix2 r x) * Ideal.rsqrt (Ideal.div (∑ j, a.osb (ix2 r j) * a.osb (ix2 r j)) (Ideal.ofBits FTy.f32 1140850688#32) + Ideal.ofBits FTy.f32 897988541#32)
        * a.norms (ix2 0 ⟨512 + x.val, by omega⟩) * a.wout (ix2 ⟨512 + x.val, by omega⟩ k)
      = ((a.mix r k : ℝ) : EReal) := by
  rw [rstd_host a.ohg a.A (fun r j => hf.ohg.eq (ix2 r j)), rstd_host a.osb a.B (fun r j => hf.osb.eq (ix2 r j)), mix_halves, EReal.coe_add, ← coe_sum, ← coe_sum]
  congr 1
  · refine Finset.sum_congr rfl fun x _ => ?_
    rw [hf.ohg.eq, hf.norms.eq, hf.proj.eq, hf.wout.eq, sigm_real]
    simp only [← EReal.coe_mul]
    rfl
  · refine Finset.sum_congr rfl fun x _ => ?_
    rw [hf.osb.eq, hf.norms.eq, hf.wout.eq]
    simp only [← EReal.coe_mul]
    rfl

/-- The saved products. -/
theorem mix_entry (hf : (args m c).Finite) (r : Fin 4096) (k : Fin 1024) : (V m c main_v33) (ix2 r k) = (((args m c).mix r k : ℝ) : EReal) := by
  simp only [V, hostOps0, hostOps0_1, hostOps0_2, List.flatten_cons, List.flatten_nil, List.append_nil, List.cons_append, List.nil_append]
  entry_read
  pointwise
  simp only [StableHlo.TRef.ofBuf_toBuf]
  simp -implicitDefEqProofs only [StableHlo.TRef.ofBuf, StableHlo.TRef.toBuf, cast_eq]
  pointwise
  exact mixHost_eq (args m c) hf r k

/-- The copy of the weight holds what the host hands over. -/
theorem w_canon (y : S1024x1024.Idx) :
    View.canon (Val := Elt Ideal) (s := S1024x1024) (e := .bf16) [⟨Rect.whole S1024x1024, ReadAs.same.apply (View.read (Elt Ideal) (View.whole main_v34) (V m c main_v34))⟩] y = V m c main_v34 y := by
  canon_tiles x h
  obtain rfl : y = x := by
    funext a
    fin_cases a
    · exact Fin.ext h0
    · exact Fin.ext h1
  rfl

/-- The first point copies the weight. -/
theorem scr_A (t : Fin cfg0.N) (h : t.val = 0) : (outsAt0 m c t.val t.isLt).2.2.2.2.2 = V m c main_v34 := by
  rw [outsAt0_A m c t h]
  funext y
  frame_out
  exact w_canon m c y

/-- A later point leaves the copy as it is. -/
theorem scr_B (t : Fin cfg0.N) (h : ¬ t.val = 0) : (outsAt0 m c t.val t.isLt).2.2.2.2.2 = (outsAt0 m c (t.val - 1) (by omega)).2.2.2.2.2 := by
  rw [outsAt0_B m c t h]

/-- The copy holds the weight after every point. -/
theorem scr : ∀ (n : ℕ) (hn : n < cfg0.N), (outsAt0 m c n hn).2.2.2.2.2 = V m c main_v34
  | 0, hn => scr_A m c ⟨0, hn⟩ rfl
  | n + 1, hn => (scr_B m c ⟨n + 1, hn⟩ (Nat.succ_ne_zero n)).trans (scr n (by omega))

end Cert.Mix
end
-- ==== Proof.MixPoints.lean ====
/- What a grid point of the output projection's backward kernel leaves in its outputs. -/
module

public import proofs.«01_k».proof.Proof.MixKernel

@[expose] public section

set_option maxRecDepth 16384

noncomputable section

namespace Cert.Mix

open Idealize.ShloMosaic Idealize.ShloMosaic.TcCoe Idealize.SL.Sem Cert.KernelMixIdeal Cert.KernelMixIdeal.Gen Cert.Reals

variable (m : (ℓ : Loc nD τ sig) → Buf (Elt Ideal) ℓ) (c : Dev nD)

/-- The cotangent of the product, from the blocks of a point. -/
def dm (t : Fin cfg0.N) : FVec Ideal S512x1024 .f32 := k0_pay7 (F := Ideal) (iblk m c 1 t) (iblk m c 0 t) (iblk m c 6 t)

/-- The cotangent of what was multiplied, from the blocks of a point and the weight `w`. -/
def dc (t : Fin cfg0.N) (w : FVec Ideal S1024x1024 .bf16) : FVec Ideal S512x1024 .f32 := k0_pay10 (F := Ideal) (dm m c t) w

/-- What every point leaves, from the weight `w` it reads and the eight rows `p` it finds. -/
structure Outs (t : Fin cfg0.N) (w : FVec Ideal S1024x1024 .bf16) (p : Fin 8 → Fin 1024 → EReal) : Prop where
  hw : ∀ i j, w (ix2 i j) = (args m c).wout (ix2 i j)
  o7 : ∀ r j, (outsAt0 m c t.val t.isLt).1 (ix2 r j) = k0_pay9 (F := Ideal) (dm m c t) (ix2 r j)
  o8 : ∀ r j, (outsAt0 m c t.val t.isLt).2.1 (ix2 r j)
    = k0_pay22 (F := Ideal) (dc m c t w) (k0_pay11 (iblk m c 5 t)) (iblk m c 3 t) (k0_pay13 (iblk m c 2 t)) (k0_pay14 (iblk m c 2 t)) (k0_pay15 (iblk m c 3 t)) (ix2 r j)
  o9 : ∀ r j, (outsAt0 m c t.val t.isLt).2.2.1 (ix2 r j)
    = k0_pay20 (F := Ideal) (dc m c t w) (k0_pay11 (iblk m c 5 t)) (iblk m c 3 t) (k0_pay14 (iblk m c 2 t)) (k0_pay15 (iblk m c 3 t)) (ix2 r j)
  o10 : ∀ r j, (outsAt0 m c t.val t.isLt).2.2.2.1 (ix2 r j)
    = k0_pay1 (F := Ideal) (k0_pay17 (k0_pay16 (iblk m c 4 t))) (k0_pay18 (iblk m c 4 t) (k0_pay16 (iblk m c 4 t))) (k0_pay25 (dc m c t w) (k0_pay12 (iblk m c 5 t)))
        (k0_pay26 (dc m c t w) (k0_pay12 (iblk m c 5 t)) (iblk m c 4 t) (k0_pay16 (iblk m c 4 t))) (ix2 r j)
  o11 : ∀ r j, (outsAt0 m c t.val t.isLt).2.2.2.2.1 (ix2 r j)
    = if h : r = 2 ∧ 512 ≤ j.val ∧ j.val < 512 + 512 then
        k0_pay2 (F := Ideal) (k0_pay18 (iblk m c 4 t) (k0_pay16 (iblk m c 4 t))) (k0_pay24 (dc m c t w)) (fun z => p 2 ⟨512 + (z 1).val, Nat.add_lt_add_left (z 1).isLt 512⟩) (ix2 0 ⟨j.val - 512, by omega⟩)
      else if h : r = 2 ∧ 0 ≤ j.val ∧ j.val < 0 + 512 then
        k0_pay23 (F := Ideal) (dc m c t w) (iblk m c 3 t) (k0_pay14 (iblk m c 2 t)) (k0_pay15 (iblk m c 3 t)) (fun z => p 2 ⟨(z 1).val, (z 1).isLt.trans (by decide : 512 < 1024)⟩) (ix2 0 ⟨j.val - 0, by omega⟩)
      else if r = 3 then k0_pay8 (F := Ideal) (iblk m c 1 t) (iblk m c 0 t) (fun z => p 3 (z 1)) (ix2 0 j)
      else p r j

/-- A load of the weight, out of the copy of it that point 0 makes. -/
theorem w_load (V' : View sig .tc .vmem S1024x1024 .bf16) (r j : Fin 1024) :
    V'.readCov (Val := Elt Ideal) [⟨Rect.whole S1024x1024, ReadAs.same.apply (View.read (Elt Ideal) (View.whole main_v34) (V m c main_v34))⟩]
      (Rect.unit (s := S1024x1024) ![0, 0] ![1024, 1024] inb_S1024x1024_S1024x1024_0_0).toLoadRect (ix2 r j) = (args m c).wout (ix2 r j) := by
  rw [View.readCov_eq_canon']
  refine (w_canon m c _).trans ((congrArg (V m c main_v34) ?_).trans (w_entry m c r j))
  funext a
  fin_cases a
  · exact Fin.ext (by show 0 + 1 * r.val = r.val; omega)
  · exact Fin.ext (by show 0 + 1 * j.val = j.val; omega)

/-- Where a load of one row, or half a row, of the eight looks. -/
theorem at_row (a : Fin 8) (o n : ℕ) (inb : ∀ d, (![a.val, o] : Fin 2 → ℕ) d + (![1, n] : Fin 2 → ℕ) d ≤ S8x1024.size d) (z0 : Fin 1) (z1 : Fin n) (k : Fin 1024) (hk : k.val = o + z1.val) :
    (Rect.unit (s := S8x1024) ![a.val, o] ![1, n] inb).toLoadRect.idx (ix2 z0 z1) = ix2 a k := by
  have := z0.isLt
  funext d
  fin_cases d
  · exact Fin.ext (by show a.val + 1 * z0.val = a.val; omega)
  · exact Fin.ext (by show o + 1 * z1.val = k.val; omega)

/-- The eight rows when they are cleared. -/
theorem fill_canon (r : Fin 8) (j : Fin 1024) :
    View.canon (Val := Elt Ideal) (s := S8x1024) (e := .f32) [⟨Rect.unit (s := S8x1024) ![0, 0] ![8, 1024] inb_S8x1024_S8x1024_0_0, k0_pay3 (F := Ideal)⟩] (ix2 r j) = 0 := by
  canon_tiles x h
  pointwise [k0_pay3]

/-- What point 0 leaves: the rows it finds are zero. -/
theorem out_A (t : Fin cfg0.N) (h : t.val = 0) : ∃ (w : FVec Ideal S1024x1024 .bf16), Outs m c t w (fun _ _ => 0) := by
  refine' ⟨_, ⟨?hw, ?h7, ?h8, ?h9, ?h10, ?h11⟩⟩
  case h7 =>
    intro r j
    rw [outsAt0_A m c t h]
    frame_out
    rfl
  case h8 =>
    intro r j
    rw [outsAt0_A m c t h]
    frame_out
    rfl
  case h9 =>
    intro r j
    rw [outsAt0_A m c t h]
    frame_out
    rfl
  case h10 =>
    intro r j
    rw [outsAt0_A m c t h]
    frame_out
    rfl
  case hw =>
    exact w_load m c _
  case h11 =>
    intro r j
    rw [outsAt0_A m c t h]
    frame_out
    refine (Cert.Pack.canon_half 2 512 _ _ _ r j).trans (dite_congr rfl (fun h1 => ?_) fun h1 =>
      (Cert.Pack.canon_half 2 0 _ _ _ r j).trans (dite_congr rfl (fun h2 => ?_) fun h2 => (Cert.Pack.canon_row 3 _ _ _ r j).trans (ite_congr rfl (fun h3 => ?_) fun h3 => fill_canon r j)))
    · refine congrFun (congrArg (k0_pay2 (F := Ideal) _ _) ?_) _
      funext z
      idx_vars z
      rw [View.readCov_eq_canon']
      refine (congrArg (View.canon _) (at_row 2 512 512 _ z0 z1 ⟨512 + z1.val, by omega⟩ rfl)).trans ?_
      refine (Cert.Pack.canon_half 2 0 _ _ _ 2 _).trans ((dif_neg (fun h => by have := h.2.2; dsimp only at this; omega)).trans ?_)
      exact (Cert.Pack.canon_row 3 _ _ _ 2 _).trans ((if_neg (by decide)).trans (fill_canon _ _))
    · refine congrFun (congrArg (k0_pay23 (F := Ideal) _ _ _ _) ?_) _
      funext z
      idx_vars z
      rw [View.readCov_eq_canon']
      refine (congrArg (View.canon _) (at_row 2 0 512 _ z0 z1 ⟨z1.val, by omega⟩ (Nat.zero_add _).symm)).trans ?_
      exact (Cert.Pack.canon_row 3 _ _ _ 2 _).trans ((if_neg (by decide)).trans (fill_canon _ _))
    · refine congrFun (congrArg (k0_pay8 (F := Ideal) _ _) ?_) _
      funext z
      idx_vars z
      rw [View.readCov_eq_canon']
      exact (congrArg (View.canon _) (at_row 3 0 1024 _ z0 z1 z1 (Nat.zero_add _).symm)).trans (fill_canon _ _)

/-- What a later point leaves: it adds to rows 2 and 3 of what it finds. -/
theorem out_B (t : Fin cfg0.N) (h : ¬ t.val = 0) : ∃ (w : FVec Ideal S1024x1024 .bf16), Outs m c t w (fun r j => (outsAt0 m c (t.val - 1) (by omega)).2.2.2.2.1 (ix2 r j)) := by
  have hs := scr m c (t.val - 1) (by have := t.isLt; omega)
  refine' ⟨_, ⟨?hw, ?h7, ?h8, ?h9, ?h10, ?h11⟩⟩
  case h7 =>
    intro r j
    rw [outsAt0_B m c t h]
    frame_out
    rfl
  case h8 =>
    intro r j
    rw [outsAt0_B m c t h]
    frame_out
    rfl
  case h9 =>
    intro r j
    rw [outsAt0_B m c t h]
    frame_out
    rfl
  case h10 =>
    intro r j
    rw [outsAt0_B m c t h]
    frame_out
    rfl
  case hw =>
    exact fun i j => (congrFun ((Memref.isWhole_whole _).read_unread _ |>.trans hs) _).trans (w_entry m c i j)
  case h11 =>
    intro r j
    rw [outsAt0_B m c t h]
    frame_out
    refine (Cert.Pack.read_half _ _ 2 512 _ _ _ r j).trans (dite_congr rfl (fun h1 => ?_) fun h1 =>
      (Cert.Pack.read_half _ _ 2 0 _ _ _ r j).trans (dite_congr rfl (fun h2 => ?_) fun h2 => (Cert.Pack.read_row _ _ 3 _ _ _ r j).trans (ite_congr rfl (fun h3 => ?_) fun h3 => ?_)))
    · refine congrFun (congrArg (k0_pay2 (F := Ideal) _ _) ?_) _
      funext z
      idx_vars z
      exact congrArg (outsAt0 m c (t.val - 1) (by omega)).2.2.2.2.1 (at_row 2 512 512 _ z0 z1 ⟨512 + z1.val, by omega⟩ rfl)
    · refine congrFun (congrArg (k0_pay23 (F := Ideal) _ _ _ _) ?_) _
      funext z
      idx_vars z
      exact congrArg (outsAt0 m c (t.val - 1) (by omega)).2.2.2.2.1 (at_row 2 0 512 _ z0 z1 ⟨z1.val, by omega⟩ (Nat.zero_add _).symm)
    · refine congrFun (congrArg (k0_pay8 (F := Ideal) _ _) ?_) _
      funext z
      idx_vars z
      exact congrArg (outsAt0 m c (t.val - 1) (by omega)).2.2.2.2.1 (at_row 3 0 1024 _ z0 z1 z1 (Nat.zero_add _).symm)
    · rw [View.writes_nil]
      exact congrFun ((mem t).h13.read_unread _) _

end Cert.Mix
end
-- ==== Proof.MixFinal.lean ====
/- The arrays the output projection's backward kernel ends with. -/
module

public import proofs.«01_k».proof.Proof.MixPoints

@[expose] public section

set_option maxRecDepth 16384

noncomputable section

namespace Cert.Mix

open Idealize.ShloMosaic Idealize.ShloMosaic.TcCoe Idealize.SL.Sem Cert.KernelMixIdeal Cert.KernelMixIdeal.Gen Cert.Reals

variable (m : (ℓ : Loc nD τ sig) → Buf (Elt Ideal) ℓ) (c : Dev nD)

/-- Every point's outputs come of some weight it read and of some rows it found. -/
theorem outs (t : Fin cfg0.N) : ∃ (w : FVec Ideal S1024x1024 .bf16) (p : Fin 8 → Fin 1024 → EReal), Outs m c t w p := by
  by_cases h : t.val = 0
  · obtain ⟨w, o⟩ := out_A m c t h
    exact ⟨w, _, o⟩
  · obtain ⟨w, o⟩ := out_B m c t h
    exact ⟨w, _, o⟩

section
variable (hf : (args m c).Finite)
include hf

/-- A point's saved products are real. -/
theorem mix_real (t : Fin cfg0.N) (r : Fin 512) (j : Fin 1024) : iblk m c 1 t (ix2 r j) = (((args m c).mix (row t r) j : ℝ) : EReal) :=
  (blk1 m c t r j).trans (mix_entry m c hf _ _)

/-- A point's rows of the cotangent are real. -/
theorem dh1_real (t : Fin cfg0.N) (r : Fin 512) (j : Fin 1024) : iblk m c 0 t (ix2 r j) = (((args m c).D (row t r) j : ℝ) : EReal) :=
  (blk0 m c t r j).trans (hf.dh1.eq _)

/-- A point's outputs of the recurrence are real. -/
theorem ohg_real (t : Fin cfg0.N) (r j : Fin 512) : iblk m c 2 t (ix2 r j) = (((args m c).A (row t r) j : ℝ) : EReal) :=
  (blk2 m c t r j).trans (hf.ohg.eq _)

/-- A point's gate is real. -/
theorem hg_real (t : Fin cfg0.N) (r j : Fin 512) : iblk m c 3 t (ix2 r j) = (((args m c).H (row t r) j : ℝ) : EReal) :=
  (blk3 m c t r j).trans (hf.proj.eq _)

/-- A point's outputs of the attention are real. -/
theorem osb_real (t : Fin cfg0.N) (r j : Fin 512) : iblk m c 4 t (ix2 r j) = (((args m c).B (row t r) j : ℝ) : EReal) :=
  (blk4 m c t r j).trans (hf.osb.eq _)

/-- The weights of the two norms before the product are real. -/
theorem norms_real (t : Fin cfg0.N) (j : Fin 1024) : iblk m c 5 t (ix2 0 j) = ((re (args m c).norms (ix2 0 j) : ℝ) : EReal) :=
  (blk5 m c t j).trans (hf.norms.eq _)

/-- A point's rows of the cotangent of the product. -/
theorem dm_point (t : Fin cfg0.N) (r : Fin 512) (j : Fin 1024) : dm m c t (ix2 r j) = (((args m c).dmix (row t r) j : ℝ) : EReal) :=
  dmix_block (iblk m c 1 t) (iblk m c 0 t) (iblk m c 6 t) (fun r => (args m c).mix (row t r)) (fun r => (args m c).D (row t r)) (args m c).Gp
    (mix_real m c hf t) (dh1_real m c hf t) (fun j => (blk6 m c t j).trans (hf.gpost.eq _)) r j

/-- A point's rows of the cotangent of what was multiplied. -/
theorem dc_point (t : Fin cfg0.N) (w : FVec Ideal S1024x1024 .bf16) (hw : ∀ i j, w (ix2 i j) = (args m c).wout (ix2 i j)) (r : Fin 512) (k : Fin 1024) :
    dc m c t w (ix2 r k) = (((args m c).dcat (row t r) k : ℝ) : EReal) :=
  dcat_block (dm m c t) w (fun r => (args m c).dmix (row t r)) (args m c).W (dm_point m c hf t) (fun i j => (hw i j).trans (hf.wout.eq _)) r k

/-- A point's rows of the cotangent of the product, as stored. -/
theorem out7 (t : Fin cfg0.N) (r : Fin 512) (j : Fin 1024) : (outsAt0 m c t.val t.isLt).1 (ix2 r j) = (args m c).dmixArr (ix2 (row t r) j) := by
  obtain ⟨w, p, o⟩ := outs m c t
  refine (o.o7 r j).trans ?_
  pointwise [k0_pay9]
  exact dm_point m c hf t r j

/-- A point's rows of the cotangent of the recurrence's outputs. -/
theorem out8 (t : Fin cfg0.N) (r j : Fin 512) : (outsAt0 m c t.val t.isLt).2.1 (ix2 r j) = (args m c).dohgArr (ix2 (row t r) j) := by
  obtain ⟨w, p, o⟩ := outs m c t
  exact (o.o8 r j).trans (dohg_block (dc m c t w) (fun r => (args m c).dcat (row t r)) (dc_point m c hf t w o.hw) (iblk m c 5 t) _ (norms_real m c hf t)
    (iblk m c 2 t) (iblk m c 3 t) (fun r => (args m c).A (row t r)) (fun r => (args m c).H (row t r)) (ohg_real m c hf t) (hg_real m c hf t) r j)

/-- A point's rows of the cotangent of the gate. -/
theorem out9 (t : Fin cfg0.N) (r j : Fin 512) : (outsAt0 m c t.val t.isLt).2.2.1 (ix2 r j) = (args m c).dhgArr (ix2 (row t r) j) := by
  obtain ⟨w, p, o⟩ := outs m c t
  exact (o.o9 r j).trans (dhg_block (dc m c t w) (fun r => (args m c).dcat (row t r)) (dc_point m c hf t w o.hw) (iblk m c 5 t) _ (norms_real m c hf t)
    (iblk m c 2 t) (iblk m c 3 t) (fun r => (args m c).A (row t r)) (fun r => (args m c).H (row t r)) (ohg_real m c hf t) (hg_real m c hf t) r j)

/-- A point's rows of the cotangent of the attention's outputs. -/
theorem out10 (t : Fin cfg0.N) (r j : Fin 512) : (outsAt0 m c t.val t.isLt).2.2.2.1 (ix2 r j) = (args m c).dosbArr (ix2 (row t r) j) := by
  obtain ⟨w, p, o⟩ := outs m c t
  exact (o.o10 r j).trans (dosb_block (dc m c t w) (fun r => (args m c).dcat (row t r)) (dc_point m c hf t w o.hw) (iblk m c 5 t) _ (norms_real m c hf t)
    (iblk m c 4 t) (fun r => (args m c).B (row t r)) (osb_real m c hf t) r j)

/-- The whole cotangent of the product. -/
theorem final7 : (dats m 0 c).arrAt 7 cfg0.N = (args m c).dmixArr := by
  refine (dats m 0 c).arrAt_eq_of_covers 7 _ (by decide +kernel) fun t _ y => ?_
  blk_simp
  rw [after0_7]
  idx_vars y
  rw [out7 m c hf]
  have e : ((View.whole main_v35_0).slice (win0_7.rect t)).emb (ix2 y0 y1) = ix2 (row t y0) y1 := by blk_ext [idx t, row]
  rw [e]

/-- The whole cotangent of the recurrence's outputs. -/
theorem final8 : (dats m 0 c).arrAt 8 cfg0.N = (args m c).dohgArr := by
  refine (dats m 0 c).arrAt_eq_of_covers 8 _ (by decide +kernel) fun t _ y => ?_
  blk_simp
  rw [after0_8]
  idx_vars y
  rw [out8 m c hf]
  have e : ((View.whole main_v35_1).slice (win0_8.rect t)).emb (ix2 y0 y1) = ix2 (row t y0) y1 := by blk_ext [idx t, row]
  rw [e]

/-- The whole cotangent of the gate. -/
theorem final9 : (dats m 0 c).arrAt 9 cfg0.N = (args m c).dhgArr := by
  refine (dats m 0 c).arrAt_eq_of_covers 9 _ (by decide +kernel) fun t _ y => ?_
  blk_simp
  rw [after0_9]
  idx_vars y
  rw [out9 m c hf]
  have e : ((View.whole main_v35_2).slice (win0_9.rect t)).emb (ix2 y0 y1) = ix2 (row t y0) y1 := by blk_ext [idx t, row]
  rw [e]

/-- The whole cotangent of the attention's outputs. -/
theorem final10 : (dats m 0 c).arrAt 10 cfg0.N = (args m c).dosbArr := by
  refine (dats m 0 c).arrAt_eq_of_covers 10 _ (by decide +kernel) fun t _ y => ?_
  blk_simp
  rw [after0_10]
  idx_vars y
  rw [out10 m c hf]
  have e : ((View.whole main_v35_3).slice (win0_10.rect t)).emb (ix2 y0 y1) = ix2 (row t y0) y1 := by blk_ext [idx t, row]
  rw [e]

end

/-- What a grid point adds to the eight rows: its rows' part of the gradients of the three norms' weights. -/
def packPart (t : Fin cfg0.N) (i : S8x1024.Idx) : EReal :=
  if (i 0).val = 2 then ((∑ r, (args m c).rowNorms (row t r) (i 1) : ℝ) : EReal)
  else if (i 0).val = 3 then ((∑ r, (args m c).rowPost (row t r) (i 1) : ℝ) : EReal) else 0

/-- A row's part in the recurrence's columns. -/
theorem rowNorms_lo (a : Args) (r : Fin 4096) (x : Fin 512) (k : Fin 1024) (h : k.val = x.val) : a.rowNorms r k = a.dh r x * a.act r x * a.nh r x := by
  have e : (⟨k.val, by omega⟩ : Fin 512) = x := Fin.ext h
  unfold Args.rowNorms
  rw [dif_pos (by omega), e]

/-- A row's part in the attention's columns. -/
theorem rowNorms_hi (a : Args) (r : Fin 4096) (x : Fin 512) (k : Fin 1024) (h : k.val = 512 + x.val) : a.rowNorms r k = a.ds r x * a.ns r x := by
  have e : (⟨k.val - 512, by omega⟩ : Fin 512) = x := Fin.ext (by show k.val - 512 = x.val; omega)
  unfold Args.rowNorms
  rw [dif_neg (by omega), e]

section
variable (hf : (args m c).Finite)
include hf

/-- The eight rows after a point are what it found and its part. -/
theorem pack_point (t : Fin cfg0.N) (w : FVec Ideal S1024x1024 .bf16) (p : Fin 8 → Fin 1024 → EReal) (o : Outs m c t w p) (r : Fin 8) (j : Fin 1024) :
    (outsAt0 m c t.val t.isLt).2.2.2.2.1 (ix2 r j) = p r j + packPart m c t (ix2 r j) := by
  rw [o.o11 r j]
  split_ifs with h1 h2 h3
  · obtain ⟨rfl, h1, h1'⟩ := h1
    have ej : (⟨512 + (j.val - 512), by omega⟩ : Fin 1024) = j := Fin.ext (by show 512 + (j.val - 512) = j.val; omega)
    refine (gs_block (dc m c t w) (fun r => (args m c).dcat (row t r)) (dc_point m c hf t w o.hw) (iblk m c 4 t) (fun r => (args m c).B (row t r)) (osb_real m c hf t) _ _).trans ?_
    refine congrArg₂ (· + ·) (congrArg (p 2) ej) ?_
    refine congrArg (fun x : ℝ => (x : EReal)) (Finset.sum_congr rfl fun x _ => ?_)
    exact (rowNorms_hi (args m c) (row t x) ⟨j.val - 512, by omega⟩ j (by show j.val = 512 + (j.val - 512); omega)).symm
  · obtain ⟨rfl, h2, h2'⟩ := h2
    refine (gh_block (dc m c t w) (fun r => (args m c).dcat (row t r)) (dc_point m c hf t w o.hw) (iblk m c 2 t) (iblk m c 3 t)
      (fun r => (args m c).A (row t r)) (fun r => (args m c).H (row t r)) (ohg_real m c hf t) (hg_real m c hf t) _ _).trans ?_
    refine congrArg₂ (· + ·) rfl ?_
    refine congrArg (fun x : ℝ => (x : EReal)) (Finset.sum_congr rfl fun x _ => ?_)
    exact (rowNorms_lo (args m c) (row t x) ⟨j.val, by omega⟩ j rfl).symm
  · subst h3
    exact post_block (iblk m c 1 t) (iblk m c 0 t) _ (fun r => (args m c).mix (row t r)) (fun r => (args m c).D (row t r)) (mix_real m c hf t) (dh1_real m c hf t) j
  · have n2 : ¬ r.val = 2 := fun e => by
      have e' : r = 2 := Fin.ext e
      have := j.isLt
      by_cases hj : 512 ≤ j.val
      · exact h1 ⟨e', hj, by omega⟩
      · exact h2 ⟨e', Nat.zero_le _, by omega⟩
    have n3 : ¬ r.val = 3 := fun e => h3 (Fin.ext e)
    exact ((congrArg (p r j + ·) ((if_neg n2).trans (if_neg n3))).trans (add_zero _)).symm

/-- The first point starts from zero. -/
theorem out11_A (t : Fin cfg0.N) (h : t.val % 8 = 0) (i : S8x1024.Idx) : (outsAt0 m c t.val t.isLt).2.2.2.2.1 i = 0 + packPart m c t i := by
  have hN : t.val < 8 := lt_of_lt_of_eq t.isLt (show cfg0.N = 8 from N_0)
  idx_vars i
  obtain ⟨w, o⟩ := out_A m c t (by omega)
  exact pack_point m c hf t w _ o i0 i1

/-- A later point adds to what the point before left. -/
theorem out11_B (t : Fin cfg0.N) (h : ¬ t.val % 8 = 0) (i : S8x1024.Idx) :
    (outsAt0 m c t.val t.isLt).2.2.2.2.1 i = (outsAt0 m c (t.val - 1) (by omega)).2.2.2.2.1 i + packPart m c t i := by
  idx_vars i
  obtain ⟨w, o⟩ := out_B m c t (fun e => h (by rw [e]))
  exact pack_point m c hf t w _ o i0 i1

omit hf in
/-- A sum over all rows, point by point. -/
theorem rows_sum (f : Fin 4096 → ℝ) : ∑ t : Fin cfg0.N, ((∑ r, f (row t r) : ℝ) : EReal) = ((∑ r, f r : ℝ) : EReal) := by
  rw [coe_sum, Fin.sum_univ_tiles 8 512 rfl]
  refine congrArg (fun x : ℝ => (x : EReal)) ?_
  refine Fintype.sum_equiv (finCongr N_0) _ _ fun t => Finset.sum_congr rfl fun r _ => congrArg f ?_
  exact Fin.ext (by show 512 * t.val + r.val = t.val * 512 + r.val; omega)

/-- The eight rows at the end. -/
theorem final11 : (dats m 0 c).arrAt 11 cfg0.N = (args m c).pack := by
  refine (dats m 0 c).arrAt_eq_of_after_last 11 t0_7 (by decide +kernel) _ fun j => ?_
  blk_simp
  rw [after0_11]
  idx_vars j
  refine (Pipeline.eq_sum_fin_of_reset_step_apply_last (fun n h => (outsAt0 m c n h).2.2.2.2.1) 8 (fun _ => 0) (packPart m c) (out11_A m c hf) (out11_B m c hf) (le_of_eq N_0)
    t0_7 rfl (ix2 j0 j1)).trans ?_
  rw [zero_add]
  by_cases h2 : j0.val = 2
  · have e : ∀ t, packPart m c t (ix2 j0 j1) = ((∑ r, (args m c).rowNorms (row t r) j1 : ℝ) : EReal) := fun t => if_pos h2
    simp only [e]
    exact (rows_sum fun r => (args m c).rowNorms r j1).trans (if_pos h2).symm
  · by_cases h3 : j0.val = 3
    · have e : ∀ t, packPart m c t (ix2 j0 j1) = ((∑ r, (args m c).rowPost (row t r) j1 : ℝ) : EReal) := fun t => (if_neg h2).trans (if_pos h3)
      simp only [e]
      exact (rows_sum fun r => (args m c).rowPost r j1).trans ((if_neg h2).trans (if_pos h3)).symm
    · have e : ∀ t, packPart m c t (ix2 j0 j1) = 0 := fun t => (if_neg h2).trans (if_neg h3)
      simp only [e, Finset.sum_const_zero]
      exact ((if_neg h2).trans (if_neg h3)).symm

end

end Cert.Mix
end
-- ==== Proof.MixRef.lean ====
/- What the reference of the output projection's backward call computes. -/
module

public import proofs.«01_k».proof.Proof.MixSpec
public import proofs.«01_k».proof.Proof.Gen.ReferenceMixIdeal.Run
public import proofs.«01_k».proof.Proof.Gen.ReferenceMixIdeal.Read
public import Idealize.ShloMosaic.Lib.Pointwise

@[expose] public section

set_option maxRecDepth 16384

noncomputable section

namespace Cert.Mix

open Idealize.ShloMosaic Cert.ReferenceMixIdeal Cert.ReferenceMixIdeal.Read Cert.Reals

variable (a : Args) (hf : a.Finite)
include hf

/-- The mean square of the recurrence's outputs, a little above. -/
theorem ref_meanSq_h (r : Fin 4096) (z : Fin 1) : val_main_v12 (F := Ideal) a.ohg (ix2 r z) = ((meanSq 512 (a.A r) : ℝ) : EReal) := by
  pointwise [val_main_v12, val_main_v11, val_main_v10, val_main_v9, val_main_v8, val_main_v7, val_main_v6, val_main_cst, val_main_cst_0, val_main_cst_1]
  simp only [hf.ohg.eq, ← EReal.coe_mul, coe_sum]
  rw [ofBits_512, ofBits_eps, div_real _ _ (by norm_num), ← EReal.coe_add]
  rfl

/-- Its reciprocal square root. -/
theorem ref_rstd_h (r : Fin 4096) (z : Fin 1) : val_main_v13 (F := Ideal) a.ohg (ix2 r z) = ((rstd 512 (a.A r) : ℝ) : EReal) := by
  pointwise [val_main_v13]
  rw [ref_meanSq_h a hf]
  exact rsqrt_real _ (meanSq_pos (by norm_num) _)

/-- The derivative of that reciprocal square root. -/
theorem ref_slope_h (r : Fin 4096) (z : Fin 1) : val_main_v16 (F := Ideal) a.ohg (ix2 r z) = ((-(1/2) * (rstd 512 (a.A r) / meanSq 512 (a.A r)) : ℝ) : EReal) := by
  pointwise [val_main_v16, val_main_v15, val_main_v14, val_main_cst_2]
  rw [ref_rstd_h a hf, ref_meanSq_h a hf, ofBits_neg_half, div_real _ _ (meanSq_pos (by norm_num) _).ne', ← EReal.coe_mul]

/-- The mean square of the attention's outputs, a little above. -/
theorem ref_meanSq_s (r : Fin 4096) (z : Fin 1) : val_main_v29 (F := Ideal) a.osb (ix2 r z) = ((meanSq 512 (a.B r) : ℝ) : EReal) := by
  pointwise [val_main_v29, val_main_v28, val_main_v27, val_main_v26, val_main_v25, val_main_v24, val_main_v23, val_main_cst_3, val_main_cst_4, val_main_cst_5]
  simp only [hf.osb.eq, ← EReal.coe_mul, coe_sum]
  rw [ofBits_512, ofBits_eps, div_real _ _ (by norm_num), ← EReal.coe_add]
  rfl

/-- Its reciprocal square root. -/
theorem ref_rstd_s (r : Fin 4096) (z : Fin 1) : val_main_v30 (F := Ideal) a.osb (ix2 r z) = ((rstd 512 (a.B r) : ℝ) : EReal) := by
  pointwise [val_main_v30]
  rw [ref_meanSq_s a hf]
  exact rsqrt_real _ (meanSq_pos (by norm_num) _)

/-- The derivative of that reciprocal square root. -/
theorem ref_slope_s (r : Fin 4096) (z : Fin 1) : val_main_v33 (F := Ideal) a.osb (ix2 r z) = ((-(1/2) * (rstd 512 (a.B r) / meanSq 512 (a.B r)) : ℝ) : EReal) := by
  pointwise [val_main_v33, val_main_v32, val_main_v31, val_main_cst_6]
  rw [ref_rstd_s a hf, ref_meanSq_s a hf, ofBits_neg_half, div_real _ _ (meanSq_pos (by norm_num) _).ne', ← EReal.coe_mul]

/-- The recurrence's outputs, normalised. -/
theorem ref_nh (r : Fin 4096) (j : Fin 512) : val_main_v18 (F := Ideal) a.ohg (ix2 r j) = ((a.nh r j : ℝ) : EReal) := by
  pointwise [val_main_v18, val_main_v17]
  rw [ref_rstd_h a hf, hf.ohg.eq, ← EReal.coe_mul]
  rfl

/-- The attention's outputs, normalised. -/
theorem ref_ns (r : Fin 4096) (j : Fin 512) : val_main_v35 (F := Ideal) a.osb (ix2 r j) = ((a.ns r j : ℝ) : EReal) := by
  pointwise [val_main_v35, val_main_v34]
  rw [ref_rstd_s a hf, hf.osb.eq, ← EReal.coe_mul]
  rfl

/-- The same times its weight. -/
theorem ref_nhg (r : Fin 4096) (j : Fin 512) : val_main_v20 (F := Ideal) a.ohg a.norms (ix2 r j) = ((a.nh r j * a.Gh j : ℝ) : EReal) := by
  pointwise [val_main_v20, val_main_v19, val_main_v4]
  rw [ref_nh a hf, hf.norms.eq, ← EReal.coe_mul]
  rfl

/-- The gate's sigmoid. -/
theorem ref_sig (r : Fin 4096) (j : Fin 512) : val_main_v21_2 (F := Ideal) a.proj (ix2 r j) = ((sigm (a.H r j) : ℝ) : EReal) := by
  pointwise [val_main_v21_2, val_main_call0_v4, val_main_call0_v3, val_main_call0_v2, val_main_call0_v1, val_main_call0_v0, val_main_call0_cst, val_main_call0_cst_0, val_main_v3]
  rw [hf.proj.eq]
  exact sigm_real _

/-- The gate's activation. -/
theorem ref_act (r : Fin 4096) (j : Fin 512) : val_main_v21_0 (F := Ideal) a.proj (ix2 r j) = ((a.act r j : ℝ) : EReal) := by
  pointwise [val_main_v21_0, val_main_v3]
  rw [ref_sig a hf, hf.proj.eq, ← EReal.coe_mul]
  rfl

/-- The gated recurrence and the attention side by side. -/
theorem ref_cat (r : Fin 4096) (j : Fin 1024) : val_main_v38 (F := Ideal) a.ohg a.proj a.osb a.norms (ix2 r j) = ((a.cat r j : ℝ) : EReal) := by
  pointwise [val_main_v38]
  unfold Args.cat
  by_cases h : j.val < 512
  · rw [dif_pos h, dif_pos h]
    pointwise [val_main_v22]
    rw [ref_nhg a hf, ref_act a hf, ← EReal.coe_mul]
  · rw [dif_neg h, dif_neg h]
    pointwise [val_main_v37, val_main_v36, val_main_v5]
    rw [ref_ns a hf, hf.norms.eq, ← EReal.coe_mul]
    rfl

/-- The product before its norm. -/
theorem ref_mix (r : Fin 4096) (j : Fin 1024) : val_main_v39 (F := Ideal) a.ohg a.proj a.osb a.norms a.wout (ix2 r j) = ((a.mix r j : ℝ) : EReal) := by
  refine Eq.trans (b := ∑ k, val_main_v38 (F := Ideal) a.ohg a.proj a.osb a.norms (ix2 r k) * a.wout (ix2 k j)) ?_ ?_
  · pointwise [val_main_v39]
  simp only [ref_cat a hf, hf.wout.eq, ← EReal.coe_mul, coe_sum]
  rfl

/-- The mean square of the product, a little above. -/
theorem ref_meanSq_m (r : Fin 4096) (z : Fin 1) : val_main_v46 (F := Ideal) a.ohg a.proj a.osb a.norms a.wout (ix2 r z) = ((meanSq 1024 (a.mix r) : ℝ) : EReal) := by
  pointwise [val_main_v46, val_main_v45, val_main_v44, val_main_v43, val_main_v42, val_main_v41, val_main_v40, val_main_cst_7, val_main_cst_8, val_main_cst_9]
  simp only [ref_mix a hf, ← EReal.coe_mul, coe_sum]
  rw [ofBits_1024, ofBits_eps, div_real _ _ (by norm_num), ← EReal.coe_add]
  rfl

/-- Its reciprocal square root. -/
theorem ref_rstd_m (r : Fin 4096) (z : Fin 1) : val_main_v47 (F := Ideal) a.ohg a.proj a.osb a.norms a.wout (ix2 r z) = ((rstd 1024 (a.mix r) : ℝ) : EReal) := by
  pointwise [val_main_v47]
  rw [ref_meanSq_m a hf]
  exact rsqrt_real _ (meanSq_pos (by norm_num) _)

/-- The derivative of that reciprocal square root. -/
theorem ref_slope_m (r : Fin 4096) (z : Fin 1) : val_main_v50 (F := Ideal) a.ohg a.proj a.osb a.norms a.wout (ix2 r z) = ((-(1/2) * (rstd 1024 (a.mix r) / meanSq 1024 (a.mix r)) : ℝ) : EReal) := by
  pointwise [val_main_v50, val_main_v49, val_main_v48, val_main_cst_10]
  rw [ref_rstd_m a hf, ref_meanSq_m a hf, ofBits_neg_half, div_real _ _ (meanSq_pos (by norm_num) _).ne', ← EReal.coe_mul]

/-- The cotangent times the weight of the norm after the product. -/
theorem ref_dg (r : Fin 4096) (j : Fin 1024) : val_main_v59 (F := Ideal) a.dh1 a.gpost (ix2 r j) = ((a.D r j * a.Gp j : ℝ) : EReal) := by
  pointwise [val_main_v59, val_main_v58]
  rw [hf.dh1.eq, hf.gpost.eq, ← EReal.coe_mul]
  rfl

/-- What reaches the product through the reciprocal square root. -/
theorem ref_through_m (r : Fin 4096) (j : Fin 1024) : val_main_v69 (F := Ideal) a.dh1 a.ohg a.proj a.osb a.norms a.gpost a.wout (ix2 r j) = (((∑ k, a.mix r k * (a.D r k * a.Gp k)) * (-(1/2) * (rstd 1024 (a.mix r) / meanSq 1024 (a.mix r))) / 1024 : ℝ) : EReal) := by
  pointwise [val_main_v69, val_main_v68, val_main_v67, val_main_v66, val_main_v65, val_main_v62, val_main_v61, val_main_v60, val_main_cst_12, val_main_cst_13, val_main_cst_14]
  simp only [ref_dg a hf, ref_slope_m a hf, ref_mix a hf, ← EReal.coe_mul, coe_sum]
  rw [ofBits_1024, div_real _ _ (by norm_num)]
  exact Fin.sum_univ_one _

/-- The cotangent of the product. -/
theorem ref_dmix (r : Fin 4096) (j : Fin 1024) : val_main_v73 (F := Ideal) a.dh1 a.ohg a.proj a.osb a.norms a.gpost a.wout (ix2 r j) = ((a.dmix r j : ℝ) : EReal) := by
  pointwise [val_main_v73, val_main_v72, val_main_v71, val_main_v70, val_main_v64, val_main_v63]
  simp only [ref_through_m a hf, ref_dg a hf, ref_rstd_m a hf, ref_mix a hf, ← EReal.coe_mul, ← EReal.coe_add]
  exact congrArg (fun y : ℝ => (y : EReal)) (rmsGrad_chain (by norm_num) (a.mix r) (fun k => a.D r k * a.Gp k) j)

/-- The cotangent of what was multiplied. -/
theorem ref_dcat (r : Fin 4096) (j : Fin 1024) : val_main_v74 (F := Ideal) a.dh1 a.ohg a.proj a.osb a.norms a.gpost a.wout (ix2 r j) = ((a.dcat r j : ℝ) : EReal) := by
  pointwise [val_main_v74]
  simp only [ref_dmix a hf, hf.wout.eq, ← EReal.coe_mul, coe_sum]
  rfl

/-- Its columns of the recurrence. -/
theorem ref_dh (r : Fin 4096) (j : Fin 512) : val_main_v75 (F := Ideal) a.dh1 a.ohg a.proj a.osb a.norms a.gpost a.wout (ix2 r j) = ((a.dh r j : ℝ) : EReal) := by
  pointwise [val_main_v75]
  exact ref_dcat a hf r _

/-- Its columns of the attention. -/
theorem ref_ds (r : Fin 4096) (j : Fin 512) : val_main_v76 (F := Ideal) a.dh1 a.ohg a.proj a.osb a.norms a.gpost a.wout (ix2 r j) = ((a.ds r j : ℝ) : EReal) := by
  pointwise [val_main_v76]
  exact ref_dcat a hf r _

/-- The same times the weight of the attention's norm. -/
theorem ref_dsg (r : Fin 4096) (j : Fin 512) : val_main_v81 (F := Ideal) a.dh1 a.ohg a.proj a.osb a.norms a.gpost a.wout (ix2 r j) = ((a.ds r j * a.Gs j : ℝ) : EReal) := by
  pointwise [val_main_v81, val_main_v80, val_main_v5]
  rw [ref_ds a hf, hf.norms.eq, ← EReal.coe_mul]
  rfl

/-- What reaches the attention's outputs through the reciprocal square root. -/
theorem ref_through_s (r : Fin 4096) (j : Fin 512) : val_main_v91 (F := Ideal) a.dh1 a.ohg a.proj a.osb a.norms a.gpost a.wout (ix2 r j) = (((∑ k, a.B r k * (a.ds r k * a.Gs k)) * (-(1/2) * (rstd 512 (a.B r) / meanSq 512 (a.B r))) / 512 : ℝ) : EReal) := by
  pointwise [val_main_v91, val_main_v90, val_main_v89, val_main_v88, val_main_v87, val_main_v84, val_main_v83, val_main_v82, val_main_cst_16, val_main_cst_17, val_main_cst_18]
  simp only [ref_dsg a hf, ref_slope_s a hf, hf.osb.eq, ← EReal.coe_mul, coe_sum]
  rw [ofBits_512, div_real _ _ (by norm_num)]
  exact Fin.sum_univ_one _

/-- The cotangent of the recurrence's normalised and weighted outputs. -/
theorem ref_dha (r : Fin 4096) (j : Fin 512) : val_main_v97 (F := Ideal) a.dh1 a.ohg a.proj a.osb a.norms a.gpost a.wout (ix2 r j) = ((a.dh r j * a.act r j : ℝ) : EReal) := by
  pointwise [val_main_v97]
  rw [ref_dh a hf, ref_act a hf, ← EReal.coe_mul]

/-- The same times the weight of the recurrence's norm. -/
theorem ref_dhag (r : Fin 4096) (j : Fin 512) : val_main_v103 (F := Ideal) a.dh1 a.ohg a.proj a.osb a.norms a.gpost a.wout (ix2 r j) = ((a.dh r j * a.act r j * a.Gh j : ℝ) : EReal) := by
  pointwise [val_main_v103, val_main_v102, val_main_v4]
  rw [ref_dha a hf, hf.norms.eq, ← EReal.coe_mul]
  rfl

/-- What reaches the recurrence's outputs through the reciprocal square root. -/
theorem ref_through_h (r : Fin 4096) (j : Fin 512) : val_main_v113 (F := Ideal) a.dh1 a.ohg a.proj a.osb a.norms a.gpost a.wout (ix2 r j) = (((∑ k, a.A r k * (a.dh r k * a.act r k * a.Gh k)) * (-(1/2) * (rstd 512 (a.A r) / meanSq 512 (a.A r))) / 512 : ℝ) : EReal) := by
  pointwise [val_main_v113, val_main_v112, val_main_v111, val_main_v110, val_main_v109, val_main_v106, val_main_v105, val_main_v104, val_main_cst_20, val_main_cst_21, val_main_cst_22]
  simp only [ref_dhag a hf, ref_slope_h a hf, hf.ohg.eq, ← EReal.coe_mul, coe_sum]
  rw [ofBits_512, div_real _ _ (by norm_num)]
  exact Fin.sum_univ_one _

/-- The cotangent of the product, as an array. -/
theorem ref_dmix_all : val_main_v122 (F := Ideal) a.dh1 a.ohg a.proj a.osb a.norms a.gpost a.wout = a.dmixArr := by
  funext i
  idx_vars i
  pointwise [val_main_v122]
  exact ref_dmix a hf i0 i1

/-- The cotangent of the recurrence's outputs, as an array. -/
theorem ref_dohg_all : val_main_v117 (F := Ideal) a.dh1 a.ohg a.proj a.osb a.norms a.gpost a.wout = a.dohgArr := by
  funext i
  idx_vars i
  pointwise [val_main_v117, val_main_v116, val_main_v115, val_main_v114, val_main_v108, val_main_v107]
  simp only [ref_through_h a hf, ref_dhag a hf, ref_rstd_h a hf, hf.ohg.eq, ← EReal.coe_mul, ← EReal.coe_add]
  exact congrArg (fun y : ℝ => (y : EReal)) (rmsGrad_chain (by norm_num) (a.A i0) (fun k => a.dh i0 k * a.act i0 k * a.Gh k) i1)

/-- The cotangent of the attention's outputs, as an array. -/
theorem ref_dosb_all : val_main_v95 (F := Ideal) a.dh1 a.ohg a.proj a.osb a.norms a.gpost a.wout = a.dosbArr := by
  funext i
  idx_vars i
  pointwise [val_main_v95, val_main_v94, val_main_v93, val_main_v92, val_main_v86, val_main_v85]
  simp only [ref_through_s a hf, ref_dsg a hf, ref_rstd_s a hf, hf.osb.eq, ← EReal.coe_mul, ← EReal.coe_add]
  exact congrArg (fun y : ℝ => (y : EReal)) (rmsGrad_chain (by norm_num) (a.B i0) (fun k => a.ds i0 k * a.Gs k) i1)

/-- The cotangent of the gate, as an array. -/
theorem ref_dhg_all : val_main_v98 (F := Ideal) a.dh1 a.ohg a.proj a.osb a.norms a.gpost a.wout = a.dhgArr := by
  funext i
  idx_vars i
  pointwise [val_main_v98, val_main_call1_v0, val_main_call1_v1, val_main_call1_v2, val_main_v96, val_main_v21_1, val_main_call0_v7, val_main_call0_v6, val_main_call0_cst_1, val_main_v3]
  rw [ref_nhg a hf, ref_dh a hf, ref_sig a hf, hf.proj.eq]
  simp only [← EReal.coe_one, ← EReal.coe_mul, ← EReal.coe_sub, ← EReal.coe_add]
  refine congrArg (fun y : ℝ => (y : EReal)) ?_
  show _ = a.dhg i0 i1
  unfold Args.dhg Args.H
  ring

/-- The gradient of the two weights before the product. -/
theorem ref_dnorms (z : Fin 1) (j : Fin 1024) : val_main_v118 (F := Ideal) a.dh1 a.ohg a.proj a.osb a.norms a.gpost a.wout (ix2 z j) = ((∑ r, a.rowNorms r j : ℝ) : EReal) := by
  pointwise [val_main_v118]
  by_cases h : j.val < 512
  · rw [dif_pos h]
    pointwise [val_main_v101, val_main_v100, val_main_v99, val_main_cst_19]
    simp only [ref_nh a hf, ref_dha a hf, ← EReal.coe_mul, coe_sum]
    refine congrArg (fun y : ℝ => (y : EReal)) (Finset.sum_congr rfl fun k _ => ?_)
    unfold Args.rowNorms
    rw [dif_pos h]
    exact mul_comm _ _
  · rw [dif_neg h]
    pointwise [val_main_v79, val_main_v78, val_main_v77, val_main_cst_15]
    simp only [ref_ns a hf, ref_ds a hf, ← EReal.coe_mul, coe_sum]
    refine congrArg (fun y : ℝ => (y : EReal)) (Finset.sum_congr rfl fun k _ => ?_)
    unfold Args.rowNorms
    rw [dif_neg h]
    exact mul_comm _ _

/-- The gradient of the weight of the norm after the product. -/
theorem ref_dpost (z : Fin 1) (j : Fin 1024) : val_main_v57 (F := Ideal) a.dh1 a.ohg a.proj a.osb a.norms a.wout (ix2 z j) = ((∑ r, a.rowPost r j : ℝ) : EReal) := by
  pointwise [val_main_v57, val_main_v56, val_main_v55, val_main_v52, val_main_v51, val_main_cst_11]
  simp only [ref_mix a hf, ref_rstd_m a hf, hf.dh1.eq, ← EReal.coe_mul, coe_sum]
  exact congrArg (fun y : ℝ => (y : EReal)) (Finset.sum_congr rfl fun k _ => mul_comm _ _)

/-- The eight rows. -/
theorem ref_pack_all : val_main_v121 (F := Ideal) a.dh1 a.ohg a.proj a.osb a.norms a.gpost a.wout = a.pack := by
  funext i
  idx_vars i
  pointwise [val_main_v121, val_main_v120, val_main_v119, val_main_cst_23, val_main_cst_24]
  by_cases h0 : i0.val < 2
  · rw [dif_pos h0]
    exact ((if_neg (by show ¬ i0.val = 2; omega)).trans (if_neg (by show ¬ i0.val = 3; omega))).symm
  rw [dif_neg h0]
  by_cases h1 : i0.val - 2 < 1
  · rw [dif_pos h1, ref_dnorms a hf]
    exact (if_pos (by show i0.val = 2; omega)).symm
  rw [dif_neg h1]
  by_cases h2 : i0.val - 2 - 1 < 1
  · rw [dif_pos h2, ref_dpost a hf]
    exact ((if_neg (by show ¬ i0.val = 2; omega)).trans (if_pos (by show i0.val = 3; omega))).symm
  rw [dif_neg h2]
  exact ((if_neg (by show ¬ i0.val = 2; omega)).trans (if_neg (by show ¬ i0.val = 3; omega))).symm

end Cert.Mix
end
-- ==== Proof.MixClaim.lean ====
/- The claim on the backward call of the output projection: kernel and reference end with equal results. -/
module

public import proofs.«01_k».proof.Defs
public import proofs.«01_k».proof.Proof.MixFinal
public import proofs.«01_k».proof.Proof.MixRef
public import proofs.«01_k».proof.Proof.MixFloatRun
public import proofs.«01_k».proof.Proof.Gen.ReferenceMixIdeal.Run
public import proofs.«01_k».proof.Proof.Gen.ReferenceMixIdeal.Read
public import proofs.«01_k».proof.Proof.Gen.Pre_finite_mix

@[expose] public section

set_option maxRecDepth 16384

noncomputable section

namespace Cert.Mix

open Idealize.ShloMosaic Idealize.SL.Sem Cert.Reals

/-- The precondition says that every argument holds numbers only. -/
theorem finite_of_pre {m : (ℓ : Loc Cert.KernelMixIdeal.nD Cert.KernelMixIdeal.τ Cert.KernelMixIdeal.sig) → Buf (Elt Ideal) ℓ}
    (hpre : Cert.Pre_KernelMixIdeal_finite_mix m) (c : Dev Cert.KernelMixIdeal.nD) : (args m c).Finite := by
  obtain ⟨h0, h1, h2, h3, h4, h5, h6⟩ := hpre c
  exact ⟨isReal_of_pre _ _ h0, isReal_of_pre _ _ h1, isReal_of_pre _ _ h2, isReal_of_pre _ _ h3, isReal_of_pre _ _ h4, isReal_of_pre _ _ h5, isReal_of_pre _ _ h6⟩

open Cert.ReferenceMixIdeal Cert.ReferenceMixIdeal.Read in
/-- The arguments the reference finds in memory. -/
def refArgs (m' : (ℓ : Loc Cert.ReferenceMixIdeal.nD Cert.ReferenceMixIdeal.τ Cert.ReferenceMixIdeal.sig) → Buf (Elt Ideal) ℓ) (c : Dev Cert.ReferenceMixIdeal.nD) : Args where
  dh1 := m' ((c.tc : Thread nD τ).loc main_arg0)
  ohg := m' ((c.tc : Thread nD τ).loc main_arg1)
  proj := m' ((c.tc : Thread nD τ).loc main_arg2)
  osb := m' ((c.tc : Thread nD τ).loc main_arg3)
  norms := m' ((c.tc : Thread nD τ).loc main_arg4)
  gpost := m' ((c.tc : Thread nD τ).loc main_arg5)
  wout := m' ((c.tc : Thread nD τ).loc main_arg6)

/-- Under the precondition the backward kernel and the derivative of the forward lines end with the same five arrays. -/
theorem algebraic : Cert.algebraic_KernelMixIdeal_ReferenceMixIdeal_pre_finite_mix := by
  pair_intro
  · run_from Cert.KernelMixIdeal.Gen.run_blocks m g
  · have e : ∀ c, refArgs m' c = args m c := by
      intro c
      obtain ⟨h0, h1, h2, h3, h4, h5, h6⟩ := hagree c
      unfold refArgs args arr
      rw [h0, h1, h2, h3, h4, h5, h6]
    have hf : ∀ c, (refArgs m' c).Finite := fun c => (e c).symm ▸ finite_of_pre hpre c
    clear hagree
    run_from Cert.ReferenceMixIdeal.Value.run m' g'
    · rw [final7 m c (finite_of_pre hpre c), ← e c]
      exact (Cert.ReferenceMixIdeal.Read.val_main_v122_eq (fun b => m' (c, b))).trans (ref_dmix_all (refArgs m' c) (hf c))
    · rw [final8 m c (finite_of_pre hpre c), ← e c]
      exact (Cert.ReferenceMixIdeal.Read.val_main_v117_eq (fun b => m' (c, b))).trans (ref_dohg_all (refArgs m' c) (hf c))
    · rw [final9 m c (finite_of_pre hpre c), ← e c]
      exact (Cert.ReferenceMixIdeal.Read.val_main_v98_eq (fun b => m' (c, b))).trans (ref_dhg_all (refArgs m' c) (hf c))
    · rw [final10 m c (finite_of_pre hpre c), ← e c]
      exact (Cert.ReferenceMixIdeal.Read.val_main_v95_eq (fun b => m' (c, b))).trans (ref_dosb_all (refArgs m' c) (hf c))
    · rw [final11 m c (finite_of_pre hpre c), ← e c]
      exact (Cert.ReferenceMixIdeal.Read.val_main_v121_eq (fun b => m' (c, b))).trans (ref_pack_all (refArgs m' c) (hf c))

/-- The reference runs, keeps its arguments and leaves every counter at zero. -/
theorem frame_reference : Cert.quiescent_ReferenceMixIdeal := fun m ρ _ =>
  (θ_run Cert.ReferenceMixIdeal.defs _ _).mono
    (fun r h => ⟨fun c => (h c).2.2.2.2.2, Idealize.ShloMosaic.sem_eq_zero_of_no_sems (by decide) r.2⟩)
    (Cert.ReferenceMixIdeal.Value.run (F := Ideal) m ρ)

/-- The kernel before idealisation runs, keeps its arguments and leaves every counter at zero. -/
theorem frame : Cert.quiescent_KernelMix := fun m ρ _ => Cert.KernelMix.Gen.frame m ρ

end Cert.Mix

end
-- ==== Proof.Fwd.lean ====
/- The root mean square norm and the gate of the forward calls, whatever numbers they meet. -/
module

public import proofs.«01_k».proof.Proof.Reals

@[expose] public section

noncomputable section

namespace Cert.Fwd

open Idealize.ShloMosaic

/-- The reciprocal of a row's root mean square, a little above; `n` is the row's length. -/
def rs {d : ℕ} (n : EReal) (f : Fin d → EReal) : EReal := Ideal.rsqrt (Ideal.div (∑ k, f k * f k) n + Ideal.ofBits .f32 0x358637BD#32)

/-- The sigmoid. -/
def sigm (x : EReal) : EReal := Ideal.div 1 (1 + Ideal.exp (-x))

/-- The length of a row of 1024 numbers. -/
abbrev n1024 : EReal := Ideal.ofBits .f32 0x44800000#32

/-- The length of a row of 512 numbers. -/
abbrev n512 : EReal := Ideal.ofBits .f32 0x44000000#32

end Cert.Fwd

end
-- ==== Proof.InFwdSpec.lean ====
/- What the input projection computes, as formulas of its arguments. -/
module

public import proofs.«01_k».proof.Proof.Fwd

@[expose] public section

noncomputable section

namespace Cert.InFwd

open Idealize.ShloMosaic Cert.Fwd

/-- The arguments, as memory holds them. -/
structure Args where
  /-- the rows -/
  x : FVec Ideal ⟨2, ![4096, 1024]⟩ .f32
  /-- the weight of their norm -/
  g : FVec Ideal ⟨2, ![1, 1024]⟩ .f32
  /-- the projection -/
  w : FVec Ideal ⟨2, ![1024, 3584]⟩ .f32

namespace Args

variable (a : Args)

/-- The rows, normalised and weighted. -/
def u (r : Fin 4096) (j : Fin 1024) : EReal := a.x (ix2 r j) * rs n1024 (fun k => a.x (ix2 r k)) * a.g (ix2 0 j)

/-- Their projection. -/
def proj (r : Fin 4096) (j : Fin 3584) : EReal := ∑ k, a.u r k * a.w (ix2 k j)

/-- The recurrence's part of the projection. -/
def ph : FVec Ideal ⟨2, ![4096, 2048]⟩ .f32 := fun i => a.proj (i 0) ⟨(i 1).val, by have h : (i 1).val < 2048 := (i 1).isLt; omega⟩

/-- The attention's part, its queries scaled. -/
def sqkv : FVec Ideal ⟨2, ![4096, 1536]⟩ .bf16 := fun i =>
  if (i 1).val < 512 then a.proj (i 0) ⟨2048 + (i 1).val, by have h : (i 1).val < 1536 := (i 1).isLt; omega⟩ * Ideal.ofBits .f32 0x3E000000#32
  else a.proj (i 0) ⟨2048 + (i 1).val, by have h : (i 1).val < 1536 := (i 1).isLt; omega⟩

/-- The normalised rows, in bfloat16. -/
def ub : FVec Ideal ⟨2, ![4096, 1024]⟩ .bf16 := fun i => a.u (i 0) (i 1)

end Args

end Cert.InFwd

end
-- ==== Proof.InFwdPay.lean ====
/- What the payloads of the input projection compute at an index, from blocks that hold rows `φ r` of the arguments. -/
module

public import Idealize.ShloMosaic.Lib.Ring
public import proofs.«01_k».proof.Proof.InFwdSpec
public import proofs.«01_k».proof.Proof.Gen.KernelInFwdIdeal.Skeleton

@[expose] public section

set_option maxRecDepth 16384

noncomputable section

namespace Cert.InFwd

open Idealize.ShloMosaic Cert.KernelInFwdIdeal Cert.KernelInFwdIdeal.Gen Cert.Reals Cert.Fwd

variable (a : Args) (φ : Fin 512 → Fin 4096) (x : FVec Ideal S512x1024 .f32) (g : FVec Ideal S1x1024 .f32)

/-- The rows, normalised and weighted. -/
theorem u_block (hx : ∀ r j, x (ix2 r j) = a.x (ix2 (φ r) j)) (hg : ∀ j, g (ix2 0 j) = a.g (ix2 0 j)) (r : Fin 512) (j : Fin 1024) :
    k0_pay5 (F := Ideal) x g (ix2 r j) = a.u (φ r) j := by
  pointwise [k0_pay5]
  simp only [hx, hg]
  rfl

/-- Column `x` of column block `q`. -/
def col (q : Fin 4) (x : Fin 896) : Fin 3584 := ⟨q.val * 896 + x.val, by omega⟩

/-- One column block of the product. -/
theorem p_piece (u : FVec Ideal S512x1024 .bf16) (hu : ∀ r k, u (ix2 r k) = a.u (φ r) k) (q : Fin 4)
    (w : FVec Ideal S1x1024x896 .bf16) (hw : ∀ (k : Fin 1024) (x : Fin 896), w (ix3 0 k x) = a.w (ix2 k (col q x)))
    (x0 : Fin 512) (x1 : Fin 896) (r : Fin 512) (j : Fin 3584) (h0 : r.val = x0.val) (h1 : j.val = q.val * 896 + x1.val) :
    ∑ k, u (ix2 x0 k) * w (ix3 0 k x1) = a.proj (φ r) j := by
  obtain rfl : r = x0 := Fin.ext h0
  have e1 : col q x1 = j := Fin.ext h1.symm
  simp only [hu, hw, e1]
  rfl

/-- The four stores that fill the projection's scratch memory. -/
def ppcs (w0 w1 w2 w3 : FVec Ideal S1x1024x896 .bf16) : List (View.Piece (Elt Ideal) S512x3584 .f32) :=
  [⟨Rect.unit ![0, 2688] ![512, 896] inb_S512x3584_S512x896_0_2688, k0_pay2 (F := Ideal) (k0_pay5 x g) w3⟩,
    ⟨Rect.unit ![0, 1792] ![512, 896] inb_S512x3584_S512x896_0_1792, k0_pay1 (F := Ideal) (k0_pay5 x g) w2⟩,
    ⟨Rect.unit ![0, 896] ![512, 896] inb_S512x3584_S512x896_0_896, k0_pay7 (F := Ideal) x g w1⟩,
    ⟨Rect.unit ![0, 0] ![512, 896] inb_S512x3584_S512x896_0_0, k0_pay6 (F := Ideal) x g w0⟩]

variable (hx : ∀ r j, x (ix2 r j) = a.x (ix2 (φ r) j)) (hg : ∀ j, g (ix2 0 j) = a.g (ix2 0 j)) (w0 w1 w2 w3 : FVec Ideal S1x1024x896 .bf16)
  (hw0 : ∀ (k : Fin 1024) (x : Fin 896), w0 (ix3 0 k x) = a.w (ix2 k (col 0 x))) (hw1 : ∀ (k : Fin 1024) (x : Fin 896), w1 (ix3 0 k x) = a.w (ix2 k (col 1 x)))
  (hw2 : ∀ (k : Fin 1024) (x : Fin 896), w2 (ix3 0 k x) = a.w (ix2 k (col 2 x))) (hw3 : ∀ (k : Fin 1024) (x : Fin 896), w3 (ix3 0 k x) = a.w (ix2 k (col 3 x)))
include hx hg hw0 hw1 hw2 hw3

/-- What they fill it with. -/
theorem ppcs_canon (r : Fin 512) (j : Fin 3584) : View.canon (ppcs x g w0 w1 w2 w3) (ix2 r j) = a.proj (φ r) j := by
  have hu := u_block a φ x g hx hg
  unfold ppcs
  canon_tiles x h
  · idx_vars x
    pointwise [k0_pay2]
    exact p_piece a φ _ hu 3 w3 hw3 x0 x1 r j h0 h1
  · idx_vars x
    pointwise [k0_pay1]
    exact p_piece a φ _ hu 2 w2 hw2 x0 x1 r j h0 h1
  · idx_vars x
    pointwise [k0_pay7]
    exact p_piece a φ _ hu 1 w1 hw1 x0 x1 r j h0 (h1.trans (by show 896 + x1.val = 1 * 896 + x1.val; omega))
  · idx_vars x
    pointwise [k0_pay6]
    exact p_piece a φ _ hu 0 w0 hw0 x0 x1 r j h0 (h1.trans (by show x1.val = 0 * 896 + x1.val; omega))

/-- A run of columns of it, read back. -/
theorem ppcs_load (v : View sig .tc .vmem S512x3584 .f32) (o n : ℕ) (inb : ∀ a, (![0, o] : Fin 2 → ℕ) a + (![512, n] : Fin 2 → ℕ) a ≤ S512x3584.size a)
    (r : Fin 512) (i : Fin n) (j : Fin 3584) (hj : j.val = o + i.val) :
    v.readCov (ppcs x g w0 w1 w2 w3) (Rect.unit (s := S512x3584) ![0, o] ![512, n] inb).toLoadRect (ix2 r i) = a.proj (φ r) j := by
  have e : (Rect.unit (s := S512x3584) ![0, o] ![512, n] inb).toLoadRect.idx (ix2 r i) = ix2 r j := by
    funext a
    fin_cases a
    · exact Fin.ext (by show 0 + 1 * r.val = r.val; omega)
    · exact Fin.ext (by show o + 1 * i.val = j.val; omega)
  rw [View.readCov_eq_canon']
  exact (congrArg (View.canon (ppcs x g w0 w1 w2 w3)) e).trans (ppcs_canon a φ x g hx hg w0 w1 w2 w3 hw0 hw1 hw2 hw3 r j)

omit hx hg hw0 hw1 hw2 hw3

/-- The two stores that fill the attention's part. -/
def spcs (q : FVec Ideal S512x512 .f32) (kv : FVec Ideal S512x1024 .f32) : List (View.Piece (Elt Ideal) S512x1536 .bf16) :=
  [⟨Rect.unit ![0, 512] ![512, 1024] inb_S512x1536_S512x1024_0_512, k0_pay4 (F := Ideal) kv⟩,
    ⟨Rect.unit ![0, 0] ![512, 512] inb_S512x1536_S512x512_0_0, k0_pay3 (F := Ideal) q⟩]

/-- What they fill it with. -/
theorem spcs_canon (q : FVec Ideal S512x512 .f32) (kv : FVec Ideal S512x1024 .f32) (hq : ∀ r (j : Fin 512), q (ix2 r j) = a.proj (φ r) ⟨2048 + j.val, by omega⟩)
    (hkv : ∀ r (j : Fin 1024), kv (ix2 r j) = a.proj (φ r) ⟨2560 + j.val, by omega⟩) (r : Fin 512) (j : Fin 1536) : View.canon (spcs q kv) (ix2 r j) = a.sqkv (ix2 (φ r) j) := by
  unfold spcs
  canon_tiles x h using View.cover_of_tiledBy _ ![512, 512] (by sl_kernel_rfl) _
  · idx_vars x
    obtain rfl : r = x0 := Fin.ext h0
    have h1' : j.val = 512 + x1.val := h1
    pointwise [k0_pay4]
    rw [hkv]
    refine Eq.trans ?_ (if_neg (show ¬ j.val < 512 by omega)).symm
    exact congrArg (a.proj (φ r)) (Fin.ext (by show 2560 + x1.val = 2048 + j.val; omega))
  · idx_vars x
    obtain rfl : r = x0 := Fin.ext h0
    have h1' : j.val = x1.val := h1
    pointwise [k0_pay3]
    rw [hq]
    refine Eq.trans ?_ (if_pos (show j.val < 512 by omega)).symm
    exact congrArg (a.proj (φ r) · * Ideal.ofBits .f32 0x3E000000#32) (Fin.ext (by show 2048 + x1.val = 2048 + j.val; omega))

end Cert.InFwd
end
-- ==== Proof.InFwdKernel.lean ====
/- The blocks, the weight and the scratch of the input projection, as formulas of its arguments. -/
module

public import proofs.«01_k».proof.Proof.InFwdPay
public import proofs.«01_k».proof.Proof.Gen.KernelInFwdIdeal.Value

@[expose] public section

set_option maxRecDepth 16384

noncomputable section

namespace Cert.InFwd

open Idealize.ShloMosaic Idealize.ShloMosaic.TcCoe Idealize.SL.Sem Cert.KernelInFwdIdeal Cert.KernelInFwdIdeal.Gen Cert.Reals Cert.Fwd

variable (m : (ℓ : Loc nD τ sig) → Buf (Elt Ideal) ℓ) (c : Dev nD)

/-- Row `r` of the block of 512 rows that grid point `t` works on. -/
def row (t : Fin cfg0.N) (r : Fin 512) : Fin 4096 := ⟨512 * t.val + r.val, by have := t.isLt; have h : cfg0.N = 8 := N_0; omega⟩

/-- An argument of the kernel, as memory holds it. -/
abbrev arr (b : Ref sig .tc) : Buf (Elt Ideal) ((c : Thread nD τ).loc b) := m ((c : Thread nD τ).loc b)

/-- The arguments the kernel finds in memory. -/
def args : Args where
  x := arr m c main_arg0
  g := arr m c main_arg1
  w := arr m c main_arg2

/-- Which block of its array each window holds at a point. -/
theorem idx : ∀ t : Fin cfg0.N, win0_0.index t = ![t.val, 0] ∧ win0_1.index t = ![0, 0] ∧ win0_2.index t = ![t.val, 0] ∧ win0_3.index t = ![t.val, 0] ∧ win0_4.index t = ![t.val, 0] :=
  (by decide +kernel : ∀ t : Fin grid0.N, _)

/-- The block of the rows at point `t`. -/
theorem blk0 (t : Fin cfg0.N) (r : Fin 512) (j : Fin 1024) : iblk m c 0 t (ix2 r j) = (args m c).x (ix2 (row t r) j) := by
  blk_point [iblk, idx t, row]

/-- The norm's weight, the same at every point. -/
theorem blk1 (t : Fin cfg0.N) (j : Fin 1024) : iblk m c 1 t (ix2 0 j) = (args m c).g (ix2 0 j) := by
  blk_point [iblk, idx t]

/-- The weight of four column blocks as the host hands it over. -/
theorem w_entry (q : Fin 4) (j : Fin 1024) (k : Fin 896) : (V m c main_v2) (ix3 q j k) = (args m c).w (ix2 j (col q k)) := by
  entry_read
  pointwise
  rfl

/-- A load of one of the weight's four column blocks, out of the copy of it that point 0 makes. -/
theorem w_load (q : Fin 4) (w : Vec Ideal S4x1024x896 .bf16) (hw : w = V m c main_v2)
    (inb : ∀ a, (![q.val, 0, 0] : Fin 3 → ℕ) a + (![1, 1024, 896] : Fin 3 → ℕ) a ≤ S4x1024x896.size a) (j : Fin 1024) (x : Fin 896) :
    View.ld (Val := Elt Ideal) (e' := .bf16) w (Rect.unit (s := S4x1024x896) ![q.val, 0, 0] ![1, 1024, 896] inb) (ix3 0 j x)
      = (args m c).w (ix2 j (col q x)) := by
  rw [hw, ← w_entry]
  show V m c main_v2 _ = _
  congr 1
  funext a
  fin_cases a
  · exact Fin.ext (by show q.val + 1 * 0 = q.val; omega)
  · exact Fin.ext (by show 0 + 1 * j.val = j.val; omega)
  · exact Fin.ext (by show 0 + 1 * x.val = x.val; omega)

/-- The copy of the weight holds what the host hands over. -/
theorem w_canon (y : S4x1024x896.Idx) :
    View.canon (Val := Elt Ideal) (s := S4x1024x896) (e := .bf16) [⟨Rect.whole S4x1024x896, ReadAs.same.apply (View.read (Elt Ideal) (View.whole main_v2) (V m c main_v2))⟩] y = V m c main_v2 y := by
  canon_tiles x h
  obtain rfl : y = x := by
    funext a
    fin_cases a
    · exact Fin.ext h0
    · exact Fin.ext h1
    · exact Fin.ext h2
  rfl

/-- The first point leaves the weights in the scratch memory. -/
theorem scr_A (t : Fin cfg0.N) (h : t.val % 8 = 0) : (outsAt0 m c t.val t.isLt).2.2.2 = V m c main_v2 := by
  rw [outsAt0_A m c t h]
  frame_out
  exact funext (w_canon m c)

/-- A later point leaves the scratch memory as it is. -/
theorem scr_B (t : Fin cfg0.N) (h : ¬ t.val % 8 = 0) : (outsAt0 m c t.val t.isLt).2.2.2 = (outsAt0 m c (t.val - 1) (by omega)).2.2.2 := by
  rw [outsAt0_B m c t h]
  rfl

/-- The scratch memory holds the weights after every point. -/
theorem scr : ∀ (n : ℕ) (hn : n < cfg0.N), (outsAt0 m c n hn).2.2.2 = V m c main_v2
  | 0, hn => scr_A m c ⟨0, hn⟩ rfl
  | n + 1, hn => by
    have hN : cfg0.N = 8 := N_0
    exact (scr_B m c ⟨n + 1, hn⟩ (by show ¬ (n + 1) % 8 = 0; omega)).trans (scr n (by omega))

end Cert.InFwd
end
-- ==== Proof.InFwdPoints.lean ====
/- What a grid point of the input projection leaves in its outputs. -/
module

public import proofs.«01_k».proof.Proof.InFwdKernel

@[expose] public section

set_option maxRecDepth 16384

noncomputable section

namespace Cert.InFwd

open Idealize.ShloMosaic Idealize.ShloMosaic.TcCoe Idealize.SL.Sem Cert.KernelInFwdIdeal Cert.KernelInFwdIdeal.Gen Cert.Reals Cert.Fwd

variable (m : (ℓ : Loc nD τ sig) → Buf (Elt Ideal) ℓ) (c : Dev nD)

/-- What every point leaves: its rows of the three results. -/
structure Outs (t : Fin cfg0.N) : Prop where
  o2 : ∀ r (j : Fin 2048), (outsAt0 m c t.val t.isLt).1 (ix2 r j) = (args m c).proj (row t r) ⟨j.val, by omega⟩
  o3 : ∀ r (j : Fin 1536), (outsAt0 m c t.val t.isLt).2.1 (ix2 r j) = (args m c).sqkv (ix2 (row t r) j)
  o4 : ∀ r (j : Fin 1024), (outsAt0 m c t.val t.isLt).2.2.1 (ix2 r j) = (args m c).u (row t r) j

/-- What point 0 leaves. -/
theorem out_A (t : Fin cfg0.N) (h : t.val % 8 = 0) : Outs m c t := by
  refine ⟨?h2, ?h3, ?h4⟩
  case h2 =>
    intro r j
    rw [outsAt0_A m c t h]
    frame_out
    refine ppcs_load (args m c) (row t) _ _ (blk0 m c t) (blk1 m c t) _ _ _ _ ?_ ?_ ?_ ?_ _ 0 2048 inb_S512x3584_S512x2048_0_0 r j _ (Nat.zero_add _).symm
    exacts [fun k x => (congrFun (View.readCov_eq_canon' _ _ _) _).trans (w_load m c 0 _ (funext (w_canon m c)) _ k x), fun k x => (congrFun (View.readCov_eq_canon' _ _ _) _).trans (w_load m c 1 _ (funext (w_canon m c)) _ k x), fun k x => (congrFun (View.readCov_eq_canon' _ _ _) _).trans (w_load m c 2 _ (funext (w_canon m c)) _ k x), fun k x => (congrFun (View.readCov_eq_canon' _ _ _) _).trans (w_load m c 3 _ (funext (w_canon m c)) _ k x)]
  case h3 =>
    intro r j
    rw [outsAt0_A m c t h]
    frame_out
    refine spcs_canon (args m c) (row t) _ _ (fun r j => ?_) (fun r j => ?_) r j
    · refine ppcs_load (args m c) (row t) _ _ (blk0 m c t) (blk1 m c t) _ _ _ _ ?_ ?_ ?_ ?_ _ 2048 512 inb_S512x3584_S512x512_0_2048 r j _ rfl
      exacts [fun k x => (congrFun (View.readCov_eq_canon' _ _ _) _).trans (w_load m c 0 _ (funext (w_canon m c)) _ k x), fun k x => (congrFun (View.readCov_eq_canon' _ _ _) _).trans (w_load m c 1 _ (funext (w_canon m c)) _ k x), fun k x => (congrFun (View.readCov_eq_canon' _ _ _) _).trans (w_load m c 2 _ (funext (w_canon m c)) _ k x), fun k x => (congrFun (View.readCov_eq_canon' _ _ _) _).trans (w_load m c 3 _ (funext (w_canon m c)) _ k x)]
    · refine ppcs_load (args m c) (row t) _ _ (blk0 m c t) (blk1 m c t) _ _ _ _ ?_ ?_ ?_ ?_ _ 2560 1024 inb_S512x3584_S512x1024_0_2560 r j _ rfl
      exacts [fun k x => (congrFun (View.readCov_eq_canon' _ _ _) _).trans (w_load m c 0 _ (funext (w_canon m c)) _ k x), fun k x => (congrFun (View.readCov_eq_canon' _ _ _) _).trans (w_load m c 1 _ (funext (w_canon m c)) _ k x), fun k x => (congrFun (View.readCov_eq_canon' _ _ _) _).trans (w_load m c 2 _ (funext (w_canon m c)) _ k x), fun k x => (congrFun (View.readCov_eq_canon' _ _ _) _).trans (w_load m c 3 _ (funext (w_canon m c)) _ k x)]
  case h4 =>
    intro r j
    rw [outsAt0_A m c t h]
    frame_out
    exact u_block (args m c) (row t) _ _ (blk0 m c t) (blk1 m c t) r j

/-- What a later point leaves. -/
theorem out_B (t : Fin cfg0.N) (h : ¬ t.val % 8 = 0) : Outs m c t := by
  have hs := scr m c (t.val - 1) (by have := t.isLt; omega)
  refine ⟨?h2, ?h3, ?h4⟩
  case h2 =>
    intro r j
    rw [outsAt0_B m c t h]
    frame_out
    refine ppcs_load (args m c) (row t) _ _ (blk0 m c t) (blk1 m c t) _ _ _ _ ?_ ?_ ?_ ?_ _ 0 2048 inb_S512x3584_S512x2048_0_0 r j _ (Nat.zero_add _).symm
    exacts [fun k x => w_load m c 0 _ (((Memref.isWhole_whole _).read_unread _).trans hs) _ k x, fun k x => w_load m c 1 _ (((Memref.isWhole_whole _).read_unread _).trans hs) _ k x, fun k x => w_load m c 2 _ (((Memref.isWhole_whole _).read_unread _).trans hs) _ k x, fun k x => w_load m c 3 _ (((Memref.isWhole_whole _).read_unread _).trans hs) _ k x]
  case h3 =>
    intro r j
    rw [outsAt0_B m c t h]
    frame_out
    refine spcs_canon (args m c) (row t) _ _ (fun r j => ?_) (fun r j => ?_) r j
    · refine ppcs_load (args m c) (row t) _ _ (blk0 m c t) (blk1 m c t) _ _ _ _ ?_ ?_ ?_ ?_ _ 2048 512 inb_S512x3584_S512x512_0_2048 r j _ rfl
      exacts [fun k x => w_load m c 0 _ (((Memref.isWhole_whole _).read_unread _).trans hs) _ k x, fun k x => w_load m c 1 _ (((Memref.isWhole_whole _).read_unread _).trans hs) _ k x, fun k x => w_load m c 2 _ (((Memref.isWhole_whole _).read_unread _).trans hs) _ k x, fun k x => w_load m c 3 _ (((Memref.isWhole_whole _).read_unread _).trans hs) _ k x]
    · refine ppcs_load (args m c) (row t) _ _ (blk0 m c t) (blk1 m c t) _ _ _ _ ?_ ?_ ?_ ?_ _ 2560 1024 inb_S512x3584_S512x1024_0_2560 r j _ rfl
      exacts [fun k x => w_load m c 0 _ (((Memref.isWhole_whole _).read_unread _).trans hs) _ k x, fun k x => w_load m c 1 _ (((Memref.isWhole_whole _).read_unread _).trans hs) _ k x, fun k x => w_load m c 2 _ (((Memref.isWhole_whole _).read_unread _).trans hs) _ k x, fun k x => w_load m c 3 _ (((Memref.isWhole_whole _).read_unread _).trans hs) _ k x]
  case h4 =>
    intro r j
    rw [outsAt0_B m c t h]
    frame_out
    exact u_block (args m c) (row t) _ _ (blk0 m c t) (blk1 m c t) r j

/-- What every point leaves. -/
theorem outs (t : Fin cfg0.N) : Outs m c t := by
  by_cases h : t.val % 8 = 0
  · exact out_A m c t h
  · exact out_B m c t h

end Cert.InFwd
end
-- ==== Proof.InFwdFinal.lean ====
/- The arrays the input projection ends with. -/
module

public import proofs.«01_k».proof.Proof.InFwdPoints

@[expose] public section

set_option maxRecDepth 16384

noncomputable section

namespace Cert.InFwd

open Idealize.ShloMosaic Idealize.ShloMosaic.TcCoe Idealize.SL.Sem Cert.KernelInFwdIdeal Cert.KernelInFwdIdeal.Gen Cert.Reals Cert.Fwd

variable (m : (ℓ : Loc nD τ sig) → Buf (Elt Ideal) ℓ) (c : Dev nD)

/-- A point's rows of the recurrence's part. -/
theorem out2 (t : Fin cfg0.N) (r : Fin 512) (j : Fin 2048) : (outsAt0 m c t.val t.isLt).1 (ix2 r j) = (args m c).ph (ix2 (row t r) j) := (outs m c t).o2 r j

/-- A point's rows, normalised and weighted. -/
theorem out4 (t : Fin cfg0.N) (r : Fin 512) (j : Fin 1024) : (outsAt0 m c t.val t.isLt).2.2.1 (ix2 r j) = (args m c).ub (ix2 (row t r) j) := (outs m c t).o4 r j

/-- The rows of the recurrence's part, as the kernel leaves them. -/
theorem final2 : (dats m 0 c).arrAt 2 cfg0.N = (args m c).ph := by
  refine (dats m 0 c).arrAt_eq_of_covers 2 _ (by decide +kernel) fun t _ y => ?_
  blk_simp
  rw [after0_2]
  idx_vars y
  rw [out2]
  have e : ((View.whole main_v3_0).slice (win0_2.rect t)).emb (ix2 y0 y1) = ix2 (row t y0) y1 := by blk_ext [idx t, row]
  rw [e]

/-- The rows of the attention's part, as the kernel leaves them. -/
theorem final3 : (dats m 0 c).arrAt 3 cfg0.N = (args m c).sqkv := by
  refine (dats m 0 c).arrAt_eq_of_covers 3 _ (by decide +kernel) fun t _ y => ?_
  blk_simp
  rw [after0_3]
  idx_vars y
  rw [(outs m c t).o3]
  have e : ((View.whole main_v3_1).slice (win0_3.rect t)).emb (ix2 y0 y1) = ix2 (row t y0) y1 := by blk_ext [idx t, row]
  rw [e]

/-- The normalised rows, as the kernel leaves them. -/
theorem final4 : (dats m 0 c).arrAt 4 cfg0.N = (args m c).ub := by
  refine (dats m 0 c).arrAt_eq_of_covers 4 _ (by decide +kernel) fun t _ y => ?_
  blk_simp
  rw [after0_4]
  idx_vars y
  rw [out4]
  have e : ((View.whole main_v3_2).slice (win0_4.rect t)).emb (ix2 y0 y1) = ix2 (row t y0) y1 := by blk_ext [idx t, row]
  rw [e]

end Cert.InFwd
end
-- ==== Proof.InFwdRef.lean ====
/- What the reference of the input projection computes. -/
module

public import proofs.«01_k».proof.Proof.InFwdSpec
public import proofs.«01_k».proof.Proof.Gen.ReferenceInFwdIdeal.Run
public import proofs.«01_k».proof.Proof.Gen.ReferenceInFwdIdeal.Read
public import Idealize.ShloMosaic.Lib.Pointwise

@[expose] public section

set_option maxRecDepth 16384

noncomputable section

namespace Cert.InFwd

open Idealize.ShloMosaic Cert.ReferenceInFwdIdeal Cert.ReferenceInFwdIdeal.Read Cert.Reals Cert.Fwd

variable (a : Args)

/-- The rows, normalised and weighted. -/
theorem ref_u (r : Fin 4096) (j : Fin 1024) : val_main_v11 (F := Ideal) a.x a.g (ix2 r j) = a.u r j := by
  pointwise [val_main_v11, val_main_v10, val_main_v9, val_main_v8, val_main_v7, val_main_v6, val_main_v5, val_main_v4, val_main_v3, val_main_v2, val_main_v1, val_main_v0,
    val_main_cst, val_main_cst_0, val_main_cst_1]
  rfl

/-- Their projection. -/
theorem ref_proj (r : Fin 4096) (j : Fin 3584) : val_main_v12 (F := Ideal) a.x a.g a.w (ix2 r j) = a.proj r j := by
  pointwise [val_main_v12]
  simp only [ref_u]
  rfl

/-- The first result. -/
theorem ref_ph_all : val_main_v18 (F := Ideal) a.x a.g a.w = a.ph := by
  funext i
  idx_vars i
  pointwise [val_main_v18]
  rw [ref_proj]
  rfl

/-- The second result. -/
theorem ref_sqkv_all : val_main_v19 (F := Ideal) a.x a.g a.w = a.sqkv := by
  funext i
  idx_vars i
  pointwise [val_main_v19, val_main_v17, val_main_v16, val_main_v15, val_main_v14, val_main_v13, val_main_cst_2]
  unfold Args.sqkv
  by_cases h : i1.val < 512
  · rw [dif_pos h, ref_proj]
    exact (if_pos h).symm
  · rw [dif_neg h, ref_proj]
    refine Eq.trans ?_ (if_neg h).symm
    exact congrArg (a.proj i0) (Fin.ext (by show 2560 + (i1.val - 512) = 2048 + i1.val; omega))

/-- The third result. -/
theorem ref_u_all : val_main_v20 (F := Ideal) a.x a.g = a.ub := by
  funext i
  idx_vars i
  pointwise [val_main_v20]
  rw [ref_u]
  rfl

end Cert.InFwd
end
-- ==== Proof.InFwdClaim.lean ====
/- The claim on the input projection: kernel and reference end with equal results. -/
module

public import proofs.«01_k».proof.Defs
public import proofs.«01_k».proof.Proof.InFwdFinal
public import proofs.«01_k».proof.Proof.InFwdRef
public import proofs.«01_k».proof.Proof.Gen.KernelInFwd.Frame
public import proofs.«01_k».proof.Proof.Gen.KernelInFwdIdeal.Frame

@[expose] public section

set_option maxRecDepth 16384

noncomputable section

namespace Cert.InFwd

open Idealize.ShloMosaic Idealize.SL.Sem Cert.Reals Cert.Fwd

open Cert.ReferenceInFwdIdeal Cert.ReferenceInFwdIdeal.Read in
/-- The arguments the reference finds in memory. -/
def refArgs (m' : (ℓ : Loc Cert.ReferenceInFwdIdeal.nD Cert.ReferenceInFwdIdeal.τ Cert.ReferenceInFwdIdeal.sig) → Buf (Elt Ideal) ℓ) (c : Dev Cert.ReferenceInFwdIdeal.nD) : Args where
  x := m' ((c.tc : Thread nD τ).loc main_arg0)
  g := m' ((c.tc : Thread nD τ).loc main_arg1)
  w := m' ((c.tc : Thread nD τ).loc main_arg2)

/-- The kernel and the forward lines end with the same arrays, whatever the arguments. -/
theorem algebraic : Cert.algebraic_KernelInFwdIdeal_ReferenceInFwdIdeal := by
  pair_intro
  · run_from Cert.KernelInFwdIdeal.Value.run_blocks m g
  · have e : ∀ c, refArgs m' c = args m c := by
      intro c
      obtain ⟨h0, h1, h2⟩ := hagree c
      unfold refArgs args arr
      rw [h0, h1, h2]
    clear hagree
    run_from Cert.ReferenceInFwdIdeal.Value.run m' g'
    · rw [final2, ← e c]
      exact (Cert.ReferenceInFwdIdeal.Read.val_main_v18_eq _ _ _).trans (ref_ph_all (refArgs m' c))
    · rw [final3, ← e c]
      exact (Cert.ReferenceInFwdIdeal.Read.val_main_v19_eq _ _ _).trans (ref_sqkv_all (refArgs m' c))
    · rw [final4, ← e c]
      exact (Cert.ReferenceInFwdIdeal.Read.val_main_v20_eq _ _).trans (ref_u_all (refArgs m' c))

/-- The reference runs, keeps its arguments and leaves every counter at zero. -/
theorem frame_reference : Cert.quiescent_ReferenceInFwdIdeal := fun m ρ _ =>
  (θ_run Cert.ReferenceInFwdIdeal.defs _ _).mono
    (fun r h => ⟨fun c => (h c).2.2.2, Idealize.ShloMosaic.sem_eq_zero_of_no_sems (by decide) r.2⟩)
    (Cert.ReferenceInFwdIdeal.Value.run (F := Ideal) m ρ)

end Cert.InFwd
end
-- ==== Proof.MixFwdSpec.lean ====
/- What the mixer's output norms, gate and projection compute, as formulas of their arguments. -/
module

public import proofs.«01_k».proof.Proof.Fwd

@[expose] public section

noncomputable section

namespace Cert.MixFwd

open Idealize.ShloMosaic Cert.Fwd

/-- The arguments, as memory holds them. -/
structure Args where
  /-- the recurrence's outputs -/
  ohg : FVec Ideal ⟨2, ![4096, 512]⟩ .f32
  /-- the recurrence's part of the input projection; its last 512 columns are the gate -/
  proj : FVec Ideal ⟨2, ![4096, 2048]⟩ .f32
  /-- the attention's outputs -/
  osb : FVec Ideal ⟨2, ![4096, 512]⟩ .f32
  /-- the rows the block started from -/
  x : FVec Ideal ⟨2, ![4096, 1024]⟩ .f32
  /-- the weights of both norms before the projection -/
  norms : FVec Ideal ⟨2, ![1, 1024]⟩ .f32
  /-- the weight of the norm after it -/
  gpost : FVec Ideal ⟨2, ![1, 1024]⟩ .f32
  /-- the projection -/
  wout : FVec Ideal ⟨2, ![1024, 1024]⟩ .f32

namespace Args

variable (a : Args)

/-- The gate before its activation. -/
def H (r : Fin 4096) (j : Fin 512) : EReal := a.proj (ix2 r ⟨1536 + j.val, by omega⟩)

/-- The recurrence's outputs, normalised, weighted and gated. -/
def yh (r : Fin 4096) (j : Fin 512) : EReal :=
  a.ohg (ix2 r j) * rs n512 (fun k => a.ohg (ix2 r k)) * a.norms (ix2 0 ⟨j.val, by omega⟩) * (a.H r j * sigm (a.H r j))

/-- The attention's outputs, normalised and weighted. -/
def ys (r : Fin 4096) (j : Fin 512) : EReal :=
  a.osb (ix2 r j) * rs n512 (fun k => a.osb (ix2 r k)) * a.norms (ix2 0 ⟨512 + j.val, by omega⟩)

/-- Both side by side. -/
def cat (r : Fin 4096) (j : Fin 1024) : EReal := if h : j.val < 512 then a.yh r ⟨j.val, h⟩ else a.ys r ⟨j.val - 512, by omega⟩

/-- Their projection. -/
def mix (r : Fin 4096) (j : Fin 1024) : EReal := ∑ k, a.cat r k * a.wout (ix2 k j)

/-- What is projected, in bfloat16. -/
def catArr : FVec Ideal ⟨2, ![4096, 1024]⟩ .bf16 := fun i => a.cat (i 0) (i 1)

/-- The projection, as an array. -/
def mixArr : FVec Ideal ⟨2, ![4096, 1024]⟩ .f32 := fun i => a.mix (i 0) (i 1)

/-- The rows after the mixer. -/
def h1 : FVec Ideal ⟨2, ![4096, 1024]⟩ .f32 := fun i =>
  a.x (ix2 (i 0) (i 1)) + a.mix (i 0) (i 1) * rs n1024 (fun k => a.mix (i 0) k) * a.gpost (ix2 0 (i 1))

end Args

end Cert.MixFwd

end
-- ==== Proof.MixFwdPay.lean ====
/- What the payloads of the output projection compute at an index, from blocks that hold rows `φ r` of the arguments. -/
module

public import proofs.«01_k».proof.Proof.MixFwdSpec
public import proofs.«01_k».proof.Proof.Gen.KernelMixFwdIdeal.Skeleton

@[expose] public section

set_option maxRecDepth 16384

noncomputable section

namespace Cert.MixFwd

open Idealize.ShloMosaic Cert.KernelMixFwdIdeal Cert.KernelMixFwdIdeal.Gen Cert.Reals Cert.Fwd

variable (a : Args) (φ : Fin 512 → Fin 4096)

/-- The recurrence's outputs, normalised, weighted and gated. -/
theorem yh_block (o h : FVec Ideal S512x512 .f32) (n : FVec Ideal S1x1024 .f32) (ho : ∀ r j, o (ix2 r j) = a.ohg (ix2 (φ r) j)) (hh : ∀ r j, h (ix2 r j) = a.H (φ r) j)
    (hn : ∀ j, n (ix2 0 j) = a.norms (ix2 0 j)) (r : Fin 512) (j : Fin 512) : k0_pay1 (F := Ideal) (k0_pay7 n o) (k0_pay8 h) (ix2 r j) = a.yh (φ r) j := by
  pointwise [k0_pay1, k0_pay7, k0_pay8]
  simp only [ho, hh, hn, zero_sub]
  rfl

/-- The attention's outputs, normalised and weighted. -/
theorem ys_block (o : FVec Ideal S512x512 .f32) (n : FVec Ideal S1x1024 .f32) (ho : ∀ r j, o (ix2 r j) = a.osb (ix2 (φ r) j))
    (hn : ∀ j, n (ix2 0 j) = a.norms (ix2 0 j)) (r : Fin 512) (j : Fin 512) : k0_pay2 (F := Ideal) (k0_pay5 n) (k0_pay6 o) (ix2 r j) = a.ys (φ r) j := by
  pointwise [k0_pay2, k0_pay5, k0_pay6]
  simp only [ho, hn]
  rfl

variable (c : FVec Ideal S512x1024 .bf16) (w : FVec Ideal S1024x1024 .bf16)

/-- Their projection. -/
theorem mix_block (hc : ∀ r j, c (ix2 r j) = a.cat (φ r) j) (hw : ∀ j k, w (ix2 j k) = a.wout (ix2 j k)) (r : Fin 512) (j : Fin 1024) :
    k0_pay3 (F := Ideal) c w (ix2 r j) = a.mix (φ r) j := by
  pointwise [k0_pay3]
  simp only [hc, hw]
  rfl

/-- The rows after the mixer. -/
theorem h1_block (x : FVec Ideal S512x1024 .f32) (g : FVec Ideal S1x1024 .f32) (hc : ∀ r j, c (ix2 r j) = a.cat (φ r) j) (hw : ∀ j k, w (ix2 j k) = a.wout (ix2 j k))
    (hx : ∀ r j, x (ix2 r j) = a.x (ix2 (φ r) j)) (hg : ∀ j, g (ix2 0 j) = a.gpost (ix2 0 j)) (r : Fin 512) (j : Fin 1024) :
    k0_pay4 (F := Ideal) c w x g (ix2 r j) = a.h1 (ix2 (φ r) j) := by
  pointwise [k0_pay4]
  simp only [mix_block a φ c w hc hw, hx, hg]
  rfl

end Cert.MixFwd
end
-- ==== Proof.MixFwdKernel.lean ====
/- The blocks, the weight and the outputs of the output projection, as formulas of its arguments. -/
module

public import proofs.«01_k».proof.Proof.MixFwdPay
public import proofs.«01_k».proof.Proof.Gen.KernelMixFwdIdeal.Value

@[expose] public section

set_option maxRecDepth 16384

noncomputable section

namespace Cert.MixFwd

open Idealize.ShloMosaic Idealize.ShloMosaic.TcCoe Idealize.SL.Sem Cert.KernelMixFwdIdeal Cert.KernelMixFwdIdeal.Gen Cert.Reals

variable (m : (ℓ : Loc nD τ sig) → Buf (Elt Ideal) ℓ) (c : Dev nD)

/-- Row `r` of the block of 512 rows that grid point `t` works on. -/
def row (t : Fin cfg0.N) (r : Fin 512) : Fin 4096 := ⟨512 * t.val + r.val, by have := t.isLt; have h : cfg0.N = 8 := N_0; omega⟩

/-- An argument of the kernel, as memory holds it. -/
abbrev arr (b : Ref sig .tc) : Buf (Elt Ideal) ((c : Thread nD τ).loc b) := m ((c : Thread nD τ).loc b)

/-- The arguments the kernel finds in memory. -/
def args : Args where
  ohg := arr m c main_arg0
  proj := arr m c main_arg1
  osb := arr m c main_arg2
  x := arr m c main_arg3
  norms := arr m c main_arg4
  gpost := arr m c main_arg5
  wout := arr m c main_arg6

/-- Which block of its array each window holds at a point. -/
theorem idx : ∀ t : Fin cfg0.N, win0_0.index t = ![t.val, 0] ∧ win0_1.index t = ![t.val, 3] ∧ win0_2.index t = ![t.val, 0] ∧ win0_3.index t = ![t.val, 0] ∧
    win0_4.index t = ![0, 0] ∧ win0_5.index t = ![0, 0] ∧ win0_6.index t = ![t.val, 0] ∧ win0_7.index t = ![t.val, 0] ∧ win0_8.index t = ![t.val, 0] :=
  (by decide +kernel : ∀ t : Fin grid0.N, _)

/-- The block of the recurrence's outputs at point `t`. -/
theorem blk0 (t : Fin cfg0.N) (r : Fin 512) (j : Fin 512) : iblk m c 0 t (ix2 r j) = (args m c).ohg (ix2 (row t r) j) := by
  blk_point [iblk, idx t, row]

/-- The block of the gate at point `t`. -/
theorem blk1 (t : Fin cfg0.N) (r : Fin 512) (j : Fin 512) : iblk m c 1 t (ix2 r j) = (args m c).H (row t r) j := by
  unfold Args.H
  blk_point [iblk, idx t, row]

/-- The block of the attention's outputs at point `t`. -/
theorem blk2 (t : Fin cfg0.N) (r : Fin 512) (j : Fin 512) : iblk m c 2 t (ix2 r j) = (args m c).osb (ix2 (row t r) j) := by
  blk_point [iblk, idx t, row]

/-- The block of the rows at point `t`. -/
theorem blk3 (t : Fin cfg0.N) (r : Fin 512) (j : Fin 1024) : iblk m c 3 t (ix2 r j) = (args m c).x (ix2 (row t r) j) := by
  blk_point [iblk, idx t, row]

/-- The weights of the first two norms, the same at every point. -/
theorem blk4 (t : Fin cfg0.N) (j : Fin 1024) : iblk m c 4 t (ix2 0 j) = (args m c).norms (ix2 0 j) := by
  blk_point [iblk, idx t]

/-- The weight of the last norm, the same at every point. -/
theorem blk5 (t : Fin cfg0.N) (j : Fin 1024) : iblk m c 5 t (ix2 0 j) = (args m c).gpost (ix2 0 j) := by
  blk_point [iblk, idx t]

/-- The projection as the host hands it over. -/
theorem w_entry (j : Fin 1024) (k : Fin 1024) : (V m c main_v0) (ix2 j k) = (args m c).wout (ix2 j k) := by
  entry_read
  pointwise
  rfl

/-- The copy of the projection holds what the host hands over. -/
theorem w_canon (y : S1024x1024.Idx) :
    View.canon (Val := Elt Ideal) (s := S1024x1024) (e := .bf16) [⟨Rect.whole S1024x1024, ReadAs.same.apply (View.read (Elt Ideal) (View.whole main_v0) (V m c main_v0))⟩] y = V m c main_v0 y := by
  canon_tiles x h
  obtain rfl : y = x := by
    funext a
    fin_cases a
    · exact Fin.ext h0
    · exact Fin.ext h1
  rfl

/-- The first point leaves the projection in the scratch memory. -/
theorem scr_A (t : Fin cfg0.N) (h : t.val % 8 = 0) : (outsAt0 m c t.val t.isLt).2.2.2 = V m c main_v0 := by
  rw [outsAt0_A m c t h]
  frame_out
  exact funext (w_canon m c)

/-- A later point leaves the scratch memory as it is. -/
theorem scr_B (t : Fin cfg0.N) (h : ¬ t.val % 8 = 0) : (outsAt0 m c t.val t.isLt).2.2.2 = (outsAt0 m c (t.val - 1) (by omega)).2.2.2 := by
  rw [outsAt0_B m c t h]
  rfl

/-- The scratch memory holds the projection after every point. -/
theorem scr : ∀ (n : ℕ) (hn : n < cfg0.N), (outsAt0 m c n hn).2.2.2 = V m c main_v0
  | 0, hn => scr_A m c ⟨0, hn⟩ rfl
  | n + 1, hn => by
    have hN : cfg0.N = 8 := N_0
    exact (scr_B m c ⟨n + 1, hn⟩ (by show ¬ (n + 1) % 8 = 0; omega)).trans (scr n (by omega))

/-- The two stores that fill the block of what is projected. -/
def cpcs (o h s : FVec Ideal S512x512 .f32) (n : FVec Ideal S1x1024 .f32) : List (View.Piece (Elt Ideal) S512x1024 .bf16) :=
  [⟨Rect.unit ![0, 512] ![512, 512] inb_S512x1024_S512x512_0_512, k0_pay2 (F := Ideal) (k0_pay5 n) (k0_pay6 s)⟩,
    ⟨Rect.unit ![0, 0] ![512, 512] inb_S512x1024_S512x512_0_0, k0_pay1 (F := Ideal) (k0_pay7 n o) (k0_pay8 h)⟩]

/-- What they fill it with. -/
theorem cpcs_canon (a : Args) (φ : Fin 512 → Fin 4096) (o h s : FVec Ideal S512x512 .f32) (n : FVec Ideal S1x1024 .f32) (ho : ∀ r j, o (ix2 r j) = a.ohg (ix2 (φ r) j))
    (hh : ∀ r j, h (ix2 r j) = a.H (φ r) j) (hs : ∀ r j, s (ix2 r j) = a.osb (ix2 (φ r) j)) (hn : ∀ j, n (ix2 0 j) = a.norms (ix2 0 j)) (r : Fin 512) (j : Fin 1024) :
    View.canon (cpcs o h s n) (ix2 r j) = a.cat (φ r) j := by
  unfold cpcs
  canon_tiles x h
  · idx_vars x
    rw [ys_block a φ s n hs hn]
    obtain rfl : r = x0 := Fin.ext h0
    have hj : ¬ j.val < 512 := by omega
    unfold Args.cat
    rw [dif_neg hj]
    exact congrArg _ (Fin.ext (by show x1.val = j.val - 512; omega))
  · idx_vars x
    rw [yh_block a φ o h n ho hh hn]
    obtain rfl : r = x0 := Fin.ext h0
    have hj : j.val < 512 := by omega
    unfold Args.cat
    rw [dif_pos hj]
    exact congrArg _ (Fin.ext h1.symm)

/-- The block as a whole, read back. -/
theorem cpcs_load (v : View sig .tc .vmem S512x1024 .bf16) (o h s : FVec Ideal S512x512 .f32) (n : FVec Ideal S1x1024 .f32) (r : Fin 512) (j : Fin 1024) :
    v.readCov (cpcs o h s n) (Rect.unit (s := S512x1024) ![0, 0] ![512, 1024] inb_S512x1024_S512x1024_0_0).toLoadRect (ix2 r j)
      = View.canon (cpcs o h s n) (ix2 r j) := by
  have e : (Rect.unit (s := S512x1024) ![0, 0] ![512, 1024] inb_S512x1024_S512x1024_0_0).toLoadRect.idx (ix2 r j) = ix2 r j := by
    funext a
    fin_cases a
    · exact Fin.ext (by show 0 + 1 * r.val = r.val; omega)
    · exact Fin.ext (by show 0 + 1 * j.val = j.val; omega)
  rw [View.readCov_eq_canon']
  exact congrArg (View.canon (cpcs o h s n)) e

end Cert.MixFwd
end
-- ==== Proof.MixFwdPoints.lean ====
/- What a grid point of the output projection leaves in its outputs. -/
module

public import proofs.«01_k».proof.Proof.MixFwdKernel

@[expose] public section

set_option maxRecDepth 16384

noncomputable section

namespace Cert.MixFwd

open Idealize.ShloMosaic Idealize.ShloMosaic.TcCoe Idealize.SL.Sem Cert.KernelMixFwdIdeal Cert.KernelMixFwdIdeal.Gen Cert.Reals

variable (m : (ℓ : Loc nD τ sig) → Buf (Elt Ideal) ℓ) (c : Dev nD)

/-- What every point leaves, from what is projected, `k`, and the projection, `w`, as it reads both back. -/
structure Outs (t : Fin cfg0.N) (k : FVec Ideal S512x1024 .bf16) (w : FVec Ideal S1024x1024 .bf16) : Prop where
  hk : ∀ r j, k (ix2 r j) = (args m c).cat (row t r) j
  hw : ∀ j i, w (ix2 j i) = (args m c).wout (ix2 j i)
  o6 : ∀ r j, (outsAt0 m c t.val t.isLt).1 (ix2 r j) = (args m c).cat (row t r) j
  o7 : ∀ r j, (outsAt0 m c t.val t.isLt).2.1 (ix2 r j) = k0_pay3 (F := Ideal) k w (ix2 r j)
  o8 : ∀ r j, (outsAt0 m c t.val t.isLt).2.2.1 (ix2 r j) = k0_pay4 (F := Ideal) k w (iblk m c 3 t) (iblk m c 5 t) (ix2 r j)

/-- The stores that fill the block of what is projected, at point `t`. -/
theorem cat_at (t : Fin cfg0.N) (r : Fin 512) (j : Fin 1024) :
    View.canon (cpcs (iblk m c 0 t) (iblk m c 1 t) (iblk m c 2 t) (iblk m c 4 t)) (ix2 r j) = (args m c).cat (row t r) j :=
  cpcs_canon (args m c) (row t) _ _ _ _ (blk0 m c t) (blk1 m c t) (blk2 m c t) (blk4 m c t) r j

/-- What point 0 leaves. -/
theorem out_A (t : Fin cfg0.N) (h : t.val % 8 = 0) : ∃ (k : FVec Ideal S512x1024 .bf16) (w : FVec Ideal S1024x1024 .bf16), Outs m c t k w := by
  refine' ⟨_, _, ⟨?hk, ?hw, ?h6, ?h7, ?h8⟩⟩
  case h8 =>
    intro r j
    rw [outsAt0_A m c t h]
    frame_out
    rfl
  case hk =>
    intro r j
    exact (cpcs_load _ _ _ _ _ r j).trans (cat_at m c t r j)
  case hw =>
    intro r j
    rw [View.readCov_eq_canon']
    refine (w_canon m c _).trans ((congrArg (V m c main_v0) ?_).trans (w_entry m c r j))
    funext a
    fin_cases a
    · exact Fin.ext (by show 0 + 1 * r.val = r.val; omega)
    · exact Fin.ext (by show 0 + 1 * j.val = j.val; omega)
  case h6 =>
    intro r j
    rw [outsAt0_A m c t h]
    frame_out
    exact cat_at m c t r j
  case h7 =>
    intro r j
    rw [outsAt0_A m c t h]
    frame_out

/-- What a later point leaves. -/
theorem out_B (t : Fin cfg0.N) (h : ¬ t.val % 8 = 0) : ∃ (k : FVec Ideal S512x1024 .bf16) (w : FVec Ideal S1024x1024 .bf16), Outs m c t k w := by
  have hs := scr m c (t.val - 1) (by have := t.isLt; omega)
  refine' ⟨_, _, ⟨?hk, ?hw, ?h6, ?h7, ?h8⟩⟩
  case h8 =>
    intro r j
    rw [outsAt0_B m c t h]
    frame_out
    rfl
  case hk =>
    intro r j
    exact (cpcs_load _ _ _ _ _ r j).trans (cat_at m c t r j)
  case hw =>
    intro r j
    exact (congrFun ((Memref.isWhole_whole _).read_unread _ |>.trans hs) _).trans (w_entry m c r j)
  case h6 =>
    intro r j
    rw [outsAt0_B m c t h]
    frame_out
    exact cat_at m c t r j
  case h7 =>
    intro r j
    rw [outsAt0_B m c t h]
    frame_out

/-- Every point's outputs come of some pair of arrays it read back. -/
theorem outs (t : Fin cfg0.N) : ∃ (k : FVec Ideal S512x1024 .bf16) (w : FVec Ideal S1024x1024 .bf16), Outs m c t k w := by
  by_cases h : t.val % 8 = 0
  · exact out_A m c t h
  · exact out_B m c t h

end Cert.MixFwd
end
-- ==== Proof.MixFwdFinal.lean ====
/- The arrays the output projection ends with. -/
module

public import proofs.«01_k».proof.Proof.MixFwdPoints

@[expose] public section

set_option maxRecDepth 16384

noncomputable section

namespace Cert.MixFwd

open Idealize.ShloMosaic Idealize.ShloMosaic.TcCoe Idealize.SL.Sem Cert.KernelMixFwdIdeal Cert.KernelMixFwdIdeal.Gen Cert.Reals

variable (m : (ℓ : Loc nD τ sig) → Buf (Elt Ideal) ℓ) (c : Dev nD)

/-- A point's rows of what is projected. -/
theorem out6 (t : Fin cfg0.N) (r : Fin 512) (j : Fin 1024) : (outsAt0 m c t.val t.isLt).1 (ix2 r j) = (args m c).catArr (ix2 (row t r) j) := by
  obtain ⟨k, w, o⟩ := outs m c t
  exact o.o6 r j

/-- What is projected, as the kernel leaves it. -/
theorem final6 : (dats m 0 c).arrAt 6 cfg0.N = (args m c).catArr := by
  refine (dats m 0 c).arrAt_eq_of_covers 6 _ (by decide +kernel) fun t _ y => ?_
  blk_simp
  rw [after0_6]
  idx_vars y
  rw [out6]
  have e : ((View.whole main_v1_0).slice (win0_6.rect t)).emb (ix2 y0 y1) = ix2 (row t y0) y1 := by blk_ext [idx t, row]
  rw [e]

/-- A point's rows of the projection. -/
theorem out7 (t : Fin cfg0.N) (r : Fin 512) (j : Fin 1024) : (outsAt0 m c t.val t.isLt).2.1 (ix2 r j) = (args m c).mixArr (ix2 (row t r) j) := by
  obtain ⟨k, w, o⟩ := outs m c t
  exact (o.o7 r j).trans (mix_block (args m c) (row t) k w o.hk o.hw r j)

/-- The projection, as the kernel leaves it. -/
theorem final7 : (dats m 0 c).arrAt 7 cfg0.N = (args m c).mixArr := by
  refine (dats m 0 c).arrAt_eq_of_covers 7 _ (by decide +kernel) fun t _ y => ?_
  blk_simp
  rw [after0_7]
  idx_vars y
  rw [out7]
  have e : ((View.whole main_v1_1).slice (win0_7.rect t)).emb (ix2 y0 y1) = ix2 (row t y0) y1 := by blk_ext [idx t, row]
  rw [e]

/-- A point's rows after the mixer. -/
theorem out8 (t : Fin cfg0.N) (r : Fin 512) (j : Fin 1024) : (outsAt0 m c t.val t.isLt).2.2.1 (ix2 r j) = (args m c).h1 (ix2 (row t r) j) := by
  obtain ⟨k, w, o⟩ := outs m c t
  exact (o.o8 r j).trans (h1_block (args m c) (row t) k w _ _ o.hk o.hw (blk3 m c t) (blk5 m c t) r j)

/-- The rows after the mixer, as the kernel leaves them. -/
theorem final8 : (dats m 0 c).arrAt 8 cfg0.N = (args m c).h1 := by
  refine (dats m 0 c).arrAt_eq_of_covers 8 _ (by decide +kernel) fun t _ y => ?_
  blk_simp
  rw [after0_8]
  idx_vars y
  rw [out8]
  have e : ((View.whole main_v1_2).slice (win0_8.rect t)).emb (ix2 y0 y1) = ix2 (row t y0) y1 := by blk_ext [idx t, row]
  rw [e]

end Cert.MixFwd
end
-- ==== Proof.MixFwdRef.lean ====
/- What the reference of the mixer's output norms, gate and projection computes. -/
module

public import proofs.«01_k».proof.Proof.MixFwdSpec
public import proofs.«01_k».proof.Proof.Gen.ReferenceMixFwdIdeal.Run
public import proofs.«01_k».proof.Proof.Gen.ReferenceMixFwdIdeal.Read
public import Idealize.ShloMosaic.Lib.Pointwise

@[expose] public section

set_option maxRecDepth 16384

noncomputable section

namespace Cert.MixFwd

open Idealize.ShloMosaic Cert.ReferenceMixFwdIdeal Cert.ReferenceMixFwdIdeal.Read Cert.Reals Cert.Fwd

variable (a : Args)

/-- The recurrence's outputs, normalised and weighted. -/
theorem ref_nh (r : Fin 4096) (j : Fin 512) :
    val_main_v17 (F := Ideal) a.ohg a.norms (ix2 r j) = a.ohg (ix2 r j) * rs n512 (fun k => a.ohg (ix2 r k)) * a.norms (ix2 0 ⟨j.val, by omega⟩) := by
  pointwise [val_main_v17, val_main_v16, val_main_v15, val_main_v14, val_main_v13, val_main_v12, val_main_v11, val_main_v10, val_main_v9, val_main_v8, val_main_v7, val_main_v6, val_main_v0,
    val_main_cst, val_main_cst_0, val_main_cst_1]
  rfl

/-- The gate, activated. -/
theorem ref_gate (r : Fin 4096) (j : Fin 512) : val_main_v18 (F := Ideal) a.proj (ix2 r j) = a.H r j * sigm (a.H r j) := by
  pointwise [val_main_v18, val_main_call0_v5, val_main_call0_v4, val_main_call0_v3, val_main_call0_v2, val_main_call0_v1, val_main_call0_v0, val_main_v5, val_main_call0_cst, val_main_call0_cst_0]
  rfl

/-- The attention's outputs, normalised and weighted. -/
theorem ref_ys (r : Fin 4096) (j : Fin 512) : val_main_v31 (F := Ideal) a.osb a.norms (ix2 r j) = a.ys r j := by
  pointwise [val_main_v31, val_main_v30, val_main_v29, val_main_v28, val_main_v27, val_main_v26, val_main_v25, val_main_v24, val_main_v23, val_main_v22, val_main_v21, val_main_v20, val_main_v1,
    val_main_cst_2, val_main_cst_3, val_main_cst_4]
  rfl

/-- Both side by side. -/
theorem ref_cat (r : Fin 4096) (j : Fin 1024) : val_main_v32 (F := Ideal) a.ohg a.proj a.osb a.norms (ix2 r j) = a.cat r j := by
  pointwise [val_main_v32, val_main_v19]
  unfold Args.cat
  by_cases h : j.val < 512
  · rw [dif_pos h, dif_pos h, ref_nh, ref_gate]
    rfl
  · rw [dif_neg h, dif_neg h]
    exact ref_ys a r _

/-- Their projection. -/
theorem ref_mix (r : Fin 4096) (j : Fin 1024) : val_main_v33 (F := Ideal) a.ohg a.proj a.osb a.norms a.wout (ix2 r j) = a.mix r j := by
  pointwise [val_main_v33]
  simp only [ref_cat]
  rfl

/-- The first result. -/
theorem ref_cat_all : val_main_v34 (F := Ideal) a.ohg a.proj a.osb a.norms = a.catArr := by
  funext i
  idx_vars i
  pointwise [val_main_v34]
  rw [ref_cat]
  rfl

/-- The second result. -/
theorem ref_mix_all : val_main_v33 (F := Ideal) a.ohg a.proj a.osb a.norms a.wout = a.mixArr := by
  funext i
  idx_vars i
  rw [ref_mix]
  rfl

/-- The third result. -/
theorem ref_h1_all : val_main_v47 (F := Ideal) a.ohg a.proj a.osb a.x a.norms a.gpost a.wout = a.h1 := by
  funext i
  idx_vars i
  pointwise [val_main_v47, val_main_v46, val_main_v45, val_main_v44, val_main_v43, val_main_v42, val_main_v41, val_main_v40, val_main_v39, val_main_v38, val_main_v37, val_main_v36, val_main_v35,
    val_main_cst_5, val_main_cst_6, val_main_cst_7]
  simp only [ref_mix]
  rfl

end Cert.MixFwd
end
-- ==== Proof.MixFwdClaim.lean ====
/- The claim on the mixer's output norms, gate and projection: kernel and reference end with equal results. -/
module

public import proofs.«01_k».proof.Defs
public import proofs.«01_k».proof.Proof.MixFwdFinal
public import proofs.«01_k».proof.Proof.MixFwdRef
public import proofs.«01_k».proof.Proof.Gen.KernelMixFwd.Frame
public import proofs.«01_k».proof.Proof.Gen.KernelMixFwdIdeal.Frame

@[expose] public section

set_option maxRecDepth 16384

noncomputable section

namespace Cert.MixFwd

open Idealize.ShloMosaic Idealize.SL.Sem Cert.Reals

open Cert.ReferenceMixFwdIdeal Cert.ReferenceMixFwdIdeal.Read in
/-- The arguments the reference finds in memory. -/
def refArgs (m' : (ℓ : Loc Cert.ReferenceMixFwdIdeal.nD Cert.ReferenceMixFwdIdeal.τ Cert.ReferenceMixFwdIdeal.sig) → Buf (Elt Ideal) ℓ) (c : Dev Cert.ReferenceMixFwdIdeal.nD) : Args where
  ohg := m' ((c.tc : Thread nD τ).loc main_arg0)
  proj := m' ((c.tc : Thread nD τ).loc main_arg1)
  osb := m' ((c.tc : Thread nD τ).loc main_arg2)
  x := m' ((c.tc : Thread nD τ).loc main_arg3)
  norms := m' ((c.tc : Thread nD τ).loc main_arg4)
  gpost := m' ((c.tc : Thread nD τ).loc main_arg5)
  wout := m' ((c.tc : Thread nD τ).loc main_arg6)

/-- The kernel and the forward lines end with the same three arrays, whatever the arguments. -/
theorem algebraic : Cert.algebraic_KernelMixFwdIdeal_ReferenceMixFwdIdeal := by
  pair_intro
  · run_from Cert.KernelMixFwdIdeal.Value.run_blocks m g
  · have e : ∀ c, refArgs m' c = args m c := by
      intro c
      obtain ⟨h0, h1, h2, h3, h4, h5, h6⟩ := hagree c
      unfold refArgs args arr
      rw [h0, h1, h2, h3, h4, h5, h6]
    clear hagree
    run_from Cert.ReferenceMixFwdIdeal.Value.run m' g'
    · rw [final6, ← e c]
      exact (Cert.ReferenceMixFwdIdeal.Read.val_main_v34_eq _ _ _ _).trans (ref_cat_all (refArgs m' c))
    · rw [final7, ← e c]
      exact (Cert.ReferenceMixFwdIdeal.Read.val_main_v33_eq _ _ _ _ _).trans (ref_mix_all (refArgs m' c))
    · rw [final8, ← e c]
      exact (Cert.ReferenceMixFwdIdeal.Read.val_main_v47_eq m' c).trans (ref_h1_all (refArgs m' c))

/-- The reference runs, keeps its arguments and leaves every counter at zero. -/
theorem frame_reference : Cert.quiescent_ReferenceMixFwdIdeal := fun m ρ _ =>
  (θ_run Cert.ReferenceMixFwdIdeal.defs _ _).mono
    (fun r h => ⟨fun c => (h c).2.2.2, Idealize.ShloMosaic.sem_eq_zero_of_no_sems (by decide) r.2⟩)
    (Cert.ReferenceMixFwdIdeal.Value.run (F := Ideal) m ρ)

end Cert.MixFwd

end
-- ==== Proof.FfnFwdSpec.lean ====
/- What the feed-forward block computes, as formulas of its arguments. -/
module

public import proofs.«01_k».proof.Proof.Fwd

@[expose] public section

noncomputable section

namespace Cert.FfnFwd

open Idealize.ShloMosaic Cert.Fwd

/-- The arguments, as memory holds them. -/
structure Args where
  /-- the rows -/
  h1 : FVec Ideal ⟨2, ![4096, 1024]⟩ .f32
  /-- the weight of the norm before the block -/
  gpre : FVec Ideal ⟨2, ![1, 1024]⟩ .f32
  /-- the weight of the norm after it -/
  gpost : FVec Ideal ⟨2, ![1, 1024]⟩ .f32
  /-- gate and up projection -/
  wgu : FVec Ideal ⟨2, ![1024, 5632]⟩ .f32
  /-- the down projection -/
  wd : FVec Ideal ⟨2, ![2816, 1024]⟩ .f32

namespace Args

variable (a : Args)

/-- The rows, normalised and weighted. -/
def u (r : Fin 4096) (j : Fin 1024) : EReal := a.h1 (ix2 r j) * rs n1024 (fun k => a.h1 (ix2 r k)) * a.gpre (ix2 0 j)

/-- Gate and up projection, side by side. -/
def gu (r : Fin 4096) (j : Fin 5632) : EReal := ∑ k, a.u r k * a.wgu (ix2 k j)

/-- The activation. -/
def act (r : Fin 4096) (j : Fin 2816) : EReal :=
  a.gu r ⟨j.val, by omega⟩ * sigm (a.gu r ⟨j.val, by omega⟩) * a.gu r ⟨2816 + j.val, by omega⟩

/-- The block's product. -/
def y (r : Fin 4096) (j : Fin 1024) : EReal := ∑ k, a.act r k * a.wd (ix2 k j)

/-- The normalised rows, in bfloat16. -/
def ub : FVec Ideal ⟨2, ![4096, 1024]⟩ .bf16 := fun i => a.u (i 0) (i 1)

/-- Gate and up projection, in bfloat16. -/
def gub : FVec Ideal ⟨2, ![4096, 5632]⟩ .bf16 := fun i => a.gu (i 0) (i 1)

/-- The activation, in bfloat16. -/
def actb : FVec Ideal ⟨2, ![4096, 2816]⟩ .bf16 := fun i => a.act (i 0) (i 1)

/-- The block's product, as an array. -/
def yArr : FVec Ideal ⟨2, ![4096, 1024]⟩ .f32 := fun i => a.y (i 0) (i 1)

/-- The rows after the block. -/
def h2 : FVec Ideal ⟨2, ![4096, 1024]⟩ .f32 := fun i =>
  a.h1 (ix2 (i 0) (i 1)) + a.y (i 0) (i 1) * rs n1024 (fun k => a.y (i 0) k) * a.gpost (ix2 0 (i 1))

end Args

end Cert.FfnFwd

end
-- ==== Proof.FfnFwdPay.lean ====
/- What the payloads of the feed-forward block compute at an index, from blocks that hold rows `φ r` of the arguments. -/
module

public import proofs.«01_k».proof.Proof.FfnFwdSpec
public import proofs.«01_k».proof.Proof.Gen.KernelFfnFwdIdeal.Skeleton

@[expose] public section

set_option maxRecDepth 16384

noncomputable section

namespace Cert.FfnFwd

open Idealize.ShloMosaic Cert.KernelFfnFwdIdeal Cert.KernelFfnFwdIdeal.Gen Cert.Reals Cert.Fwd

variable (a : Args) (φ : Fin 256 → Fin 4096) (x : FVec Ideal S256x1024 .f32) (g : FVec Ideal S1x1024 .f32)

/-- The rows, normalised and weighted. -/
theorem u_block (hx : ∀ r j, x (ix2 r j) = a.h1 (ix2 (φ r) j)) (hg : ∀ j, g (ix2 0 j) = a.gpre (ix2 0 j)) (r : Fin 256) (j : Fin 1024) :
    k0_pay3 (F := Ideal) x g (ix2 r j) = a.u (φ r) j := by
  pointwise [k0_pay3]
  simp only [hx, hg]
  rfl

/-- The column of the gate. -/
def lo (j : Fin 2816) : Fin 5632 := ⟨j.val, by omega⟩

/-- The column of the up projection. -/
def hi (j : Fin 2816) : Fin 5632 := ⟨2816 + j.val, by omega⟩

variable (G U : FVec Ideal S256x2816 .f32) (hG : ∀ r (j : Fin 2816), G (ix2 r j) = a.gu (φ r) (lo j))
  (hU : ∀ r (j : Fin 2816), U (ix2 r j) = a.gu (φ r) (hi j)) (w : FVec Ideal S2816x1024 .bf16) (hw : ∀ j k, w (ix2 j k) = a.wd (ix2 j k))
include hG hU

/-- The activation. -/
theorem act_block (r : Fin 256) (j : Fin 2816) : k0_pay10 (F := Ideal) G U (ix2 r j) = a.act (φ r) j := by
  pointwise [k0_pay10]
  simp only [hG, hU, zero_sub]
  rfl

include hw

/-- The block's product. -/
theorem y_block (r : Fin 256) (j : Fin 1024) : k0_pay1 (F := Ideal) (k0_pay10 G U) w (ix2 r j) = a.y (φ r) j := by
  pointwise [k0_pay1]
  simp only [act_block a φ G U hG hU, hw]
  rfl

/-- The rows after the block. -/
theorem h2_block (gp : FVec Ideal S1x1024 .f32) (hx : ∀ r j, x (ix2 r j) = a.h1 (ix2 (φ r) j)) (hg : ∀ j, gp (ix2 0 j) = a.gpost (ix2 0 j)) (r : Fin 256) (j : Fin 1024) :
    k0_pay2 (F := Ideal) x (k0_pay10 G U) w gp (ix2 r j) = a.h2 (ix2 (φ r) j) := by
  pointwise [k0_pay2]
  simp only [y_block a φ G U hG hU w hw, hx, hg]
  rfl

omit hG hU hw

/-- Column `x` of column block `q`. -/
def col (q : Fin 4) (x : Fin 1408) : Fin 5632 := ⟨q.val * 1408 + x.val, by omega⟩

/-- One column block of the product. -/
theorem g_piece (u : FVec Ideal S256x1024 .bf16) (hu : ∀ r k, u (ix2 r k) = a.u (φ r) k) (q : Fin 4)
    (w : FVec Ideal S1x1024x1408 .bf16) (hw : ∀ (k : Fin 1024) (x : Fin 1408), w (ix3 0 k x) = a.wgu (ix2 k (col q x)))
    (x0 : Fin 256) (x1 : Fin 1408) (r : Fin 256) (j : Fin 5632) (h0 : r.val = x0.val) (h1 : j.val = q.val * 1408 + x1.val) :
    ∑ k, u (ix2 x0 k) * w (ix3 0 k x1) = a.gu (φ r) j := by
  obtain rfl : r = x0 := Fin.ext h0
  have e1 : col q x1 = j := Fin.ext h1.symm
  simp only [hu, hw, e1]
  rfl

/-- The four stores that fill the scratch memory of gate and up projection. -/
def ppcs (w0 w1 w2 w3 : FVec Ideal S1x1024x1408 .bf16) : List (View.Piece (Elt Ideal) S256x5632 .f32) :=
  [⟨Rect.unit ![0, 4224] ![256, 1408] inb_S256x5632_S256x1408_0_4224, k0_pay8 (F := Ideal) (k0_pay3 x g) w3⟩,
    ⟨Rect.unit ![0, 2816] ![256, 1408] inb_S256x5632_S256x1408_0_2816, k0_pay7 (F := Ideal) (k0_pay3 x g) w2⟩,
    ⟨Rect.unit ![0, 1408] ![256, 1408] inb_S256x5632_S256x1408_0_1408, k0_pay6 (F := Ideal) (k0_pay5 x g w1)⟩,
    ⟨Rect.unit ![0, 0] ![256, 1408] inb_S256x5632_S256x1408_0_0, k0_pay4 (F := Ideal) x g w0⟩]

variable (hx : ∀ r j, x (ix2 r j) = a.h1 (ix2 (φ r) j)) (hg : ∀ j, g (ix2 0 j) = a.gpre (ix2 0 j)) (w0 w1 w2 w3 : FVec Ideal S1x1024x1408 .bf16)
  (hw0 : ∀ (k : Fin 1024) (x : Fin 1408), w0 (ix3 0 k x) = a.wgu (ix2 k (col 0 x))) (hw1 : ∀ (k : Fin 1024) (x : Fin 1408), w1 (ix3 0 k x) = a.wgu (ix2 k (col 1 x))) (hw2 : ∀ (k : Fin 1024) (x : Fin 1408), w2 (ix3 0 k x) = a.wgu (ix2 k (col 2 x))) (hw3 : ∀ (k : Fin 1024) (x : Fin 1408), w3 (ix3 0 k x) = a.wgu (ix2 k (col 3 x)))
include hx hg hw0 hw1 hw2 hw3

/-- What they fill it with. -/
theorem ppcs_canon (r : Fin 256) (j : Fin 5632) : View.canon (ppcs x g w0 w1 w2 w3) (ix2 r j) = a.gu (φ r) j := by
  have hu := u_block a φ x g hx hg
  unfold ppcs
  canon_tiles x h
  · idx_vars x
    pointwise [k0_pay8]
    exact g_piece a φ _ hu 3 w3 hw3 x0 x1 r j h0 h1
  · idx_vars x
    pointwise [k0_pay7]
    exact g_piece a φ _ hu 2 w2 hw2 x0 x1 r j h0 h1
  · idx_vars x
    pointwise [k0_pay6, k0_pay5]
    exact g_piece a φ _ hu 1 w1 hw1 x0 x1 r j h0 (h1.trans (by show 1408 + x1.val = 1 * 1408 + x1.val; omega))
  · idx_vars x
    pointwise [k0_pay4]
    exact g_piece a φ _ hu 0 w0 hw0 x0 x1 r j h0 (h1.trans (by show x1.val = 0 * 1408 + x1.val; omega))

/-- A run of columns of it, read back. -/
theorem ppcs_load (v : View sig .tc .vmem S256x5632 .f32) (o n : ℕ) (inb : ∀ a, (![0, o] : Fin 2 → ℕ) a + (![256, n] : Fin 2 → ℕ) a ≤ S256x5632.size a)
    (r : Fin 256) (i : Fin n) (j : Fin 5632) (hj : j.val = o + i.val) :
    v.readCov (ppcs x g w0 w1 w2 w3) (Rect.unit (s := S256x5632) ![0, o] ![256, n] inb).toLoadRect (ix2 r i) = a.gu (φ r) j := by
  have e : (Rect.unit (s := S256x5632) ![0, o] ![256, n] inb).toLoadRect.idx (ix2 r i) = ix2 r j := by
    funext a
    fin_cases a
    · exact Fin.ext (by show 0 + 1 * r.val = r.val; omega)
    · exact Fin.ext (by show o + 1 * i.val = j.val; omega)
  rw [View.readCov_eq_canon']
  exact (congrArg (View.canon (ppcs x g w0 w1 w2 w3)) e).trans (ppcs_canon a φ x g hx hg w0 w1 w2 w3 hw0 hw1 hw2 hw3 r j)

end Cert.FfnFwd
end
-- ==== Proof.FfnFwdKernel.lean ====
/- The blocks, the weights and the scratch of the feed-forward block, as formulas of its arguments. -/
module

public import proofs.«01_k».proof.Proof.FfnFwdPay
public import proofs.«01_k».proof.Proof.Gen.KernelFfnFwdIdeal.Value

@[expose] public section

set_option maxRecDepth 16384

noncomputable section

namespace Cert.FfnFwd

open Idealize.ShloMosaic Idealize.ShloMosaic.TcCoe Idealize.SL.Sem Cert.KernelFfnFwdIdeal Cert.KernelFfnFwdIdeal.Gen Cert.Reals Cert.Fwd

variable (m : (ℓ : Loc nD τ sig) → Buf (Elt Ideal) ℓ) (c : Dev nD)

/-- Row `r` of the block of 256 rows that grid point `t` works on. -/
def row (t : Fin cfg0.N) (r : Fin 256) : Fin 4096 := ⟨256 * t.val + r.val, by have := t.isLt; have h : cfg0.N = 16 := N_0; omega⟩

/-- An argument of the kernel, as memory holds it. -/
abbrev arr (b : Ref sig .tc) : Buf (Elt Ideal) ((c : Thread nD τ).loc b) := m ((c : Thread nD τ).loc b)

/-- The arguments the kernel finds in memory. -/
def args : Args where
  h1 := arr m c main_arg0
  gpre := arr m c main_arg1
  gpost := arr m c main_arg2
  wgu := arr m c main_arg3
  wd := arr m c main_arg4

/-- Which block of its array each window holds at a point. -/
theorem idx : ∀ t : Fin cfg0.N, win0_0.index t = ![t.val, 0] ∧ win0_1.index t = ![0, 0] ∧ win0_2.index t = ![0, 0] ∧ win0_3.index t = ![t.val, 0] ∧ win0_4.index t = ![t.val, 0] ∧
    win0_5.index t = ![t.val, 0] ∧ win0_6.index t = ![t.val, 0] ∧ win0_7.index t = ![t.val, 0] :=
  (by decide +kernel : ∀ t : Fin grid0.N, _)

/-- The block of the rows at point `t`. -/
theorem blk0 (t : Fin cfg0.N) (r : Fin 256) (j : Fin 1024) : iblk m c 0 t (ix2 r j) = (args m c).h1 (ix2 (row t r) j) := by
  blk_point [iblk, idx t, row]

/-- The first norm's weight, the same at every point. -/
theorem blk1 (t : Fin cfg0.N) (j : Fin 1024) : iblk m c 1 t (ix2 0 j) = (args m c).gpre (ix2 0 j) := by
  blk_point [iblk, idx t]

/-- The second norm's weight, the same at every point. -/
theorem blk2 (t : Fin cfg0.N) (j : Fin 1024) : iblk m c 2 t (ix2 0 j) = (args m c).gpost (ix2 0 j) := by
  blk_point [iblk, idx t]

/-- The weight of four column blocks as the host hands it over. -/
theorem wgu_entry (q : Fin 4) (j : Fin 1024) (k : Fin 1408) : (V m c main_v2) (ix3 q j k) = (args m c).wgu (ix2 j (col q k)) := by
  entry_read
  pointwise
  rfl

/-- A load of one of the weight's four column blocks, out of the copy of it that point 0 makes. -/
theorem wgu_load (q : Fin 4) (w : Vec Ideal S4x1024x1408 .bf16) (hw : w = V m c main_v2)
    (inb : ∀ a, (![q.val, 0, 0] : Fin 3 → ℕ) a + (![1, 1024, 1408] : Fin 3 → ℕ) a ≤ S4x1024x1408.size a) (j : Fin 1024) (x : Fin 1408) :
    View.ld (Val := Elt Ideal) (e' := .bf16) w (Rect.unit (s := S4x1024x1408) ![q.val, 0, 0] ![1, 1024, 1408] inb) (ix3 0 j x)
      = (args m c).wgu (ix2 j (col q x)) := by
  rw [hw, ← wgu_entry]
  show V m c main_v2 _ = _
  congr 1
  funext a
  fin_cases a
  · exact Fin.ext (by show q.val + 1 * 0 = q.val; omega)
  · exact Fin.ext (by show 0 + 1 * j.val = j.val; omega)
  · exact Fin.ext (by show 0 + 1 * x.val = x.val; omega)

/-- The copy of the weight holds what the host hands over. -/
theorem wgu_canon (y : S4x1024x1408.Idx) :
    View.canon (Val := Elt Ideal) (s := S4x1024x1408) (e := .bf16) [⟨Rect.whole S4x1024x1408, ReadAs.same.apply (View.read (Elt Ideal) (View.whole main_v2) (V m c main_v2))⟩] y = V m c main_v2 y := by
  canon_tiles x h
  obtain rfl : y = x := by
    funext a
    fin_cases a
    · exact Fin.ext h0
    · exact Fin.ext h1
    · exact Fin.ext h2
  rfl

/-- The down projection as the host hands it over. -/
theorem wd_entry (j : Fin 2816) (k : Fin 1024) : (V m c main_v3) (ix2 j k) = (args m c).wd (ix2 j k) := by
  entry_read
  pointwise
  rfl

/-- The copy of the down projection holds what the host hands over. -/
theorem wd_canon (y : S2816x1024.Idx) :
    View.canon (Val := Elt Ideal) (s := S2816x1024) (e := .bf16) [⟨Rect.whole S2816x1024, ReadAs.same.apply (View.read (Elt Ideal) (View.whole main_v3) (V m c main_v3))⟩] y = V m c main_v3 y := by
  canon_tiles x h
  obtain rfl : y = x := by
    funext a
    fin_cases a
    · exact Fin.ext h0
    · exact Fin.ext h1
  rfl

/-- The first point leaves the weights in the scratch memory. -/
theorem scr_A (t : Fin cfg0.N) (h : t.val % 16 = 0) : (outsAt0 m c t.val t.isLt).2.2.2.2.2 = (V m c main_v2, V m c main_v3) := by
  rw [outsAt0_A m c t h h]
  refine Prod.ext ?_ ?_
  · frame_out
    exact funext (wgu_canon m c)
  · frame_out
    exact funext (wd_canon m c)

/-- A later point leaves the scratch memory as it is. -/
theorem scr_B (t : Fin cfg0.N) (h : ¬ t.val % 16 = 0) : (outsAt0 m c t.val t.isLt).2.2.2.2.2 = (outsAt0 m c (t.val - 1) (by omega)).2.2.2.2.2 := by
  rw [outsAt0_B m c t h h]
  rfl

/-- The scratch memory holds the weights after every point. -/
theorem scr : ∀ (n : ℕ) (hn : n < cfg0.N), (outsAt0 m c n hn).2.2.2.2.2 = (V m c main_v2, V m c main_v3)
  | 0, hn => scr_A m c ⟨0, hn⟩ rfl
  | n + 1, hn => by
    have hN : cfg0.N = 16 := N_0
    exact (scr_B m c ⟨n + 1, hn⟩ (by show ¬ (n + 1) % 16 = 0; omega)).trans (scr n (by omega))

end Cert.FfnFwd
end
-- ==== Proof.FfnFwdPoints.lean ====
/- What a grid point of the feed-forward block leaves in its outputs. -/
module

public import proofs.«01_k».proof.Proof.FfnFwdKernel

@[expose] public section

set_option maxRecDepth 16384

noncomputable section

namespace Cert.FfnFwd

open Idealize.ShloMosaic Idealize.ShloMosaic.TcCoe Idealize.SL.Sem Cert.KernelFfnFwdIdeal Cert.KernelFfnFwdIdeal.Gen Cert.Reals Cert.Fwd

variable (m : (ℓ : Loc nD τ sig) → Buf (Elt Ideal) ℓ) (c : Dev nD)

/-- What every point leaves, from the gate `G`, the up projection `U` and the down projection's weight `w` as it reads them back. -/
structure Outs (t : Fin cfg0.N) (G U : FVec Ideal S256x2816 .f32) (w : FVec Ideal S2816x1024 .bf16) : Prop where
  hG : ∀ r (j : Fin 2816), G (ix2 r j) = (args m c).gu (row t r) (lo j)
  hU : ∀ r (j : Fin 2816), U (ix2 r j) = (args m c).gu (row t r) (hi j)
  hw : ∀ j k, w (ix2 j k) = (args m c).wd (ix2 j k)
  o3 : ∀ r (j : Fin 1024), (outsAt0 m c t.val t.isLt).1 (ix2 r j) = (args m c).u (row t r) j
  o4 : ∀ r (j : Fin 5632), (outsAt0 m c t.val t.isLt).2.1 (ix2 r j) = (args m c).gu (row t r) j
  o5 : ∀ r (j : Fin 2816), (outsAt0 m c t.val t.isLt).2.2.1 (ix2 r j) = k0_pay10 (F := Ideal) G U (ix2 r j)
  o6 : ∀ r (j : Fin 1024), (outsAt0 m c t.val t.isLt).2.2.2.1 (ix2 r j) = k0_pay1 (F := Ideal) (k0_pay10 G U) w (ix2 r j)
  o7 : ∀ r (j : Fin 1024), (outsAt0 m c t.val t.isLt).2.2.2.2.1 (ix2 r j) = k0_pay2 (F := Ideal) (iblk m c 0 t) (k0_pay10 G U) w (iblk m c 2 t) (ix2 r j)

/-- What point 0 leaves. -/
theorem out_A (t : Fin cfg0.N) (h : t.val % 16 = 0) : ∃ (G U : FVec Ideal S256x2816 .f32) (w : FVec Ideal S2816x1024 .bf16), Outs m c t G U w := by
  refine' ⟨_, _, _, ⟨?hG, ?hU, ?hw, ?h3, ?h4, ?h5, ?h6, ?h7⟩⟩
  case h7 =>
    intro r j
    rw [outsAt0_A m c t h h]
    frame_out
    rfl
  case hG =>
    intro r j
    refine ppcs_load (args m c) (row t) _ _ (blk0 m c t) (blk1 m c t) _ _ _ _ ?_ ?_ ?_ ?_ _ 0 2816 inb_S256x5632_S256x2816_0_0 r j _ (Nat.zero_add _).symm
    exacts [fun k x => (congrFun (View.readCov_eq_canon' _ _ _) _).trans (wgu_load m c 0 _ (funext (wgu_canon m c)) _ k x), fun k x => (congrFun (View.readCov_eq_canon' _ _ _) _).trans (wgu_load m c 1 _ (funext (wgu_canon m c)) _ k x), fun k x => (congrFun (View.readCov_eq_canon' _ _ _) _).trans (wgu_load m c 2 _ (funext (wgu_canon m c)) _ k x), fun k x => (congrFun (View.readCov_eq_canon' _ _ _) _).trans (wgu_load m c 3 _ (funext (wgu_canon m c)) _ k x)]
  case hU =>
    intro r j
    refine ppcs_load (args m c) (row t) _ _ (blk0 m c t) (blk1 m c t) _ _ _ _ ?_ ?_ ?_ ?_ _ 2816 2816 inb_S256x5632_S256x2816_0_2816 r j _ rfl
    exacts [fun k x => (congrFun (View.readCov_eq_canon' _ _ _) _).trans (wgu_load m c 0 _ (funext (wgu_canon m c)) _ k x), fun k x => (congrFun (View.readCov_eq_canon' _ _ _) _).trans (wgu_load m c 1 _ (funext (wgu_canon m c)) _ k x), fun k x => (congrFun (View.readCov_eq_canon' _ _ _) _).trans (wgu_load m c 2 _ (funext (wgu_canon m c)) _ k x), fun k x => (congrFun (View.readCov_eq_canon' _ _ _) _).trans (wgu_load m c 3 _ (funext (wgu_canon m c)) _ k x)]
  case hw =>
    intro r j
    rw [View.readCov_eq_canon']
    refine (wd_canon m c _).trans ((congrArg (V m c main_v3) ?_).trans (wd_entry m c r j))
    funext a
    fin_cases a
    · exact Fin.ext (by show 0 + 1 * r.val = r.val; omega)
    · exact Fin.ext (by show 0 + 1 * j.val = j.val; omega)
  case h3 =>
    intro r j
    rw [outsAt0_A m c t h h]
    frame_out
    exact u_block (args m c) (row t) _ _ (blk0 m c t) (blk1 m c t) r j
  case h4 =>
    intro r j
    rw [outsAt0_A m c t h h]
    frame_out
    pointwise [k0_pay9]
    refine ppcs_load (args m c) (row t) _ _ (blk0 m c t) (blk1 m c t) _ _ _ _ ?_ ?_ ?_ ?_ _ 0 5632 inb_S256x5632_S256x5632_0_0 r j _ (Nat.zero_add _).symm
    exacts [fun k x => (congrFun (View.readCov_eq_canon' _ _ _) _).trans (wgu_load m c 0 _ (funext (wgu_canon m c)) _ k x), fun k x => (congrFun (View.readCov_eq_canon' _ _ _) _).trans (wgu_load m c 1 _ (funext (wgu_canon m c)) _ k x), fun k x => (congrFun (View.readCov_eq_canon' _ _ _) _).trans (wgu_load m c 2 _ (funext (wgu_canon m c)) _ k x), fun k x => (congrFun (View.readCov_eq_canon' _ _ _) _).trans (wgu_load m c 3 _ (funext (wgu_canon m c)) _ k x)]
  case h5 =>
    intro r j
    rw [outsAt0_A m c t h h]
    frame_out
  case h6 =>
    intro r j
    rw [outsAt0_A m c t h h]
    frame_out

/-- What a later point leaves. -/
theorem out_B (t : Fin cfg0.N) (h : ¬ t.val % 16 = 0) : ∃ (G U : FVec Ideal S256x2816 .f32) (w : FVec Ideal S2816x1024 .bf16), Outs m c t G U w := by
  have hs := scr m c (t.val - 1) (by have := t.isLt; omega)
  have hs1 := congrArg Prod.fst hs
  have hs2 := congrArg Prod.snd hs
  refine' ⟨_, _, _, ⟨?hG, ?hU, ?hw, ?h3, ?h4, ?h5, ?h6, ?h7⟩⟩
  case h7 =>
    intro r j
    rw [outsAt0_B m c t h h]
    frame_out
    rfl
  case hG =>
    intro r j
    refine ppcs_load (args m c) (row t) _ _ (blk0 m c t) (blk1 m c t) _ _ _ _ ?_ ?_ ?_ ?_ _ 0 2816 inb_S256x5632_S256x2816_0_0 r j _ (Nat.zero_add _).symm
    exacts [fun k x => wgu_load m c 0 _ (((Memref.isWhole_whole _).read_unread _).trans hs1) _ k x, fun k x => wgu_load m c 1 _ (((Memref.isWhole_whole _).read_unread _).trans hs1) _ k x, fun k x => wgu_load m c 2 _ (((Memref.isWhole_whole _).read_unread _).trans hs1) _ k x, fun k x => wgu_load m c 3 _ (((Memref.isWhole_whole _).read_unread _).trans hs1) _ k x]
  case hU =>
    intro r j
    refine ppcs_load (args m c) (row t) _ _ (blk0 m c t) (blk1 m c t) _ _ _ _ ?_ ?_ ?_ ?_ _ 2816 2816 inb_S256x5632_S256x2816_0_2816 r j _ rfl
    exacts [fun k x => wgu_load m c 0 _ (((Memref.isWhole_whole _).read_unread _).trans hs1) _ k x, fun k x => wgu_load m c 1 _ (((Memref.isWhole_whole _).read_unread _).trans hs1) _ k x, fun k x => wgu_load m c 2 _ (((Memref.isWhole_whole _).read_unread _).trans hs1) _ k x, fun k x => wgu_load m c 3 _ (((Memref.isWhole_whole _).read_unread _).trans hs1) _ k x]
  case hw =>
    intro r j
    exact (congrFun (((Memref.isWhole_whole _).read_unread _).trans hs2) _).trans (wd_entry m c r j)
  case h3 =>
    intro r j
    rw [outsAt0_B m c t h h]
    frame_out
    exact u_block (args m c) (row t) _ _ (blk0 m c t) (blk1 m c t) r j
  case h4 =>
    intro r j
    rw [outsAt0_B m c t h h]
    frame_out
    pointwise [k0_pay9]
    refine ppcs_load (args m c) (row t) _ _ (blk0 m c t) (blk1 m c t) _ _ _ _ ?_ ?_ ?_ ?_ _ 0 5632 inb_S256x5632_S256x5632_0_0 r j _ (Nat.zero_add _).symm
    exacts [fun k x => wgu_load m c 0 _ (((Memref.isWhole_whole _).read_unread _).trans hs1) _ k x, fun k x => wgu_load m c 1 _ (((Memref.isWhole_whole _).read_unread _).trans hs1) _ k x, fun k x => wgu_load m c 2 _ (((Memref.isWhole_whole _).read_unread _).trans hs1) _ k x, fun k x => wgu_load m c 3 _ (((Memref.isWhole_whole _).read_unread _).trans hs1) _ k x]
  case h5 =>
    intro r j
    rw [outsAt0_B m c t h h]
    frame_out
  case h6 =>
    intro r j
    rw [outsAt0_B m c t h h]
    frame_out

/-- Every point's outputs come of some arrays it read back. -/
theorem outs (t : Fin cfg0.N) : ∃ (G U : FVec Ideal S256x2816 .f32) (w : FVec Ideal S2816x1024 .bf16), Outs m c t G U w := by
  by_cases h : t.val % 16 = 0
  · exact out_A m c t h
  · exact out_B m c t h

end Cert.FfnFwd
end
-- ==== Proof.FfnFwdFinal.lean ====
/- The arrays the feed-forward block ends with. -/
module

public import proofs.«01_k».proof.Proof.FfnFwdPoints

@[expose] public section

set_option maxRecDepth 16384

noncomputable section

namespace Cert.FfnFwd

open Idealize.ShloMosaic Idealize.ShloMosaic.TcCoe Idealize.SL.Sem Cert.KernelFfnFwdIdeal Cert.KernelFfnFwdIdeal.Gen Cert.Reals Cert.Fwd

variable (m : (ℓ : Loc nD τ sig) → Buf (Elt Ideal) ℓ) (c : Dev nD)

/-- The normalised numbers of a point's rows. -/
theorem out3 (t : Fin cfg0.N) (r : Fin 256) (j : Fin 1024) : (outsAt0 m c t.val t.isLt).1 (ix2 r j) = (args m c).ub (ix2 (row t r) j) := by
  obtain ⟨G, U, w, o⟩ := outs m c t
  exact o.o3 r j

/-- The normalised numbers, as the kernel leaves them. -/
theorem final3 : (dats m 0 c).arrAt 3 cfg0.N = (args m c).ub := by
  refine (dats m 0 c).arrAt_eq_of_covers 3 _ (by decide +kernel) fun t _ y => ?_
  blk_simp
  rw [after0_3]
  idx_vars y
  rw [out3]
  have e : ((View.whole main_v4_0).slice (win0_3.rect t)).emb (ix2 y0 y1) = ix2 (row t y0) y1 := by blk_ext [idx t, row]
  rw [e]

/-- Gate and up projection of a point's rows. -/
theorem out4 (t : Fin cfg0.N) (r : Fin 256) (j : Fin 5632) : (outsAt0 m c t.val t.isLt).2.1 (ix2 r j) = (args m c).gub (ix2 (row t r) j) := by
  obtain ⟨G, U, w, o⟩ := outs m c t
  exact o.o4 r j

/-- Gate and up projection, as the kernel leaves them. -/
theorem final4 : (dats m 0 c).arrAt 4 cfg0.N = (args m c).gub := by
  refine (dats m 0 c).arrAt_eq_of_covers 4 _ (by decide +kernel) fun t _ y => ?_
  blk_simp
  rw [after0_4]
  idx_vars y
  rw [out4]
  have e : ((View.whole main_v4_1).slice (win0_4.rect t)).emb (ix2 y0 y1) = ix2 (row t y0) y1 := by blk_ext [idx t, row]
  rw [e]

/-- The activations of a point's rows. -/
theorem out5 (t : Fin cfg0.N) (r : Fin 256) (j : Fin 2816) : (outsAt0 m c t.val t.isLt).2.2.1 (ix2 r j) = (args m c).actb (ix2 (row t r) j) := by
  obtain ⟨G, U, w, o⟩ := outs m c t
  exact (o.o5 r j).trans (act_block (args m c) (row t) G U o.hG o.hU r j)

/-- The activations, as the kernel leaves them. -/
theorem final5 : (dats m 0 c).arrAt 5 cfg0.N = (args m c).actb := by
  refine (dats m 0 c).arrAt_eq_of_covers 5 _ (by decide +kernel) fun t _ y => ?_
  blk_simp
  rw [after0_5]
  idx_vars y
  rw [out5]
  have e : ((View.whole main_v4_2).slice (win0_5.rect t)).emb (ix2 y0 y1) = ix2 (row t y0) y1 := by blk_ext [idx t, row]
  rw [e]

/-- The products of a point's rows. -/
theorem out6 (t : Fin cfg0.N) (r : Fin 256) (j : Fin 1024) : (outsAt0 m c t.val t.isLt).2.2.2.1 (ix2 r j) = (args m c).yArr (ix2 (row t r) j) := by
  obtain ⟨G, U, w, o⟩ := outs m c t
  exact (o.o6 r j).trans (y_block (args m c) (row t) G U o.hG o.hU w o.hw r j)

/-- The products, as the kernel leaves them. -/
theorem final6 : (dats m 0 c).arrAt 6 cfg0.N = (args m c).yArr := by
  refine (dats m 0 c).arrAt_eq_of_covers 6 _ (by decide +kernel) fun t _ y => ?_
  blk_simp
  rw [after0_6]
  idx_vars y
  rw [out6]
  have e : ((View.whole main_v4_3).slice (win0_6.rect t)).emb (ix2 y0 y1) = ix2 (row t y0) y1 := by blk_ext [idx t, row]
  rw [e]

/-- The results of a point's rows. -/
theorem out7 (t : Fin cfg0.N) (r : Fin 256) (j : Fin 1024) : (outsAt0 m c t.val t.isLt).2.2.2.2.1 (ix2 r j) = (args m c).h2 (ix2 (row t r) j) := by
  obtain ⟨G, U, w, o⟩ := outs m c t
  exact (o.o7 r j).trans (h2_block (args m c) (row t) _ G U o.hG o.hU w o.hw _ (blk0 m c t) (blk2 m c t) r j)

/-- The results, as the kernel leaves them. -/
theorem final7 : (dats m 0 c).arrAt 7 cfg0.N = (args m c).h2 := by
  refine (dats m 0 c).arrAt_eq_of_covers 7 _ (by decide +kernel) fun t _ y => ?_
  blk_simp
  rw [after0_7]
  idx_vars y
  rw [out7]
  have e : ((View.whole main_v4_4).slice (win0_7.rect t)).emb (ix2 y0 y1) = ix2 (row t y0) y1 := by blk_ext [idx t, row]
  rw [e]

end Cert.FfnFwd
end
-- ==== Proof.FfnFwdRef.lean ====
/- What the reference of the feed-forward block computes. -/
module

public import proofs.«01_k».proof.Proof.FfnFwdSpec
public import proofs.«01_k».proof.Proof.Gen.ReferenceFfnFwdIdeal.Run
public import proofs.«01_k».proof.Proof.Gen.ReferenceFfnFwdIdeal.Read
public import Idealize.ShloMosaic.Lib.Pointwise

@[expose] public section

set_option maxRecDepth 16384

noncomputable section

namespace Cert.FfnFwd

open Idealize.ShloMosaic Cert.ReferenceFfnFwdIdeal Cert.ReferenceFfnFwdIdeal.Read Cert.Reals Cert.Fwd

variable (a : Args)

/-- The rows, normalised and weighted. -/
theorem ref_u (r : Fin 4096) (j : Fin 1024) : val_main_v11 (F := Ideal) a.h1 a.gpre (ix2 r j) = a.u r j := by
  pointwise [val_main_v11, val_main_v10, val_main_v9, val_main_v8, val_main_v7, val_main_v6, val_main_v5, val_main_v4, val_main_v3, val_main_v2, val_main_v1, val_main_v0,
    val_main_cst, val_main_cst_0, val_main_cst_1]
  rfl

/-- Gate and up projection. -/
theorem ref_gu (r : Fin 4096) (j : Fin 5632) : val_main_v12 (F := Ideal) a.h1 a.gpre a.wgu (ix2 r j) = a.gu r j := by
  pointwise [val_main_v12]
  simp only [ref_u]
  rfl

/-- The activation. -/
theorem ref_act (r : Fin 4096) (j : Fin 2816) : val_main_v16 (F := Ideal) a.h1 a.gpre a.wgu (ix2 r j) = a.act r j := by
  pointwise [val_main_v16, val_main_v15, val_main_call0_v5, val_main_call0_v4, val_main_call0_v3, val_main_call0_v2, val_main_call0_v1, val_main_call0_v0, val_main_v14, val_main_v13,
    val_main_call0_cst, val_main_call0_cst_0]
  simp only [ref_gu]
  rfl

/-- The block's product. -/
theorem ref_y (r : Fin 4096) (j : Fin 1024) : val_main_v17 (F := Ideal) a.h1 a.gpre a.wgu a.wd (ix2 r j) = a.y r j := by
  pointwise [val_main_v17]
  simp only [ref_act]
  rfl

/-- The first result. -/
theorem ref_u_all : val_main_v18 (F := Ideal) a.h1 a.gpre = a.ub := by
  funext i
  idx_vars i
  pointwise [val_main_v18]
  rw [ref_u]
  rfl

/-- The second result. -/
theorem ref_gu_all : val_main_v19 (F := Ideal) a.h1 a.gpre a.wgu = a.gub := by
  funext i
  idx_vars i
  pointwise [val_main_v19]
  rw [ref_gu]
  rfl

/-- The third result. -/
theorem ref_act_all : val_main_v20 (F := Ideal) a.h1 a.gpre a.wgu = a.actb := by
  funext i
  idx_vars i
  pointwise [val_main_v20]
  rw [ref_act]
  rfl

/-- The fourth result. -/
theorem ref_y_all : val_main_v17 (F := Ideal) a.h1 a.gpre a.wgu a.wd = a.yArr := by
  funext i
  idx_vars i
  rw [ref_y]
  rfl

/-- The fifth result. -/
theorem ref_h2_all : val_main_v33 (F := Ideal) a.h1 a.gpre a.gpost a.wgu a.wd = a.h2 := by
  funext i
  idx_vars i
  pointwise [val_main_v33, val_main_v32, val_main_v31, val_main_v30, val_main_v29, val_main_v28, val_main_v27, val_main_v26, val_main_v25, val_main_v24, val_main_v23, val_main_v22, val_main_v21,
    val_main_cst_2, val_main_cst_3, val_main_cst_4]
  simp only [ref_y]
  rfl

end Cert.FfnFwd
end
-- ==== Proof.FfnFwdClaim.lean ====
/- The claim on the feed-forward block: kernel and reference end with equal results. -/
module

public import proofs.«01_k».proof.Defs
public import proofs.«01_k».proof.Proof.FfnFwdFinal
public import proofs.«01_k».proof.Proof.FfnFwdRef
public import proofs.«01_k».proof.Proof.Gen.KernelFfnFwd.Frame
public import proofs.«01_k».proof.Proof.Gen.KernelFfnFwdIdeal.Frame

@[expose] public section

set_option maxRecDepth 16384

noncomputable section

namespace Cert.FfnFwd

open Idealize.ShloMosaic Idealize.SL.Sem Cert.Reals Cert.Fwd

open Cert.ReferenceFfnFwdIdeal Cert.ReferenceFfnFwdIdeal.Read in
/-- The arguments the reference finds in memory. -/
def refArgs (m' : (ℓ : Loc Cert.ReferenceFfnFwdIdeal.nD Cert.ReferenceFfnFwdIdeal.τ Cert.ReferenceFfnFwdIdeal.sig) → Buf (Elt Ideal) ℓ) (c : Dev Cert.ReferenceFfnFwdIdeal.nD) : Args where
  h1 := m' ((c.tc : Thread nD τ).loc main_arg0)
  gpre := m' ((c.tc : Thread nD τ).loc main_arg1)
  gpost := m' ((c.tc : Thread nD τ).loc main_arg2)
  wgu := m' ((c.tc : Thread nD τ).loc main_arg3)
  wd := m' ((c.tc : Thread nD τ).loc main_arg4)

/-- The kernel and the forward lines end with the same arrays, whatever the arguments. -/
theorem algebraic : Cert.algebraic_KernelFfnFwdIdeal_ReferenceFfnFwdIdeal := by
  pair_intro
  · run_from Cert.KernelFfnFwdIdeal.Value.run_blocks m g
  · have e : ∀ c, refArgs m' c = args m c := by
      intro c
      obtain ⟨h0, h1, h2, h3, h4⟩ := hagree c
      unfold refArgs args arr
      rw [h0, h1, h2, h3, h4]
    clear hagree
    run_from Cert.ReferenceFfnFwdIdeal.Value.run m' g'
    · rw [final3, ← e c]
      exact (Cert.ReferenceFfnFwdIdeal.Read.val_main_v18_eq _ _).trans (ref_u_all (refArgs m' c))
    · rw [final4, ← e c]
      exact (Cert.ReferenceFfnFwdIdeal.Read.val_main_v19_eq _ _ _).trans (ref_gu_all (refArgs m' c))
    · rw [final5, ← e c]
      exact (Cert.ReferenceFfnFwdIdeal.Read.val_main_v20_eq _ _ _).trans (ref_act_all (refArgs m' c))
    · rw [final6, ← e c]
      exact (Cert.ReferenceFfnFwdIdeal.Read.val_main_v17_eq _ _ _ _).trans (ref_y_all (refArgs m' c))
    · rw [final7, ← e c]
      exact (Cert.ReferenceFfnFwdIdeal.Read.val_main_v33_eq m' c).trans (ref_h2_all (refArgs m' c))

/-- The reference runs, keeps its arguments and leaves every counter at zero. -/
theorem frame_reference : Cert.quiescent_ReferenceFfnFwdIdeal := fun m ρ _ =>
  (θ_run Cert.ReferenceFfnFwdIdeal.defs _ _).mono
    (fun r h => ⟨fun c => (h c).2.2.2.2.2, Idealize.ShloMosaic.sem_eq_zero_of_no_sems (by decide) r.2⟩)
    (Cert.ReferenceFfnFwdIdeal.Value.run (F := Ideal) m ρ)

end Cert.FfnFwd
end
-- ==== Proof.WgSpec.lean ====
/- What the weight's gradient is, as a formula of the call's arguments. -/
module

public import proofs.«01_k».proof.Proof.Reals

@[expose] public section

set_option maxRecDepth 16384

noncomputable section

namespace Cert.Wg

open Idealize.ShloMosaic

/-- The arguments, as memory holds them. -/
structure Args where
  /-- the rows the weight was applied to -/
  u : FVec Ideal ⟨2, ![4096, 1024]⟩ .f32
  /-- the derivative by the products of all rows -/
  dgu : FVec Ideal ⟨2, ![4096, 5632]⟩ .f32

/-- Column `x` of column block `q` of four. -/
def col (q : Fin 4) (x : Fin 1408) : Fin 5632 := ⟨1408 * q.val + x.val, by omega⟩

/-- The derivative by the weight's entry in row `j`, column `k`: a sum over all rows. -/
def Args.dw (a : Args) (j : Fin 1024) (k : Fin 5632) : EReal := ∑ r, a.u (ix2 r j) * a.dgu (ix2 r k)

/-- The gradient as an array of four column blocks. -/
def Args.grad (a : Args) : FVec Ideal ⟨3, ![4, 1024, 1408]⟩ .f32 := fun i => a.dw (i 1) (col (i 0) (i 2))

end Cert.Wg

end
-- ==== Proof.WgFinal.lean ====
/- The array the weight's gradient ends with. -/
module

public import proofs.«01_k».proof.Proof.WgSpec
public import proofs.«01_k».proof.Proof.Gen.KernelWgIdeal.Value
public import Idealize.ShloMosaic.Lib.Pointwise

@[expose] public section

set_option maxRecDepth 16384

noncomputable section

namespace Cert.Wg

open Idealize.ShloMosaic Idealize.ShloMosaic.TcCoe Idealize.SL.Sem Cert.KernelWgIdeal Cert.KernelWgIdeal.Gen Cert.Reals

variable (m : (ℓ : Loc nD τ sig) → Buf (Elt Ideal) ℓ) (c : Dev nD)

/-- An argument of the kernel, as memory holds it. -/
abbrev arr (b : Ref sig .tc) : Buf (Elt Ideal) ((c : Thread nD τ).loc b) := m ((c : Thread nD τ).loc b)

/-- The arguments the kernel finds in memory. -/
def args : Args where
  u := arr m c main_arg0
  dgu := arr m c main_arg1

/-- Row `r` of the half of the rows that grid point `t` works on. -/
def row (t : Fin cfg0.N) (r : Fin 2048) : Fin 4096 := ⟨2048 * (t.val % 2) + r.val, by omega⟩

/-- Column `x` of the column block that grid point `t` works on. -/
def pcol (t : Fin cfg0.N) (x : Fin 1408) : Fin 5632 := ⟨1408 * (t.val / 2) + x.val, by have := t.isLt; have h : cfg0.N = 8 := N_0; omega⟩

/-- Which block of its array each window holds at a point. -/
theorem idx : ∀ t : Fin cfg0.N, win0_0.index t = ![t.val % 2, 0] ∧ win0_1.index t = ![t.val % 2, t.val / 2] :=
  (by decide +kernel : ∀ t : Fin grid0.N, _)

/-- The rows as the host hands them over. -/
theorem u_entry (r : Fin 4096) (j : Fin 1024) : (V m c main_v0) (ix2 r j) = (args m c).u (ix2 r j) := by
  entry_read
  pointwise
  rfl

/-- The derivative as the host hands it over. -/
theorem dgu_entry (r : Fin 4096) (k : Fin 5632) : (V m c main_v1) (ix2 r k) = (args m c).dgu (ix2 r k) := by
  entry_read
  pointwise
  rfl

/-- The rows' block at a point. -/
theorem blk0 (t : Fin cfg0.N) (r : Fin 2048) (j : Fin 1024) : iblk m c 0 t (ix2 r j) = (args m c).u (ix2 (row t r) j) := by
  rw [← u_entry]
  blk_point [iblk, idx t, row]

/-- The derivative's block at a point. -/
theorem blk1 (t : Fin cfg0.N) (r : Fin 2048) (x : Fin 1408) : iblk m c 1 t (ix2 r x) = (args m c).dgu (ix2 (row t r) (pcol t x)) := by
  rw [← dgu_entry]
  blk_point [iblk, idx t, row, pcol]

/-- A point adds the product of its blocks to what the window held. -/
theorem pay2 (t : Fin cfg0.N) (acc : Vec Ideal S1x1024x1408 .f32) (j : Fin 1024) (x : Fin 1408) :
    k0_pay2 (F := Ideal) acc (iblk m c 0 t) (iblk m c 1 t) (ix3 0 j x)
      = acc (ix3 0 j x) + ∑ r, (args m c).u (ix2 (row t r) j) * (args m c).dgu (ix2 (row t r) (pcol t x)) := by
  pointwise [k0_pay2]
  simp only [blk0, blk1]

/-- The first point of a column block starts from zero. -/
theorem pay1 (j : Fin 1024) (x : Fin 1408) : k0_pay1 (F := Ideal) (ix3 0 j x) = 0 := by
  pointwise [k0_pay1]

/-- The even grid point that starts column block `q`. -/
def start (q : Fin 4) : Fin cfg0.N := ⟨2 * q.val, by have h : cfg0.N = 8 := N_0; omega⟩

/-- The odd grid point that ends column block `q`. -/
def stop (q : Fin 4) : Fin cfg0.N := ⟨2 * q.val + 1, by have h : cfg0.N = 8 := N_0; omega⟩

/-- The two halves of the rows together are all rows. -/
theorem halves (q : Fin 4) (j : Fin 1024) (x : Fin 1408) :
    0 + (∑ r, (args m c).u (ix2 (row (start q) r) j) * (args m c).dgu (ix2 (row (start q) r) (pcol (start q) x)))
      + (∑ r, (args m c).u (ix2 (row (stop q) r) j) * (args m c).dgu (ix2 (row (stop q) r) (pcol (stop q) x)))
      = (args m c).dw j (col q x) := by
  have c0 : pcol (start q) x = col q x := Fin.ext (by show 1408 * (2 * q.val / 2) + x.val = 1408 * q.val + x.val; omega)
  have c1 : pcol (stop q) x = col q x := Fin.ext (by show 1408 * ((2 * q.val + 1) / 2) + x.val = 1408 * q.val + x.val; omega)
  have r0 : ∀ r : Fin 2048, row (start q) r = Fin.castAdd 2048 r := fun r => Fin.ext (by show 2048 * (2 * q.val % 2) + r.val = r.val; omega)
  have r1 : ∀ r : Fin 2048, row (stop q) r = Fin.natAdd 2048 r := fun r => Fin.ext (by show 2048 * ((2 * q.val + 1) % 2) + r.val = 2048 + r.val; omega)
  simp only [c0, c1, r0, r1, zero_add]
  exact (Fin.sum_univ_add (fun r : Fin (2048 + 2048) => (args m c).u (ix2 r j) * (args m c).dgu (ix2 r (col q x)))).symm

/-- What the window holds after the two points of column block `q`. -/
theorem acc (q : Fin 4) (n : ℕ) (hn : n = 2 * q.val) (h : n + 1 < cfg0.N) (j : Fin 1024) (x : Fin 1408) :
    Pipeline.accAt (Cert.KernelWgIdeal.Value.reset2 m c) (Cert.KernelWgIdeal.Value.step2 m c) n 1 h (ix3 0 j x) = (args m c).dw j (col q x) := by
  subst hn
  exact (pay2 m c (stop q) _ j x).trans ((congrArg (· + _) ((pay2 m c (start q) _ j x).trans (congrArg (· + _) (pay1 j x)))).trans (halves m c q j x))

/-- The gradient, as the kernel leaves it. -/
theorem final : Cert.KernelWgIdeal.Value.G2 m c = (args m c).grad := by
  funext i
  idx_vars i
  have hr : Cert.KernelWgIdeal.Value.run2Of (ix3 i0 i1 i2) = i0.val := by
    show 1 * (i0.val / 1 - 0) + 1 * (i1.val / 1024 - 0) + 1 * (i2.val / 1408 - 0) = i0.val
    omega
  have hl : Cert.KernelWgIdeal.Value.loc2Of (ix3 i0 i1 i2) = ix3 0 i1 i2 := by
    funext a
    fin_cases a
    · exact Fin.ext (by show i0.val % 1 = 0; omega)
    · exact Fin.ext (by show i1.val % 1024 = i1.val; omega)
    · exact Fin.ext (by show i2.val % 1408 = i2.val; omega)
  have h : 2 * i0.val + 1 < cfg0.N := (stop i0).isLt
  unfold Cert.KernelWgIdeal.Value.G2
  rw [dif_pos (by rw [hr]; exact h), hl]
  exact acc m c i0 _ (by rw [hr]) _ i1 i2

end Cert.Wg
end
-- ==== Proof.WgRef.lean ====
/- What the reference of the weight's gradient computes. -/
module

public import proofs.«01_k».proof.Proof.WgSpec
public import proofs.«01_k».proof.Proof.Gen.ReferenceWgIdeal.Run
public import proofs.«01_k».proof.Proof.Gen.ReferenceWgIdeal.Read
public import Idealize.ShloMosaic.Lib.Pointwise

@[expose] public section

set_option maxRecDepth 16384

noncomputable section

namespace Cert.Wg

open Idealize.ShloMosaic Cert.ReferenceWgIdeal Cert.ReferenceWgIdeal.Read Cert.Reals

variable (a : Args)

/-- The derivative by the weight, before it is cut into column blocks. -/
theorem ref_dw (j : Fin 1024) (k : Fin 5632) : val_main_v3 (F := Ideal) a.u a.dgu (ix2 j k) = a.dw j k := by
  pointwise [val_main_v3, val_main_v2]
  exact Finset.sum_congr rfl fun r _ => mul_comm _ _

/-- The result. -/
theorem ref_grad : val_main_v12 (F := Ideal) a.u a.dgu = a.grad := by
  funext i
  idx_vars i
  pointwise [val_main_v12, val_main_v11, val_main_v10, val_main_v9, val_main_v8, val_main_v7, val_main_v6, val_main_v5, val_main_v4]
  simp only [ref_dw]
  split_ifs with h0 h1 h2
  · exact congrArg (a.dw i1) (Fin.ext (by show i2.val = 1408 * i0.val + i2.val; omega))
  · exact congrArg (a.dw i1) (Fin.ext (by show 1408 + i2.val = 1408 * i0.val + i2.val; omega))
  · exact congrArg (a.dw i1) (Fin.ext (by show 2816 + i2.val = 1408 * i0.val + i2.val; omega))
  · exact congrArg (a.dw i1) (Fin.ext (by show 4224 + i2.val = 1408 * i0.val + i2.val; omega))

end Cert.Wg
end
-- ==== Proof.WgClaim.lean ====
/- The claim on the weight's gradient: kernel and reference end with equal results. -/
module

public import proofs.«01_k».proof.Defs
public import proofs.«01_k».proof.Proof.WgFinal
public import proofs.«01_k».proof.Proof.WgRef
public import proofs.«01_k».proof.Proof.Gen.KernelWg.Frame
public import proofs.«01_k».proof.Proof.Gen.KernelWgIdeal.Frame

@[expose] public section

set_option maxRecDepth 16384

noncomputable section

namespace Cert.Wg

open Idealize.ShloMosaic Idealize.SL.Sem Cert.Reals

open Cert.ReferenceWgIdeal Cert.ReferenceWgIdeal.Read in
/-- The arguments the reference finds in memory. -/
def refArgs (m' : (ℓ : Loc Cert.ReferenceWgIdeal.nD Cert.ReferenceWgIdeal.τ Cert.ReferenceWgIdeal.sig) → Buf (Elt Ideal) ℓ) (c : Dev Cert.ReferenceWgIdeal.nD) : Args where
  u := m' ((c.tc : Thread nD τ).loc main_arg0)
  dgu := m' ((c.tc : Thread nD τ).loc main_arg1)

/-- The kernel and the derivative of the product by its weight end with the same array, whatever the arguments. -/
theorem algebraic : Cert.algebraic_KernelWgIdeal_ReferenceWgIdeal := by
  pair_intro
  · run_from Cert.KernelWgIdeal.Value.run m g
  · have e : ∀ c, refArgs m' c = args m c := by
      intro c
      obtain ⟨h0, h1⟩ := hagree c
      unfold refArgs args arr
      rw [h0, h1]
    clear hagree
    run_from Cert.ReferenceWgIdeal.Value.run m' g'
    rw [final, ← e c]
    exact (Cert.ReferenceWgIdeal.Read.val_main_v12_eq _ _).trans (ref_grad (refArgs m' c))

/-- The reference runs, keeps its arguments and leaves every counter at zero. -/
theorem frame_reference : Cert.quiescent_ReferenceWgIdeal := fun m ρ _ =>
  (θ_run Cert.ReferenceWgIdeal.defs _ _).mono
    (fun r h => ⟨fun c => (h c).2, Idealize.ShloMosaic.sem_eq_zero_of_no_sems (by decide) r.2⟩)
    (Cert.ReferenceWgIdeal.Value.run (F := Ideal) m ρ)

end Cert.Wg
end
-- ==== Proof.AdamSpec.lean ====
/- What one step of the optimiser computes, as formulas of its arguments. -/
module

public import proofs.«01_k».proof.Proof.Reals

@[expose] public section

set_option maxRecDepth 16384

noncomputable section

namespace Cert.Adam

open Idealize.ShloMosaic

/-- The arguments, as memory holds them. -/
structure Args where
  /-- the weight -/
  w : FVec Ideal ⟨2, ![1024, 1408]⟩ .f32
  /-- its gradient, summed over all devices -/
  g : FVec Ideal ⟨2, ![1024, 1408]⟩ .f32
  /-- the first moment before the step -/
  mo : FVec Ideal ⟨2, ![1024, 1408]⟩ .f32
  /-- the second moment before the step -/
  v : FVec Ideal ⟨2, ![1024, 1408]⟩ .f32

namespace Args

variable (a : Args)

/-- The first moment after the step: the old one and the gradient, weighted. -/
def m1 : FVec Ideal ⟨2, ![1024, 1408]⟩ .f32 := fun i =>
  Ideal.ofBits .f32 0x3F666666#32 * a.mo i + Ideal.ofBits .f32 0x3DCCCCCD#32 * a.g i

/-- The second moment after the step: the old one and the gradient's square, weighted. -/
def v1 : FVec Ideal ⟨2, ![1024, 1408]⟩ .f32 := fun i =>
  Ideal.ofBits .f32 0x3F7FBE77#32 * a.v i + Ideal.ofBits .f32 0x3A83126F#32 * (a.g i * a.g i)

/-- The change of the weight: the corrected first moment over the root of the corrected second one, with the
    weight's decay, times the negative step length. -/
def delta : FVec Ideal ⟨2, ![1024, 1408]⟩ .f32 := fun i =>
  Ideal.ofBits .f32 0xBA83126F#32 *
    (Ideal.div (Ideal.div (a.m1 i) (Ideal.ofBits .f32 0x3F26BD02#32))
        (Ideal.sqrt (Ideal.div (a.v1 i) (Ideal.ofBits .f32 0x3C231ACC#32)) + Ideal.ofBits .f32 0x322BCC77#32)
      + Ideal.ofBits .f32 0x3C23D70A#32 * a.w i)

end Args

end Cert.Adam

end
-- ==== Proof.AdamFinal.lean ====
/- The arrays the optimiser's step ends with. -/
module

public import proofs.«01_k».proof.Proof.AdamSpec
public import proofs.«01_k».proof.Proof.Gen.KernelAdamIdeal.Value
public import Idealize.ShloMosaic.Lib.Pointwise

@[expose] public section

set_option maxRecDepth 16384

noncomputable section

namespace Cert.Adam

open Idealize.ShloMosaic Idealize.ShloMosaic.TcCoe Idealize.SL.Sem Cert.KernelAdamIdeal Cert.KernelAdamIdeal.Gen Cert.Reals

variable (m : (ℓ : Loc nD τ sig) → Buf (Elt Ideal) ℓ) (c : Dev nD)

/-- Row `r` of the block of 256 rows that grid point `t` works on. -/
def row (t : Fin cfg0.N) (r : Fin 256) : Fin 1024 := ⟨256 * t.val + r.val, by have := t.isLt; have h : cfg0.N = 4 := N_0; omega⟩

/-- An argument of the kernel, as memory holds it. -/
abbrev arr (b : Ref sig .tc) : Buf (Elt Ideal) ((c : Thread nD τ).loc b) := m ((c : Thread nD τ).loc b)

/-- The arguments the kernel finds in memory. -/
def args : Args where
  w := arr m c main_arg0
  g := arr m c main_arg1
  mo := arr m c main_arg2
  v := arr m c main_arg3

/-- Which block of its array each window holds at a point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧
    win0_5.index t = ![t.val, 0] ∧ win0_6.index t = ![t.val, 0] ∧ win0_7.index t = ![t.val, 0] :=
  (by decide +kernel : ∀ t : Fin grid0.N, _)

/-- The weight's block at a point. -/
theorem blk0 (t : Fin cfg0.N) (r : Fin 256) (j : Fin 1408) : iblk m c 0 t (ix2 r j) = (args m c).w (ix2 (row t r) j) := by
  blk_point [iblk, idx t, row]

/-- The gradient's block at a point. -/
theorem blk1 (t : Fin cfg0.N) (r : Fin 256) (j : Fin 1408) : iblk m c 1 t (ix2 r j) = (args m c).g (ix2 (row t r) j) := by
  blk_point [iblk, idx t, row]

/-- The first moment's block at a point. -/
theorem blk2 (t : Fin cfg0.N) (r : Fin 256) (j : Fin 1408) : iblk m c 2 t (ix2 r j) = (args m c).mo (ix2 (row t r) j) := by
  blk_point [iblk, idx t, row]

/-- The second moment's block at a point. -/
theorem blk3 (t : Fin cfg0.N) (r : Fin 256) (j : Fin 1408) : iblk m c 3 t (ix2 r j) = (args m c).v (ix2 (row t r) j) := by
  blk_point [iblk, idx t, row]

/-- The new first moment of a block. -/
theorem pay1 (t : Fin cfg0.N) (r : Fin 256) (j : Fin 1408) :
    k0_pay1 (F := Ideal) (iblk m c 1 t) (iblk m c 2 t) (ix2 r j) = (args m c).m1 (ix2 (row t r) j) := by
  pointwise [k0_pay1]
  rw [blk1, blk2]
  rfl

/-- The new second moment of a block. -/
theorem pay2 (t : Fin cfg0.N) (r : Fin 256) (j : Fin 1408) :
    k0_pay2 (F := Ideal) (iblk m c 1 t) (iblk m c 3 t) (ix2 r j) = (args m c).v1 (ix2 (row t r) j) := by
  pointwise [k0_pay2]
  rw [blk1, blk3]
  rfl

/-- The change of a block of the weight. -/
theorem pay3 (t : Fin cfg0.N) (r : Fin 256) (j : Fin 1408) :
    k0_pay3 (F := Ideal) (iblk m c 0 t) (iblk m c 1 t) (iblk m c 2 t) (iblk m c 3 t) (ix2 r j) = (args m c).delta (ix2 (row t r) j) := by
  pointwise [k0_pay3]
  rw [pay1, pay2, blk0]
  rfl

/-- The gradient, as the kernel hands it back. -/
theorem final4 : (dats m 0 c).arrAt 4 cfg0.N = (args m c).g := by
  refine (dats m 0 c).arrAt_eq_of_covers 4 _ (by decide +kernel) fun t _ y => ?_
  blk_simp
  rw [after0_4]
  idx_vars y
  have e : ((View.whole main_v0_0).slice (win0_4.rect t)).emb (ix2 y0 y1) = ix2 (row t y0) y1 := by blk_ext [idx t, row]
  rw [e, ← blk1]
  frame_out

/-- The change of the weight, as the kernel leaves it. -/
theorem final5 : (dats m 0 c).arrAt 5 cfg0.N = (args m c).delta := by
  refine (dats m 0 c).arrAt_eq_of_covers 5 _ (by decide +kernel) fun t _ y => ?_
  blk_simp
  rw [after0_5]
  idx_vars y
  have e : ((View.whole main_v0_1).slice (win0_5.rect t)).emb (ix2 y0 y1) = ix2 (row t y0) y1 := by blk_ext [idx t, row]
  rw [e, ← pay3]
  frame_out

/-- The new first moment, as the kernel leaves it. -/
theorem final6 : (dats m 0 c).arrAt 6 cfg0.N = (args m c).m1 := by
  refine (dats m 0 c).arrAt_eq_of_covers 6 _ (by decide +kernel) fun t _ y => ?_
  blk_simp
  rw [after0_6]
  idx_vars y
  have e : ((View.whole main_v0_2).slice (win0_6.rect t)).emb (ix2 y0 y1) = ix2 (row t y0) y1 := by blk_ext [idx t, row]
  rw [e, ← pay1]
  frame_out

/-- The new second moment, as the kernel leaves it. -/
theorem final7 : (dats m 0 c).arrAt 7 cfg0.N = (args m c).v1 := by
  refine (dats m 0 c).arrAt_eq_of_covers 7 _ (by decide +kernel) fun t _ y => ?_
  blk_simp
  rw [after0_7]
  idx_vars y
  have e : ((View.whole main_v0_3).slice (win0_7.rect t)).emb (ix2 y0 y1) = ix2 (row t y0) y1 := by blk_ext [idx t, row]
  rw [e, ← pay2]
  frame_out

end Cert.Adam
end
-- ==== Proof.AdamRef.lean ====
/- What the reference of the optimiser's step computes. -/
module

public import proofs.«01_k».proof.Proof.AdamSpec
public import proofs.«01_k».proof.Proof.Gen.ReferenceAdamIdeal.Run
public import proofs.«01_k».proof.Proof.Gen.ReferenceAdamIdeal.Read
public import Idealize.ShloMosaic.Lib.Pointwise

@[expose] public section

set_option maxRecDepth 16384

noncomputable section

namespace Cert.Adam

open Idealize.ShloMosaic Cert.ReferenceAdamIdeal Cert.ReferenceAdamIdeal.Read Cert.Reals

variable (a : Args)

/-- The third result: the new first moment. -/
theorem ref_m : val_main_v4 (F := Ideal) a.g a.mo = a.m1 := by
  funext i
  idx_vars i
  pointwise [val_main_v4, val_main_v3, val_main_v2, val_main_v1, val_main_v0, val_main_cst, val_main_cst_0]
  rfl

/-- The fourth result: the new second moment. -/
theorem ref_v : val_main_v10 (F := Ideal) a.g a.v = a.v1 := by
  funext i
  idx_vars i
  pointwise [val_main_v10, val_main_v9, val_main_v8, val_main_v7, val_main_v6, val_main_v5, val_main_cst_1, val_main_cst_2]
  rfl

/-- The second result: the change of the weight. -/
theorem ref_delta : val_main_v23 (F := Ideal) a.w a.g a.mo a.v = a.delta := by
  funext i
  idx_vars i
  pointwise [val_main_v23, val_main_v22, val_main_v21, val_main_v20, val_main_v19, val_main_v18, val_main_v17, val_main_v16, val_main_v15, val_main_v14, val_main_v13, val_main_v12, val_main_v11,
    val_main_cst_3, val_main_cst_4, val_main_cst_5, val_main_cst_6, val_main_cst_7]
  rw [ref_m, ref_v]
  rfl

end Cert.Adam
end
-- ==== Proof.AdamClaim.lean ====
/- The claim on the optimiser's step: kernel and reference end with equal results. -/
module

public import proofs.«01_k».proof.Defs
public import proofs.«01_k».proof.Proof.AdamFinal
public import proofs.«01_k».proof.Proof.AdamRef
public import proofs.«01_k».proof.Proof.Gen.KernelAdam.Frame
public import proofs.«01_k».proof.Proof.Gen.KernelAdamIdeal.Frame

@[expose] public section

set_option maxRecDepth 16384

noncomputable section

namespace Cert.Adam

open Idealize.ShloMosaic Idealize.SL.Sem Cert.Reals

open Cert.ReferenceAdamIdeal Cert.ReferenceAdamIdeal.Read in
/-- The arguments the reference finds in memory. -/
def refArgs (m' : (ℓ : Loc Cert.ReferenceAdamIdeal.nD Cert.ReferenceAdamIdeal.τ Cert.ReferenceAdamIdeal.sig) → Buf (Elt Ideal) ℓ) (c : Dev Cert.ReferenceAdamIdeal.nD) : Args where
  w := m' ((c.tc : Thread nD τ).loc main_arg0)
  g := m' ((c.tc : Thread nD τ).loc main_arg1)
  mo := m' ((c.tc : Thread nD τ).loc main_arg2)
  v := m' ((c.tc : Thread nD τ).loc main_arg3)

/-- The kernel and the optimiser's lines end with the same arrays, whatever the arguments. -/
theorem algebraic : Cert.algebraic_KernelAdamIdeal_ReferenceAdamIdeal := by
  pair_intro
  · run_from Cert.KernelAdamIdeal.Value.run_blocks m g
  · have e : ∀ c, refArgs m' c = args m c := by
      intro c
      obtain ⟨h0, h1, h2, h3⟩ := hagree c
      unfold refArgs args arr
      rw [h0, h1, h2, h3]
    clear hagree
    run_from Cert.ReferenceAdamIdeal.Value.run m' g'
    · rw [final4, ← e c]
      rfl
    · rw [final5, ← e c]
      exact (Cert.ReferenceAdamIdeal.Read.val_main_v23_eq _ _ _ _).trans (ref_delta (refArgs m' c))
    · rw [final6, ← e c]
      exact (Cert.ReferenceAdamIdeal.Read.val_main_v4_eq _ _).trans (ref_m (refArgs m' c))
    · rw [final7, ← e c]
      exact (Cert.ReferenceAdamIdeal.Read.val_main_v10_eq _ _).trans (ref_v (refArgs m' c))

/-- The reference runs, keeps its arguments and leaves every counter at zero. -/
theorem frame_reference : Cert.quiescent_ReferenceAdamIdeal := fun m ρ _ =>
  (θ_run Cert.ReferenceAdamIdeal.defs _ _).mono
    (fun r h => ⟨fun c => (h c).2.2.2.2, Idealize.ShloMosaic.sem_eq_zero_of_no_sems (by decide) r.2⟩)
    (Cert.ReferenceAdamIdeal.Value.run (F := Ideal) m ρ)

end Cert.Adam
end
-- ==== Proof.HgFwdFrame.lean ====
/- The frame of the recurrence's reference. -/
module

public import proofs.«01_k».proof.Defs
public import proofs.«01_k».proof.Proof.Gen.ReferenceHgFwdIdeal.Run

@[expose] public section

noncomputable section

namespace Cert.HgFwd

open Idealize.ShloMosaic Idealize.SL.Sem

/-- The reference of the recurrence runs, keeps its arguments and leaves every counter at zero. -/
theorem frame_reference : Cert.quiescent_ReferenceHgFwdIdeal := fun m ρ _ =>
  (θ_run Cert.ReferenceHgFwdIdeal.defs _ _).mono
    (fun r h => ⟨fun c => (h c).2.2, Idealize.ShloMosaic.sem_eq_zero_of_no_sems (by decide) r.2⟩)
    (Cert.ReferenceHgFwdIdeal.Value.run (F := Ideal) m ρ)

end Cert.HgFwd
end
-- ==== Proof.AddKernel.lean ====
/- The sum of two cores' halves of a gradient: the block of every window lies inside its array. -/
module

public import proofs.«01_k».proof.Proof.Reals
public import proofs.«01_k».proof.Proof.Gen.KernelAddIdeal.Frame
public import Idealize.ShloMosaic.Lib.Pointwise

@[expose] public section

set_option maxRecDepth 16384

noncomputable section

namespace Cert.Add

open Idealize.ShloMosaic Idealize.ShloMosaic.TcCoe Idealize.SL.Sem Cert.KernelAddIdeal Cert.KernelAddIdeal.Gen Cert.Reals

variable (m : (ℓ : Loc nD τ sig) → Buf (Elt Ideal) ℓ)

/-- The word that names the core is zero. -/
theorem tbl0 (y : S1.Idx) : tbl m 0 y = 0#32 := by
  show V m 0 main_v0 y = _
  entry_read
  pointwise

/-- Which block of its array the first window holds at a point. -/
theorem tr0 (i : grid0.Coords) : cc0_transform_0 inb_S1_S1_0 numel1_S1 (tbl m) i = ![(i 0).val, 0, 0] := by
  have e : (tbl m).at 0 (Rect.unit (s := S1) ![0] S1.size inb_S1_S1_0) numel1_S1 = 0#32 := tbl0 m _
  unfold cc0_transform_0
  simp only [e]
  exact (by decide +kernel : ∀ i : grid0.Coords, ![(BitVec.ofNat 32 (i 0).val).toNat, (Scalar.addi (Scalar.muli 0#32 1#32) (BitVec.ofNat 32 (i 1).val)).toNat, (0#32 : BitVec 32).toNat] = ![(i 0).val, 0, 0]) i

/-- Every window's block lies inside its array. -/
theorem ok : Ok m := by
  unfold Ok ok0
  simp only [tr0]
  exact fun i => ⟨(by decide +kernel : ∀ i : grid0.Coords, ∀ a : Fin 3, (![(i 0).val, 0, 0] a + 1) * S1x512x1408.size a ≤ S4x1024x1408.size a) i, Or.inl rfl⟩

end Cert.Add
end
-- ==== Proof.AddFinal.lean ====
/- The arrays the sum of two cores' halves ends with. -/
module

public import proofs.«01_k».proof.Proof.AddKernel

@[expose] public section

set_option maxRecDepth 16384

noncomputable section

namespace Cert.Add

open Idealize.ShloMosaic Idealize.ShloMosaic.TcCoe Idealize.SL.Sem Cert.KernelAddIdeal Cert.KernelAddIdeal.Gen Cert.Reals

/-- The arguments, as memory holds them. -/
structure Args where
  /-- the gradient, of which the first half of each piece's rows is this core's -/
  grad : FVec Ideal ⟨3, ![4, 1024, 1408]⟩ .f32
  /-- the other core's part of that half -/
  got : FVec Ideal ⟨3, ![4, 512, 1408]⟩ .f32

/-- A row of the first half, among all rows. -/
def low (r : Fin 512) : Fin 1024 := ⟨r.val, by omega⟩

/-- The sum, in bfloat16. -/
def Args.total (a : Args) : FVec Ideal ⟨3, ![4, 512, 1408]⟩ .bf16 := fun i => a.grad (ix3 (i 0) (low (i 1)) (i 2)) + a.got (ix3 (i 0) (i 1) (i 2))

variable (m : (ℓ : Loc nD τ sig) → Buf (Elt Ideal) ℓ) (c : Dev nD)

/-- An argument of the kernel, as memory holds it. -/
abbrev arr (b : Ref sig .tc) : Buf (Elt Ideal) ((c : Thread nD τ).loc b) := m ((c : Thread nD τ).loc b)

/-- The arguments the kernel finds in memory. -/
def args : Args where
  grad := arr m c main_arg0
  got := arr m c main_arg1

/-- The kernel's pipeline with the word it reads. -/
abbrev cfg : Pipeline.Cfg sig Λ₀ := cfgM m (ok m)

/-- The piece that grid point `t` works on. -/
def piece (t : Fin (cfg m).N) : Fin 4 := ⟨t.val, t.isLt⟩

/-- The coordinates of a grid point. -/
theorem coords : ∀ t : Fin grid0.N, (grid0.coords t 0).val = t.val ∧ (grid0.coords t 1).val = 0 := by decide +kernel

/-- Which block of its array each window holds at a point. -/
theorem idx (t : Fin (cfg m).N) : ((cfg m).win 0).index t = ![t.val, 0, 0] ∧ ((cfg m).win 1).index t = ![t.val, 0, 0] ∧
    ((cfg m).win 2).index t = ![t.val, 0, 0] ∧ ((cfg m).win 3).index t = ![t.val, 0, 0] := by
  refine ⟨?_, ?_, ?_, ?_⟩
  · refine (tr0 m (grid0.coords t)).trans ?_
    rw [(coords t).1]
  · exact (by decide +kernel : ∀ t : Fin grid0.N, cc0_transform_1 (grid0.coords t) = ![t.val, 0, 0]) t
  · exact (by decide +kernel : ∀ t : Fin grid0.N, cc0_transform_2 (grid0.coords t) = ![t.val, 0, 0]) t
  · exact (by decide +kernel : ∀ t : Fin grid0.N, cc0_transform_3 (grid0.coords t) = ![t.val, 0, 0]) t

/-- This core's half of a piece of the gradient. -/
theorem blk0 (t : Fin (cfg m).N) (r : Fin 512) (j : Fin 1408) : iblk m (ok m) c 0 t (ix3 0 r j) = (args m c).grad (ix3 (piece m t) (low r) j) := by
  blk_point [iblk, idx m t, piece, low]

/-- The other core's half of it. -/
theorem blk1 (t : Fin (cfg m).N) (r : Fin 512) (j : Fin 1408) : iblk m (ok m) c 1 t (ix3 0 r j) = (args m c).got (ix3 (piece m t) r j) := by
  blk_point [iblk, idx m t, piece, low]

/-- The sum of a point's blocks. -/
theorem pay1 (t : Fin (cfg m).N) (r : Fin 512) (j : Fin 1408) :
    k0_pay1 (F := Ideal) (iblk m (ok m) c 0 t) (iblk m (ok m) c 1 t) (ix3 0 r j) = (args m c).total (ix3 (piece m t) r j) := by
  pointwise [k0_pay1]
  rw [blk0, blk1]
  rfl

/-- The copy of the sum that the second result takes. -/
theorem pay2 (x : FVec Ideal S1x512x1408 .bf16) (r : Fin 512) (j : Fin 1408) : k0_pay2 (F := Ideal) x (ix3 0 r j) = x (ix3 0 r j) := by
  pointwise [k0_pay2]

/-- Where an entry of a point's block of the first result lies in the array. -/
theorem emb2 (t : Fin (cfg m).N) (r : Fin 512) (j : Fin 1408) : (((cfg m).win 2).blk t).view.emb (ix3 0 r j) = ix3 (piece m t) r j := by
  blk_ext [idx m t, piece]

/-- Where an entry of a point's block of the second result lies in the array. -/
theorem emb3 (t : Fin (cfg m).N) (r : Fin 512) (j : Fin 1408) : (((cfg m).win 3).blk t).view.emb (ix3 0 r j) = ix3 (piece m t) r j := by
  blk_ext [idx m t, piece]

/-- What a point leaves for the first result. -/
theorem out2 (t : Fin (cfg m).N) (y : S1x512x1408.Idx) : (outsAt0 m (ok m) c t).1 y = (args m c).total ((((cfg m).win 2).blk t).view.emb y) := by
  idx_vars y
  obtain rfl : y0 = 0 := Subsingleton.elim _ _
  rw [emb2, ← pay1]
  unfold outsAt0
  frame_out
  exact congrArg₂ (fun a b => k0_pay1 (F := Ideal) a b (ix3 0 y1 y2)) (Memref.IsWhole.read_unread _ _) (Memref.IsWhole.read_unread _ _)

/-- What a point leaves for the second result. -/
theorem out3 (t : Fin (cfg m).N) (y : S1x512x1408.Idx) : (outsAt0 m (ok m) c t).2 y = (args m c).total ((((cfg m).win 3).blk t).view.emb y) := by
  idx_vars y
  obtain rfl : y0 = 0 := Subsingleton.elim _ _
  rw [emb3, ← pay1]
  unfold outsAt0
  frame_out
  refine (pay2 _ _ _).trans ?_
  exact congrArg₂ (fun a b => k0_pay1 (F := Ideal) a b (ix3 0 y1 y2)) (Memref.IsWhole.read_unread _ _) (Memref.IsWhole.read_unread _ _)

/-- The blocks of the first result cover it. -/
theorem cov2 : ((cfg m).win 2).Covers := by
  have n : ∀ a : Fin 3, ((cfg m).win 2).nblk a = (S4x512x1408.size a + S1x512x1408.size a - 1) / S1x512x1408.size a := by
    intro a
    unfold Pipeline.Window.nblk
    rfl
  have e : ∀ a : Fin 3, (S4x512x1408.size a + S1x512x1408.size a - 1) / S1x512x1408.size a = ![4, 1, 1] a := by decide +kernel
  refine ⟨(by decide : ∀ a : Fin 3, 0 < S1x512x1408.size a), fun β => ?_⟩
  have h : ∀ a : Fin 3, (β a).val < ![4, 1, 1] a := fun a => lt_of_lt_of_eq (β a).isLt ((n a).trans (e a))
  refine ⟨⟨(β (0 : Fin 3)).val, h 0⟩, flush0_2 _ _, fun a => ⟨?_, Or.inl rfl⟩⟩
  rw [(idx m _).2.2.1]
  change Fin 3 at a
  match a with
  | 0 => rfl
  | 1 => exact (Nat.lt_one_iff.mp (h 1)).symm
  | 2 => exact (Nat.lt_one_iff.mp (h 2)).symm

/-- The blocks of the second result cover it. -/
theorem cov3 : ((cfg m).win 3).Covers := by
  have n : ∀ a : Fin 3, ((cfg m).win 3).nblk a = (S4x512x1408.size a + S1x512x1408.size a - 1) / S1x512x1408.size a := by
    intro a
    unfold Pipeline.Window.nblk
    rfl
  have e : ∀ a : Fin 3, (S4x512x1408.size a + S1x512x1408.size a - 1) / S1x512x1408.size a = ![4, 1, 1] a := by decide +kernel
  refine ⟨(by decide : ∀ a : Fin 3, 0 < S1x512x1408.size a), fun β => ?_⟩
  have h : ∀ a : Fin 3, (β a).val < ![4, 1, 1] a := fun a => lt_of_lt_of_eq (β a).isLt ((n a).trans (e a))
  refine ⟨⟨(β (0 : Fin 3)).val, h 0⟩, flush0_3 _ _, fun a => ⟨?_, Or.inl rfl⟩⟩
  rw [(idx m _).2.2.2]
  change Fin 3 at a
  match a with
  | 0 => rfl
  | 1 => exact (Nat.lt_one_iff.mp (h 1)).symm
  | 2 => exact (Nat.lt_one_iff.mp (h 2)).symm

/-- The first result, as the kernel leaves it. -/
theorem final2 : (dats m (ok m) 0 c).arrAt 2 (cfg m).N = (args m c).total := by
  refine (dats m (ok m) 0 c).arrAt_eq_of_covers 2 _ ?_ fun t _ y => ?_
  · exact cov2 m
  blk_simp
  rw [after0_2]
  exact out2 m c t y

/-- The second result, as the kernel leaves it. -/
theorem final3 : (dats m (ok m) 0 c).arrAt 3 (cfg m).N = (args m c).total := by
  refine (dats m (ok m) 0 c).arrAt_eq_of_covers 3 _ ?_ fun t _ y => ?_
  · exact cov3 m
  blk_simp
  rw [after0_3]
  exact out3 m c t y

end Cert.Add
end
-- ==== Proof.AddRef.lean ====
/- What the reference of the sum of two cores' halves computes. -/
module

public import proofs.«01_k».proof.Proof.AddFinal
public import proofs.«01_k».proof.Proof.Gen.ReferenceAddIdeal.Run
public import proofs.«01_k».proof.Proof.Gen.ReferenceAddIdeal.Read
public import Idealize.ShloMosaic.Lib.Pointwise

@[expose] public section

set_option maxRecDepth 16384

noncomputable section

namespace Cert.Add

open Idealize.ShloMosaic Cert.ReferenceAddIdeal Cert.ReferenceAddIdeal.Read Cert.Reals

/-- Both results: the sum. -/
theorem ref_total (a : Args) : val_main_v2 (F := Ideal) a.grad a.got = a.total := by
  funext i
  idx_vars i
  pointwise [val_main_v2, val_main_v1, val_main_v0_apply]
  unfold Args.total
  congr 1
  congr 1
  blk_ext [low, idx_main_v0]

end Cert.Add
end
-- ==== Proof.AddFloat.lean ====
/- The same of the floating kernel: the block of every window lies inside its array. -/
module

public import proofs.«01_k».proof.Proof.Reals
public import proofs.«01_k».proof.Proof.Gen.KernelAdd.Frame
public import Idealize.ShloMosaic.Lib.Pointwise

@[expose] public section

set_option maxRecDepth 16384

noncomputable section

namespace Cert.AddFloat

open Idealize.ShloMosaic Idealize.ShloMosaic.TcCoe Idealize.SL.Sem Cert.KernelAdd Cert.KernelAdd.Gen Cert.Reals

variable (m : (ℓ : Loc nD τ sig) → Buf (Elt Bits) ℓ)

/-- The word that names the core is zero. -/
theorem tbl0 (y : S1.Idx) : tbl m 0 y = 0#32 := by
  show V m 0 main_v0 y = _
  entry_read
  pointwise

/-- Which block of its array the first window holds at a point. -/
theorem tr0 (i : grid0.Coords) : cc0_transform_0 inb_S1_S1_0 numel1_S1 (tbl m) i = ![(i 0).val, 0, 0] := by
  have e : (tbl m).at 0 (Rect.unit (s := S1) ![0] S1.size inb_S1_S1_0) numel1_S1 = 0#32 := tbl0 m _
  unfold cc0_transform_0
  simp only [e]
  exact (by decide +kernel : ∀ i : grid0.Coords, ![(BitVec.ofNat 32 (i 0).val).toNat, (Scalar.addi (Scalar.muli 0#32 1#32) (BitVec.ofNat 32 (i 1).val)).toNat, (0#32 : BitVec 32).toNat] = ![(i 0).val, 0, 0]) i

/-- Every window's block lies inside its array. -/
theorem ok : Ok m := by
  unfold Ok ok0
  simp only [tr0]
  exact fun i => ⟨(by decide +kernel : ∀ i : grid0.Coords, ∀ a : Fin 3, (![(i 0).val, 0, 0] a + 1) * S1x512x1408.size a ≤ S4x1024x1408.size a) i, Or.inl rfl⟩

end Cert.AddFloat
end
-- ==== Proof.AddClaim.lean ====
/- The claim on the sum of two cores' halves: kernel and reference end with equal results. -/
module

public import proofs.«01_k».proof.Defs
public import proofs.«01_k».proof.Proof.AddRef
public import proofs.«01_k».proof.Proof.AddFloat

@[expose] public section

set_option maxRecDepth 16384

noncomputable section

namespace Cert.Add

open Idealize.ShloMosaic Idealize.SL.Sem Cert.Reals

open Cert.KernelAddIdeal Cert.KernelAddIdeal.Gen in
/-- The kernel runs, ends with the sums its pipeline wrote and keeps its arguments. -/
theorem run_sums (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v1_0) = (args m c).total
      ∧ r.2.mem ((c.tc : Thread nD τ).loc main_v1_1) = (args m c).total
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).1 2).trans (final2 m c),
      ((h c).1 3).trans (final3 m c),
      ((h c).1 0).trans (((dats m (ok m) 0 c).arrAt_in 0 rfl _).trans ((A_eq m (ok m) c 0).trans (V_main_arg0 m c))),
      ((h c).1 1).trans (((dats m (ok m) 0 c).arrAt_in 1 rfl _).trans ((A_eq m (ok m) c 1).trans (V_main_arg1 m c)))⟩)
    (run_main m ρ (ok m))

open Cert.ReferenceAddIdeal in
/-- The arguments the reference finds in memory. -/
def refArgs (m' : (ℓ : Loc nD τ sig) → Buf (Elt Ideal) ℓ) (c : Dev nD) : Args where
  grad := m' ((c.tc : Thread nD τ).loc main_arg0)
  got := m' ((c.tc : Thread nD τ).loc main_arg1)

/-- The kernel and the reference end with the same arrays, whatever the arguments. -/
theorem algebraic : Cert.algebraic_KernelAddIdeal_ReferenceAddIdeal := by
  pair_intro
  · run_from run_sums m g
  · have e : ∀ c, refArgs m' c = args m c := by
      intro c
      obtain ⟨h0, h1⟩ := hagree c
      unfold refArgs args arr
      rw [h0, h1]
    clear hagree
    run_from Cert.ReferenceAddIdeal.Value.run m' g'
    · rw [← e c]
      exact (Cert.ReferenceAddIdeal.Read.val_main_v2_eq _ _).trans (ref_total (refArgs m' c))
    · rw [← e c]
      exact (Cert.ReferenceAddIdeal.Read.val_main_v2_eq _ _).trans (ref_total (refArgs m' c))

/-- The reference runs, keeps its arguments and leaves every counter at zero. -/
theorem frame_reference : Cert.quiescent_ReferenceAddIdeal := fun m ρ _ =>
  (θ_run Cert.ReferenceAddIdeal.defs _ _).mono
    (fun r h => ⟨fun c => (h c).2.2, Idealize.ShloMosaic.sem_eq_zero_of_no_sems (by decide) r.2⟩)
    (Cert.ReferenceAddIdeal.Value.run (F := Ideal) m ρ)

end Cert.Add
end
-- ==== Proof.lean ====
module

public import proofs.«01_k».proof.Defs
public import proofs.«01_k».proof.Proof.InProjClaim
public import proofs.«01_k».proof.Proof.PleClaim
public import proofs.«01_k».proof.Proof.FfnClaim
public import proofs.«01_k».proof.Proof.MixClaim
public import proofs.«01_k».proof.Proof.InFwdClaim
public import proofs.«01_k».proof.Proof.MixFwdClaim
public import proofs.«01_k».proof.Proof.FfnFwdClaim
public import proofs.«01_k».proof.Proof.WgClaim
public import proofs.«01_k».proof.Proof.AdamClaim
public import proofs.«01_k».proof.Proof.HgFwdFrame
public import proofs.«01_k».proof.Proof.AddClaim
public import proofs.«01_k».proof.Proof.Gen.KernelHgFwd.Frame
public import proofs.«01_k».proof.Proof.Gen.KernelHgFwdIdeal.Frame

@[expose] public section

noncomputable section

namespace Cert.Proof

open Idealize.ShloMosaic Idealize.SL.Sem Cert.Kernel

/-- The reference of the input projection's backward call runs, keeps its arguments and leaves every counter at zero. -/
theorem frame_reference : Cert.quiescent_ReferenceIdeal := fun m ρ _ =>
  (θ_run Cert.ReferenceIdeal.defs _ _).mono
    (fun r h => ⟨fun c => (h c).2.2.2, Idealize.ShloMosaic.sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts, Cert.KernelPle.Gen.facts, Cert.KernelPleIdeal.Gen.facts, Cert.ReferencePleIdeal.Gen.facts, Cert.KernelFfn.Gen.facts, Cert.KernelFfnIdeal.Gen.facts, Cert.ReferenceFfnIdeal.Gen.facts, Cert.KernelMix.Gen.facts, Cert.KernelMixIdeal.Gen.facts, Cert.ReferenceMixIdeal.Gen.facts, Cert.KernelInFwd.Gen.facts, Cert.KernelInFwdIdeal.Gen.facts, Cert.ReferenceInFwdIdeal.Gen.facts, Cert.KernelMixFwd.Gen.facts, Cert.KernelMixFwdIdeal.Gen.facts, Cert.ReferenceMixFwdIdeal.Gen.facts, Cert.KernelFfnFwd.Gen.facts, Cert.KernelFfnFwdIdeal.Gen.facts, Cert.ReferenceFfnFwdIdeal.Gen.facts, Cert.KernelWg.Gen.facts, Cert.KernelWgIdeal.Gen.facts, Cert.ReferenceWgIdeal.Gen.facts, Cert.KernelAdam.Gen.facts, Cert.KernelAdamIdeal.Gen.facts, Cert.ReferenceAdamIdeal.Gen.facts, Cert.KernelHgFwd.Gen.facts, Cert.KernelHgFwdIdeal.Gen.facts, Cert.ReferenceHgFwdIdeal.Gen.facts, Cert.KernelAdd.Gen.facts, Cert.KernelAddIdeal.Gen.facts, Cert.ReferenceAddIdeal.Gen.facts, Cert.Pre_finite.Gen.facts, Cert.Pre_finite_ffn.Gen.facts, Cert.Pre_finite_mix.Gen.facts,
  fun m ρ _ => Cert.Kernel.Gen.frame m ρ,
  fun m ρ _ => Cert.KernelIdeal.Gen.frame m ρ,
  fun m ρ _ => Cert.KernelIdeal.Gen.frame m ρ,
  frame_reference,
  fun m ρ _ => frame_reference m ρ trivial,
  fun m ρ _ => Cert.KernelPle.Gen.frame m ρ,
  fun m ρ _ => Cert.KernelPleIdeal.Gen.frame m ρ,
  Cert.Ple.frame_reference,
  fun m ρ _ => Cert.KernelFfn.Gen.frame m ρ,
  fun m ρ _ => Cert.KernelFfnIdeal.Gen.frame m ρ,
  fun m ρ _ => Cert.KernelFfnIdeal.Gen.frame m ρ,
  Cert.Ffn.frame_reference,
  fun m ρ _ => Cert.Ffn.frame_reference m ρ trivial,
  Cert.Mix.frame,
  fun m ρ _ => Cert.KernelMixIdeal.Gen.frame m ρ,
  fun m ρ _ => Cert.KernelMixIdeal.Gen.frame m ρ,
  Cert.Mix.frame_reference,
  fun m ρ _ => Cert.Mix.frame_reference m ρ trivial,
  fun m ρ _ => Cert.KernelInFwd.Gen.frame m ρ,
  fun m ρ _ => Cert.KernelInFwdIdeal.Gen.frame m ρ,
  Cert.InFwd.frame_reference,
  fun m ρ _ => Cert.KernelMixFwd.Gen.frame m ρ,
  fun m ρ _ => Cert.KernelMixFwdIdeal.Gen.frame m ρ,
  Cert.MixFwd.frame_reference,
  fun m ρ _ => Cert.KernelFfnFwd.Gen.frame m ρ,
  fun m ρ _ => Cert.KernelFfnFwdIdeal.Gen.frame m ρ,
  Cert.FfnFwd.frame_reference,
  fun m ρ _ => Cert.KernelWg.Gen.frame m ρ,
  fun m ρ _ => Cert.KernelWgIdeal.Gen.frame m ρ,
  Cert.Wg.frame_reference,
  fun m ρ _ => Cert.KernelAdam.Gen.frame m ρ,
  fun m ρ _ => Cert.KernelAdamIdeal.Gen.frame m ρ,
  Cert.Adam.frame_reference,
  fun m ρ _ => Cert.KernelHgFwd.Gen.frame m ρ,
  fun m ρ _ => Cert.KernelHgFwdIdeal.Gen.frame m ρ,
  Cert.HgFwd.frame_reference,
  fun m ρ _ => Cert.KernelAdd.Gen.frame m ρ (Cert.AddFloat.ok m),
  fun m ρ _ => Cert.KernelAddIdeal.Gen.frame m ρ (Cert.Add.ok m),
  Cert.Add.frame_reference,
  trivial,
  Cert.InProj.algebraic,
  trivial,
  Cert.Ple.algebraic,
  trivial,
  Cert.Ffn.algebraic,
  trivial,
  Cert.Mix.algebraic,
  trivial,
  Cert.InFwd.algebraic,
  trivial,
  Cert.MixFwd.algebraic,
  trivial,
  Cert.FfnFwd.algebraic,
  trivial,
  Cert.Wg.algebraic,
  trivial,
  Cert.Adam.algebraic,
  trivial,
  trivial,
  Cert.Add.algebraic⟩

end Cert.Proof

end
